-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v586) = v0 c
          ∧ r.2.mem ((c.tc : Thread Cert.ReferenceIdeal.nD Cert.ReferenceIdeal.τ).loc Cert.ReferenceIdeal.main_v536) = v1 c
          ∧ r.2.mem ((c.tc : Thread Cert.ReferenceIdeal.nD Cert.ReferenceIdeal.τ).loc Cert.ReferenceIdeal.main_cst_90) = v2 c
          ∧ r.2.mem ((c.tc : Thread Cert.ReferenceIdeal.nD Cert.ReferenceIdeal.τ).loc Cert.ReferenceIdeal.main_v580) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x53x64x64 : Shape := ⟨4, ![16, 53, 64, 64]⟩
abbrev S16x53x32x32 : Shape := ⟨4, ![16, 53, 32, 32]⟩
abbrev S16x53x16x16 : Shape := ⟨4, ![16, 53, 16, 16]⟩
abbrev S16x8x4 : Shape := ⟨3, ![16, 8, 4]⟩
abbrev S16x8 : Shape := ⟨2, ![16, 8]⟩
abbrev S16x8x17x3 : Shape := ⟨4, ![16, 8, 17, 3]⟩
abbrev S16x1x64x64 : Shape := ⟨4, ![16, 1, 64, 64]⟩
abbrev S16x64x64 : Shape := ⟨3, ![16, 64, 64]⟩
abbrev S_ : Shape := ⟨0, ![]⟩
abbrev S16x1x32x32 : Shape := ⟨4, ![16, 1, 32, 32]⟩
abbrev S16x32x32 : Shape := ⟨3, ![16, 32, 32]⟩
abbrev S16x1x16x16 : Shape := ⟨4, ![16, 1, 16, 16]⟩
abbrev S16x16x16 : Shape := ⟨3, ![16, 16, 16]⟩
abbrev S16x8x2 : Shape := ⟨3, ![16, 8, 2]⟩

class Facts : Prop where
  slices_S16x53x64x64_S16x1x64x64_0_1_0_0 : S16x53x64x64.Slices ![0, 1, 0, 0] S16x1x64x64
  shapeCasts_S16x1x64x64_S16x64x64 : S16x1x64x64.ShapeCasts S16x64x64
  bcast_S_S16x64x64 : S_.BroadcastsInDim S16x64x64 (![] : Fin 0 → Fin S16x64x64.rank)
  reducesTo_S16x64x64_S_d0_1_2 : S16x64x64.ReducesTo [0, 1, 2] S_
  h_S_ : 0 < S_.numel
  slices_S16x53x32x32_S16x1x32x32_0_1_0_0 : S16x53x32x32.Slices ![0, 1, 0, 0] S16x1x32x32
  shapeCasts_S16x1x32x32_S16x32x32 : S16x1x32x32.ShapeCasts S16x32x32
  bcast_S_S16x32x32 : S_.BroadcastsInDim S16x32x32 (![] : Fin 0 → Fin S16x32x32.rank)
  reducesTo_S16x32x32_S_d0_1_2 : S16x32x32.ReducesTo [0, 1, 2] S_
  slices_S16x53x16x16_S16x1x16x16_0_1_0_0 : S16x53x16x16.Slices ![0, 1, 0, 0] S16x1x16x16
  shapeCasts_S16x1x16x16_S16x16x16 : S16x1x16x16.ShapeCasts S16x16x16
  bcast_S_S16x16x16 : S_.BroadcastsInDim S16x16x16 (![] : Fin 0 → Fin S16x16x16.rank)
  reducesTo_S16x16x16_S_d0_1_2 : S16x16x16.ReducesTo [0, 1, 2] S_
  slices_S16x8x4_S16x8x2_0_0_0 : S16x8x4.Slices ![0, 0, 0] S16x8x2
  bcast_S_S16x8x2 : S_.BroadcastsInDim S16x8x2 (![] : Fin 0 → Fin S16x8x2.rank)
  reducesTo_S16x8x2_S_d0_1_2 : S16x8x2.ReducesTo [0, 1, 2] S_

variable [Facts]

def fn_part2 {F : FTy → Type} [FloatOps F] (main_v34 : IVec S_ 1) (main_v35 : FVec F S16x8x2 .f32) : IVec S_ 1 :=
  let main_cst_10 : FVec F S_ .f32 := constant S_ .f32 0xCC000000#32
  let main_v36 : FVec F S16x8x2 .f32 := broadcastInDim S16x8x2 ![] bcast_S_S16x8x2 main_cst_10
  let main_v37 : IVec S16x8x2 1 := cmpf .oge main_v35 main_v36
  let main_c_11 : IVec S_ 1 := constantI S_ 1 1#1
  let main_v38 : IVec S_ 1 := (fun x v => Host.reduce IntOp.andi x v reducesTo_S16x8x2_S_d0_1_2 h_S_) main_v37 main_c_11
  let main_v39 : IVec S_ 1 := andi main_v34 main_v38
  main_v39

def fn_part1 {F : FTy → Type} [FloatOps F] (main_arg2 : FVec F S16x53x16x16 .f32) (main_arg3 : FVec F S16x8x4 .f32) (main_v10 : IVec S_ 1) (main_v15 : IVec S_ 1) (main_v17 : FVec F S16x32x32 .f32) : IVec S_ 1 :=
  let main_cst_4 : FVec F S_ .f32 := constant S_ .f32 0xFF800000#32
  let main_v18 : FVec F S16x32x32 .f32 := broadcastInDim S16x32x32 ![] bcast_S_S16x32x32 main_cst_4
  let main_v19 : IVec S16x32x32 1 := cmpf .ogt main_v17 main_v18
  let main_c_5 : IVec S_ 1 := constantI S_ 1 1#1
  let main_v20 : IVec S_ 1 := (fun x v => Host.reduce IntOp.andi x v reducesTo_S16x32x32_S_d0_1_2 h_S_) main_v19 main_c_5
  let main_v21 : IVec S_ 1 := ori main_v15 main_v20
  let main_v22 : IVec S_ 1 := andi main_v10 main_v21
  let main_v23 : FVec F S16x1x16x16 .f32 := (extractStridedSlice S16x1x16x16 ![0, 1, 0, 0] · slices_S16x53x16x16_S16x1x16x16_0_1_0_0) main_arg2
  let main_v24 : FVec F S16x16x16 .f32 := shapeCast S16x16x16 main_v23 shapeCasts_S16x1x16x16_S16x16x16
  let main_cst_6 : FVec F S_ .f32 := constant S_ .f32 0x7F800000#32
  let main_v25 : FVec F S16x16x16 .f32 := broadcastInDim S16x16x16 ![] bcast_S_S16x16x16 main_cst_6
  let main_v26 : IVec S16x16x16 1 := cmpf .olt main_v24 main_v25
  let main_c_7 : IVec S_ 1 := constantI S_ 1 1#1
  let main_v27 : IVec S_ 1 := (fun x v => Host.reduce IntOp.andi x v reducesTo_S16x16x16_S_d0_1_2 h_S_) main_v26 main_c_7
  let main_v28 : FVec F S16x1x16x16 .f32 := (extractStridedSlice S16x1x16x16 ![0, 1, 0, 0] · slices_S16x53x16x16_S16x1x16x16_0_1_0_0) main_arg2
  let main_v29 : FVec F S16x16x16 .f32 := shapeCast S16x16x16 main_v28 shapeCasts_S16x1x16x16_S16x16x16
  let main_cst_8 : FVec F S_ .f32 := constant S_ .f32 0xFF800000#32
  let main_v30 : FVec F S16x16x16 .f32 := broadcastInDim S16x16x16 ![] bcast_S_S16x16x16 main_cst_8
  let main_v31 : IVec S16x16x16 1 := cmpf .ogt main_v29 main_v30
  let main_c_9 : IVec S_ 1 := constantI S_ 1 1#1
  let main_v32 : IVec S_ 1 := (fun x v => Host.reduce IntOp.andi x v reducesTo_S16x16x16_S_d0_1_2 h_S_) main_v31 main_c_9
  let main_v33 : IVec S_ 1 := ori main_v27 main_v32
  let main_v34 : IVec S_ 1 := andi main_v22 main_v33
  let main_v35 : FVec F S16x8x2 .f32 := (extractStridedSlice S16x8x2 ![0, 0, 0] · slices_S16x8x4_S16x8x2_0_0_0) main_arg3
  fn_part2 (F := F) main_v34 main_v35

def fn {F : FTy → Type} [FloatOps F] (main_arg0 : FVec F S16x53x64x64 .f32) (main_arg1 : FVec F S16x53x32x32 .f32) (main_arg2 : FVec F S16x53x16x16 .f32) (main_arg3 : FVec F S16x8x4 .f32) (main_arg4 : IVec S16x8 32) (main_arg5 : FVec F S16x8x17x3 .f32) : IVec S_ 1 :=
  let main_v0 : FVec F S16x1x64x64 .f32 := (extractStridedSlice S16x1x64x64 ![0, 1, 0, 0] · slices_S16x53x64x64_S16x1x64x64_0_1_0_0) main_arg0
  let main_v1 : FVec F S16x64x64 .f32 := shapeCast S16x64x64 main_v0 shapeCasts_S16x1x64x64_S16x64x64
  let main_cst : FVec F S_ .f32 := constant S_ .f32 0x7F800000#32
  let main_v2 : FVec F S16x64x64 .f32 := broadcastInDim S16x64x64 ![] bcast_S_S16x64x64 main_cst
  let main_v3 : IVec S16x64x64 1 := cmpf .olt main_v1 main_v2
  let main_c : IVec S_ 1 := constantI S_ 1 1#1
  let main_v4 : IVec S_ 1 := (fun x v => Host.reduce IntOp.andi x v reducesTo_S16x64x64_S_d0_1_2 h_S_) main_v3 main_c
  let main_v5 : FVec F S16x1x64x64 .f32 := (extractStridedSlice S16x1x64x64 ![0, 1, 0, 0] · slices_S16x53x64x64_S16x1x64x64_0_1_0_0) main_arg0
  let main_v6 : FVec F S16x64x64 .f32 := shapeCast S16x64x64 main_v5 shapeCasts_S16x1x64x64_S16x64x64
  let main_cst_0 : FVec F S_ .f32 := constant S_ .f32 0xFF800000#32
  let main_v7 : FVec F S16x64x64 .f32 := broadcastInDim S16x64x64 ![] bcast_S_S16x64x64 main_cst_0
  let main_v8 : IVec S16x64x64 1 := cmpf .ogt main_v6 main_v7
  let main_c_1 : IVec S_ 1 := constantI S_ 1 1#1
  let main_v9 : IVec S_ 1 := (fun x v => Host.reduce IntOp.andi x v reducesTo_S16x64x64_S_d0_1_2 h_S_) main_v8 main_c_1
  let main_v10 : IVec S_ 1 := ori main_v4 main_v9
  let main_v11 : FVec F S16x1x32x32 .f32 := (extractStridedSlice S16x1x32x32 ![0, 1, 0, 0] · slices_S16x53x32x32_S16x1x32x32_0_1_0_0) main_arg1
  let main_v12 : FVec F S16x32x32 .f32 := shapeCast S16x32x32 main_v11 shapeCasts_S16x1x32x32_S16x32x32
  let main_cst_2 : FVec F S_ .f32 := constant S_ .f32 0x7F800000#32
  let main_v13 : FVec F S16x32x32 .f32 := broadcastInDim S16x32x32 ![] bcast_S_S16x32x32 main_cst_2
  let main_v14 : IVec S16x32x32 1 := cmpf .olt main_v12 main_v13
  let main_c_3 : IVec S_ 1 := constantI S_ 1 1#1
  let main_v15 : IVec S_ 1 := (fun x v => Host.reduce IntOp.andi x v reducesTo_S16x32x32_S_d0_1_2 h_S_) main_v14 main_c_3
  let main_v16 : FVec F S16x1x32x32 .f32 := (extractStridedSlice S16x1x32x32 ![0, 1, 0, 0] · slices_S16x53x32x32_S16x1x32x32_0_1_0_0) main_arg1
  let main_v17 : FVec F S16x32x32 .f32 := shapeCast S16x32x32 main_v16 shapeCasts_S16x1x32x32_S16x32x32
  fn_part1 (F := F) main_arg2 main_arg3 main_v10 main_v15 main_v17
-- ==== Kernel.lean ====
abbrev S16x53x64x64 : Shape := ⟨4, ![16, 53, 64, 64]⟩
abbrev S16x53x32x32 : Shape := ⟨4, ![16, 53, 32, 32]⟩
abbrev S16x53x16x16 : Shape := ⟨4, ![16, 53, 16, 16]⟩
abbrev S16x8x4 : Shape := ⟨3, ![16, 8, 4]⟩
abbrev S16x8 : Shape := ⟨2, ![16, 8]⟩
abbrev S16x8x17x3 : Shape := ⟨4, ![16, 8, 17, 3]⟩
abbrev S512x8 : Shape := ⟨2, ![512, 8]⟩
abbrev S512x136 : Shape := ⟨2, ![512, 136]⟩
abbrev S8x136 : Shape := ⟨2, ![8, 136]⟩
abbrev S3473408 : Shape := ⟨1, ![3473408]⟩
abbrev S868352 : Shape := ⟨1, ![868352]⟩
abbrev S217088 : Shape := ⟨1, ![217088]⟩
abbrev S512 : Shape := ⟨1, ![512]⟩
abbrev S48x512 : Shape := ⟨2, ![48, 512]⟩
abbrev S32 : Shape := ⟨1, ![32]⟩
abbrev S_ : Shape := ⟨0, ![]⟩
abbrev S16 : Shape := ⟨1, ![16]⟩
abbrev S128 : Shape := ⟨1, ![128]⟩
abbrev S1x512 : Shape := ⟨2, ![1, 512]⟩
abbrev S16x53x4096 : Shape := ⟨3, ![16, 53, 4096]⟩
abbrev S16x53x1024 : Shape := ⟨3, ![16, 53, 1024]⟩
abbrev S16x53x256 : Shape := ⟨3, ![16, 53, 256]⟩
abbrev S16x8x1 : Shape := ⟨3, ![16, 8, 1]⟩
abbrev S16x8x17x1 : Shape := ⟨4, ![16, 8, 17, 1]⟩
abbrev S16x8x17 : Shape := ⟨3, ![16, 8, 17]⟩
abbrev S16x136 : Shape := ⟨2, ![16, 136]⟩
abbrev S1 : Shape := ⟨1, ![1]⟩
abbrev S16x8x4096 : Shape := ⟨3, ![16, 8, 4096]⟩
abbrev S16x8x1024 : Shape := ⟨3, ![16, 8, 1024]⟩
abbrev S16x8x256 : Shape := ⟨3, ![16, 8, 256]⟩
abbrev S16x1x4096 : Shape := ⟨3, ![16, 1, 4096]⟩
abbrev S1x16x1x4096 : Shape := ⟨4, ![1, 16, 1, 4096]⟩
abbrev S1x1x1x1 : Shape := ⟨4, ![1, 1, 1, 1]⟩
abbrev S16x1 : Shape := ⟨2, ![16, 1]⟩
abbrev S16x512 : Shape := ⟨2, ![16, 512]⟩
abbrev S1x16x8 : Shape := ⟨3, ![1, 16, 8]⟩
abbrev S1x1x1 : Shape := ⟨3, ![1, 1, 1]⟩
abbrev S1x16x1 : Shape := ⟨3, ![1, 16, 1]⟩
abbrev S16x1x1024 : Shape := ⟨3, ![16, 1, 1024]⟩
abbrev S1x16x1x1024 : Shape := ⟨4, ![1, 16, 1, 1024]⟩
abbrev S16x1x256 : Shape := ⟨3, ![16, 1, 256]⟩
abbrev S1x16x1x256 : Shape := ⟨4, ![1, 16, 1, 256]⟩

abbrev nBuf : Table → Nat
  | .hbm => 40
  | .local .tc .vmem => 14
  | .local .tc .smem => 4
  | .local .scVector .vmem => 3
  | _ => 0

abbrev bufTy : (tb : Table) → Fin (nBuf tb) → BufTy
  | .hbm, ⟨0, _⟩ => ⟨S16x53x64x64, .f32⟩
  | .hbm, ⟨1, _⟩ => ⟨S16x53x32x32, .f32⟩
  | .hbm, ⟨2, _⟩ => ⟨S16x53x16x16, .f32⟩
  | .hbm, ⟨3, _⟩ => ⟨S16x8x4, .f32⟩
  | .hbm, ⟨4, _⟩ => ⟨S16x8, .i32⟩
  | .hbm, ⟨5, _⟩ => ⟨S16x8x17x3, .f32⟩
  | .hbm, ⟨6, _⟩ => ⟨S512x8, .f32⟩
  | .hbm, ⟨7, _⟩ => ⟨S512x136, .f32⟩
  | .hbm, ⟨8, _⟩ => ⟨S512x136, .f32⟩
  | .hbm, ⟨9, _⟩ => ⟨S512x136, .f32⟩
  | .hbm, ⟨10, _⟩ => ⟨S8x136, .f32⟩
  | .hbm, ⟨11, _⟩ => ⟨S3473408, .f32⟩
  | .hbm, ⟨12, _⟩ => ⟨S868352, .f32⟩
  | .hbm, ⟨13, _⟩ => ⟨S217088, .f32⟩
  | .hbm, ⟨14, _⟩ => ⟨S512, .f32⟩
  | .hbm, ⟨15, _⟩ => ⟨S48x512, .f32⟩
  | .hbm, ⟨16, _⟩ => ⟨S16x53x4096, .f32⟩
  | .hbm, ⟨17, _⟩ => ⟨S16x53x1024, .f32⟩
  | .hbm, ⟨18, _⟩ => ⟨S16x53x256, .f32⟩
  | .hbm, ⟨19, _⟩ => ⟨S16x8x1, .f32⟩
  | .hbm, ⟨20, _⟩ => ⟨S16x8, .f32⟩
  | .hbm, ⟨21, _⟩ => ⟨S16x8x1, .f32⟩
  | .hbm, ⟨22, _⟩ => ⟨S16x8, .f32⟩
  | .hbm, ⟨23, _⟩ => ⟨S16x8x17x1, .f32⟩
  | .hbm, ⟨24, _⟩ => ⟨S16x8x17, .f32⟩
  | .hbm, ⟨25, _⟩ => ⟨S16x136, .f32⟩
  | .hbm, ⟨26, _⟩ => ⟨S16x8x17x1, .f32⟩
  | .hbm, ⟨27, _⟩ => ⟨S16x8x17, .f32⟩
  | .hbm, ⟨28, _⟩ => ⟨S16x136, .f32⟩
  | .hbm, ⟨29, _⟩ => ⟨S16x8x17x1, .f32⟩
  | .hbm, ⟨30, _⟩ => ⟨S16x8x17, .f32⟩
  | .hbm, ⟨31, _⟩ => ⟨S16x136, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local .tc .vmem, ⟨0, _⟩ => ⟨S16x8x4096, .f32⟩
  | .local .tc .vmem, ⟨1, _⟩ => ⟨S16x8x1024, .f32⟩
  | .local .tc .vmem, ⟨2, _⟩ => ⟨S16x8x256, .f32⟩
  | .local .tc .vmem, ⟨3, _⟩ => ⟨S16x8, .f32⟩
  | .local .tc .vmem, ⟨4, _⟩ => ⟨S16x8, .f32⟩
  | .local .tc .vmem, ⟨5, _⟩ => ⟨S16x136, .f32⟩
  | .local .tc .vmem, ⟨6, _⟩ => ⟨S16x136, .f32⟩
  | .local .tc .vmem, ⟨7, _⟩ => ⟨S16x136, .f32⟩
  | .local .tc .vmem, ⟨8, _⟩ => ⟨S48x512, .f32⟩
  | .local .tc .vmem, ⟨9, _⟩ => ⟨S512x8, .f32⟩
  | .local .tc .vmem, ⟨10, _⟩ => ⟨S512x136, .f32⟩
  | .local .tc .vmem, ⟨11, _⟩ => ⟨S512x136, .f32⟩
  | .local .tc .vmem, ⟨12, _⟩ => ⟨S512x136, .f32⟩
  | .local .tc .vmem, ⟨13, _⟩ => ⟨S8x136, .f32⟩
  | .local .tc .smem, ⟨0, _⟩ => ⟨S1, .f32⟩
  | .local .tc .smem, ⟨1, _⟩ => ⟨S1, .f32⟩
  | .local .tc .smem, ⟨2, _⟩ => ⟨S1, .f32⟩
  | .local .tc .smem, ⟨3, _⟩ => ⟨S1, .f32⟩
  | .local .scVector .vmem, ⟨0, _⟩ => ⟨S32, .f32⟩
  | .local .scVector .vmem, ⟨1, _⟩ => ⟨S512, .i32⟩
  | .local .scVector .vmem, ⟨2, _⟩ => ⟨S512, .f32⟩
  | _, _ => ⟨S16x53x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v0_scv : Ref sig .scVector := ⟨.hbm, 11, rfl⟩
abbrev main_v1_scv : Ref sig .scVector := ⟨.hbm, 12, rfl⟩
abbrev main_v2_scv : Ref sig .scVector := ⟨.hbm, 13, rfl⟩
abbrev main_v3_scv : Ref sig .scVector := ⟨.hbm, 14, rfl⟩
abbrev main_v4_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.smem, 0, rfl⟩
abbrev cc1_stg15_0 : Ref sig .tc := ⟨.smem, 1, rfl⟩
abbrev cc1_stg16_0 : Ref sig .tc := ⟨.smem, 2, rfl⟩
abbrev cc1_stg17_0 : Ref sig .tc := ⟨.smem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 1 := Scalar.cmpi .slt v1 c16_i32
  let v4 : BitVec 32 := Scalar.extui v3
  let c0_i32 : BitVec 32 := 0#32
  let v5 : BitVec 1 := Scalar.cmpi .ne v4 c0_i32
  v5

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v9 : BitVec 32 := Scalar.muli v1 c32_i32
  v9
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v9 : BitVec 32 := Scalar.muli v1 c32_i32
  let v10 : BitVec 32 := v9
  ![v10.toNat]

def k0_chk1 (i : grid0.Coords) (v14 : IVec S16 32) : Prop :=
  (∀ (k0_h1 : k0_cond1 i = 1#1), ∀ a x, ((![v14] : Fin 1 → IVec S16 32) a x).toNat < S32.size a)
theorem k0_idx1_inb : ∀ (i : grid0.Coords) (v14 : IVec S16 32) (k0_hw1 : k0_chk1 i v14), ∀ (k0_h1 : k0_cond1 i = 1#1), ∀ a x, ((![v14] : Fin 1 → IVec S16 32) a x).toNat < S32.size a := fun i v14 k0_hw1 k0_h1 => k0_hw1 k0_h1

def k0_chk2 (i : grid0.Coords) (v21 : IVec S16 32) : Prop :=
  (∀ (k0_h1 : k0_cond1 i = 1#1), ∀ a x, ((![v21] : Fin 1 → IVec S16 32) a x).toNat < S32.size a)
theorem k0_idx2_inb : ∀ (i : grid0.Coords) (v21 : IVec S16 32) (k0_hw2 : k0_chk2 i v21), ∀ (k0_h1 : k0_cond1 i = 1#1), ∀ a x, ((![v21] : Fin 1 → IVec S16 32) a x).toNat < S32.size a := fun i v21 k0_hw2 k0_h1 => k0_hw2 k0_h1
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_338_r1 : BitVec 32 := 0#32
  ![v1.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_145 : BitVec 32 := 32#32
  let v422 : BitVec 32 := Scalar.muli v1 c32_i32_145
  v422
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_145 : BitVec 32 := 32#32
  let v422 : BitVec 32 := Scalar.muli v1 c32_i32_145
  let v423 : BitVec 32 := v422
  ![v423.toNat]

def k0_chk3 (i : grid0.Coords) (v427 : IVec S16 32) : Prop :=
  (∀ (k0_h1 : k0_cond1 i = 1#1), ∀ a x, ((![v427] : Fin 1 → IVec S16 32) a x).toNat < S32.size a)
theorem k0_idx3_inb : ∀ (i : grid0.Coords) (v427 : IVec S16 32) (k0_hw3 : k0_chk3 i v427), ∀ (k0_h1 : k0_cond1 i = 1#1), ∀ a x, ((![v427] : Fin 1 → IVec S16 32) a x).toNat < S32.size a := fun i v427 k0_hw3 k0_h1 => k0_hw3 k0_h1

def k0_chk4 (i : grid0.Coords) (v434 : IVec S16 32) : Prop :=
  (∀ (k0_h1 : k0_cond1 i = 1#1), ∀ a x, ((![v434] : Fin 1 → IVec S16 32) a x).toNat < S32.size a)
theorem k0_idx4_inb : ∀ (i : grid0.Coords) (v434 : IVec S16 32) (k0_hw4 : k0_chk4 i v434), ∀ (k0_h1 : k0_cond1 i = 1#1), ∀ a x, ((![v434] : Fin 1 → IVec S16 32) a x).toNat < S32.size a := fun i v434 k0_hw4 k0_h1 => k0_hw4 k0_h1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_144 : BitVec 32 := 32#32
  let v421 : BitVec 32 := Scalar.addi v1 c32_i32_144
  let c0_i32_338_r3 : BitVec 32 := 0#32
  ![v421.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_0 : BitVec 32 := 16#32
  let v6 : BitVec 1 := Scalar.cmpi .sge v1 c16_i32_0
  let v7 : BitVec 32 := Scalar.extui v6
  let c0_i32_1 : BitVec 32 := 0#32
  let v8 : BitVec 1 := Scalar.cmpi .ne v7 c0_i32_1
  v8

def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_2 : BitVec 32 := 16#32
  let v9 : BitVec 32 := Scalar.subi v1 c16_i32_2
  let c32_i32 : BitVec 32 := 32#32
  let v10 : BitVec 32 := Scalar.muli v9 c32_i32
  v10
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_2 : BitVec 32 := 16#32
  let v9 : BitVec 32 := Scalar.subi v1 c16_i32_2
  let c32_i32 : BitVec 32 := 32#32
  let v10 : BitVec 32 := Scalar.muli v9 c32_i32
  let v11 : BitVec 32 := v10
  ![v11.toNat]

def k0_chk5 (i : grid0.Coords) (v15 : IVec S16 32) : Prop :=
  (∀ (k0_h2 : k0_cond2 i = 1#1), ∀ a x, ((![v15] : Fin 1 → IVec S16 32) a x).toNat < S32.size a)
theorem k0_idx5_inb : ∀ (i : grid0.Coords) (v15 : IVec S16 32) (k0_hw5 : k0_chk5 i v15), ∀ (k0_h2 : k0_cond2 i = 1#1), ∀ a x, ((![v15] : Fin 1 → IVec S16 32) a x).toNat < S32.size a := fun i v15 k0_hw5 k0_h2 => k0_hw5 k0_h2

def k0_chk6 (i : grid0.Coords) (v22 : IVec S16 32) : Prop :=
  (∀ (k0_h2 : k0_cond2 i = 1#1), ∀ a x, ((![v22] : Fin 1 → IVec S16 32) a x).toNat < S32.size a)
theorem k0_idx6_inb : ∀ (i : grid0.Coords) (v22 : IVec S16 32) (k0_hw6 : k0_chk6 i v22), ∀ (k0_h2 : k0_cond2 i = 1#1), ∀ a x, ((![v22] : Fin 1 → IVec S16 32) a x).toNat < S32.size a := fun i v22 k0_hw6 k0_h2 => k0_hw6 k0_h2
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_146_r5 : BitVec 32 := 0#32
  ![v1.toNat, 0]
abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_17 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S16x8x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x136 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x136 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x136 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S48x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x8 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x136 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x136 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S512x136 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S8x136 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .smem S1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .smem S1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .smem S1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .smem S1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x53x64x64 : Shape := ⟨4, ![16, 53, 64, 64]⟩
abbrev S16x53x32x32 : Shape := ⟨4, ![16, 53, 32, 32]⟩
abbrev S16x53x16x16 : Shape := ⟨4, ![16, 53, 16, 16]⟩
abbrev S16x8x4 : Shape := ⟨3, ![16, 8, 4]⟩
abbrev S16x8 : Shape := ⟨2, ![16, 8]⟩
abbrev S16x8x17x3 : Shape := ⟨4, ![16, 8, 17, 3]⟩
abbrev S16x8x17x1 : Shape := ⟨4, ![16, 8, 17, 1]⟩
abbrev S_ : Shape := ⟨0, ![]⟩
abbrev S16x8x17x4 : Shape := ⟨4, ![16, 8, 17, 4]⟩
abbrev S16x64x64x53 : Shape := ⟨4, ![16, 64, 64, 53]⟩
abbrev S16x4096x53 : Shape := ⟨3, ![16, 4096, 53]⟩
abbrev S16x4096x1 : Shape := ⟨3, ![16, 4096, 1]⟩
abbrev S16x4096 : Shape := ⟨2, ![16, 4096]⟩
abbrev S16x4096x51 : Shape := ⟨3, ![16, 4096, 51]⟩
abbrev S16x4096x17x3 : Shape := ⟨4, ![16, 4096, 17, 3]⟩
abbrev S16x8x2 : Shape := ⟨3, ![16, 8, 2]⟩
abbrev S16x8x1 : Shape := ⟨3, ![16, 8, 1]⟩
abbrev S16x4096x17x4 : Shape := ⟨4, ![16, 4096, 17, 4]⟩
abbrev S4096 : Shape := ⟨1, ![4096]⟩
abbrev S1x4096 : Shape := ⟨2, ![1, 4096]⟩
abbrev S16x1 : Shape := ⟨2, ![16, 1]⟩
abbrev S16 : Shape := ⟨1, ![16]⟩
abbrev S16x4096x1x1 : Shape := ⟨4, ![16, 4096, 1, 1]⟩
abbrev S16x1x17x4 : Shape := ⟨4, ![16, 1, 17, 4]⟩
abbrev S16x17x4 : Shape := ⟨3, ![16, 17, 4]⟩
abbrev S16x4096x17x1 : Shape := ⟨4, ![16, 4096, 17, 1]⟩
abbrev S16x4096x17 : Shape := ⟨3, ![16, 4096, 17]⟩
abbrev S16x4096x17x2 : Shape := ⟨4, ![16, 4096, 17, 2]⟩
abbrev S16x32x32x53 : Shape := ⟨4, ![16, 32, 32, 53]⟩
abbrev S16x1024x53 : Shape := ⟨3, ![16, 1024, 53]⟩
abbrev S16x1024x1 : Shape := ⟨3, ![16, 1024, 1]⟩
abbrev S16x1024 : Shape := ⟨2, ![16, 1024]⟩
abbrev S16x1024x51 : Shape := ⟨3, ![16, 1024, 51]⟩
abbrev S16x1024x17x3 : Shape := ⟨4, ![16, 1024, 17, 3]⟩
abbrev S16x1024x17x4 : Shape := ⟨4, ![16, 1024, 17, 4]⟩
abbrev S1024 : Shape := ⟨1, ![1024]⟩
abbrev S1x1024 : Shape := ⟨2, ![1, 1024]⟩
abbrev S16x1024x1x1 : Shape := ⟨4, ![16, 1024, 1, 1]⟩
abbrev S16x1024x17x1 : Shape := ⟨4, ![16, 1024, 17, 1]⟩
abbrev S16x1024x17 : Shape := ⟨3, ![16, 1024, 17]⟩
abbrev S16x1024x17x2 : Shape := ⟨4, ![16, 1024, 17, 2]⟩
abbrev S16x16x16x53 : Shape := ⟨4, ![16, 16, 16, 53]⟩
abbrev S16x256x53 : Shape := ⟨3, ![16, 256, 53]⟩
abbrev S16x256x1 : Shape := ⟨3, ![16, 256, 1]⟩
abbrev S16x256 : Shape := ⟨2, ![16, 256]⟩
abbrev S16x256x51 : Shape := ⟨3, ![16, 256, 51]⟩
abbrev S16x256x17x3 : Shape := ⟨4, ![16, 256, 17, 3]⟩
abbrev S16x256x17x4 : Shape := ⟨4, ![16, 256, 17, 4]⟩
abbrev S256 : Shape := ⟨1, ![256]⟩
abbrev S1x256 : Shape := ⟨2, ![1, 256]⟩
abbrev S16x256x1x1 : Shape := ⟨4, ![16, 256, 1, 1]⟩
abbrev S16x256x17x1 : Shape := ⟨4, ![16, 256, 17, 1]⟩
abbrev S16x256x17 : Shape := ⟨3, ![16, 256, 17]⟩
abbrev S16x256x17x2 : Shape := ⟨4, ![16, 256, 17, 2]⟩

abbrev nBuf : Space → Nat
  | .hbm => 782
  | .vmem => 0
  | .smem => 0
  | _ => 0

abbrev hbmTy0_0 (i : Nat) : BufTy := match i % 128 with
  | 0 => ⟨S16x53x64x64, .f32⟩
  | 1 => ⟨S16x53x32x32, .f32⟩
  | 2 => ⟨S16x53x16x16, .f32⟩
  | 3 => ⟨S16x8x4, .f32⟩
  | 4 => ⟨S16x8, .i32⟩
  | 5 => ⟨S16x8x17x3, .f32⟩
  | 6 => ⟨S16x8x17x1, .f32⟩
  | 7 => ⟨S_, .f32⟩
  | 8 => ⟨S16x8x17x1, .f32⟩
  | 9 => ⟨S16x8x17x1, .i1⟩
  | 10 => ⟨S16x8x17x1, .f32⟩
  | 11 => ⟨S16x8x17x4, .f32⟩
  | 12 => ⟨S16x64x64x53, .f32⟩
  | 13 => ⟨S16x4096x53, .f32⟩
  | 14 => ⟨S16x4096x1, .f32⟩
  | 15 => ⟨S16x4096, .f32⟩
  | 16 => ⟨S16x4096x51, .f32⟩
  | 17 => ⟨S16x4096x17x3, .f32⟩
  | 18 => ⟨S16x8x2, .f32⟩
  | 19 => ⟨S_, .f32⟩
  | 20 => ⟨S16x8x2, .f32⟩
  | 21 => ⟨S16x8x2, .f32⟩
  | 22 => ⟨S_, .f32⟩
  | 23 => ⟨S16x8x2, .f32⟩
  | 24 => ⟨S16x8x2, .f32⟩
  | 25 => ⟨S16x8x2, .f32⟩
  | 26 => ⟨S16x8x2, .i32⟩
  | 27 => ⟨S16x8x1, .i32⟩
  | 28 => ⟨S16x8, .i32⟩
  | 29 => ⟨S_, .i32⟩
  | 30 => ⟨S16x8, .i32⟩
  | 31 => ⟨S16x8, .i32⟩
  | 32 => ⟨S16x8x1, .i32⟩
  | 33 => ⟨S16x8, .i32⟩
  | 34 => ⟨S16x8, .i32⟩
  | 35 => ⟨S_, .f32⟩
  | 36 => ⟨S16x4096, .f32⟩
  | 37 => ⟨S_, .f32⟩
  | 38 => ⟨S16x4096x17x4, .f32⟩
  | 39 => ⟨S4096, .i32⟩
  | 40 => ⟨S1x4096, .i32⟩
  | 41 => ⟨S16x1, .i32⟩
  | 42 => ⟨S16, .i32⟩
  | 43 => ⟨S16x1, .i32⟩
  | 44 => ⟨S16x4096, .i32⟩
  | 45 => ⟨S16x4096, .i32⟩
  | 46 => ⟨S16x4096, .i1⟩
  | 47 => ⟨S_, .f32⟩
  | 48 => ⟨S_, .f32⟩
  | 49 => ⟨S16x4096, .f32⟩
  | 50 => ⟨S16x4096, .f32⟩
  | 51 => ⟨S16x4096x1x1, .i1⟩
  | 52 => ⟨S16x1x17x4, .f32⟩
  | 53 => ⟨S16x17x4, .f32⟩
  | 54 => ⟨S16x1x17x4, .f32⟩
  | 55 => ⟨S16x4096x17x4, .i1⟩
  | 56 => ⟨S16x4096x17x4, .f32⟩
  | 57 => ⟨S16x4096x17x4, .f32⟩
  | 58 => ⟨S4096, .i32⟩
  | 59 => ⟨S1x4096, .i32⟩
  | 60 => ⟨S16x1, .i32⟩
  | 61 => ⟨S16, .i32⟩
  | 62 => ⟨S16x1, .i32⟩
  | 63 => ⟨S16x4096, .i32⟩
  | 64 => ⟨S16x4096, .i32⟩
  | 65 => ⟨S16x4096, .i1⟩
  | 66 => ⟨S_, .f32⟩
  | 67 => ⟨S_, .f32⟩
  | 68 => ⟨S16x4096, .f32⟩
  | 69 => ⟨S16x4096, .f32⟩
  | 70 => ⟨S16x4096x1x1, .i1⟩
  | 71 => ⟨S16x1x17x4, .f32⟩
  | 72 => ⟨S16x17x4, .f32⟩
  | 73 => ⟨S16x1x17x4, .f32⟩
  | 74 => ⟨S16x4096x17x4, .i1⟩
  | 75 => ⟨S16x4096x17x4, .f32⟩
  | 76 => ⟨S16x4096x17x4, .f32⟩
  | 77 => ⟨S4096, .i32⟩
  | 78 => ⟨S1x4096, .i32⟩
  | 79 => ⟨S16x1, .i32⟩
  | 80 => ⟨S16, .i32⟩
  | 81 => ⟨S16x1, .i32⟩
  | 82 => ⟨S16x4096, .i32⟩
  | 83 => ⟨S16x4096, .i32⟩
  | 84 => ⟨S16x4096, .i1⟩
  | 85 => ⟨S_, .f32⟩
  | 86 => ⟨S_, .f32⟩
  | 87 => ⟨S16x4096, .f32⟩
  | 88 => ⟨S16x4096, .f32⟩
  | 89 => ⟨S16x4096x1x1, .i1⟩
  | 90 => ⟨S16x1x17x4, .f32⟩
  | 91 => ⟨S16x17x4, .f32⟩
  | 92 => ⟨S16x1x17x4, .f32⟩
  | 93 => ⟨S16x4096x17x4, .i1⟩
  | 94 => ⟨S16x4096x17x4, .f32⟩
  | 95 => ⟨S16x4096x17x4, .f32⟩
  | 96 => ⟨S4096, .i32⟩
  | 97 => ⟨S1x4096, .i32⟩
  | 98 => ⟨S16x1, .i32⟩
  | 99 => ⟨S16, .i32⟩
  | 100 => ⟨S16x1, .i32⟩
  | 101 => ⟨S16x4096, .i32⟩
  | 102 => ⟨S16x4096, .i32⟩
  | 103 => ⟨S16x4096, .i1⟩
  | 104 => ⟨S_, .f32⟩
  | 105 => ⟨S_, .f32⟩
  | 106 => ⟨S16x4096, .f32⟩
  | 107 => ⟨S16x4096, .f32⟩
  | 108 => ⟨S16x4096x1x1, .i1⟩
  | 109 => ⟨S16x1x17x4, .f32⟩
  | 110 => ⟨S16x17x4, .f32⟩
  | 111 => ⟨S16x1x17x4, .f32⟩
  | 112 => ⟨S16x4096x17x4, .i1⟩
  | 113 => ⟨S16x4096x17x4, .f32⟩
  | 114 => ⟨S16x4096x17x4, .f32⟩
  | 115 => ⟨S4096, .i32⟩
  | 116 => ⟨S1x4096, .i32⟩
  | 117 => ⟨S16x1, .i32⟩
  | 118 => ⟨S16, .i32⟩
  | 119 => ⟨S16x1, .i32⟩
  | 120 => ⟨S16x4096, .i32⟩
  | 121 => ⟨S16x4096, .i32⟩
  | 122 => ⟨S16x4096, .i1⟩
  | 123 => ⟨S_, .f32⟩
  | 124 => ⟨S_, .f32⟩
  | 125 => ⟨S16x4096, .f32⟩
  | 126 => ⟨S16x4096, .f32⟩
  | 127 => ⟨S16x4096x1x1, .i1⟩
  | _ => ⟨S16x53x64x64, .f32⟩

abbrev hbmTy0_1 (i : Nat) : BufTy := match i % 128 with
  | 0 => ⟨S16x1x17x4, .f32⟩
  | 1 => ⟨S16x17x4, .f32⟩
  | 2 => ⟨S16x1x17x4, .f32⟩
  | 3 => ⟨S16x4096x17x4, .i1⟩
  | 4 => ⟨S16x4096x17x4, .f32⟩
  | 5 => ⟨S16x4096x17x4, .f32⟩
  | 6 => ⟨S4096, .i32⟩
  | 7 => ⟨S1x4096, .i32⟩
  | 8 => ⟨S16x1, .i32⟩
  | 9 => ⟨S16, .i32⟩
  | 10 => ⟨S16x1, .i32⟩
  | 11 => ⟨S16x4096, .i32⟩
  | 12 => ⟨S16x4096, .i32⟩
  | 13 => ⟨S16x4096, .i1⟩
  | 14 => ⟨S_, .f32⟩
  | 15 => ⟨S_, .f32⟩
  | 16 => ⟨S16x4096, .f32⟩
  | 17 => ⟨S16x4096, .f32⟩
  | 18 => ⟨S16x4096x1x1, .i1⟩
  | 19 => ⟨S16x1x17x4, .f32⟩
  | 20 => ⟨S16x17x4, .f32⟩
  | 21 => ⟨S16x1x17x4, .f32⟩
  | 22 => ⟨S16x4096x17x4, .i1⟩
  | 23 => ⟨S16x4096x17x4, .f32⟩
  | 24 => ⟨S16x4096x17x4, .f32⟩
  | 25 => ⟨S4096, .i32⟩
  | 26 => ⟨S1x4096, .i32⟩
  | 27 => ⟨S16x1, .i32⟩
  | 28 => ⟨S16, .i32⟩
  | 29 => ⟨S16x1, .i32⟩
  | 30 => ⟨S16x4096, .i32⟩
  | 31 => ⟨S16x4096, .i32⟩
  | 32 => ⟨S16x4096, .i1⟩
  | 33 => ⟨S_, .f32⟩
  | 34 => ⟨S_, .f32⟩
  | 35 => ⟨S16x4096, .f32⟩
  | 36 => ⟨S16x4096, .f32⟩
  | 37 => ⟨S16x4096x1x1, .i1⟩
  | 38 => ⟨S16x1x17x4, .f32⟩
  | 39 => ⟨S16x17x4, .f32⟩
  | 40 => ⟨S16x1x17x4, .f32⟩
  | 41 => ⟨S16x4096x17x4, .i1⟩
  | 42 => ⟨S16x4096x17x4, .f32⟩
  | 43 => ⟨S16x4096x17x4, .f32⟩
  | 44 => ⟨S4096, .i32⟩
  | 45 => ⟨S1x4096, .i32⟩
  | 46 => ⟨S16x1, .i32⟩
  | 47 => ⟨S16, .i32⟩
  | 48 => ⟨S16x1, .i32⟩
  | 49 => ⟨S16x4096, .i32⟩
  | 50 => ⟨S16x4096, .i32⟩
  | 51 => ⟨S16x4096, .i1⟩
  | 52 => ⟨S_, .f32⟩
  | 53 => ⟨S_, .f32⟩
  | 54 => ⟨S16x4096, .f32⟩
  | 55 => ⟨S16x4096, .f32⟩
  | 56 => ⟨S16x4096x1x1, .i1⟩
  | 57 => ⟨S16x1x17x4, .f32⟩
  | 58 => ⟨S16x17x4, .f32⟩
  | 59 => ⟨S16x1x17x4, .f32⟩
  | 60 => ⟨S16x4096x17x4, .i1⟩
  | 61 => ⟨S16x4096x17x4, .f32⟩
  | 62 => ⟨S16x4096x17x4, .f32⟩
  | 63 => ⟨S_, .f32⟩
  | 64 => ⟨S16x4096, .f32⟩
  | 65 => ⟨S16x4096, .f32⟩
  | 66 => ⟨S16x4096, .f32⟩
  | 67 => ⟨S16x4096, .f32⟩
  | 68 => ⟨S16x4096, .f32⟩
  | 69 => ⟨S16x4096, .f32⟩
  | 70 => ⟨S16x4096, .f32⟩
  | 71 => ⟨S16x4096, .f32⟩
  | 72 => ⟨S16x4096, .f32⟩
  | 73 => ⟨S_, .f32⟩
  | 74 => ⟨S16, .f32⟩
  | 75 => ⟨S_, .f32⟩
  | 76 => ⟨S16, .f32⟩
  | 77 => ⟨S16, .f32⟩
  | 78 => ⟨S_, .f32⟩
  | 79 => ⟨S_, .f32⟩
  | 80 => ⟨S_, .f32⟩
  | 81 => ⟨S_, .f32⟩
  | 82 => ⟨S16x4096x17x1, .f32⟩
  | 83 => ⟨S16x4096x17, .f32⟩
  | 84 => ⟨S_, .f32⟩
  | 85 => ⟨S16, .f32⟩
  | 86 => ⟨S_, .f32⟩
  | 87 => ⟨S16, .f32⟩
  | 88 => ⟨S16, .f32⟩
  | 89 => ⟨S16x4096x17x2, .f32⟩
  | 90 => ⟨S16x4096x17x2, .f32⟩
  | 91 => ⟨S16x4096x17x2, .f32⟩
  | 92 => ⟨S16x4096x17x2, .f32⟩
  | 93 => ⟨S_, .f32⟩
  | 94 => ⟨S16x4096x17x2, .f32⟩
  | 95 => ⟨S16x4096x17x2, .i1⟩
  | 96 => ⟨S_, .f32⟩
  | 97 => ⟨S16x4096x17x2, .f32⟩
  | 98 => ⟨S16x4096x17x2, .f32⟩
  | 99 => ⟨S16x4096x17x2, .f32⟩
  | 100 => ⟨S16x4096x17x2, .f32⟩
  | 101 => ⟨S_, .f32⟩
  | 102 => ⟨S16x4096x17x2, .f32⟩
  | 103 => ⟨S16x4096x17x2, .f32⟩
  | 104 => ⟨S16x4096x17x2, .f32⟩
  | 105 => ⟨S16x4096x17x1, .f32⟩
  | 106 => ⟨S16x4096x17x2, .f32⟩
  | 107 => ⟨S16x4096x17x2, .f32⟩
  | 108 => ⟨S_, .f32⟩
  | 109 => ⟨S16x4096x17, .f32⟩
  | 110 => ⟨S_, .f32⟩
  | 111 => ⟨S16, .f32⟩
  | 112 => ⟨S16, .f32⟩
  | 113 => ⟨S_, .f32⟩
  | 114 => ⟨S_, .f32⟩
  | 115 => ⟨S_, .f32⟩
  | 116 => ⟨S_, .f32⟩
  | 117 => ⟨S16x4096x17x1, .f32⟩
  | 118 => ⟨S16x4096x17, .f32⟩
  | 119 => ⟨S16x4096x17x1, .f32⟩
  | 120 => ⟨S16x4096x17, .f32⟩
  | 121 => ⟨S_, .f32⟩
  | 122 => ⟨S16x4096x17, .f32⟩
  | 123 => ⟨S16x4096x17, .f32⟩
  | 124 => ⟨S16x4096x17, .f32⟩
  | 125 => ⟨S16x4096x17, .f32⟩
  | 126 => ⟨S16x4096x17, .f32⟩
  | 127 => ⟨S16x4096x17, .f32⟩
  | _ => ⟨S16x53x64x64, .f32⟩

abbrev hbmTy0_2 (i : Nat) : BufTy := match i % 128 with
  | 0 => ⟨S16x4096x17, .f32⟩
  | 1 => ⟨S16x4096x17, .f32⟩
  | 2 => ⟨S16x4096x17, .f32⟩
  | 3 => ⟨S16x4096x17, .f32⟩
  | 4 => ⟨S_, .f32⟩
  | 5 => ⟨S16, .f32⟩
  | 6 => ⟨S16, .f32⟩
  | 7 => ⟨S_, .f32⟩
  | 8 => ⟨S_, .f32⟩
  | 9 => ⟨S_, .f32⟩
  | 10 => ⟨S16x32x32x53, .f32⟩
  | 11 => ⟨S16x1024x53, .f32⟩
  | 12 => ⟨S16x1024x1, .f32⟩
  | 13 => ⟨S16x1024, .f32⟩
  | 14 => ⟨S16x1024x51, .f32⟩
  | 15 => ⟨S16x1024x17x3, .f32⟩
  | 16 => ⟨S16x8x2, .f32⟩
  | 17 => ⟨S_, .f32⟩
  | 18 => ⟨S16x8x2, .f32⟩
  | 19 => ⟨S16x8x2, .f32⟩
  | 20 => ⟨S_, .f32⟩
  | 21 => ⟨S16x8x2, .f32⟩
  | 22 => ⟨S16x8x2, .f32⟩
  | 23 => ⟨S16x8x2, .f32⟩
  | 24 => ⟨S16x8x2, .i32⟩
  | 25 => ⟨S16x8x1, .i32⟩
  | 26 => ⟨S16x8, .i32⟩
  | 27 => ⟨S_, .i32⟩
  | 28 => ⟨S16x8, .i32⟩
  | 29 => ⟨S16x8, .i32⟩
  | 30 => ⟨S16x8x1, .i32⟩
  | 31 => ⟨S16x8, .i32⟩
  | 32 => ⟨S16x8, .i32⟩
  | 33 => ⟨S_, .f32⟩
  | 34 => ⟨S16x1024, .f32⟩
  | 35 => ⟨S_, .f32⟩
  | 36 => ⟨S16x1024x17x4, .f32⟩
  | 37 => ⟨S1024, .i32⟩
  | 38 => ⟨S1x1024, .i32⟩
  | 39 => ⟨S16x1, .i32⟩
  | 40 => ⟨S16, .i32⟩
  | 41 => ⟨S16x1, .i32⟩
  | 42 => ⟨S16x1024, .i32⟩
  | 43 => ⟨S16x1024, .i32⟩
  | 44 => ⟨S16x1024, .i1⟩
  | 45 => ⟨S_, .f32⟩
  | 46 => ⟨S_, .f32⟩
  | 47 => ⟨S16x1024, .f32⟩
  | 48 => ⟨S16x1024, .f32⟩
  | 49 => ⟨S16x1024x1x1, .i1⟩
  | 50 => ⟨S16x1x17x4, .f32⟩
  | 51 => ⟨S16x17x4, .f32⟩
  | 52 => ⟨S16x1x17x4, .f32⟩
  | 53 => ⟨S16x1024x17x4, .i1⟩
  | 54 => ⟨S16x1024x17x4, .f32⟩
  | 55 => ⟨S16x1024x17x4, .f32⟩
  | 56 => ⟨S1024, .i32⟩
  | 57 => ⟨S1x1024, .i32⟩
  | 58 => ⟨S16x1, .i32⟩
  | 59 => ⟨S16, .i32⟩
  | 60 => ⟨S16x1, .i32⟩
  | 61 => ⟨S16x1024, .i32⟩
  | 62 => ⟨S16x1024, .i32⟩
  | 63 => ⟨S16x1024, .i1⟩
  | 64 => ⟨S_, .f32⟩
  | 65 => ⟨S_, .f32⟩
  | 66 => ⟨S16x1024, .f32⟩
  | 67 => ⟨S16x1024, .f32⟩
  | 68 => ⟨S16x1024x1x1, .i1⟩
  | 69 => ⟨S16x1x17x4, .f32⟩
  | 70 => ⟨S16x17x4, .f32⟩
  | 71 => ⟨S16x1x17x4, .f32⟩
  | 72 => ⟨S16x1024x17x4, .i1⟩
  | 73 => ⟨S16x1024x17x4, .f32⟩
  | 74 => ⟨S16x1024x17x4, .f32⟩
  | 75 => ⟨S1024, .i32⟩
  | 76 => ⟨S1x1024, .i32⟩
  | 77 => ⟨S16x1, .i32⟩
  | 78 => ⟨S16, .i32⟩
  | 79 => ⟨S16x1, .i32⟩
  | 80 => ⟨S16x1024, .i32⟩
  | 81 => ⟨S16x1024, .i32⟩
  | 82 => ⟨S16x1024, .i1⟩
  | 83 => ⟨S_, .f32⟩
  | 84 => ⟨S_, .f32⟩
  | 85 => ⟨S16x1024, .f32⟩
  | 86 => ⟨S16x1024, .f32⟩
  | 87 => ⟨S16x1024x1x1, .i1⟩
  | 88 => ⟨S16x1x17x4, .f32⟩
  | 89 => ⟨S16x17x4, .f32⟩
  | 90 => ⟨S16x1x17x4, .f32⟩
  | 91 => ⟨S16x1024x17x4, .i1⟩
  | 92 => ⟨S16x1024x17x4, .f32⟩
  | 93 => ⟨S16x1024x17x4, .f32⟩
  | 94 => ⟨S1024, .i32⟩
  | 95 => ⟨S1x1024, .i32⟩
  | 96 => ⟨S16x1, .i32⟩
  | 97 => ⟨S16, .i32⟩
  | 98 => ⟨S16x1, .i32⟩
  | 99 => ⟨S16x1024, .i32⟩
  | 100 => ⟨S16x1024, .i32⟩
  | 101 => ⟨S16x1024, .i1⟩
  | 102 => ⟨S_, .f32⟩
  | 103 => ⟨S_, .f32⟩
  | 104 => ⟨S16x1024, .f32⟩
  | 105 => ⟨S16x1024, .f32⟩
  | 106 => ⟨S16x1024x1x1, .i1⟩
  | 107 => ⟨S16x1x17x4, .f32⟩
  | 108 => ⟨S16x17x4, .f32⟩
  | 109 => ⟨S16x1x17x4, .f32⟩
  | 110 => ⟨S16x1024x17x4, .i1⟩
  | 111 => ⟨S16x1024x17x4, .f32⟩
  | 112 => ⟨S16x1024x17x4, .f32⟩
  | 113 => ⟨S1024, .i32⟩
  | 114 => ⟨S1x1024, .i32⟩
  | 115 => ⟨S16x1, .i32⟩
  | 116 => ⟨S16, .i32⟩
  | 117 => ⟨S16x1, .i32⟩
  | 118 => ⟨S16x1024, .i32⟩
  | 119 => ⟨S16x1024, .i32⟩
  | 120 => ⟨S16x1024, .i1⟩
  | 121 => ⟨S_, .f32⟩
  | 122 => ⟨S_, .f32⟩
  | 123 => ⟨S16x1024, .f32⟩
  | 124 => ⟨S16x1024, .f32⟩
  | 125 => ⟨S16x1024x1x1, .i1⟩
  | 126 => ⟨S16x1x17x4, .f32⟩
  | 127 => ⟨S16x17x4, .f32⟩
  | _ => ⟨S16x53x64x64, .f32⟩

abbrev hbmTy0_3 (i : Nat) : BufTy := match i % 128 with
  | 0 => ⟨S16x1x17x4, .f32⟩
  | 1 => ⟨S16x1024x17x4, .i1⟩
  | 2 => ⟨S16x1024x17x4, .f32⟩
  | 3 => ⟨S16x1024x17x4, .f32⟩
  | 4 => ⟨S1024, .i32⟩
  | 5 => ⟨S1x1024, .i32⟩
  | 6 => ⟨S16x1, .i32⟩
  | 7 => ⟨S16, .i32⟩
  | 8 => ⟨S16x1, .i32⟩
  | 9 => ⟨S16x1024, .i32⟩
  | 10 => ⟨S16x1024, .i32⟩
  | 11 => ⟨S16x1024, .i1⟩
  | 12 => ⟨S_, .f32⟩
  | 13 => ⟨S_, .f32⟩
  | 14 => ⟨S16x1024, .f32⟩
  | 15 => ⟨S16x1024, .f32⟩
  | 16 => ⟨S16x1024x1x1, .i1⟩
  | 17 => ⟨S16x1x17x4, .f32⟩
  | 18 => ⟨S16x17x4, .f32⟩
  | 19 => ⟨S16x1x17x4, .f32⟩
  | 20 => ⟨S16x1024x17x4, .i1⟩
  | 21 => ⟨S16x1024x17x4, .f32⟩
  | 22 => ⟨S16x1024x17x4, .f32⟩
  | 23 => ⟨S1024, .i32⟩
  | 24 => ⟨S1x1024, .i32⟩
  | 25 => ⟨S16x1, .i32⟩
  | 26 => ⟨S16, .i32⟩
  | 27 => ⟨S16x1, .i32⟩
  | 28 => ⟨S16x1024, .i32⟩
  | 29 => ⟨S16x1024, .i32⟩
  | 30 => ⟨S16x1024, .i1⟩
  | 31 => ⟨S_, .f32⟩
  | 32 => ⟨S_, .f32⟩
  | 33 => ⟨S16x1024, .f32⟩
  | 34 => ⟨S16x1024, .f32⟩
  | 35 => ⟨S16x1024x1x1, .i1⟩
  | 36 => ⟨S16x1x17x4, .f32⟩
  | 37 => ⟨S16x17x4, .f32⟩
  | 38 => ⟨S16x1x17x4, .f32⟩
  | 39 => ⟨S16x1024x17x4, .i1⟩
  | 40 => ⟨S16x1024x17x4, .f32⟩
  | 41 => ⟨S16x1024x17x4, .f32⟩
  | 42 => ⟨S1024, .i32⟩
  | 43 => ⟨S1x1024, .i32⟩
  | 44 => ⟨S16x1, .i32⟩
  | 45 => ⟨S16, .i32⟩
  | 46 => ⟨S16x1, .i32⟩
  | 47 => ⟨S16x1024, .i32⟩
  | 48 => ⟨S16x1024, .i32⟩
  | 49 => ⟨S16x1024, .i1⟩
  | 50 => ⟨S_, .f32⟩
  | 51 => ⟨S_, .f32⟩
  | 52 => ⟨S16x1024, .f32⟩
  | 53 => ⟨S16x1024, .f32⟩
  | 54 => ⟨S16x1024x1x1, .i1⟩
  | 55 => ⟨S16x1x17x4, .f32⟩
  | 56 => ⟨S16x17x4, .f32⟩
  | 57 => ⟨S16x1x17x4, .f32⟩
  | 58 => ⟨S16x1024x17x4, .i1⟩
  | 59 => ⟨S16x1024x17x4, .f32⟩
  | 60 => ⟨S16x1024x17x4, .f32⟩
  | 61 => ⟨S_, .f32⟩
  | 62 => ⟨S16x1024, .f32⟩
  | 63 => ⟨S16x1024, .f32⟩
  | 64 => ⟨S16x1024, .f32⟩
  | 65 => ⟨S16x1024, .f32⟩
  | 66 => ⟨S16x1024, .f32⟩
  | 67 => ⟨S16x1024, .f32⟩
  | 68 => ⟨S16x1024, .f32⟩
  | 69 => ⟨S16x1024, .f32⟩
  | 70 => ⟨S16x1024, .f32⟩
  | 71 => ⟨S_, .f32⟩
  | 72 => ⟨S16, .f32⟩
  | 73 => ⟨S_, .f32⟩
  | 74 => ⟨S16, .f32⟩
  | 75 => ⟨S16, .f32⟩
  | 76 => ⟨S_, .f32⟩
  | 77 => ⟨S_, .f32⟩
  | 78 => ⟨S_, .f32⟩
  | 79 => ⟨S16x1024x17x1, .f32⟩
  | 80 => ⟨S16x1024x17, .f32⟩
  | 81 => ⟨S_, .f32⟩
  | 82 => ⟨S16, .f32⟩
  | 83 => ⟨S_, .f32⟩
  | 84 => ⟨S16, .f32⟩
  | 85 => ⟨S16, .f32⟩
  | 86 => ⟨S16x1024x17x2, .f32⟩
  | 87 => ⟨S16x1024x17x2, .f32⟩
  | 88 => ⟨S16x1024x17x2, .f32⟩
  | 89 => ⟨S16x1024x17x2, .f32⟩
  | 90 => ⟨S_, .f32⟩
  | 91 => ⟨S16x1024x17x2, .f32⟩
  | 92 => ⟨S16x1024x17x2, .i1⟩
  | 93 => ⟨S_, .f32⟩
  | 94 => ⟨S16x1024x17x2, .f32⟩
  | 95 => ⟨S16x1024x17x2, .f32⟩
  | 96 => ⟨S16x1024x17x2, .f32⟩
  | 97 => ⟨S16x1024x17x2, .f32⟩
  | 98 => ⟨S_, .f32⟩
  | 99 => ⟨S16x1024x17x2, .f32⟩
  | 100 => ⟨S16x1024x17x2, .f32⟩
  | 101 => ⟨S16x1024x17x2, .f32⟩
  | 102 => ⟨S16x1024x17x1, .f32⟩
  | 103 => ⟨S16x1024x17x2, .f32⟩
  | 104 => ⟨S16x1024x17x2, .f32⟩
  | 105 => ⟨S_, .f32⟩
  | 106 => ⟨S16x1024x17, .f32⟩
  | 107 => ⟨S_, .f32⟩
  | 108 => ⟨S16, .f32⟩
  | 109 => ⟨S16, .f32⟩
  | 110 => ⟨S_, .f32⟩
  | 111 => ⟨S_, .f32⟩
  | 112 => ⟨S_, .f32⟩
  | 113 => ⟨S16x1024x17x1, .f32⟩
  | 114 => ⟨S16x1024x17, .f32⟩
  | 115 => ⟨S16x1024x17x1, .f32⟩
  | 116 => ⟨S16x1024x17, .f32⟩
  | 117 => ⟨S_, .f32⟩
  | 118 => ⟨S16x1024x17, .f32⟩
  | 119 => ⟨S16x1024x17, .f32⟩
  | 120 => ⟨S16x1024x17, .f32⟩
  | 121 => ⟨S16x1024x17, .f32⟩
  | 122 => ⟨S16x1024x17, .f32⟩
  | 123 => ⟨S16x1024x17, .f32⟩
  | 124 => ⟨S16x1024x17, .f32⟩
  | 125 => ⟨S16x1024x17, .f32⟩
  | 126 => ⟨S16x1024x17, .f32⟩
  | 127 => ⟨S16x1024x17, .f32⟩
  | _ => ⟨S16x53x64x64, .f32⟩

abbrev hbmTy0_4 (i : Nat) : BufTy := match i % 128 with
  | 0 => ⟨S_, .f32⟩
  | 1 => ⟨S16, .f32⟩
  | 2 => ⟨S16, .f32⟩
  | 3 => ⟨S_, .f32⟩
  | 4 => ⟨S_, .f32⟩
  | 5 => ⟨S_, .f32⟩
  | 6 => ⟨S16x16x16x53, .f32⟩
  | 7 => ⟨S16x256x53, .f32⟩
  | 8 => ⟨S16x256x1, .f32⟩
  | 9 => ⟨S16x256, .f32⟩
  | 10 => ⟨S16x256x51, .f32⟩
  | 11 => ⟨S16x256x17x3, .f32⟩
  | 12 => ⟨S16x8x2, .f32⟩
  | 13 => ⟨S_, .f32⟩
  | 14 => ⟨S16x8x2, .f32⟩
  | 15 => ⟨S16x8x2, .f32⟩
  | 16 => ⟨S_, .f32⟩
  | 17 => ⟨S16x8x2, .f32⟩
  | 18 => ⟨S16x8x2, .f32⟩
  | 19 => ⟨S16x8x2, .f32⟩
  | 20 => ⟨S16x8x2, .i32⟩
  | 21 => ⟨S16x8x1, .i32⟩
  | 22 => ⟨S16x8, .i32⟩
  | 23 => ⟨S_, .i32⟩
  | 24 => ⟨S16x8, .i32⟩
  | 25 => ⟨S16x8, .i32⟩
  | 26 => ⟨S16x8x1, .i32⟩
  | 27 => ⟨S16x8, .i32⟩
  | 28 => ⟨S16x8, .i32⟩
  | 29 => ⟨S_, .f32⟩
  | 30 => ⟨S16x256, .f32⟩
  | 31 => ⟨S_, .f32⟩
  | 32 => ⟨S16x256x17x4, .f32⟩
  | 33 => ⟨S256, .i32⟩
  | 34 => ⟨S1x256, .i32⟩
  | 35 => ⟨S16x1, .i32⟩
  | 36 => ⟨S16, .i32⟩
  | 37 => ⟨S16x1, .i32⟩
  | 38 => ⟨S16x256, .i32⟩
  | 39 => ⟨S16x256, .i32⟩
  | 40 => ⟨S16x256, .i1⟩
  | 41 => ⟨S_, .f32⟩
  | 42 => ⟨S_, .f32⟩
  | 43 => ⟨S16x256, .f32⟩
  | 44 => ⟨S16x256, .f32⟩
  | 45 => ⟨S16x256x1x1, .i1⟩
  | 46 => ⟨S16x1x17x4, .f32⟩
  | 47 => ⟨S16x17x4, .f32⟩
  | 48 => ⟨S16x1x17x4, .f32⟩
  | 49 => ⟨S16x256x17x4, .i1⟩
  | 50 => ⟨S16x256x17x4, .f32⟩
  | 51 => ⟨S16x256x17x4, .f32⟩
  | 52 => ⟨S256, .i32⟩
  | 53 => ⟨S1x256, .i32⟩
  | 54 => ⟨S16x1, .i32⟩
  | 55 => ⟨S16, .i32⟩
  | 56 => ⟨S16x1, .i32⟩
  | 57 => ⟨S16x256, .i32⟩
  | 58 => ⟨S16x256, .i32⟩
  | 59 => ⟨S16x256, .i1⟩
  | 60 => ⟨S_, .f32⟩
  | 61 => ⟨S_, .f32⟩
  | 62 => ⟨S16x256, .f32⟩
  | 63 => ⟨S16x256, .f32⟩
  | 64 => ⟨S16x256x1x1, .i1⟩
  | 65 => ⟨S16x1x17x4, .f32⟩
  | 66 => ⟨S16x17x4, .f32⟩
  | 67 => ⟨S16x1x17x4, .f32⟩
  | 68 => ⟨S16x256x17x4, .i1⟩
  | 69 => ⟨S16x256x17x4, .f32⟩
  | 70 => ⟨S16x256x17x4, .f32⟩
  | 71 => ⟨S256, .i32⟩
  | 72 => ⟨S1x256, .i32⟩
  | 73 => ⟨S16x1, .i32⟩
  | 74 => ⟨S16, .i32⟩
  | 75 => ⟨S16x1, .i32⟩
  | 76 => ⟨S16x256, .i32⟩
  | 77 => ⟨S16x256, .i32⟩
  | 78 => ⟨S16x256, .i1⟩
  | 79 => ⟨S_, .f32⟩
  | 80 => ⟨S_, .f32⟩
  | 81 => ⟨S16x256, .f32⟩
  | 82 => ⟨S16x256, .f32⟩
  | 83 => ⟨S16x256x1x1, .i1⟩
  | 84 => ⟨S16x1x17x4, .f32⟩
  | 85 => ⟨S16x17x4, .f32⟩
  | 86 => ⟨S16x1x17x4, .f32⟩
  | 87 => ⟨S16x256x17x4, .i1⟩
  | 88 => ⟨S16x256x17x4, .f32⟩
  | 89 => ⟨S16x256x17x4, .f32⟩
  | 90 => ⟨S256, .i32⟩
  | 91 => ⟨S1x256, .i32⟩
  | 92 => ⟨S16x1, .i32⟩
  | 93 => ⟨S16, .i32⟩
  | 94 => ⟨S16x1, .i32⟩
  | 95 => ⟨S16x256, .i32⟩
  | 96 => ⟨S16x256, .i32⟩
  | 97 => ⟨S16x256, .i1⟩
  | 98 => ⟨S_, .f32⟩
  | 99 => ⟨S_, .f32⟩
  | 100 => ⟨S16x256, .f32⟩
  | 101 => ⟨S16x256, .f32⟩
  | 102 => ⟨S16x256x1x1, .i1⟩
  | 103 => ⟨S16x1x17x4, .f32⟩
  | 104 => ⟨S16x17x4, .f32⟩
  | 105 => ⟨S16x1x17x4, .f32⟩
  | 106 => ⟨S16x256x17x4, .i1⟩
  | 107 => ⟨S16x256x17x4, .f32⟩
  | 108 => ⟨S16x256x17x4, .f32⟩
  | 109 => ⟨S256, .i32⟩
  | 110 => ⟨S1x256, .i32⟩
  | 111 => ⟨S16x1, .i32⟩
  | 112 => ⟨S16, .i32⟩
  | 113 => ⟨S16x1, .i32⟩
  | 114 => ⟨S16x256, .i32⟩
  | 115 => ⟨S16x256, .i32⟩
  | 116 => ⟨S16x256, .i1⟩
  | 117 => ⟨S_, .f32⟩
  | 118 => ⟨S_, .f32⟩
  | 119 => ⟨S16x256, .f32⟩
  | 120 => ⟨S16x256, .f32⟩
  | 121 => ⟨S16x256x1x1, .i1⟩
  | 122 => ⟨S16x1x17x4, .f32⟩
  | 123 => ⟨S16x17x4, .f32⟩
  | 124 => ⟨S16x1x17x4, .f32⟩
  | 125 => ⟨S16x256x17x4, .i1⟩
  | 126 => ⟨S16x256x17x4, .f32⟩
  | 127 => ⟨S16x256x17x4, .f32⟩
  | _ => ⟨S16x53x64x64, .f32⟩

abbrev hbmTy0_5 (i : Nat) : BufTy := match i % 128 with
  | 0 => ⟨S256, .i32⟩
  | 1 => ⟨S1x256, .i32⟩
  | 2 => ⟨S16x1, .i32⟩
  | 3 => ⟨S16, .i32⟩
  | 4 => ⟨S16x1, .i32⟩
  | 5 => ⟨S16x256, .i32⟩
  | 6 => ⟨S16x256, .i32⟩
  | 7 => ⟨S16x256, .i1⟩
  | 8 => ⟨S_, .f32⟩
  | 9 => ⟨S_, .f32⟩
  | 10 => ⟨S16x256, .f32⟩
  | 11 => ⟨S16x256, .f32⟩
  | 12 => ⟨S16x256x1x1, .i1⟩
  | 13 => ⟨S16x1x17x4, .f32⟩
  | 14 => ⟨S16x17x4, .f32⟩
  | 15 => ⟨S16x1x17x4, .f32⟩
  | 16 => ⟨S16x256x17x4, .i1⟩
  | 17 => ⟨S16x256x17x4, .f32⟩
  | 18 => ⟨S16x256x17x4, .f32⟩
  | 19 => ⟨S256, .i32⟩
  | 20 => ⟨S1x256, .i32⟩
  | 21 => ⟨S16x1, .i32⟩
  | 22 => ⟨S16, .i32⟩
  | 23 => ⟨S16x1, .i32⟩
  | 24 => ⟨S16x256, .i32⟩
  | 25 => ⟨S16x256, .i32⟩
  | 26 => ⟨S16x256, .i1⟩
  | 27 => ⟨S_, .f32⟩
  | 28 => ⟨S_, .f32⟩
  | 29 => ⟨S16x256, .f32⟩
  | 30 => ⟨S16x256, .f32⟩
  | 31 => ⟨S16x256x1x1, .i1⟩
  | 32 => ⟨S16x1x17x4, .f32⟩
  | 33 => ⟨S16x17x4, .f32⟩
  | 34 => ⟨S16x1x17x4, .f32⟩
  | 35 => ⟨S16x256x17x4, .i1⟩
  | 36 => ⟨S16x256x17x4, .f32⟩
  | 37 => ⟨S16x256x17x4, .f32⟩
  | 38 => ⟨S256, .i32⟩
  | 39 => ⟨S1x256, .i32⟩
  | 40 => ⟨S16x1, .i32⟩
  | 41 => ⟨S16, .i32⟩
  | 42 => ⟨S16x1, .i32⟩
  | 43 => ⟨S16x256, .i32⟩
  | 44 => ⟨S16x256, .i32⟩
  | 45 => ⟨S16x256, .i1⟩
  | 46 => ⟨S_, .f32⟩
  | 47 => ⟨S_, .f32⟩
  | 48 => ⟨S16x256, .f32⟩
  | 49 => ⟨S16x256, .f32⟩
  | 50 => ⟨S16x256x1x1, .i1⟩
  | 51 => ⟨S16x1x17x4, .f32⟩
  | 52 => ⟨S16x17x4, .f32⟩
  | 53 => ⟨S16x1x17x4, .f32⟩
  | 54 => ⟨S16x256x17x4, .i1⟩
  | 55 => ⟨S16x256x17x4, .f32⟩
  | 56 => ⟨S16x256x17x4, .f32⟩
  | 57 => ⟨S_, .f32⟩
  | 58 => ⟨S16x256, .f32⟩
  | 59 => ⟨S16x256, .f32⟩
  | 60 => ⟨S16x256, .f32⟩
  | 61 => ⟨S16x256, .f32⟩
  | 62 => ⟨S16x256, .f32⟩
  | 63 => ⟨S16x256, .f32⟩
  | 64 => ⟨S16x256, .f32⟩
  | 65 => ⟨S16x256, .f32⟩
  | 66 => ⟨S16x256, .f32⟩
  | 67 => ⟨S_, .f32⟩
  | 68 => ⟨S16, .f32⟩
  | 69 => ⟨S_, .f32⟩
  | 70 => ⟨S16, .f32⟩
  | 71 => ⟨S16, .f32⟩
  | 72 => ⟨S_, .f32⟩
  | 73 => ⟨S_, .f32⟩
  | 74 => ⟨S_, .f32⟩
  | 75 => ⟨S16x256x17x1, .f32⟩
  | 76 => ⟨S16x256x17, .f32⟩
  | 77 => ⟨S_, .f32⟩
  | 78 => ⟨S16, .f32⟩
  | 79 => ⟨S_, .f32⟩
  | 80 => ⟨S16, .f32⟩
  | 81 => ⟨S16, .f32⟩
  | 82 => ⟨S16x256x17x2, .f32⟩
  | 83 => ⟨S16x256x17x2, .f32⟩
  | 84 => ⟨S16x256x17x2, .f32⟩
  | 85 => ⟨S16x256x17x2, .f32⟩
  | 86 => ⟨S_, .f32⟩
  | 87 => ⟨S16x256x17x2, .f32⟩
  | 88 => ⟨S16x256x17x2, .i1⟩
  | 89 => ⟨S_, .f32⟩
  | 90 => ⟨S16x256x17x2, .f32⟩
  | 91 => ⟨S16x256x17x2, .f32⟩
  | 92 => ⟨S16x256x17x2, .f32⟩
  | 93 => ⟨S16x256x17x2, .f32⟩
  | 94 => ⟨S_, .f32⟩
  | 95 => ⟨S16x256x17x2, .f32⟩
  | 96 => ⟨S16x256x17x2, .f32⟩
  | 97 => ⟨S16x256x17x2, .f32⟩
  | 98 => ⟨S16x256x17x1, .f32⟩
  | 99 => ⟨S16x256x17x2, .f32⟩
  | 100 => ⟨S16x256x17x2, .f32⟩
  | 101 => ⟨S_, .f32⟩
  | 102 => ⟨S16x256x17, .f32⟩
  | 103 => ⟨S_, .f32⟩
  | 104 => ⟨S16, .f32⟩
  | 105 => ⟨S16, .f32⟩
  | 106 => ⟨S_, .f32⟩
  | 107 => ⟨S_, .f32⟩
  | 108 => ⟨S_, .f32⟩
  | 109 => ⟨S16x256x17x1, .f32⟩
  | 110 => ⟨S16x256x17, .f32⟩
  | 111 => ⟨S16x256x17x1, .f32⟩
  | 112 => ⟨S16x256x17, .f32⟩
  | 113 => ⟨S_, .f32⟩
  | 114 => ⟨S16x256x17, .f32⟩
  | 115 => ⟨S16x256x17, .f32⟩
  | 116 => ⟨S16x256x17, .f32⟩
  | 117 => ⟨S16x256x17, .f32⟩
  | 118 => ⟨S16x256x17, .f32⟩
  | 119 => ⟨S16x256x17, .f32⟩
  | 120 => ⟨S16x256x17, .f32⟩
  | 121 => ⟨S16x256x17, .f32⟩
  | 122 => ⟨S16x256x17, .f32⟩
  | 123 => ⟨S16x256x17, .f32⟩
  | 124 => ⟨S_, .f32⟩
  | 125 => ⟨S16, .f32⟩
  | 126 => ⟨S16, .f32⟩
  | 127 => ⟨S_, .f32⟩
  | _ => ⟨S16x53x64x64, .f32⟩

abbrev hbmTy0_6 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S16x53x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x53x64x64, .f32⟩

abbrev bufTy : (tb : Table) → Fin (tcTables nBuf tb) → BufTy
  | .hbm, ⟨i, _⟩ => hbmTy i
  | _, _ => ⟨S16x53x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_call1_v1 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_call2_v0 : Ref sig .tc := ⟨.hbm, 67, rfl⟩
abbrev main_call2_v1 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call3_v0 : Ref sig .tc := ⟨.hbm, 74, rfl⟩
abbrev main_call3_v1 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call5_v0 : Ref sig .tc := ⟨.hbm, 93, rfl⟩
abbrev main_call5_v1 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_7 : Ref sig .tc := ⟨.hbm, 104, rfl⟩
abbrev main_call6_v0 : Ref sig .tc := ⟨.hbm, 105, rfl⟩
abbrev main_call6_v1 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call7_v0 : Ref sig .tc := ⟨.hbm, 112, rfl⟩
abbrev main_call7_v1 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_8 : Ref sig .tc := ⟨.hbm, 123, rfl⟩
abbrev main_call8_v0 : Ref sig .tc := ⟨.hbm, 124, rfl⟩
abbrev main_call8_v1 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call9_v0 : Ref sig .tc := ⟨.hbm, 131, rfl⟩
abbrev main_call9_v1 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_9 : Ref sig .tc := ⟨.hbm, 142, rfl⟩
abbrev main_call10_v0 : Ref sig .tc := ⟨.hbm, 143, rfl⟩
abbrev main_call10_v1 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call11_v0 : Ref sig .tc := ⟨.hbm, 150, rfl⟩
abbrev main_call11_v1 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_10 : Ref sig .tc := ⟨.hbm, 161, rfl⟩
abbrev main_call12_v0 : Ref sig .tc := ⟨.hbm, 162, rfl⟩
abbrev main_call12_v1 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_call13_v0 : Ref sig .tc := ⟨.hbm, 169, rfl⟩
abbrev main_call13_v1 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_11 : Ref sig .tc := ⟨.hbm, 180, rfl⟩
abbrev main_call14_v0 : Ref sig .tc := ⟨.hbm, 181, rfl⟩
abbrev main_call14_v1 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_call15_v0 : Ref sig .tc := ⟨.hbm, 188, rfl⟩
abbrev main_call15_v1 : Ref sig .tc := ⟨.hbm, 189, rfl⟩
abbrev main_v138 : Ref sig .tc := ⟨.hbm, 190, rfl⟩
abbrev main_cst_12 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_13 : Ref sig .tc := ⟨.hbm, 201, rfl⟩
abbrev main_v148 : Ref sig .tc := ⟨.hbm, 202, rfl⟩
abbrev main_cst_14 : Ref sig .tc := ⟨.hbm, 203, rfl⟩
abbrev main_v149 : Ref sig .tc := ⟨.hbm, 204, rfl⟩
abbrev main_v150 : Ref sig .tc := ⟨.hbm, 205, rfl⟩
abbrev main_cst_15 : Ref sig .tc := ⟨.hbm, 206, rfl⟩
abbrev main_v151 : Ref sig .tc := ⟨.hbm, 207, rfl⟩
abbrev main_cst_16 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_17 : Ref sig .tc := ⟨.hbm, 212, rfl⟩
abbrev main_v155 : Ref sig .tc := ⟨.hbm, 213, rfl⟩
abbrev main_cst_18 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_19 : Ref sig .tc := ⟨.hbm, 221, rfl⟩
abbrev main_v162 : Ref sig .tc := ⟨.hbm, 222, rfl⟩
abbrev main_v163 : Ref sig .tc := ⟨.hbm, 223, rfl⟩
abbrev main_cst_20 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_21 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_22 : Ref sig .tc := ⟨.hbm, 236, rfl⟩
abbrev main_v174 : Ref sig .tc := ⟨.hbm, 237, rfl⟩
abbrev main_cst_23 : Ref sig .tc := ⟨.hbm, 238, rfl⟩
abbrev main_v175 : Ref sig .tc := ⟨.hbm, 239, rfl⟩
abbrev main_v176 : Ref sig .tc := ⟨.hbm, 240, rfl⟩
abbrev main_cst_24 : Ref sig .tc := ⟨.hbm, 241, rfl⟩
abbrev main_v177 : Ref sig .tc := ⟨.hbm, 242, rfl⟩
abbrev main_cst_25 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_26 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_27 : Ref sig .tc := ⟨.hbm, 260, rfl⟩
abbrev main_v193 : Ref sig .tc := ⟨.hbm, 261, rfl⟩
abbrev main_v194 : Ref sig .tc := ⟨.hbm, 262, rfl⟩
abbrev main_cst_28 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_29 : Ref sig .tc := ⟨.hbm, 273, rfl⟩
abbrev main_v204 : Ref sig .tc := ⟨.hbm, 274, rfl⟩
abbrev main_v205 : Ref sig .tc := ⟨.hbm, 275, rfl⟩
abbrev main_cst_30 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_c_31 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_cst_32 : Ref sig .tc := ⟨.hbm, 289, rfl⟩
abbrev main_v217 : Ref sig .tc := ⟨.hbm, 290, rfl⟩
abbrev main_cst_33 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_cst_34 : Ref sig .tc := ⟨.hbm, 301, rfl⟩
abbrev main_call17_v0 : Ref sig .tc := ⟨.hbm, 302, rfl⟩
abbrev main_call17_v1 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_call18_v0 : Ref sig .tc := ⟨.hbm, 309, rfl⟩
abbrev main_call18_v1 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_cst_35 : Ref sig .tc := ⟨.hbm, 320, rfl⟩
abbrev main_call19_v0 : Ref sig .tc := ⟨.hbm, 321, rfl⟩
abbrev main_call19_v1 : Ref sig .tc := ⟨.hbm, 322, rfl⟩
abbrev main_v241 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_call20_v0 : Ref sig .tc := ⟨.hbm, 328, rfl⟩
abbrev main_call20_v1 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_cst_36 : Ref sig .tc := ⟨.hbm, 339, rfl⟩
abbrev main_call21_v0 : Ref sig .tc := ⟨.hbm, 340, rfl⟩
abbrev main_call21_v1 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_call22_v0 : Ref sig .tc := ⟨.hbm, 347, rfl⟩
abbrev main_call22_v1 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_cst_37 : Ref sig .tc := ⟨.hbm, 358, rfl⟩
abbrev main_call23_v0 : Ref sig .tc := ⟨.hbm, 359, rfl⟩
abbrev main_call23_v1 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_call24_v0 : Ref sig .tc := ⟨.hbm, 366, rfl⟩
abbrev main_call24_v1 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_cst_38 : Ref sig .tc := ⟨.hbm, 377, rfl⟩
abbrev main_call25_v0 : Ref sig .tc := ⟨.hbm, 378, rfl⟩
abbrev main_call25_v1 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_call26_v0 : Ref sig .tc := ⟨.hbm, 385, rfl⟩
abbrev main_call26_v1 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_v291 : Ref sig .tc := ⟨.hbm, 390, rfl⟩
abbrev main_v292 : Ref sig .tc := ⟨.hbm, 391, rfl⟩
abbrev main_v293 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_cst_39 : Ref sig .tc := ⟨.hbm, 396, rfl⟩
abbrev main_call27_v0 : Ref sig .tc := ⟨.hbm, 397, rfl⟩
abbrev main_call27_v1 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_call28_v0 : Ref sig .tc := ⟨.hbm, 404, rfl⟩
abbrev main_call28_v1 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_v310 : Ref sig .tc := ⟨.hbm, 414, rfl⟩
abbrev main_cst_40 : Ref sig .tc := ⟨.hbm, 415, rfl⟩
abbrev main_call29_v0 : Ref sig .tc := ⟨.hbm, 416, rfl⟩
abbrev main_call29_v1 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_call30_v0 : Ref sig .tc := ⟨.hbm, 423, rfl⟩
abbrev main_call30_v1 : Ref sig .tc := ⟨.hbm, 424, rfl⟩
abbrev main_v316 : Ref sig .tc := ⟨.hbm, 425, rfl⟩
abbrev main_v317 : Ref sig .tc := ⟨.hbm, 426, rfl⟩
abbrev main_v318 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_v324 : Ref sig .tc := ⟨.hbm, 433, rfl⟩
abbrev main_cst_41 : Ref sig .tc := ⟨.hbm, 434, rfl⟩
abbrev main_call31_v0 : Ref sig .tc := ⟨.hbm, 435, rfl⟩
abbrev main_call31_v1 : Ref sig .tc := ⟨.hbm, 436, rfl⟩
abbrev main_v325 : Ref sig .tc := ⟨.hbm, 437, rfl⟩
abbrev main_v326 : Ref sig .tc := ⟨.hbm, 438, rfl⟩
abbrev main_v327 : Ref sig .tc := ⟨.hbm, 439, rfl⟩
abbrev main_v328 : Ref sig .tc := ⟨.hbm, 440, rfl⟩
abbrev main_v329 : Ref sig .tc := ⟨.hbm, 441, rfl⟩
abbrev main_call32_v0 : Ref sig .tc := ⟨.hbm, 442, rfl⟩
abbrev main_call32_v1 : Ref sig .tc := ⟨.hbm, 443, rfl⟩
abbrev main_v330 : Ref sig .tc := ⟨.hbm, 444, rfl⟩
abbrev main_cst_42 : Ref sig .tc := ⟨.hbm, 445, rfl⟩
abbrev main_v331 : Ref sig .tc := ⟨.hbm, 446, rfl⟩
abbrev main_v332 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_cst_43 : Ref sig .tc := ⟨.hbm, 455, rfl⟩
abbrev main_v340 : Ref sig .tc := ⟨.hbm, 456, rfl⟩
abbrev main_cst_44 : Ref sig .tc := ⟨.hbm, 457, rfl⟩
abbrev main_v341 : Ref sig .tc := ⟨.hbm, 458, rfl⟩
abbrev main_v342 : Ref sig .tc := ⟨.hbm, 459, rfl⟩
abbrev main_cst_45 : Ref sig .tc := ⟨.hbm, 460, rfl⟩
abbrev main_v343 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_cst_46 : Ref sig .tc := ⟨.hbm, 465, rfl⟩
abbrev main_v347 : Ref sig .tc := ⟨.hbm, 466, rfl⟩
abbrev main_cst_47 : Ref sig .tc := ⟨.hbm, 467, rfl⟩
abbrev main_v348 : Ref sig .tc := ⟨.hbm, 468, rfl⟩
abbrev main_v349 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_v353 : Ref sig .tc := ⟨.hbm, 473, rfl⟩
abbrev main_cst_48 : Ref sig .tc := ⟨.hbm, 474, rfl⟩
abbrev main_v354 : Ref sig .tc := ⟨.hbm, 475, rfl⟩
abbrev main_v355 : Ref sig .tc := ⟨.hbm, 476, rfl⟩
abbrev main_cst_49 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_cst_50 : Ref sig .tc := ⟨.hbm, 482, rfl⟩
abbrev main_v360 : Ref sig .tc := ⟨.hbm, 483, rfl⟩
abbrev main_v361 : Ref sig .tc := ⟨.hbm, 484, rfl⟩
abbrev main_v362 : Ref sig .tc := ⟨.hbm, 485, rfl⟩
abbrev main_v363 : Ref sig .tc := ⟨.hbm, 486, rfl⟩
abbrev main_v364 : Ref sig .tc := ⟨.hbm, 487, rfl⟩
abbrev main_v365 : Ref sig .tc := ⟨.hbm, 488, rfl⟩
abbrev main_cst_51 : Ref sig .tc := ⟨.hbm, 489, rfl⟩
abbrev main_v366 : Ref sig .tc := ⟨.hbm, 490, rfl⟩
abbrev main_cst_52 : Ref sig .tc := ⟨.hbm, 491, rfl⟩
abbrev main_v367 : Ref sig .tc := ⟨.hbm, 492, rfl⟩
abbrev main_v368 : Ref sig .tc := ⟨.hbm, 493, rfl⟩
abbrev main_cst_53 : Ref sig .tc := ⟨.hbm, 494, rfl⟩
abbrev main_v369 : Ref sig .tc := ⟨.hbm, 495, rfl⟩
abbrev main_v370 : Ref sig .tc := ⟨.hbm, 496, rfl⟩
abbrev main_v371 : Ref sig .tc := ⟨.hbm, 497, rfl⟩
abbrev main_v372 : Ref sig .tc := ⟨.hbm, 498, rfl⟩
abbrev main_v373 : Ref sig .tc := ⟨.hbm, 499, rfl⟩
abbrev main_v374 : Ref sig .tc := ⟨.hbm, 500, rfl⟩
abbrev main_cst_54 : Ref sig .tc := ⟨.hbm, 501, rfl⟩
abbrev main_v375 : Ref sig .tc := ⟨.hbm, 502, rfl⟩
abbrev main_v376 : Ref sig .tc := ⟨.hbm, 503, rfl⟩
abbrev main_v377 : Ref sig .tc := ⟨.hbm, 504, rfl⟩
abbrev main_v378 : Ref sig .tc := ⟨.hbm, 505, rfl⟩
abbrev main_v379 : Ref sig .tc := ⟨.hbm, 506, rfl⟩
abbrev main_v380 : Ref sig .tc := ⟨.hbm, 507, rfl⟩
abbrev main_v381 : Ref sig .tc := ⟨.hbm, 508, rfl⟩
abbrev main_v382 : Ref sig .tc := ⟨.hbm, 509, rfl⟩
abbrev main_v383 : Ref sig .tc := ⟨.hbm, 510, rfl⟩
abbrev main_v384 : Ref sig .tc := ⟨.hbm, 511, rfl⟩
abbrev main_cst_55 : Ref sig .tc := ⟨.hbm, 512, rfl⟩
abbrev main_v385 : Ref sig .tc := ⟨.hbm, 513, rfl⟩
abbrev main_v386 : Ref sig .tc := ⟨.hbm, 514, rfl⟩
abbrev main_cst_56 : Ref sig .tc := ⟨.hbm, 515, rfl⟩
abbrev main_v387 : Ref sig .tc := ⟨.hbm, 516, rfl⟩
abbrev main_v388 : Ref sig .tc := ⟨.hbm, 517, rfl⟩
abbrev main_v389 : Ref sig .tc := ⟨.hbm, 518, rfl⟩
abbrev main_v390 : Ref sig .tc := ⟨.hbm, 519, rfl⟩
abbrev main_v391 : Ref sig .tc := ⟨.hbm, 520, rfl⟩
abbrev main_v392 : Ref sig .tc := ⟨.hbm, 521, rfl⟩
abbrev main_v393 : Ref sig .tc := ⟨.hbm, 522, rfl⟩
abbrev main_v394 : Ref sig .tc := ⟨.hbm, 523, rfl⟩
abbrev main_v395 : Ref sig .tc := ⟨.hbm, 524, rfl⟩
abbrev main_cst_57 : Ref sig .tc := ⟨.hbm, 525, rfl⟩
abbrev main_v396 : Ref sig .tc := ⟨.hbm, 526, rfl⟩
abbrev main_v397 : Ref sig .tc := ⟨.hbm, 527, rfl⟩
abbrev main_cst_58 : Ref sig .tc := ⟨.hbm, 528, rfl⟩
abbrev main_v398 : Ref sig .tc := ⟨.hbm, 529, rfl⟩
abbrev main_v399 : Ref sig .tc := ⟨.hbm, 530, rfl⟩
abbrev main_v400 : Ref sig .tc := ⟨.hbm, 531, rfl⟩
abbrev main_v401 : Ref sig .tc := ⟨.hbm, 532, rfl⟩
abbrev main_v402 : Ref sig .tc := ⟨.hbm, 533, rfl⟩
abbrev main_v403 : Ref sig .tc := ⟨.hbm, 534, rfl⟩
abbrev main_c_59 : Ref sig .tc := ⟨.hbm, 535, rfl⟩
abbrev main_v404 : Ref sig .tc := ⟨.hbm, 536, rfl⟩
abbrev main_v405 : Ref sig .tc := ⟨.hbm, 537, rfl⟩
abbrev main_v406 : Ref sig .tc := ⟨.hbm, 538, rfl⟩
abbrev main_v407 : Ref sig .tc := ⟨.hbm, 539, rfl⟩
abbrev main_v408 : Ref sig .tc := ⟨.hbm, 540, rfl⟩
abbrev main_cst_60 : Ref sig .tc := ⟨.hbm, 541, rfl⟩
abbrev main_v409 : Ref sig .tc := ⟨.hbm, 542, rfl⟩
abbrev main_cst_61 : Ref sig .tc := ⟨.hbm, 543, rfl⟩
abbrev main_v410 : Ref sig .tc := ⟨.hbm, 544, rfl⟩
abbrev main_v411 : Ref sig .tc := ⟨.hbm, 545, rfl⟩
abbrev main_v412 : Ref sig .tc := ⟨.hbm, 546, rfl⟩
abbrev main_v413 : Ref sig .tc := ⟨.hbm, 547, rfl⟩
abbrev main_v414 : Ref sig .tc := ⟨.hbm, 548, rfl⟩
abbrev main_v415 : Ref sig .tc := ⟨.hbm, 549, rfl⟩
abbrev main_v416 : Ref sig .tc := ⟨.hbm, 550, rfl⟩
abbrev main_v417 : Ref sig .tc := ⟨.hbm, 551, rfl⟩
abbrev main_v418 : Ref sig .tc := ⟨.hbm, 552, rfl⟩
abbrev main_cst_62 : Ref sig .tc := ⟨.hbm, 553, rfl⟩
abbrev main_call34_v0 : Ref sig .tc := ⟨.hbm, 554, rfl⟩
abbrev main_call34_v1 : Ref sig .tc := ⟨.hbm, 555, rfl⟩
abbrev main_v419 : Ref sig .tc := ⟨.hbm, 556, rfl⟩
abbrev main_v420 : Ref sig .tc := ⟨.hbm, 557, rfl⟩
abbrev main_v421 : Ref sig .tc := ⟨.hbm, 558, rfl⟩
abbrev main_v422 : Ref sig .tc := ⟨.hbm, 559, rfl⟩
abbrev main_v423 : Ref sig .tc := ⟨.hbm, 560, rfl⟩
abbrev main_call35_v0 : Ref sig .tc := ⟨.hbm, 561, rfl⟩
abbrev main_call35_v1 : Ref sig .tc := ⟨.hbm, 562, rfl⟩
abbrev main_v424 : Ref sig .tc := ⟨.hbm, 563, rfl⟩
abbrev main_v425 : Ref sig .tc := ⟨.hbm, 564, rfl⟩
abbrev main_v426 : Ref sig .tc := ⟨.hbm, 565, rfl⟩
abbrev main_v427 : Ref sig .tc := ⟨.hbm, 566, rfl⟩
abbrev main_v428 : Ref sig .tc := ⟨.hbm, 567, rfl⟩
abbrev main_v429 : Ref sig .tc := ⟨.hbm, 568, rfl⟩
abbrev main_v430 : Ref sig .tc := ⟨.hbm, 569, rfl⟩
abbrev main_v431 : Ref sig .tc := ⟨.hbm, 570, rfl⟩
abbrev main_v432 : Ref sig .tc := ⟨.hbm, 571, rfl⟩
abbrev main_cst_63 : Ref sig .tc := ⟨.hbm, 572, rfl⟩
abbrev main_call36_v0 : Ref sig .tc := ⟨.hbm, 573, rfl⟩
abbrev main_call36_v1 : Ref sig .tc := ⟨.hbm, 574, rfl⟩
abbrev main_v433 : Ref sig .tc := ⟨.hbm, 575, rfl⟩
abbrev main_v434 : Ref sig .tc := ⟨.hbm, 576, rfl⟩
abbrev main_v435 : Ref sig .tc := ⟨.hbm, 577, rfl⟩
abbrev main_v436 : Ref sig .tc := ⟨.hbm, 578, rfl⟩
abbrev main_v437 : Ref sig .tc := ⟨.hbm, 579, rfl⟩
abbrev main_call37_v0 : Ref sig .tc := ⟨.hbm, 580, rfl⟩
abbrev main_call37_v1 : Ref sig .tc := ⟨.hbm, 581, rfl⟩
abbrev main_v438 : Ref sig .tc := ⟨.hbm, 582, rfl⟩
abbrev main_v439 : Ref sig .tc := ⟨.hbm, 583, rfl⟩
abbrev main_v440 : Ref sig .tc := ⟨.hbm, 584, rfl⟩
abbrev main_v441 : Ref sig .tc := ⟨.hbm, 585, rfl⟩
abbrev main_v442 : Ref sig .tc := ⟨.hbm, 586, rfl⟩
abbrev main_v443 : Ref sig .tc := ⟨.hbm, 587, rfl⟩
abbrev main_v444 : Ref sig .tc := ⟨.hbm, 588, rfl⟩
abbrev main_v445 : Ref sig .tc := ⟨.hbm, 589, rfl⟩
abbrev main_v446 : Ref sig .tc := ⟨.hbm, 590, rfl⟩
abbrev main_cst_64 : Ref sig .tc := ⟨.hbm, 591, rfl⟩
abbrev main_call38_v0 : Ref sig .tc := ⟨.hbm, 592, rfl⟩
abbrev main_call38_v1 : Ref sig .tc := ⟨.hbm, 593, rfl⟩
abbrev main_v447 : Ref sig .tc := ⟨.hbm, 594, rfl⟩
abbrev main_v448 : Ref sig .tc := ⟨.hbm, 595, rfl⟩
abbrev main_v449 : Ref sig .tc := ⟨.hbm, 596, rfl⟩
abbrev main_v450 : Ref sig .tc := ⟨.hbm, 597, rfl⟩
abbrev main_v451 : Ref sig .tc := ⟨.hbm, 598, rfl⟩
abbrev main_call39_v0 : Ref sig .tc := ⟨.hbm, 599, rfl⟩
abbrev main_call39_v1 : Ref sig .tc := ⟨.hbm, 600, rfl⟩
abbrev main_v452 : Ref sig .tc := ⟨.hbm, 601, rfl⟩
abbrev main_v453 : Ref sig .tc := ⟨.hbm, 602, rfl⟩
abbrev main_v454 : Ref sig .tc := ⟨.hbm, 603, rfl⟩
abbrev main_v455 : Ref sig .tc := ⟨.hbm, 604, rfl⟩
abbrev main_v456 : Ref sig .tc := ⟨.hbm, 605, rfl⟩
abbrev main_v457 : Ref sig .tc := ⟨.hbm, 606, rfl⟩
abbrev main_v458 : Ref sig .tc := ⟨.hbm, 607, rfl⟩
abbrev main_v459 : Ref sig .tc := ⟨.hbm, 608, rfl⟩
abbrev main_v460 : Ref sig .tc := ⟨.hbm, 609, rfl⟩
abbrev main_cst_65 : Ref sig .tc := ⟨.hbm, 610, rfl⟩
abbrev main_call40_v0 : Ref sig .tc := ⟨.hbm, 611, rfl⟩
abbrev main_call40_v1 : Ref sig .tc := ⟨.hbm, 612, rfl⟩
abbrev main_v461 : Ref sig .tc := ⟨.hbm, 613, rfl⟩
abbrev main_v462 : Ref sig .tc := ⟨.hbm, 614, rfl⟩
abbrev main_v463 : Ref sig .tc := ⟨.hbm, 615, rfl⟩
abbrev main_v464 : Ref sig .tc := ⟨.hbm, 616, rfl⟩
abbrev main_v465 : Ref sig .tc := ⟨.hbm, 617, rfl⟩
abbrev main_call41_v0 : Ref sig .tc := ⟨.hbm, 618, rfl⟩
abbrev main_call41_v1 : Ref sig .tc := ⟨.hbm, 619, rfl⟩
abbrev main_v466 : Ref sig .tc := ⟨.hbm, 620, rfl⟩
abbrev main_v467 : Ref sig .tc := ⟨.hbm, 621, rfl⟩
abbrev main_v468 : Ref sig .tc := ⟨.hbm, 622, rfl⟩
abbrev main_v469 : Ref sig .tc := ⟨.hbm, 623, rfl⟩
abbrev main_v470 : Ref sig .tc := ⟨.hbm, 624, rfl⟩
abbrev main_v471 : Ref sig .tc := ⟨.hbm, 625, rfl⟩
abbrev main_v472 : Ref sig .tc := ⟨.hbm, 626, rfl⟩
abbrev main_v473 : Ref sig .tc := ⟨.hbm, 627, rfl⟩
abbrev main_v474 : Ref sig .tc := ⟨.hbm, 628, rfl⟩
abbrev main_cst_66 : Ref sig .tc := ⟨.hbm, 629, rfl⟩
abbrev main_call42_v0 : Ref sig .tc := ⟨.hbm, 630, rfl⟩
abbrev main_call42_v1 : Ref sig .tc := ⟨.hbm, 631, rfl⟩
abbrev main_v475 : Ref sig .tc := ⟨.hbm, 632, rfl⟩
abbrev main_v476 : Ref sig .tc := ⟨.hbm, 633, rfl⟩
abbrev main_v477 : Ref sig .tc := ⟨.hbm, 634, rfl⟩
abbrev main_v478 : Ref sig .tc := ⟨.hbm, 635, rfl⟩
abbrev main_v479 : Ref sig .tc := ⟨.hbm, 636, rfl⟩
abbrev main_call43_v0 : Ref sig .tc := ⟨.hbm, 637, rfl⟩
abbrev main_call43_v1 : Ref sig .tc := ⟨.hbm, 638, rfl⟩
abbrev main_v480 : Ref sig .tc := ⟨.hbm, 639, rfl⟩
abbrev main_v481 : Ref sig .tc := ⟨.hbm, 640, rfl⟩
abbrev main_v482 : Ref sig .tc := ⟨.hbm, 641, rfl⟩
abbrev main_v483 : Ref sig .tc := ⟨.hbm, 642, rfl⟩
abbrev main_v484 : Ref sig .tc := ⟨.hbm, 643, rfl⟩
abbrev main_v485 : Ref sig .tc := ⟨.hbm, 644, rfl⟩
abbrev main_v486 : Ref sig .tc := ⟨.hbm, 645, rfl⟩
abbrev main_v487 : Ref sig .tc := ⟨.hbm, 646, rfl⟩
abbrev main_v488 : Ref sig .tc := ⟨.hbm, 647, rfl⟩
abbrev main_cst_67 : Ref sig .tc := ⟨.hbm, 648, rfl⟩
abbrev main_call44_v0 : Ref sig .tc := ⟨.hbm, 649, rfl⟩
abbrev main_call44_v1 : Ref sig .tc := ⟨.hbm, 650, rfl⟩
abbrev main_v489 : Ref sig .tc := ⟨.hbm, 651, rfl⟩
abbrev main_v490 : Ref sig .tc := ⟨.hbm, 652, rfl⟩
abbrev main_v491 : Ref sig .tc := ⟨.hbm, 653, rfl⟩
abbrev main_v492 : Ref sig .tc := ⟨.hbm, 654, rfl⟩
abbrev main_v493 : Ref sig .tc := ⟨.hbm, 655, rfl⟩
abbrev main_call45_v0 : Ref sig .tc := ⟨.hbm, 656, rfl⟩
abbrev main_call45_v1 : Ref sig .tc := ⟨.hbm, 657, rfl⟩
abbrev main_v494 : Ref sig .tc := ⟨.hbm, 658, rfl⟩
abbrev main_v495 : Ref sig .tc := ⟨.hbm, 659, rfl⟩
abbrev main_v496 : Ref sig .tc := ⟨.hbm, 660, rfl⟩
abbrev main_v497 : Ref sig .tc := ⟨.hbm, 661, rfl⟩
abbrev main_v498 : Ref sig .tc := ⟨.hbm, 662, rfl⟩
abbrev main_v499 : Ref sig .tc := ⟨.hbm, 663, rfl⟩
abbrev main_v500 : Ref sig .tc := ⟨.hbm, 664, rfl⟩
abbrev main_v501 : Ref sig .tc := ⟨.hbm, 665, rfl⟩
abbrev main_v502 : Ref sig .tc := ⟨.hbm, 666, rfl⟩
abbrev main_cst_68 : Ref sig .tc := ⟨.hbm, 667, rfl⟩
abbrev main_call46_v0 : Ref sig .tc := ⟨.hbm, 668, rfl⟩
abbrev main_call46_v1 : Ref sig .tc := ⟨.hbm, 669, rfl⟩
abbrev main_v503 : Ref sig .tc := ⟨.hbm, 670, rfl⟩
abbrev main_v504 : Ref sig .tc := ⟨.hbm, 671, rfl⟩
abbrev main_v505 : Ref sig .tc := ⟨.hbm, 672, rfl⟩
abbrev main_v506 : Ref sig .tc := ⟨.hbm, 673, rfl⟩
abbrev main_v507 : Ref sig .tc := ⟨.hbm, 674, rfl⟩
abbrev main_call47_v0 : Ref sig .tc := ⟨.hbm, 675, rfl⟩
abbrev main_call47_v1 : Ref sig .tc := ⟨.hbm, 676, rfl⟩
abbrev main_v508 : Ref sig .tc := ⟨.hbm, 677, rfl⟩
abbrev main_v509 : Ref sig .tc := ⟨.hbm, 678, rfl⟩
abbrev main_v510 : Ref sig .tc := ⟨.hbm, 679, rfl⟩
abbrev main_v511 : Ref sig .tc := ⟨.hbm, 680, rfl⟩
abbrev main_v512 : Ref sig .tc := ⟨.hbm, 681, rfl⟩
abbrev main_v513 : Ref sig .tc := ⟨.hbm, 682, rfl⟩
abbrev main_v514 : Ref sig .tc := ⟨.hbm, 683, rfl⟩
abbrev main_v515 : Ref sig .tc := ⟨.hbm, 684, rfl⟩
abbrev main_v516 : Ref sig .tc := ⟨.hbm, 685, rfl⟩
abbrev main_cst_69 : Ref sig .tc := ⟨.hbm, 686, rfl⟩
abbrev main_call48_v0 : Ref sig .tc := ⟨.hbm, 687, rfl⟩
abbrev main_call48_v1 : Ref sig .tc := ⟨.hbm, 688, rfl⟩
abbrev main_v517 : Ref sig .tc := ⟨.hbm, 689, rfl⟩
abbrev main_v518 : Ref sig .tc := ⟨.hbm, 690, rfl⟩
abbrev main_v519 : Ref sig .tc := ⟨.hbm, 691, rfl⟩
abbrev main_v520 : Ref sig .tc := ⟨.hbm, 692, rfl⟩
abbrev main_v521 : Ref sig .tc := ⟨.hbm, 693, rfl⟩
abbrev main_call49_v0 : Ref sig .tc := ⟨.hbm, 694, rfl⟩
abbrev main_call49_v1 : Ref sig .tc := ⟨.hbm, 695, rfl⟩
abbrev main_v522 : Ref sig .tc := ⟨.hbm, 696, rfl⟩
abbrev main_cst_70 : Ref sig .tc := ⟨.hbm, 697, rfl⟩
abbrev main_v523 : Ref sig .tc := ⟨.hbm, 698, rfl⟩
abbrev main_v524 : Ref sig .tc := ⟨.hbm, 699, rfl⟩
abbrev main_v525 : Ref sig .tc := ⟨.hbm, 700, rfl⟩
abbrev main_v526 : Ref sig .tc := ⟨.hbm, 701, rfl⟩
abbrev main_v527 : Ref sig .tc := ⟨.hbm, 702, rfl⟩
abbrev main_v528 : Ref sig .tc := ⟨.hbm, 703, rfl⟩
abbrev main_v529 : Ref sig .tc := ⟨.hbm, 704, rfl⟩
abbrev main_v530 : Ref sig .tc := ⟨.hbm, 705, rfl⟩
abbrev main_v531 : Ref sig .tc := ⟨.hbm, 706, rfl⟩
abbrev main_cst_71 : Ref sig .tc := ⟨.hbm, 707, rfl⟩
abbrev main_v532 : Ref sig .tc := ⟨.hbm, 708, rfl⟩
abbrev main_cst_72 : Ref sig .tc := ⟨.hbm, 709, rfl⟩
abbrev main_v533 : Ref sig .tc := ⟨.hbm, 710, rfl⟩
abbrev main_v534 : Ref sig .tc := ⟨.hbm, 711, rfl⟩
abbrev main_cst_73 : Ref sig .tc := ⟨.hbm, 712, rfl⟩
abbrev main_v535 : Ref sig .tc := ⟨.hbm, 713, rfl⟩
abbrev main_v536 : Ref sig .tc := ⟨.hbm, 714, rfl⟩
abbrev main_v537 : Ref sig .tc := ⟨.hbm, 715, rfl⟩
abbrev main_v538 : Ref sig .tc := ⟨.hbm, 716, rfl⟩
abbrev main_cst_74 : Ref sig .tc := ⟨.hbm, 717, rfl⟩
abbrev main_v539 : Ref sig .tc := ⟨.hbm, 718, rfl⟩
abbrev main_cst_75 : Ref sig .tc := ⟨.hbm, 719, rfl⟩
abbrev main_v540 : Ref sig .tc := ⟨.hbm, 720, rfl⟩
abbrev main_v541 : Ref sig .tc := ⟨.hbm, 721, rfl⟩
abbrev main_v542 : Ref sig .tc := ⟨.hbm, 722, rfl⟩
abbrev main_v543 : Ref sig .tc := ⟨.hbm, 723, rfl⟩
abbrev main_v544 : Ref sig .tc := ⟨.hbm, 724, rfl⟩
abbrev main_v545 : Ref sig .tc := ⟨.hbm, 725, rfl⟩
abbrev main_cst_76 : Ref sig .tc := ⟨.hbm, 726, rfl⟩
abbrev main_v546 : Ref sig .tc := ⟨.hbm, 727, rfl⟩
abbrev main_v547 : Ref sig .tc := ⟨.hbm, 728, rfl⟩
abbrev main_cst_77 : Ref sig .tc := ⟨.hbm, 729, rfl⟩
abbrev main_v548 : Ref sig .tc := ⟨.hbm, 730, rfl⟩
abbrev main_v549 : Ref sig .tc := ⟨.hbm, 731, rfl⟩
abbrev main_v550 : Ref sig .tc := ⟨.hbm, 732, rfl⟩
abbrev main_v551 : Ref sig .tc := ⟨.hbm, 733, rfl⟩
abbrev main_cst_78 : Ref sig .tc := ⟨.hbm, 734, rfl⟩
abbrev main_v552 : Ref sig .tc := ⟨.hbm, 735, rfl⟩
abbrev main_v553 : Ref sig .tc := ⟨.hbm, 736, rfl⟩
abbrev main_v554 : Ref sig .tc := ⟨.hbm, 737, rfl⟩
abbrev main_v555 : Ref sig .tc := ⟨.hbm, 738, rfl⟩
abbrev main_v556 : Ref sig .tc := ⟨.hbm, 739, rfl⟩
abbrev main_v557 : Ref sig .tc := ⟨.hbm, 740, rfl⟩
abbrev main_cst_79 : Ref sig .tc := ⟨.hbm, 741, rfl⟩
abbrev main_v558 : Ref sig .tc := ⟨.hbm, 742, rfl⟩
abbrev main_cst_80 : Ref sig .tc := ⟨.hbm, 743, rfl⟩
abbrev main_v559 : Ref sig .tc := ⟨.hbm, 744, rfl⟩
abbrev main_v560 : Ref sig .tc := ⟨.hbm, 745, rfl⟩
abbrev main_cst_81 : Ref sig .tc := ⟨.hbm, 746, rfl⟩
abbrev main_v561 : Ref sig .tc := ⟨.hbm, 747, rfl⟩
abbrev main_v562 : Ref sig .tc := ⟨.hbm, 748, rfl⟩
abbrev main_v563 : Ref sig .tc := ⟨.hbm, 749, rfl⟩
abbrev main_v564 : Ref sig .tc := ⟨.hbm, 750, rfl⟩
abbrev main_v565 : Ref sig .tc := ⟨.hbm, 751, rfl⟩
abbrev main_v566 : Ref sig .tc := ⟨.hbm, 752, rfl⟩
abbrev main_cst_82 : Ref sig .tc := ⟨.hbm, 753, rfl⟩
abbrev main_v567 : Ref sig .tc := ⟨.hbm, 754, rfl⟩
abbrev main_v568 : Ref sig .tc := ⟨.hbm, 755, rfl⟩
abbrev main_v569 : Ref sig .tc := ⟨.hbm, 756, rfl⟩
abbrev main_v570 : Ref sig .tc := ⟨.hbm, 757, rfl⟩
abbrev main_v571 : Ref sig .tc := ⟨.hbm, 758, rfl⟩
abbrev main_v572 : Ref sig .tc := ⟨.hbm, 759, rfl⟩
abbrev main_v573 : Ref sig .tc := ⟨.hbm, 760, rfl⟩
abbrev main_v574 : Ref sig .tc := ⟨.hbm, 761, rfl⟩
abbrev main_v575 : Ref sig .tc := ⟨.hbm, 762, rfl⟩
abbrev main_v576 : Ref sig .tc := ⟨.hbm, 763, rfl⟩
abbrev main_cst_83 : Ref sig .tc := ⟨.hbm, 764, rfl⟩
abbrev main_v577 : Ref sig .tc := ⟨.hbm, 765, rfl⟩
abbrev main_v578 : Ref sig .tc := ⟨.hbm, 766, rfl⟩
abbrev main_cst_84 : Ref sig .tc := ⟨.hbm, 767, rfl⟩
abbrev main_v579 : Ref sig .tc := ⟨.hbm, 768, rfl⟩
abbrev main_v580 : Ref sig .tc := ⟨.hbm, 769, rfl⟩
abbrev main_cst_85 : Ref sig .tc := ⟨.hbm, 770, rfl⟩
abbrev main_v581 : Ref sig .tc := ⟨.hbm, 771, rfl⟩
abbrev main_cst_86 : Ref sig .tc := ⟨.hbm, 772, rfl⟩
abbrev main_cst_87 : Ref sig .tc := ⟨.hbm, 773, rfl⟩
abbrev main_v582 : Ref sig .tc := ⟨.hbm, 774, rfl⟩
abbrev main_v583 : Ref sig .tc := ⟨.hbm, 775, rfl⟩
abbrev main_cst_88 : Ref sig .tc := ⟨.hbm, 776, rfl⟩
abbrev main_v584 : Ref sig .tc := ⟨.hbm, 777, rfl⟩
abbrev main_v585 : Ref sig .tc := ⟨.hbm, 778, rfl⟩
abbrev main_cst_89 : Ref sig .tc := ⟨.hbm, 779, rfl⟩
abbrev main_v586 : Ref sig .tc := ⟨.hbm, 780, rfl⟩
abbrev main_cst_90 : Ref sig .tc := ⟨.hbm, 781, rfl⟩

abbrev nD : Nat := 1
abbrev τ : Topo := Topo.v7x

variable {F : FTy → Type} [FloatOps F]
-- ==== Proof.ScGather.lean ====
/- Several indirect gathers outstanding on one DMA semaphore.

   A gather of `o` rows pays its semaphore row by row. Where every row pays the same amount `N`, the rows of
   several gathers are one counted batch (`Transfers.Batch`): gather after gather issues the next `o` transfers
   of it (`wp_gatherBatch`), a wait for one gather consumes the units of `o` transfers, and when all the units
   are consumed every row of every gather is in (`Transfers.batch_collect'`). `served` is what one row delivers,
   `served_all` puts the rows of a gather together again. -/
module

public import Idealize.ShloMosaic.Lib.Transfers
public import Idealize.ShloMosaic.Lib.Batch
public import Idealize.ShloMosaic.Lib.SparseCore.Stream

@[expose] public section

noncomputable section

namespace Cert.Proof.Gather

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

omit [Preorder Lvl] in
/-- Of the transfers from the `k`-th on: the next `o` of them, and those from the `(k + o)`-th on. -/
theorem pending_add {n : ℕ} (Φ : Fin n → sProp 𝕄) (k : ℕ) : ∀ (o : ℕ) (h : k + o ≤ n),
    bigSep (pending k) Φ = iprop(bigSep Finset.univ (fun j : Fin o => Φ ⟨k + j, by omega⟩) ∗ bigSep (pending (k + o)) Φ) := by
  intro o
  induction o generalizing k with
  | zero =>
    intro h
    rw [Finset.univ_eq_empty, BI.bigSep_empty]
    refine BI.Entails.antisymm (show (_ : sProp 𝕄) ⊢ _ from ?_) (show (_ : sProp 𝕄) ⊢ _ from ?_)
    · iintro H
      isplitr
      · iempintro
      · iexact H
    · iintro ⟨-, H⟩
      iexact H
  | succ o ih =>
    intro h
    rw [bigSep_pending_step Φ k (by omega), ih (k + 1) (by omega), bigSep_univ_succ,
      show pending (n := n) (k + 1 + o) = pending (k + (o + 1)) by congr 1; omega]
    have e : (fun j : Fin o => Φ ⟨k + 1 + j, by omega⟩) = fun j : Fin o => Φ ⟨k + j.succ, by simp only [Fin.val_succ]; omega⟩ := by
      funext j; congr 1; apply Fin.ext; simp only [Fin.val_succ]; omega
    rw [e]
    refine BI.Entails.antisymm (show (_ : sProp 𝕄) ⊢ _ from ?_) (show (_ : sProp 𝕄) ⊢ _ from ?_)
    · rw [show (⟨k + ((0 : Fin (o + 1)) : ℕ), by simp; omega⟩ : Fin n) = ⟨k, by omega⟩ from rfl]
      iintro ⟨H0, H1, H2⟩
      isplitr [H2]
      · isplitl [H0]
        · iexact H0
        · iexact H1
      · iexact H2
    · rw [show (⟨k + ((0 : Fin (o + 1)) : ℕ), by simp; omega⟩ : Fin n) = ⟨k, by omega⟩ from rfl]
      iintro ⟨⟨H0, H1⟩, H2⟩
      isplitl [H0]; · iexact H0
      isplitl [H1]; · iexact H1
      iexact H2

/-- What the `j`-th row of a gather delivers: its row of the destination written with the row of the source that
    the list names, the list's entry, and a piece of the source's share. -/
def served (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) : sProp 𝕄 :=
  iprop(((dst.view.loc c ↦[(dst.view.slice (s.rowRect hg.axis' j)).set]{fullShare}
          ((dst.view.slice (s.rowRect hg.axis' j)).write (Elt F) fd (fun (i : (s.rowShape hg.axis').Idx) => src.view.read (Elt F) fs (hg.rowIdx (r j) i)) Finset.univ))
      ∗ (offs.view.loc c ↦[{offs.view.emb (si.rowMajor.symm (j.cast hn.symm))}]{qo} fo))
    ∗ (src.view.loc c ↦[src.view.set]{pieceOf q _ ho j} fs))

instance served_storable (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) :
    Storable (upEmb : UEmb _ 𝕄) (served c src dst hg offs hn q qo fs fd fo ho r j) := by
  unfold served; infer_instance

/-- All the rows of a gather: the destination written with the gather's payload, the source's share and the list's. -/
theorem served_all (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) :
    bigSep Finset.univ (served c src dst hg offs hn q qo fs fd fo ho r)
      ⊢ (iprop((dst.view.loc c ↦[dst.view.set]{fullShare}
                (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hen : Function.Bijective fun j : Fin (s.size hg.axis') => si.rowMajor.symm (j.cast hn.symm) :=
    si.rowMajor.symm.bijective.comp (finCongr hn.symm).bijective
  have hW : ∀ j i, src.view.read (Elt F) fs (hg.rowIdx (r j) i) = gatherPayload hg (src.view.read (Elt F) fs) r ((s.rowRect hg.axis' j).emb i) := fun j i => by
    unfold gatherPayload; rw [Shape.Gathers.idx_rowRect_emb]
  unfold served
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · have h := pointsTo_rows_write (Ix := Ix) (Name := Name) (U := U) (Lvl := Lvl) c dst.view hg.axis' fd (fun j (i : (s.rowShape hg.axis').Idx) => src.view.read (Elt F) fs (hg.rowIdx (r j) i)) _ hW

    ihave H := (show _ ⊢ _ from h) $$ Hrows
    iexact H
  isplitl [Hsrc]; · iapply (Entails.of_eq (pointsTo_piecesOf (src.view.set) fs ho q).symm) $$ Hsrc
  iapply (Entails.of_eq (pointsTo_entries c offs.view _ hen qo fo).symm) $$ Hoffs

/-- The issue of an indirect gather as the next rows of a batch: `k` transfers issued before it, each of `N`
    units, and every row of the gather one more of them (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {K : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {k u : ℕ}
    (ι : Ix) (N o : ℕ) (hN : ∀ j, (dst.slice (s.rowRect hg.axis' j) (s.stride_rowRect hg.axis' j)).view.dmaCredit = N)
    (hin : ∀ x, (offs.view.read (Elt F) fo x).toNat < s₀.size hg.axis)
    (ho : 0 < s.size hg.axis') (hos : s.size hg.axis' = o) (hk : k + o ≤ n) (hu : u ≤ k * N)
    (hD : ∀ j : Fin (s.size hg.axis'),
      served c src dst hg offs hn q qo fs fd fo ho (rows (offs.view.read (Elt F) fo) hn hin) j ⊢ D ⟨k + j, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k u)
      ⊢ iprop((Batch EC c (.dma sem) ι N D (k + o) u -∗ wp frame (wpE defs 𝒱 c bd) Set.univ (K ⟨⟩) Q)
          -∗ wp frame (wpE defs 𝒱 c bd) Set.univ (enqueueIndirectGather hp src dst hg offs hn sem hsrc he hsp hr >>= K) Q) := by
  subst hos
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N := by
    rw [Finset.sum_congr rfl fun j _ => (show (rd j).dst.view.dmaCredit = N from hN j), Finset.sum_const, Finset.card_univ, Fintype.card_fin, smul_eq_mul]
  unfold Batch
  iintro ⟨Hs, Hd, Ho, %γ, %γ₀, %κ, #Hinv, HI, H0, Hcred⟩ Hk
  ihave HI' := (Entails.of_eq (pending_add (fun t => count EC (γ t) 0) k (s.size hg.axis') hk)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ j, iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨k + j, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (fun (i : (s.rowShape hg.axis').Idx) => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from hN j]
        iapply (batch_creditUpdate EC (D := D) ⟨k + j, by omega⟩ (hD j))
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (k + s.size hg.axis') * N - u = (k * N - u) + s.size hg.axis' * N by rw [Nat.add_mul]; omega, ← tallyAt_add]
  icombine Hcred Hcred' as H
  iexact H

end Cert.Proof.Gather

end
-- ==== Proof.KerArgs.lean ====
/-
  For the program `Kernel`, whose text is `KernelIdeal`'s under another name.
  What the run leaves of the arguments.
-/
module

public import proofs.«01_k».proof.Proof.KScLaunch

@[expose] public section

noncomputable section

namespace Cert.Proof.KSc

open Cert.Kernel Cert.Kernel.Gen
open Idealize.ShloMosaic Idealize.ShloMosaic.TcCoe
open Idealize.ShloMosaic.StableHlo

variable {F : FTy → Type} [FloatOps F]
variable (m : (ℓ : Loc nD τ sig) → Buf (Elt F) ℓ) (d : Dev nD)

theorem V2_arg (b : Ref sig .tc) (h : dv b ≠ dv main_v4 := by decide) (h1 : b ∉ ([main_cst, main_cst_0, main_cst_1, main_cst_2, main_cst_3, main_v0, main_v1, main_v2, main_v3] : List (Ref sig .tc)) := by decide) :
    V2 m d (dv b) = m ((d.tc : Thread nD τ).loc b) := by
  unfold V2
  rw [Function.update_of_ne h]
  unfold V1
  exact StableHlo.after_of_writes_sub _ _ ops1_writes h1

theorem V5_arg (b : Ref sig .tc) (h3 : b ∉ ([main_v22, main_v23, main_v24, main_v25] : List (Ref sig .tc)) := by decide)
    (h4 : dv b ≠ dv main_v21_0 ∧ dv b ≠ dv main_v21_1 ∧ dv b ≠ dv main_v21_2 ∧ dv b ≠ dv main_v21_3 := by decide)
    (h2 : b ∉ ([main_v5, main_v6, main_v7, main_v8, main_v9, main_v10, main_v11, main_v12, main_v13, main_v14, main_v15, main_v16, main_v17, main_v18, main_v19, main_v20] : List (Ref sig .tc)) := by decide)
    (h : dv b ≠ dv main_v4 := by decide) (h1 : b ∉ ([main_cst, main_cst_0, main_cst_1, main_cst_2, main_cst_3, main_v0, main_v1, main_v2, main_v3] : List (Ref sig .tc)) := by decide) :
    V5 m d (dv b) = m ((d.tc : Thread nD τ).loc b) := by
  unfold V5
  rw [StableHlo.after_of_writes_sub _ _ ops3_writes h3]
  unfold V4
  rw [Function.update_of_ne h4.2.2.2, Function.update_of_ne h4.2.2.1, Function.update_of_ne h4.2.1, Function.update_of_ne h4.1]
  unfold V3
  rw [StableHlo.after_of_writes_sub _ _ ops2_writes h2]
  exact V2_arg m d b h h1

/-- The whole run: the arguments as they were, every semaphore at zero. -/
theorem run_args [∀ e, Nonempty (Elt F e)] (ρ : Dev nD → PrngReg) :
    θ_run Kernel.defs threads ⟨m, fun _ => 0, ρ⟩ fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)) ∧ r.2.sem = fun _ => 0 :=
  (θ_run Kernel.defs _ _).mono (fun r h => ⟨fun d => ⟨
    (h.1 d (dv main_arg0) (by decide)).trans (V5_arg m d main_arg0), (h.1 d (dv main_arg1) (by decide)).trans (V5_arg m d main_arg1),
    (h.1 d (dv main_arg2) (by decide)).trans (V5_arg m d main_arg2), (h.1 d (dv main_arg3) (by decide)).trans (V5_arg m d main_arg3),
    (h.1 d (dv main_arg4) (by decide)).trans (V5_arg m d main_arg4), (h.1 d (dv main_arg5) (by decide)).trans (V5_arg m d main_arg5)⟩, h.2⟩)
    (run_main m ρ)

end Cert.Proof.KSc
-- ==== Proof.ScIdx.lean ====
/-
  The index lists of the row gather. A task picks one lane of its vector of base positions by a masked running sum and
  lays four pieces of sixteen words for each of eight boxes: `pick`, `piece` name those two pieces of arithmetic,
  `idxList` the list of 512 words they leave, `piece_apply` their agreement.
-/
module

public import proofs.«01_k».proof.Defs
public import Idealize.ShloMosaic.Lib.Writes
public import proofs.«01_k».proof.Proof.Gen.KernelIdeal
public import proofs.«01_k».proof.Proof.Gen.KernelIdeal.Skeleton

@[expose] public section

namespace Cert.Proof.Sc

open Idealize Idealize.ShloMosaic Cert.KernelIdeal Cert.KernelIdeal.Gen

/-- The lane numbers. -/
abbrev lanes : IVec S16 32 := iota .scVector S16 32 [0] iota_S16_d0_w32_scVector

/-- A lane's index. -/
abbrev ln (k : Fin 16) : S16.Idx := Shape.ofLane (d := ![16]) k

theorem lanes_apply (x : S16.Idx) : lanes x = BitVec.ofNat 32 (x 0).val := by
  show BitVec.ofNat 32 (0 * 16 + (x 0).val) = _
  rw [Nat.zero_mul, Nat.zero_add]

theorem at_lane (k i : Fin 16) : cmpi .eq lanes (broadcast S16 (BitVec.ofNat 32 i.val)) (ln k) = if k = i then 1#1 else 0#1 := by
  show IntOp.cmpi .eq (lanes (ln k)) (BitVec.ofNat 32 i.val) = _
  rw [lanes_apply]
  show IntOp.cmpi .eq (BitVec.ofNat 32 k.val) (BitVec.ofNat 32 i.val) = _
  revert k i; decide

theorem lane_range : ((List.finRange 16).filter fun k => decide (0 < k.val ∧ k.val ≤ 15)) = [1,2,3,4,5,6,7,8,9,10,11,12,13,14,15] := by decide

/-- A sum with one term that is not zero. -/
theorem fold_single (g : Fin 16 → BitVec 32) (i : Fin 16) :
    ([1,2,3,4,5,6,7,8,9,10,11,12,13,14,15] : List (Fin 16)).foldl (fun r k => r + (if k = i then g k else 0#32)) (if (0 : Fin 16) = i then g 0 else 0#32) = g i := by
  simp only [List.foldl]
  fin_cases i <;> simp

/-- The running sum's last lane over one selected lane. -/
def pick (v : IVec S16 32) (i : BitVec 32) : BitVec 32 :=
  extractAt ![15] (scan .sum (select (cmpi .eq lanes (broadcast S16 i)) v (broadcast S16 0#32))) inpos_S16_p15

/-- It is that lane. -/
theorem pick_eq (v : IVec S16 32) (i : Fin 16) : pick v (BitVec.ofNat 32 i.val) = v (ln i) := by
  have h : ∀ k : Fin 16, select (cmpi .eq lanes (broadcast S16 (BitVec.ofNat 32 i.val))) v (broadcast S16 0#32) (ln k)
      = if k = i then v (ln k) else 0#32 := by
    intro k
    show Scalar.select (cmpi .eq lanes (broadcast S16 (BitVec.ofNat 32 i.val)) (ln k)) (v (ln k)) 0#32 = _
    rw [at_lane]; by_cases hk : k = i <;> simp [hk, Scalar.select]
  refine Eq.trans ?_ (fold_single (fun k => v (ln k)) i)
  simp only [← h]
  rw [← lane_range]
  rfl

/-- Sixteen words of a box's list: channels `o …` of the box with base position `b`. -/
def piece (b o hw : BitVec 32) : IVec S16 32 :=
  addi (broadcast S16 b) (muli (minsi (addi lanes (broadcast S16 o)) (broadcast S16 51#32)) (broadcast S16 hw))

theorem piece_eq (b o hw : BitVec 32) (x : S16.Idx) : piece b o hw x = b + IntOp.minsi (lanes x + o) 51#32 * hw := rfl

/-- The words of a task's list. -/
def idxList (v : IVec S16 32) (hw : BitVec 32) : S512.Idx → BitVec 32 := fun y =>
  v (ln ⟨(y 0).val / 64, by have h : (y 0).val < 512 := (y 0).isLt; omega⟩)
    + IntOp.minsi (BitVec.ofNat 32 ((y 0).val % 64)) 51#32 * hw

theorem idxList_eq (v : IVec S16 32) (hw : BitVec 32) (y : S512.Idx) (i : Nat) (hi : i < 16) (h : (y 0).val / 64 = i) :
    idxList v hw y = v (ln ⟨i, hi⟩) + IntOp.minsi (BitVec.ofNat 32 ((y 0).val % 64)) 51#32 * hw := by
  subst h; rfl

theorem piece_apply (v : IVec S16 32) (hw : BitVec 32) (i k : Nat) (hi : i < 8) (hk : k < 4) (x : S16.Idx) (y : S512.Idx)
    (hy : (y 0).val = 64 * i + 16 * k + (x 0).val) :
    piece (pick v (BitVec.ofNat 32 i)) (BitVec.ofNat 32 (16 * k)) hw x = idxList v hw y := by
  have hx : (x 0).val < 16 := (x 0).isLt
  have hi' : i < 16 := by omega
  have e : pick v (BitVec.ofNat 32 i) = v (ln ⟨i, hi'⟩) := pick_eq v ⟨i, hi'⟩
  have h1 : (y 0).val / 64 = i := by omega
  have h2 : (y 0).val % 64 = (x 0).val + 16 * k := by omega
  have h3 : lanes x + BitVec.ofNat 32 (16 * k) = BitVec.ofNat 32 ((y 0).val % 64) := by
    rw [lanes_apply, ← BitVec.ofNat_add, h2]
  have h4 : idxList v hw y = v (ln ⟨i, hi'⟩) + IntOp.minsi (BitVec.ofNat 32 ((y 0).val % 64)) 51#32 * hw := by
    exact idxList_eq v hw y i hi' h1
  rw [piece_eq, e, h3, h4]

/-- One store of sixteen words of the list. -/
abbrev st (F : FTy → Type) (V : IVec S16 32) (hw : BitVec 32) (o : Nat) (inb : ∀ a, (![o] : Fin 1 → Nat) a + S16.size a ≤ S512.size a) (i c : BitVec 32) :
    View.Piece (Elt F) S512 .i32 := ⟨Rect.unit (s := S512) ![o] S16.size inb, piece (pick V i) c hw⟩

/-- The stores of a task's list, the last one first. -/
abbrev stores (F : FTy → Type) (V : IVec S16 32) (hw : BitVec 32) : List (View.Piece (Elt F) S512 .i32) :=
  [st F V hw 496 inb_S512_S16_496 7#32 48#32,
    st F V hw 480 inb_S512_S16_480 7#32 32#32,
    st F V hw 464 inb_S512_S16_464 7#32 16#32,
    st F V hw 448 inb_S512_S16_448 7#32 0#32,
    st F V hw 432 inb_S512_S16_432 6#32 48#32,
    st F V hw 416 inb_S512_S16_416 6#32 32#32,
    st F V hw 400 inb_S512_S16_400 6#32 16#32,
    st F V hw 384 inb_S512_S16_384 6#32 0#32,
    st F V hw 368 inb_S512_S16_368 5#32 48#32,
    st F V hw 352 inb_S512_S16_352 5#32 32#32,
    st F V hw 336 inb_S512_S16_336 5#32 16#32,
    st F V hw 320 inb_S512_S16_320 5#32 0#32,
    st F V hw 304 inb_S512_S16_304 4#32 48#32,
    st F V hw 288 inb_S512_S16_288 4#32 32#32,
    st F V hw 272 inb_S512_S16_272 4#32 16#32,
    st F V hw 256 inb_S512_S16_256 4#32 0#32,
    st F V hw 240 inb_S512_S16_240 3#32 48#32,
    st F V hw 224 inb_S512_S16_224 3#32 32#32,
    st F V hw 208 inb_S512_S16_208 3#32 16#32,
    st F V hw 192 inb_S512_S16_192 3#32 0#32,
    st F V hw 176 inb_S512_S16_176 2#32 48#32,
    st F V hw 160 inb_S512_S16_160 2#32 32#32,
    st F V hw 144 inb_S512_S16_144 2#32 16#32,
    st F V hw 128 inb_S512_S16_128 2#32 0#32,
    st F V hw 112 inb_S512_S16_112 1#32 48#32,
    st F V hw 96 inb_S512_S16_96 1#32 32#32,
    st F V hw 80 inb_S512_S16_80 1#32 16#32,
    st F V hw 64 inb_S512_S16_64 1#32 0#32,
    st F V hw 48 inb_S512_S16_48 0#32 48#32,
    st F V hw 32 inb_S512_S16_32 0#32 32#32,
    st F V hw 16 inb_S512_S16_16 0#32 16#32,
    st F V hw 0 inb_S512_S16_0 0#32 0#32]

theorem st_apply (F : FTy → Type) (V : IVec S16 32) (hw : BitVec 32) (i k o : Nat) (hi : i < 8) (hk : k < 4) (ho : o = 64 * i + 16 * k) (inb) :
    ∀ x : (st F V hw o inb (BitVec.ofNat 32 i) (BitVec.ofNat 32 (16 * k))).1.shape.Idx,
      (st F V hw o inb (BitVec.ofNat 32 i) (BitVec.ofNat 32 (16 * k))).2 x
        = idxList V hw ((st F V hw o inb (BitVec.ofNat 32 i) (BitVec.ofNat 32 (16 * k))).1.emb x) := fun x =>
  piece_apply V hw i k hi hk x _ (by
    show o + 1 * (x 0).val = _
    omega)

theorem stores_apply (F : FTy → Type) (V : IVec S16 32) (hw : BitVec 32) :
    ∀ p ∈ stores F V hw, ∀ x : p.1.shape.Idx, p.2 x = idxList V hw (p.1.emb x) := by
  refine List.forall_mem_cons.2 ⟨st_apply F V hw 7 3 496 (by decide) (by decide) (by decide) _, ?_⟩
  refine List.forall_mem_cons.2 ⟨st_apply F V hw 7 2 480 (by decide) (by decide) (by decide) _, ?_⟩
  refine List.forall_mem_cons.2 ⟨st_apply F V hw 7 1 464 (by decide) (by decide) (by decide) _, ?_⟩
  refine List.forall_mem_cons.2 ⟨st_apply F V hw 7 0 448 (by decide) (by decide) (by decide) _, ?_⟩
  refine List.forall_mem_cons.2 ⟨st_apply F V hw 6 3 432 (by decide) (by decide) (by decide) _, ?_⟩
  refine List.forall_mem_cons.2 ⟨st_apply F V hw 6 2 416 (by decide) (by decide) (by decide) _, ?_⟩
  refine List.forall_mem_cons.2 ⟨st_apply F V hw 6 1 400 (by decide) (by decide) (by decide) _, ?_⟩
  refine List.forall_mem_cons.2 ⟨st_apply F V hw 6 0 384 (by decide) (by decide) (by decide) _, ?_⟩
  refine List.forall_mem_cons.2 ⟨st_apply F V hw 5 3 368 (by decide) (by decide) (by decide) _, ?_⟩
  refine List.forall_mem_cons.2 ⟨st_apply F V hw 5 2 352 (by decide) (by decide) (by decide) _, ?_⟩
  refine List.forall_mem_cons.2 ⟨st_apply F V hw 5 1 336 (by decide) (by decide) (by decide) _, ?_⟩
  refine List.forall_mem_cons.2 ⟨st_apply F V hw 5 0 320 (by decide) (by decide) (by decide) _, ?_⟩
  refine List.forall_mem_cons.2 ⟨st_apply F V hw 4 3 304 (by decide) (by decide) (by decide) _, ?_⟩
  refine List.forall_mem_cons.2 ⟨st_apply F V hw 4 2 288 (by decide) (by decide) (by decide) _, ?_⟩
  refine List.forall_mem_cons.2 ⟨st_apply F V hw 4 1 272 (by decide) (by decide) (by decide) _, ?_⟩
  refine List.forall_mem_cons.2 ⟨st_apply F V hw 4 0 256 (by decide) (by decide) (by decide) _, ?_⟩
  refine List.forall_mem_cons.2 ⟨st_apply F V hw 3 3 240 (by decide) (by decide) (by decide) _, ?_⟩
  refine List.forall_mem_cons.2 ⟨st_apply F V hw 3 2 224 (by decide) (by decide) (by decide) _, ?_⟩
  refine List.forall_mem_cons.2 ⟨st_apply F V hw 3 1 208 (by decide) (by decide) (by decide) _, ?_⟩
  refine List.forall_mem_cons.2 ⟨st_apply F V hw 3 0 192 (by decide) (by decide) (by decide) _, ?_⟩
  refine List.forall_mem_cons.2 ⟨st_apply F V hw 2 3 176 (by decide) (by decide) (by decide) _, ?_⟩
  refine List.forall_mem_cons.2 ⟨st_apply F V hw 2 2 160 (by decide) (by decide) (by decide) _, ?_⟩
  refine List.forall_mem_cons.2 ⟨st_apply F V hw 2 1 144 (by decide) (by decide) (by decide) _, ?_⟩
  refine List.forall_mem_cons.2 ⟨st_apply F V hw 2 0 128 (by decide) (by decide) (by decide) _, ?_⟩
  refine List.forall_mem_cons.2 ⟨st_apply F V hw 1 3 112 (by decide) (by decide) (by decide) _, ?_⟩
  refine List.forall_mem_cons.2 ⟨st_apply F V hw 1 2 96 (by decide) (by decide) (by decide) _, ?_⟩
  refine List.forall_mem_cons.2 ⟨st_apply F V hw 1 1 80 (by decide) (by decide) (by decide) _, ?_⟩
  refine List.forall_mem_cons.2 ⟨st_apply F V hw 1 0 64 (by decide) (by decide) (by decide) _, ?_⟩
  refine List.forall_mem_cons.2 ⟨st_apply F V hw 0 3 48 (by decide) (by decide) (by decide) _, ?_⟩
  refine List.forall_mem_cons.2 ⟨st_apply F V hw 0 2 32 (by decide) (by decide) (by decide) _, ?_⟩
  refine List.forall_mem_cons.2 ⟨st_apply F V hw 0 1 16 (by decide) (by decide) (by decide) _, ?_⟩
  refine List.forall_mem_cons.2 ⟨st_apply F V hw 0 0 0 (by decide) (by decide) (by decide) _, ?_⟩
  exact fun _ h => absurd h List.not_mem_nil

/-- The stores cover the list. -/
theorem stores_cover (F : FTy → Type) (V : IVec S16 32) (hw : BitVec 32) (y : S512.Idx) : ∃ p ∈ stores F V hw, y ∈ p.1.set :=
  View.cover_of_tiled (stores F V hw) S16.size (by rfl) y

/-- The base positions: map `b`'s first channel's word at each lane's clipped cell. -/
def bases (r hw1 : BitVec 32) (hw : BitVec 32) (cell : IVec S16 32) : IVec S16 32 :=
  addi (broadcast S16 ((r * 53#32 + 1#32) * hw)) (minsi (broadcast S16 hw1) cell)

theorem toNat_minsi_maxsi (c : BitVec 32) (n : Nat) (hn : n < 2 ^ 31) :
    (IntOp.minsi (BitVec.ofNat 32 n) (IntOp.maxsi 0#32 c)).toNat = min n c.toInt.toNat := by
  unfold IntOp.minsi IntOp.maxsi
  have e : (BitVec.ofNat 32 n).toInt = n := by
    rw [BitVec.toInt_eq_toNat_of_lt (by simp; omega)]; simp; omega
  have e' : (BitVec.ofNat 32 n).toNat = n := by simp; omega
  have hc := BitVec.toInt_eq_toNat_cond c
  have := c.isLt
  have ez : (0#32).toInt = 0 := rfl
  simp only [BitVec.slt, ez, decide_eq_true_eq]
  by_cases h : c.toInt < 0
  · rw [if_pos h, e, ez]
    split <;> simp_all <;> omega
  · rw [if_neg h, e]
    split
    · rw [e']; omega
    · split at hc <;> omega

theorem toNat_minsi_ofNat (a : Nat) (ha : a < 64) : (IntOp.minsi (BitVec.ofNat 32 a) 51#32).toNat = min a 51 := by
  revert a; decide

/-- The clipped cell of lane `i`. -/
def cellAt (c : IVec S16 32) (n : Nat) (i : Fin 16) : Nat := min (n - 1) (c (ln i)).toInt.toNat

theorem eq_ofNat {b : BitVec 32} {n : Nat} (h : b.toNat = n) : b = BitVec.ofNat 32 n := by
  subst h; simp

/-- The word of the list at position `y`, as a number: channel `min (y % 64) 51` after the first of map `r`, at the cell. -/
theorem idx_toNat (r n : Nat) (hr : r < 16) (hn : 0 < n) (hn' : n ≤ 4096) (c : IVec S16 32) (y : S512.Idx) (i : Fin 16) (hi : (y 0).val / 64 = i.val) :
    (idxList (bases (BitVec.ofNat 32 r) (BitVec.ofNat 32 (n - 1)) (BitVec.ofNat 32 n) (maxsi (broadcast S16 0#32) c)) (BitVec.ofNat 32 n) y).toNat
      = (r * 53 + 1 + min ((y 0).val % 64) 51) * n + cellAt c n i := by
  rw [idxList_eq _ _ y i.val i.isLt hi]
  have h1 : IntOp.minsi (BitVec.ofNat 32 ((y 0).val % 64)) 51#32 = BitVec.ofNat 32 (min ((y 0).val % 64) 51) :=
    eq_ofNat (toNat_minsi_ofNat _ (Nat.mod_lt _ (by decide)))
  have h2 : IntOp.minsi (BitVec.ofNat 32 (n - 1)) (IntOp.maxsi 0#32 (c (ln i))) = BitVec.ofNat 32 (cellAt c n i) :=
    eq_ofNat (toNat_minsi_maxsi _ _ (by omega))
  have h3 : bases (BitVec.ofNat 32 r) (BitVec.ofNat 32 (n - 1)) (BitVec.ofNat 32 n) (maxsi (broadcast S16 0#32) c) (ln i)
      = (BitVec.ofNat 32 r * BitVec.ofNat 32 53 + BitVec.ofNat 32 1) * BitVec.ofNat 32 n + BitVec.ofNat 32 (cellAt c n i) := by
    rw [← h2]; rfl
  rw [show ln ⟨i.val, i.isLt⟩ = ln i from rfl, h3, h1]
  rw [← BitVec.ofNat_mul, ← BitVec.ofNat_add, ← BitVec.ofNat_mul, ← BitVec.ofNat_add, ← BitVec.ofNat_mul, ← BitVec.ofNat_add, BitVec.toNat_ofNat]
  have hc : cellAt c n i ≤ n - 1 := Nat.min_le_left _ _
  have hm : min ((y 0).val % 64) 51 ≤ 51 := Nat.min_le_right _ _
  have hb : (r * 53 + 1 + min ((y 0).val % 64) 51) * n ≤ 847 * 4096 := Nat.mul_le_mul (by omega) hn'
  have hs : (r * 53 + 1) * n + cellAt c n i + min ((y 0).val % 64) 51 * n = (r * 53 + 1 + min ((y 0).val % 64) 51) * n + cellAt c n i := by
    rw [Nat.add_mul (r * 53 + 1), Nat.add_right_comm]
  rw [hs, Nat.mod_eq_of_lt (by omega)]

/-- It names an element of the flat map. -/
theorem idx_lt (r n : Nat) (hr : r < 16) (hn : 0 < n) (hn' : n ≤ 4096) (c : IVec S16 32) (y : S512.Idx) :
    (idxList (bases (BitVec.ofNat 32 r) (BitVec.ofNat 32 (n - 1)) (BitVec.ofNat 32 n) (maxsi (broadcast S16 0#32) c)) (BitVec.ofNat 32 n) y).toNat
      < 848 * n := by
  have hy : (y 0).val < 512 := (y 0).isLt
  rw [idx_toNat r n hr hn hn' c y ⟨(y 0).val / 64, by omega⟩ rfl]
  have hc : cellAt c n ⟨(y 0).val / 64, by omega⟩ ≤ n - 1 := Nat.min_le_left _ _
  have hm : min ((y 0).val % 64) 51 ≤ 51 := Nat.min_le_right _ _
  have hb : (r * 53 + 1 + min ((y 0).val % 64) 51) * n ≤ 847 * n := Nat.mul_le_mul_right _ (by omega)
  omega

end Cert.Proof.Sc

end
-- ==== Proof.ScSetup.lean ====
/-
  The SparseCore call as the launch theorem sees it: the configuration, the resource algebra, the arrays and the
  scratch buffers, the rows of the result, and the checks of the two indexed loads.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-- Where the TensorCore pipeline's rounds live. -/
abbrev EP : Emb (UR sig nD τ) (MT nD τ sig (HIx 1) (Elt F) ℕ UU ℕ) := (Emb.inl : Emb (UR sig nD τ) (UR sig nD τ × Counters)).trans embR
instance EP_landsIn : (EP : Emb (UR sig nD τ) 𝕄).LandsIn (upEmb : UEmb _ 𝕄) := by unfold EP; infer_instance

/-! ## The buffers -/

abbrev p3Loc (d : Dev nD) : Loc nD τ sig := (SparseCore.T d).loc main_v0
abbrev p4Loc (d : Dev nD) : Loc nD τ sig := (SparseCore.T d).loc main_v1
abbrev p5Loc (d : Dev nD) : Loc nD τ sig := (SparseCore.T d).loc main_v2
abbrev bxLoc (d : Dev nD) : Loc nD τ sig := (SparseCore.T d).loc main_v3
abbrev oLoc (d : Dev nD) : Loc nD τ sig := (SparseCore.T d).loc main_v4

local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- Row `t` of the result, as the tasks address it. -/
abbrev row2 (h : k0_cond1 L = 1#1) : Memref sig .scVector .hbm S512 .f32 :=
  ((oV).slice (Rect.unit (s := S48x512) (k0_off2 L) S1x512.size (k0_off2_inb L h)) (fun _ => rfl)).squeeze S512 squeezes_S1x512_S512
abbrev row4 (h : k0_cond1 L = 1#1) : Memref sig .scVector .hbm S512 .f32 :=
  ((oV).slice (Rect.unit (s := S48x512) (k0_off4 L) S1x512.size (k0_off4_inb L h)) (fun _ => rfl)).squeeze S512 squeezes_S1x512_S512
abbrev row6 (h : k0_cond2 L = 1#1) : Memref sig .scVector .hbm S512 .f32 :=
  ((oV).slice (Rect.unit (s := S48x512) (k0_off6 L) S1x512.size (k0_off6_inb L h)) (fun _ => rfl)).squeeze S512 squeezes_S1x512_S512

theorem chk1 : k0_chk1 L (k0_pay1 (iota .scVector S16 32 [0] iota_S16_d0_w32_scVector)) := by
  intro _ a x; fin_cases a; revert x; decide
theorem chk2 : k0_chk2 L (k0_pay2 (iota .scVector S16 32 [0] iota_S16_d0_w32_scVector)) := by
  intro _ a x; fin_cases a; revert x; decide

abbrev thr (d : Dev nD) (L : grid0.Coords) : Thread nD τ := V d (cV L) (jV L)

end Tile

end Cert.Proof.Sc

end
-- ==== Proof.ScSeg.lean ====
/-
  The four indirect gathers of a task: issued one after another on one semaphore, waited for one after another, they
  leave in the row buffer, word by word, the word of the predictions that the index buffer names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

section Seg

variable (d : Dev nD) (L : grid0.Coords)

/-- A quarter of a buffer of 512 words, as the task slices it. -/
abbrev win {e : EltTy} (v : Memref sig .scVector .vmem S512 e) (o : ℕ) (h : ∀ a, (![o] : Fin 1 → ℕ) a + S128.size a ≤ S512.size a) :
    Memref sig .scVector .vmem S128 e :=
  v.slice (Rect.unit (s := S512) ![o] S128.size h) (fun _ => rfl)

/-- The whole of an array of `n` words, as the task slices it. -/
abbrev all {n : ℕ} (M : Memref sig .scVector .hbm (⟨1, ![n]⟩ : Shape) .f32) (h : ∀ a, (![0] : Fin 1 → ℕ) a + (⟨1, ![n]⟩ : Shape).size a ≤ (⟨1, ![n]⟩ : Shape).size a) :
    Memref sig .scVector .hbm (⟨1, ![n]⟩ : Shape) .f32 :=
  M.slice (Rect.unit (s := (⟨1, ![n]⟩ : Shape)) ![0] (⟨1, ![n]⟩ : Shape).size h) (fun _ => rfl)

/-- Word `k` of an array of `n` words. -/
def at1 {n : ℕ} (k : ℕ) (h : k < n) : (⟨1, ![n]⟩ : Shape).Idx := fun a => ⟨k, by fin_cases a; exact h⟩

theorem idx1_ext {n : ℕ} {x y : (⟨1, ![n]⟩ : Shape).Idx} (h : (x 0).val = (y 0).val) : x = y := by
  funext a; fin_cases a; exact Fin.ext h

theorem all_emb {n : ℕ} (h : ∀ a, (![0] : Fin 1 → ℕ) a + (⟨1, ![n]⟩ : Shape).size a ≤ (⟨1, ![n]⟩ : Shape).size a) (x : (⟨1, ![n]⟩ : Shape).Idx) :
    (Rect.unit (s := (⟨1, ![n]⟩ : Shape)) ![0] (⟨1, ![n]⟩ : Shape).size h).emb x = x :=
  idx1_ext (show 0 + 1 * (x 0).val = (x 0).val by omega)

theorem all_read {n : ℕ} (M : Memref sig .scVector .hbm (⟨1, ![n]⟩ : Shape) .f32) (h) (f : M.view.ty.Contents (Elt F)) (x : (⟨1, ![n]⟩ : Shape).Idx) :
    (all M h).view.read (Elt F) f x = M.view.read (Elt F) f x := by
  change M.view.read (Elt F) f ((Rect.unit (s := (⟨1, ![n]⟩ : Shape)) ![0] (⟨1, ![n]⟩ : Shape).size h).emb x) = _
  rw [all_emb]

theorem all_set {n : ℕ} (M : Memref sig .scVector .hbm (⟨1, ![n]⟩ : Shape) .f32) (h) (hM : M.view.set = Finset.univ) : (all M h).view.set = Finset.univ := by
  rw [← hM]
  ext i
  simp only [View.set, Finset.mem_map, Finset.mem_univ, true_and]
  constructor
  · rintro ⟨x, rfl⟩; exact ⟨_, rfl⟩
  · rintro ⟨x, rfl⟩; exact ⟨x, congrArg M.view.emb (all_emb h x)⟩

/-- The words a quarter holds. -/
theorem mem_win {e : EltTy} (v : Memref sig .scVector .vmem S512 e) (o : ℕ) (h) (y : S512.Idx) :
    v.view.emb y ∈ (win v o h).view.set ↔ o ≤ (y 0).val ∧ (y 0).val < o + 128 := by
  simp only [View.set, Finset.mem_map, Finset.mem_univ, true_and]
  constructor
  · rintro ⟨x, hx⟩
    have hx' : (Rect.unit (s := S512) ![o] S128.size h).emb x = y := v.view.emb.injective hx
    have h0 : o + 1 * (x 0).val = (y 0).val := congrArg (fun z : S512.Idx => (z 0).val) hx'
    have := (x 0).isLt
    have h2 : (x 0).val < 128 := this
    omega
  · rintro ⟨h1, h2⟩
    have hx : (Rect.unit (s := S512) ![o] S128.size h).emb (at1 (n := 128) ((y 0).val - o) (by omega)) = y :=
      idx1_ext (n := 512) (show o + 1 * ((y 0).val - o) = (y 0).val by omega)
    exact ⟨at1 (n := 128) ((y 0).val - o) (by omega), congrArg v.view.emb hx⟩

theorem inb_win (i : Fin 4) : ∀ a, (![128 * i.val] : Fin 1 → ℕ) a + S128.size a ≤ S512.size a := by
  intro a; fin_cases a; change 128 * i.val + 128 ≤ 512; omega

/-- A buffer of 512 words is its four quarters. -/
theorem quarters {e : EltTy} (v : Memref sig .scVector .vmem S512 e) (hv : v.view.set = Finset.univ) (q : PosShare TreeShare) (f : Buf (Elt F) (v.view.loc (thr d L))) :
    (v.view.loc (thr d L) ↦{q} f : sProp 𝕄) = bigSep Finset.univ fun i : Fin 4 => v.view.loc (thr d L) ↦[(win v (128 * i.val) (inb_win i)).view.set]{q} f := by
  have hU : (Finset.univ : Finset (Idx (v.view.loc (thr d L)))) = Finset.univ.biUnion fun i : Fin 4 => (win v (128 * i.val) (inb_win i)).view.set := by
    refine (Finset.eq_univ_of_forall fun z => ?_).symm
    have hz : z ∈ v.view.set := by rw [hv]; exact Finset.mem_univ _
    obtain ⟨y, -, rfl⟩ := Finset.mem_map.mp hz
    have h5 : (y 0).val < 512 := (y 0).isLt
    have h6 : (y 0).val / 128 < 4 := by omega
    exact Finset.mem_biUnion.mpr ⟨⟨(y 0).val / 128, h6⟩, Finset.mem_univ _,
      (mem_win v (128 * ((y 0).val / 128)) _ y).mpr ⟨by omega, by omega⟩⟩
  rw [hU]
  refine pointsTo_biUnion Finset.univ _ fun i _ j _ hij => Finset.disjoint_left.mpr fun z hz hz' => hij ?_
  have hz0 : z ∈ v.view.set := by rw [hv]; exact Finset.mem_univ _
  obtain ⟨y, -, rfl⟩ := Finset.mem_map.mp hz0
  have h1 := (mem_win v (128 * i.val) _ y).mp hz
  have h2 := (mem_win v (128 * j.val) _ y).mp hz'
  exact Fin.ext (by omega)

theorem bigSep_four (Φ : Fin 4 → sProp 𝕄) : bigSep Finset.univ Φ = iprop(Φ 0 ∗ Φ 1 ∗ Φ 2 ∗ Φ 3) := by
  rw [Transfers.bigSep_pending_zero, Transfers.bigSep_pending_step Φ 0 (by omega), Transfers.bigSep_pending_step Φ 1 (by omega),
    Transfers.bigSep_pending_step Φ 2 (by omega), Transfers.bigSep_pending_last Φ 3 (by omega) rfl]
  rfl

/-- Four families of 128 in a row. -/
def quad (W : Fin 4 → Fin 128 → sProp 𝕄) (t : Fin 512) : sProp 𝕄 := W ⟨t.val / 128, by omega⟩ ⟨t.val % 128, by omega⟩

theorem quad_at (W : Fin 4 → Fin 128 → sProp 𝕄) (i : Fin 4) (j : Fin 128) (h) : quad W ⟨128 * i.val + j.val, h⟩ = W i j := by
  unfold quad
  have h1 : (⟨(128 * i.val + j.val) / 128, by omega⟩ : Fin 4) = i := Fin.ext (show (128 * i.val + j.val) / 128 = i.val by omega)
  have h2 : (⟨(128 * i.val + j.val) % 128, by omega⟩ : Fin 128) = j := Fin.ext (show (128 * i.val + j.val) % 128 = j.val by omega)
  exact congrArg₂ W h1 h2

instance quad_storable (W : Fin 4 → Fin 128 → sProp 𝕄) [∀ i j, Storable (upEmb : UEmb _ 𝕄) (W i j)] (t : Fin 512) : Storable (upEmb : UEmb _ 𝕄) (quad W t) := by
  unfold quad; infer_instance

theorem bigSep_quad (W : Fin 4 → Fin 128 → sProp 𝕄) : bigSep Finset.univ (quad W) = bigSep Finset.univ fun i => bigSep Finset.univ (W i) := by
  rw [Transfers.bigSep_pending_zero, Gather.pending_add (quad W) 0 128 (by omega), Gather.pending_add (quad W) (0 + 128) 128 (by omega),
    Gather.pending_add (quad W) (0 + 128 + 128) 128 (by omega), Gather.pending_add (quad W) (0 + 128 + 128 + 128) 128 (by omega), bigSep_four]
  have he : bigSep (Transfers.pending (n := 512) (0 + 128 + 128 + 128 + 128)) (quad W) = (BI.emp : sProp 𝕄) := by
    rw [show Transfers.pending (n := 512) (0 + 128 + 128 + 128 + 128) = ∅ from by
      ext t; simp only [Transfers.pending, Finset.mem_filter, Finset.mem_univ, true_and, Finset.notMem_empty, iff_false]; omega]
    exact BI.bigSep_empty
  rw [he]
  have hq : ∀ (i : Fin 4) (k : ℕ) (hk : k = 128 * i.val), (bigSep Finset.univ fun j : Fin 128 => quad W ⟨k + j.val, by omega⟩) = bigSep Finset.univ (W i) := by
    intro i k hk; subst hk
    exact BI.bigSep_congr fun j _ => quad_at W i j _
  rw [hq 0 0 rfl, hq 1 (0 + 128) rfl, hq 2 (0 + 128 + 128) rfl, hq 3 (0 + 128 + 128 + 128) rfl]
  refine BI.Entails.antisymm (show (_ : sProp 𝕄) ⊢ _ from ?_) (show (_ : sProp 𝕄) ⊢ _ from ?_)
  · iintro ⟨H0, H1, H2, H3, -⟩
    isplitl [H0]; · iexact H0
    isplitl [H1]; · iexact H1
    isplitl [H2]; · iexact H2
    iexact H3
  · iintro ⟨H0, H1, H2, H3⟩
    isplitl [H0]; · iexact H0
    isplitl [H1]; · iexact H1
    isplitl [H2]; · iexact H2
    isplitl [H3]; · iexact H3
    iempintro

end Seg

end Cert.Proof.Sc

end
-- ==== Proof.ScFour.lean ====
/-
  The four gathers as one batch of 512 rows: the issues (`issue4`), one wait (`wait1`), and what is held once the four
  waits are over (`collect4`): every word of the row buffer is the word of the predictions at its index.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather
public import proofs.«01_k».proof.Proof.ScSeg

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

section Four

variable (d : Dev nD) (L : grid0.Coords)

abbrev EC : UEmb Counters (MT nD τ sig (HIx 1) (Elt F) ℕ UU ℕ) := countersEmb

variable {n : ℕ} (M : Memref sig .scVector .hbm (⟨1, ![n]⟩ : Shape) .f32)
  (hall : ∀ a, (![0] : Fin 1 → ℕ) a + (⟨1, ![n]⟩ : Shape).size a ≤ (⟨1, ![n]⟩ : Shape).size a)
  (hM : M.view.set = Finset.univ)
  (hg : (⟨1, ![n]⟩ : Shape).Gathers 0 S128) (hn : S128.numel = S128.size hg.axis')
  (q : PosShare TreeShare) (fs : Buf (Elt F) (M.view.loc (thr d L)))
  (g9 : Buf (Elt F) ((gB).view.loc (thr d L))) (fo : Buf (Elt F) ((idxB).view.loc (thr d L)))
  (hlt : ∀ y : S512.Idx, BitVec.toNat ((idxB).view.read (Elt F) fo y) < n)

/-- What the row buffer holds in the end. -/
def rowsOf : Buf (Elt F) ((gB).view.loc (thr d L)) := fun y : S512.Idx => M.view.read (Elt F) fs (at1 _ (hlt y))

include hlt in
theorem hin_win (o : ℕ) (h : ∀ a, (![o] : Fin 1 → ℕ) a + S128.size a ≤ S512.size a) (x : S128.Idx) :
    BitVec.toNat ((win idxB o h).view.read (Elt F) fo x) < (⟨1, ![n]⟩ : Shape).size hg.axis := hlt _

/-- The delivery of row `j` of gather `i`. -/
def row4x (i : Fin 4) : Fin 128 → sProp 𝕄 :=
  Gather.served (Name := ℕ) (U := UU) (Lvl := ℕ) (Ix := HIx 1) (thr d L) (all M hall) (win gB (128 * i.val) (inb_win i)) hg (win idxB (128 * i.val) (inb_win i)) hn
    (pieceOf q 4 (by omega) i) fullShare fs g9 fo (show 0 < 128 by omega)
    (SparseCore.rows ((win idxB (128 * i.val) (inb_win i)).view.read (Elt F) fo) hn (hin_win d L hg fo hlt _ _))

instance row4x_storable (i : Fin 4) (j : Fin 128) : Storable (upEmb : UEmb _ 𝕄) (row4x d L M hall hg hn q fs g9 fo hlt i j) := by
  unfold row4x; exact Gather.served_storable ..

include hM in
/-- The four issues. -/
theorem issue4 {α : Type} {Q : α → sProp 𝕄} {sem : DmaSem sig}
    {hp : (thr d L).2.kind = .scVector} {hsrc : (all M hall).view.WordExact} {he : EltTy.f32.bits = 32} {hsp : Space.hbm = .hbm ∨ Space.hbm = .shared}
    {hr : (⟨1, ![n]⟩ : Shape).StreamRows 0}
    {kk : PUnit → Prog (TpuEff nD τ sig (Elt F) Λ₀ (thr d L).2) α} :
    iprop((M.view.loc (thr d L) ↦{q} fs) ∗ ((gB).view.loc (thr d L) ↦{fullShare} g9) ∗ ((idxB).view.loc (thr d L) ↦{fullShare} fo)
        ∗ semVal (thr d L, .dma sem) 0)
      ⊢ iprop((Transfers.Batch EC (thr d L) (.dma sem) (none : HIx 1) 32 (quad (row4x d L M hall hg hn q fs g9 fo hlt)) 512 0
            -∗ wp frame (wpE (defs₀ (F := F)) 𝒱₀ (thr d L) none) Set.univ (kk ⟨⟩) Q)
          -∗ wp frame (wpE (defs₀ (F := F)) 𝒱₀ (thr d L) none) Set.univ
            (SparseCore.enqueueIndirectGather hp (all M hall) (win gB 0 (inb_win 0)) hg (win idxB 0 (inb_win 0)) hn sem hsrc he hsp hr >>= fun _ =>
             SparseCore.enqueueIndirectGather hp (all M hall) (win gB 128 (inb_win 1)) hg (win idxB 128 (inb_win 1)) hn sem hsrc he hsp hr >>= fun _ =>
             SparseCore.enqueueIndirectGather hp (all M hall) (win gB 256 (inb_win 2)) hg (win idxB 256 (inb_win 2)) hn sem hsrc he hsp hr >>= fun _ =>
             SparseCore.enqueueIndirectGather hp (all M hall) (win gB 384 (inb_win 3)) hg (win idxB 384 (inb_win 3)) hn sem hsrc he hsp hr >>= kk) Q) := by
  have step := fun (i : Fin 4) (k' : PUnit → Prog (TpuEff nD τ sig (Elt F) Λ₀ (thr d L).2) α) =>
    Gather.wp_gatherBatch (defs := defs₀ (F := F)) (Q := Q) (EC (F := F)) 𝒱₀ (thr d L) none (src := all M hall) (dst := win gB (128 * i.val) (inb_win i)) (hg := hg)
      (offs := win idxB (128 * i.val) (inb_win i)) (hn := hn) (sem := sem) (hp := hp) (hsrc := hsrc) (he := he) (hsp := hsp) (hr := hr) (K := k')
      (q := pieceOf q 4 (by omega) i) (qo := fullShare) (fs := fs) (fd := g9) (fo := fo) (D := quad (row4x d L M hall hg hn q fs g9 fo hlt)) (k := 128 * i.val) (u := 0)
      none 32 128 (fun _ => rfl) (hin_win d L hg fo hlt _ _) (show 0 < 128 by omega) rfl (show 128 * i.val + 128 ≤ 512 by omega) (Nat.zero_le _)
      (fun j => Entails.of_eq (quad_at (row4x d L M hall hg hn q fs g9 fo hlt) i j _).symm)
  iintro ⟨Hs, Hg, Ho, Hv⟩ Hk
  imod (Transfers.batch_alloc' (EC (F := F)) (thr d L) none 32 (quad (row4x d L M hall hg hn q fs g9 fo hlt))) $$ Hv with HB
  ihave Hs' := (Entails.of_eq (pointsTo_piecesOf Finset.univ fs (show 0 < 4 by omega) q)) $$ Hs
  ihave Hs4 := (Entails.of_eq (bigSep_four _)) $$ Hs'
  ihave Hg' := (Entails.of_eq (quarters d L gB (View.set_whole _) fullShare g9)) $$ Hg
  ihave Hg4 := (Entails.of_eq (bigSep_four _)) $$ Hg'
  ihave Ho' := (Entails.of_eq (quarters d L idxB (View.set_whole _) fullShare fo)) $$ Ho
  ihave Ho4 := (Entails.of_eq (bigSep_four _)) $$ Ho'
  icases Hs4 with ⟨Hs0, Hs1, Hs2, Hs3⟩
  icases Hg4 with ⟨Hg0, Hg1, Hg2, Hg3⟩
  icases Ho4 with ⟨Ho0, Ho1, Ho2, Ho3⟩
  rw [← all_set M hall hM]
  iapply (step 0 _) $$ [Hs0 Hg0 Ho0 HB]
  · isplitl [Hs0]; · iexact Hs0
    isplitl [Hg0]; · iexact Hg0
    isplitl [Ho0]; · iexact Ho0
    iexact HB
  iintro HB
  iapply (step 1 _) $$ [Hs1 Hg1 Ho1 HB]
  · isplitl [Hs1]; · iexact Hs1
    isplitl [Hg1]; · iexact Hg1
    isplitl [Ho1]; · iexact Ho1
    iexact HB
  iintro HB
  iapply (step 2 _) $$ [Hs2 Hg2 Ho2 HB]
  · isplitl [Hs2]; · iexact Hs2
    isplitl [Hg2]; · iexact Hg2
    isplitl [Ho2]; · iexact Ho2
    iexact HB
  iintro HB
  iapply (step 3 _) $$ [Hs3 Hg3 Ho3 HB]
  · isplitl [Hs3]; · iexact Hs3
    isplitl [Hg3]; · iexact Hg3
    isplitl [Ho3]; · iexact Ho3
    iexact HB
  iintro HB
  iapply Hk
  iexact HB

/-- One wait, for the units of one gather. -/
theorem wait1 {α : Type} {Q : α → sProp 𝕄} {sem : DmaSem sig} {D : Fin 512 → sProp 𝕄} {u o : ℕ} (hu : u + 4096 ≤ 16384)
    {h : ∀ a, (![o] : Fin 1 → ℕ) a + S128.size a ≤ S512.size a}
    {hsrc : (all M hall).view.WordExact} {hdst : (win gB o h).view.WordExact}
    {O : CellTallies nD τ sig (HIx 1)} {W : Waits sig (HIx 1)}
    {kk : PUnit → Prog (TpuEff nD τ sig (Elt F) Λ₀ (thr d L).2) α} :
    iprop(Transfers.MayWaits (thr d L) (none : HIx 1) O
        ∗ Transfers.Batch EC (thr d L) (.dma sem) (none : HIx 1) 32 D 512 u ∗ owes (thr d L) O W)
      ⊢ iprop((iprop(Transfers.Batch EC (thr d L) (.dma sem) (none : HIx 1) 32 D 512 (u + 4096) ∗ owes (thr d L) O (insert (SemLoc.dma sem, none) W))
            -∗ wp frame (wpE (defs₀ (F := F)) 𝒱₀ (thr d L) none) Set.univ (kk ⟨⟩) Q)
          -∗ wp frame (wpE (defs₀ (F := F)) 𝒱₀ (thr d L) none) Set.univ
            (SparseCore.waitIndirectGather (p := (thr d L).2) (F := F) (Λ := Λ₀) sem (all M hall) (win gB o h) hsrc hdst >>= kk) Q) := by
  rw [SparseCore.waitIndirectGather_bind (c := thr d L)]
  iintro ⟨Hmw, HB, HO⟩
  iapply (Transfers.wp_waitBatchMulO (EC (F := F)) 𝒱₀ (thr d L) none (srcw := all M hall) (dstw := win gB o h) (none : HIx 1) (N := 32) 128 rfl (D := D) (j := 512) (u := u) (by omega))
  isplitl [HB]; · iexact HB
  isplitl [HO]; · iexact HO
  iapply (Transfers.MayWaits.elim (SemLoc.dma sem)) $$ Hmw

include hM in
/-- Once the four waits are over. -/
theorem collect4 {sem : DmaSem sig} :
    Transfers.Batch EC (thr d L) (.dma sem) (none : HIx 1) 32 (quad (row4x d L M hall hg hn q fs g9 fo hlt)) 512 16384
      ⊢ (|={Set.univ}=> iprop((M.view.loc (thr d L) ↦{q} fs) ∗ ((gB).view.loc (thr d L) ↦{fullShare} rowsOf d L M fs fo hlt)
          ∗ ((idxB).view.loc (thr d L) ↦{fullShare} fo) ∗ semVal (thr d L, .dma sem) 0) : sProp 𝕄) := by
  have hwin : ∀ i : Fin 4, bigSep Finset.univ (row4x d L M hall hg hn q fs g9 fo hlt i)
      ⊢ (iprop(((gB).view.loc (thr d L) ↦[(win gB (128 * i.val) (inb_win i)).view.set]{fullShare} rowsOf d L M fs fo hlt)
          ∗ (M.view.loc (thr d L) ↦{pieceOf q 4 (by omega) i} fs)
          ∗ ((idxB).view.loc (thr d L) ↦[(win idxB (128 * i.val) (inb_win i)).view.set]{fullShare} fo)) : sProp 𝕄) := by
    intro i
    refine (Gather.served_all (thr d L) (all M hall) (win gB (128 * i.val) (inb_win i)) hg (win idxB (128 * i.val) (inb_win i)) hn
      (pieceOf q 4 (by omega) i) fullShare fs g9 fo (show 0 < 128 by omega)
      (SparseCore.rows ((win idxB (128 * i.val) (inb_win i)).view.read (Elt F) fo) hn (hin_win d L hg fo hlt _ _))).trans ?_
    rw [all_set M hall hM]
    refine Entails.of_eq (congrArg (fun z => iprop(z ∗ _)) (pointsTo_congr fun z hz => ?_))
    obtain ⟨x, -, rfl⟩ := Finset.mem_map.mp hz
    rw [View.write_emb_of_mem (v := (win gB (128 * i.val) (inb_win i)).view) g9 _ (M := Finset.univ) (Finset.mem_univ x)]
    unfold SparseCore.gatherPayload
    rw [all_read]
    change M.view.read (Elt F) fs _ = M.view.read (Elt F) fs _
    congr 1
    refine idx1_ext ?_
    have h0 : (hg.idx (SparseCore.rows ((win idxB (128 * i.val) (inb_win i)).view.read (Elt F) fo) hn (hin_win d L hg fo hlt _ _)) x 0).val
        = (SparseCore.rows ((win idxB (128 * i.val) (inb_win i)).view.read (Elt F) fo) hn (hin_win d L hg fo hlt _ _) (x hg.axis')).val :=
      congrArg Fin.val (hg.idx_axis _ _)
    rw [h0]
    change BitVec.toNat ((idxB).view.read (Elt F) fo _) = BitVec.toNat ((idxB).view.read (Elt F) fo _)
    congr 2
    have hx : S128.rowMajor.symm ((x hg.axis').cast hn.symm) = x := by
      rw [Equiv.symm_apply_eq]
      exact Fin.ext ((Shape.rowMajor_val_one (d := ![128]) x).symm ▸ rfl)
    exact congrArg (Rect.unit (s := S512) ![128 * i.val] S128.size (inb_win i)).emb hx
  iintro HB
  imod (Transfers.batch_collect' (EC (F := F)) (thr d L) (sm := .dma sem) (ι := (none : HIx 1)) (N := 32) (by omega)
    (D := quad (row4x d L M hall hg hn q fs g9 fo hlt))) $$ HB with ⟨HD, Hv⟩
  ihave HD' := (Entails.of_eq (bigSep_quad _)) $$ HD
  ihave H1 := (show (_ : sProp 𝕄) ⊢ _ from BI.bigSep_mono (s := Finset.univ) fun i _ => hwin i) $$ HD'
  ihave H2 := Transfers.bigSep_sep_out _ _ _ $$ H1
  icases H2 with ⟨Hg, H3⟩
  ihave H4 := Transfers.bigSep_sep_out _ _ _ $$ H3
  icases H4 with ⟨Hs, Ho⟩
  imodintro
  isplitl [Hs]; · iapply (Entails.of_eq (pointsTo_piecesOf Finset.univ fs (show 0 < 4 by omega) q).symm) $$ Hs
  isplitl [Hg]; · iapply (Entails.of_eq (quarters d L gB (View.set_whole _) fullShare (rowsOf d L M fs fo hlt)).symm) $$ Hg
  isplitl [Ho]; · iapply (Entails.of_eq (quarters d L idxB (View.set_whole _) fullShare fo).symm) $$ Ho
  iexact Hv

end Four

end Cert.Proof.Sc

end
-- ==== Proof.ScVal.lean ====
/-
  The values of the gathered rows: a box's cell (`cell1`), a task's list of positions (`lst`), the row it gathers
  (`rowVal`) and the whole result (`OUT`), each as a function of the arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather
public import proofs.«01_k».proof.Proof.ScSeg
public import proofs.«01_k».proof.Proof.ScFour

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

section Val

/-- The largest integer not above `v`, as the tasks compute it. -/
def flv (v : FVec F S16 .f32) : IVec S16 32 :=
  subi (fptosi 32 v) (select (cmpf .olt v (sitofp .f32 (fptosi 32 v))) (broadcast S16 1#32) (broadcast S16 0#32))

/-- Where each lane's box falls, before it is clipped: row times width plus column. -/
def cells (s wd : BitVec 32) (xs ys : Vec F S16 .f32) : IVec S16 32 :=
  addi (muli (flv (mulf ys (broadcast S16 (Scalar.ofBits .f32 s : F .f32)))) (broadcast S16 wd)) (flv (mulf xs (broadcast S16 (Scalar.ofBits .f32 s : F .f32))))

/-- The same of one box. -/
def cell1 (s wd : BitVec 32) (x y : F .f32) : BitVec 32 := cells s wd (fun _ => x) (fun _ => y) (ln 0)

theorem cells_lane (s wd : BitVec 32) (xs ys : Vec F S16 .f32) (k : Fin 16) : cells s wd xs ys (ln k) = cell1 s wd (xs (ln k)) (ys (ln k)) := rfl

theorem ck1 : ∀ (a : Fin S32.rank) (x : S16.Idx), ((![k0_pay1 lanes] : Fin S32.rank → IVec S16 32) a x).toNat < S32.size a := by
  intro a x; fin_cases a; revert x; decide
theorem ck2 : ∀ (a : Fin S32.rank) (x : S16.Idx), ((![k0_pay2 lanes] : Fin S32.rank → IVec S16 32) a x).toNat < S32.size a := by
  intro a x; fin_cases a; revert x; decide
theorem lane_x : ∀ i : Fin 8, (k0_pay1 lanes (ln ⟨i.val, by omega⟩)).toNat = 4 * i.val := by decide
theorem lane_y : ∀ i : Fin 8, (k0_pay2 lanes (ln ⟨i.val, by omega⟩)).toNat = 4 * i.val + 1 := by decide

/-- A task's boxes, four words each, taken lane by lane. -/
def cellsOf (s wd : BitVec 32) (w : S32.Idx → F .f32) : IVec S16 32 :=
  cells s wd (loadIdx (F := F) (e := .f32) w ![k0_pay1 lanes] ck1)
    (loadIdx (F := F) (e := .f32) w ![k0_pay2 lanes] ck2)

/-- A task's list of positions. -/
def lst (r n : ℕ) (s wd : BitVec 32) (w : S32.Idx → F .f32) : S512.Idx → BitVec 32 :=
  idxList (bases (BitVec.ofNat 32 r) (BitVec.ofNat 32 (n - 1)) (BitVec.ofNat 32 n) (maxsi (broadcast S16 0#32) (cellsOf s wd w))) (BitVec.ofNat 32 n)

instance : NeZero (848 * 4096) := ⟨by decide⟩
instance : NeZero (848 * 1024) := ⟨by decide⟩
instance : NeZero (848 * 256) := ⟨by decide⟩
instance : NeZero 512 := ⟨by decide⟩
instance : NeZero 32 := ⟨by decide⟩

/-- Word `k` of an array. -/
def word {n : ℕ} {α : Type} [NeZero n] (f : (⟨1, ![n]⟩ : Shape).Idx → α) (k : ℕ) : α := f (at1 (k % n) (Nat.mod_lt _ (Nat.pos_of_ne_zero (NeZero.ne n))))

theorem word_at {n : ℕ} {α : Type} [NeZero n] (f : (⟨1, ![n]⟩ : Shape).Idx → α) (k : ℕ) (h : k < n) : word f k = f (at1 k h) := by
  unfold word
  exact congrArg f (idx1_ext (Nat.mod_eq_of_lt h))

/-- The position a word of the row is read at: map `r` of maps of `n` words, channel `min (y % 64) 51` after the first, the box's cell clipped to the map. -/
def posOf (r n : ℕ) (s wd : BitVec 32) (bx : ℕ → F .f32) (y : ℕ) : ℕ :=
  (r * 53 + 1 + min (y % 64) 51) * n + min (n - 1) (cell1 s wd (bx (4 * (y / 64))) (bx (4 * (y / 64) + 1))).toInt.toNat

theorem lst_toNat (r n : ℕ) (s wd : BitVec 32) (w : S32.Idx → F .f32) (hr : r < 16) (hn : 0 < n) (hn' : n ≤ 4096) (y : S512.Idx) :
    (lst r n s wd w y).toNat = posOf r n s wd (word w) (y 0).val := by
  have hy : (y 0).val < 512 := (y 0).isLt
  have hi : (y 0).val / 64 < 8 := by omega
  have h := idx_toNat r n hr hn hn' (cellsOf s wd w) y ⟨(y 0).val / 64, by omega⟩ rfl
  refine h.trans ?_
  unfold posOf cellAt cellsOf
  rw [cells_lane]
  have g1 : loadIdx (F := F) (e := .f32) w ![k0_pay1 lanes] ck1 (ln ⟨(y 0).val / 64, by omega⟩) = word w (4 * ((y 0).val / 64)) := by
    rw [word_at w _ (by omega)]
    exact congrArg w (idx1_ext (n := 32) (lane_x ⟨(y 0).val / 64, hi⟩))
  have g2 : loadIdx (F := F) (e := .f32) w ![k0_pay2 lanes] ck2 (ln ⟨(y 0).val / 64, by omega⟩) = word w (4 * ((y 0).val / 64) + 1) := by
    rw [word_at w _ (by omega)]
    exact congrArg w (idx1_ext (n := 32) (lane_y ⟨(y 0).val / 64, hi⟩))
  rw [g1, g2]

theorem lst_lt (r n : ℕ) (s wd : BitVec 32) (w : S32.Idx → F .f32) (hr : r < 16) (hn : 0 < n) (hn' : n ≤ 4096) (y : S512.Idx) :
    (lst r n s wd w y).toNat < 848 * n := idx_lt r n hr hn hn' _ y

/-- Word `y` of the row gathered for image `r`. -/
def rowVal (r n : ℕ) [NeZero (848 * n)] (s wd : BitVec 32) (p : (⟨1, ![848 * n]⟩ : Shape).Idx → F .f32) (bx : S512.Idx → F .f32) (y : ℕ) : F .f32 :=
  word p (posOf r n s wd (fun k => word bx (32 * r + k)) y)

/-- The result: 16 rows of each level. -/
def OUT (p3 : S3473408.Idx → F .f32) (p4 : S868352.Idx → F .f32) (p5 : S217088.Idx → F .f32) (bx : S512.Idx → F .f32) : S48x512.Idx → F .f32 := fun x =>
  if (x 0).val < 16 then rowVal (x 0).val 4096 0x42800000#32 64#32 p3 bx (x 1).val
  else if (x 0).val < 32 then rowVal ((x 0).val - 16) 1024 0x42000000#32 32#32 p4 bx (x 1).val
  else rowVal ((x 0).val - 32) 256 0x41800000#32 16#32 p5 bx (x 1).val

end Val

end Cert.Proof.Sc

end
-- ==== Proof.ScRow.lean ====
/-
  A task's number, its slices of the boxes and of the result, and the row it writes as a row of the result (`row_out`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather
public import proofs.«01_k».proof.Proof.ScSeg
public import proofs.«01_k».proof.Proof.ScFour
public import proofs.«01_k».proof.Proof.ScVal

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

section Row

variable (d : Dev nD) (L : grid0.Coords)

/-- The tile's number, as the task computes it. -/
abbrev tileNo : BitVec 32 := Scalar.addi (Scalar.muli (BitVec.ofNat 32 (L 1).val) 2#32) (BitVec.ofNat 32 (L 0).val)
/-- The same as a number. -/
abbrev wn : ℕ := 2 * (L 1).val + (L 0).val

theorem tileNo_eq : ∀ L : grid0.Coords, tileNo L = BitVec.ofNat 32 (wn L) := by decide +kernel
theorem tileNo_sub : ∀ L : grid0.Coords, 16 ≤ wn L → Scalar.subi (tileNo L) 16#32 = BitVec.ofNat 32 (wn L - 16) := by decide +kernel
theorem wn_low : ∀ L : grid0.Coords, k0_cond1 L = 1#1 → wn L < 16 := by decide +kernel
theorem wn_high : ∀ L : grid0.Coords, k0_cond2 L = 1#1 → 16 ≤ wn L := by decide +kernel
theorem wn_lt : ∀ L : grid0.Coords, wn L < 32 := by decide +kernel
theorem cond_low : ∀ L : grid0.Coords, wn L < 16 → k0_cond1 L = 1#1 ∧ ¬ k0_cond2 L = 1#1 := by decide +kernel
theorem cond_high : ∀ L : grid0.Coords, 16 ≤ wn L → k0_cond2 L = 1#1 ∧ ¬ k0_cond1 L = 1#1 := by decide +kernel
theorem off1_at : ∀ L : grid0.Coords, k0_off1 L 0 = 32 * wn L := by decide +kernel
theorem off3_at : ∀ L : grid0.Coords, k0_off3 L 0 = 32 * wn L := by decide +kernel
theorem off5_at : ∀ L : grid0.Coords, k0_cond2 L = 1#1 → k0_off5 L 0 = 32 * (wn L - 16) := by decide +kernel

theorem chk3 : k0_chk3 L (k0_pay52 lanes) := by
  intro _ a x; fin_cases a; revert x; decide
theorem chk4 : k0_chk4 L (k0_pay53 lanes) := by
  intro _ a x; fin_cases a; revert x; decide
theorem chk5 : k0_chk5 L (k0_pay107 lanes) := by
  intro _ a x; fin_cases a; revert x; decide
theorem chk6 : k0_chk6 L (k0_pay108 lanes) := by
  intro _ a x; fin_cases a; revert x; decide

theorem writes_stores (V : IVec S16 32) (hw : BitVec 32) (f : Buf (Elt F) ((idxB).view.loc (thr d L))) :
    (idxB).view.writes (Elt F) f (stores F V hw) = idxList V hw :=
  funext fun y => View.read_writes_apply_of_pieces (Val := Elt F) (idxB).view f (idxList V hw) _ (stores_apply F V hw) y (stores_cover F V hw y)

/-- A word of a slice of the boxes. -/
theorem box_word {off : Fin 1 → ℕ} (inb : ∀ a, off a + S32.size a ≤ S512.size a) (r : ℕ) (h0 : off 0 = 32 * r) (fb : Buf (Elt F) (bxLoc d)) (k : ℕ) (hk : k < 32) :
    word (n := 32) (((bxV).slice (Rect.unit (s := S512) off S32.size inb) (fun _ => rfl)).view.read (Elt F) fb : S32.Idx → F .f32) k = word (n := 512) (fb : S512.Idx → F .f32) (32 * r + k) := by
  have hi : off 0 + 32 ≤ 512 := inb 0
  rw [word_at _ _ hk, word_at _ _ (by omega)]
  exact congrArg (fb : S512.Idx → F .f32) (idx1_ext (n := 512) (show off 0 + 1 * k = 32 * r + k by omega))

theorem posOf_congr (r n : ℕ) (s wd : BitVec 32) (b b' : ℕ → F .f32) (y : ℕ) (hy : y < 512) (h : ∀ k, k < 32 → b k = b' k) : posOf r n s wd b y = posOf r n s wd b' y := by
  unfold posOf
  rw [h _ (by omega), h _ (by omega)]

/-- A row of the result, as a task slices it. -/
abbrev rowM (off : Fin 2 → ℕ) (inb : ∀ a, off a + S1x512.size a ≤ S48x512.size a) : Memref sig .scVector .hbm S512 .f32 :=
  ((oV).slice (Rect.unit (s := S48x512) off S1x512.size inb) (fun _ => rfl)).squeeze S512 squeezes_S1x512_S512

theorem rowM_emb (off : Fin 2 → ℕ) (inb) (x : S512.Idx) :
    ((((rowM off inb).view.emb x : S48x512.Idx) 0).val = off 0) ∧ ((((rowM off inb).view.emb x : S48x512.Idx) 1).val = off 1 + (x 0).val) := by
  have e : (rowM off inb).view.emb x = (Rect.unit (s := S48x512) off S1x512.size inb).emb (Shape.reshapeEquiv squeezes_S1x512_S512.numel_eq x) := rfl
  rw [e, Shape.reshapeEquiv_cons_one]
  exact ⟨show off 0 + 1 * 0 = off 0 by omega, show off 1 + 1 * (x 0).val = _ by omega⟩

/-- A row written is that row of `G`, when it agrees with it word by word. -/
theorem row_out (off : Fin 2 → ℕ) (inb) (t : ℕ) (ht : off 0 = t) (h1 : off 1 = 0) (q : PosShare TreeShare) (fo : Buf (Elt F) (oLoc d)) (val : S512.Idx → F .f32)
    (G : S48x512.Idx → F .f32) (hG : ∀ (x : S512.Idx) (z : S48x512.Idx), (z 0).val = t → (z 1).val = (x 0).val → val x = G z) :
    ((rowM off inb).view.loc (thr d L) ↦[(rowM off inb).view.set]{q} (rowM off inb).view.writes (Elt F) fo [⟨Rect.whole S512, val⟩] : sProp 𝕄)
      = (oLoc d ↦[(rowM off inb).view.set]{q} (G : Buf (Elt F) (oLoc d))) := by
  refine pointsTo_congr (ℓ := oLoc d) fun z hz => ?_
  obtain ⟨x, -, rfl⟩ := Finset.mem_map.mp hz
  have h := congrFun (View.read_writes_whole (Val := Elt F) (rowM off inb).view fo val) x
  refine (show _ = val x from h).trans ?_
  obtain ⟨e0, e1⟩ := rowM_emb off inb x
  exact hG x _ (e0.trans ht) (e1.trans (by omega))

/-- A word of a gathered row. -/
theorem row_read {n : ℕ} [NeZero (848 * n)] (r : ℕ) (s wd : BitVec 32) (w : S32.Idx → F .f32) (p : (⟨1, ![848 * n]⟩ : Shape).Idx → F .f32) (bx : S512.Idx → F .f32)
    (hr : r < 16) (hn : 0 < n) (hn' : n ≤ 4096) (hw : ∀ k, k < 32 → word (n := 32) w k = word (n := 512) bx (32 * r + k)) (x : S512.Idx) :
    p (at1 (lst r n s wd w x).toNat (lst_lt r n s wd w hr hn hn' x)) = rowVal r n s wd p bx (x 0).val := by
  unfold rowVal
  rw [← posOf_congr r n s wd (word (n := 32) w) _ _ (x 0).isLt hw, ← lst_toNat r n s wd w hr hn hn' x, word_at]

/-- A wait at no round joins those recorded before. -/
theorem keep_insert {sm : SemLoc sig} {A W : Waits sig (HIx 1)} (h : ∀ p ∈ A, p ∈ W ∨ p.2 = none) : ∀ p ∈ insert (sm, (none : HIx 1)) A, p ∈ W ∨ p.2 = none := fun p hp => by
  rcases Finset.mem_insert.mp hp with rfl | hp
  · exact .inr rfl
  · exact h p hp

theorem off2_at : ∀ L : grid0.Coords, k0_off2 L 0 = wn L ∧ k0_off2 L 1 = 0 := by decide +kernel
theorem off4_at : ∀ L : grid0.Coords, k0_off4 L 0 = wn L + 32 ∧ k0_off4 L 1 = 0 := by decide +kernel
theorem off6_at : ∀ L : grid0.Coords, k0_off6 L 0 = wn L ∧ k0_off6 L 1 = 0 := by decide +kernel

end Row

end Cert.Proof.Sc

end
-- ==== Proof.ScTile.lean ====
/-
  The task's body, run once at a symbolic SparseCore and tile, for a tile below 16: it gathers a row of level 3 and a
  row of level 5. Each row it leaves in the result is the row of `OUT`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather
public import proofs.«01_k».proof.Proof.ScSeg
public import proofs.«01_k».proof.Proof.ScFour
public import proofs.«01_k».proof.Proof.ScVal
public import proofs.«01_k».proof.Proof.ScRow

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

section Tile

variable (d : Dev nD) (L : grid0.Coords)

set_option maxHeartbeats 4000000 in
/-- A tile below 16. -/
theorem run_low (h1 : k0_cond1 L = 1#1) (hn2 : ¬ k0_cond2 L = 1#1) (O : CellTallies nD τ sig (HIx 1)) (W : Waits sig (HIx 1)) (hO : ∀ g, O g none = 0)
    (q3 q5 qb : PosShare TreeShare) (f3 : Buf (Elt F) (p3Loc d)) (f4 : Buf (Elt F) (p4Loc d)) (f5 : Buf (Elt F) (p5Loc d)) (fb : Buf (Elt F) (bxLoc d))
    (g7 : Buf (Elt F) ((thr d L).loc cc0_scratch0)) (g8 : Buf (Elt F) ((thr d L).loc cc0_scratch1)) (g9 : Buf (Elt F) ((thr d L).loc cc0_scratch2))
    (fo : Buf (Elt F) (oLoc d)) :
    iprop(levAts (K (F := F)).L (K (F := F)).lev
        ∗ ((p3V).view.loc (thr d L) ↦{q3} f3)
        ∗ ((p5V).view.loc (thr d L) ↦{q5} f5)
        ∗ ((bxV).view.loc (thr d L) ↦{qb} fb)
        ∗ ((boxB).view.loc (thr d L) ↦{fullShare} g7)
        ∗ ((idxB).view.loc (thr d L) ↦{fullShare} g8)
        ∗ ((gB).view.loc (thr d L) ↦{fullShare} g9)
        ∗ ((row2 L h1).view.loc (thr d L) ↦[(row2 L h1).view.set]{fullShare} fo)
        ∗ ((row4 L h1).view.loc (thr d L) ↦[(row4 L h1).view.set]{fullShare} fo)
        ∗ semVal (thr d L, .dma cc0_scratch3.sem) 0
        ∗ semVal (thr d L, .dma cc0_scoped0.sem) 0
        ∗ semVal (thr d L, .dma cc0_scoped1.sem) 0
        ∗ semVal (thr d L, .dma cc0_scoped2.sem) 0
        ∗ semVal (thr d L, .dma cc0_scoped3.sem) 0
        ∗ owes (thr d L) O W)
      ⊢ wp frame (wpE (defs₀ (F := F)) 𝒱₀ (thr d L) none) Set.univ
          (cc0__sc_gather_body L p3V (Memref.isWhole_whole _) p4V (Memref.isWhole_whole _) p5V (Memref.isWhole_whole _)
            bxV (Memref.isWhole_whole _) oV (Memref.isWhole_whole _) boxB (Memref.isWhole_whole _) idxB (Memref.isWhole_whole _)
            gB (Memref.isWhole_whole _) cc0_scratch3 cc0_scoped0 cc0_scoped1 cc0_scoped2 cc0_scoped3 cc0_scoped4 cc0_scoped5)
          fun _ => (iprop(((p3V).view.loc (thr d L) ↦{q3} f3)
        ∗ ((p5V).view.loc (thr d L) ↦{q5} f5)
        ∗ ((bxV).view.loc (thr d L) ↦{qb} fb)
        ∗ (∃ g, ((boxB).view.loc (thr d L) ↦{fullShare} g))
        ∗ (∃ g, ((idxB).view.loc (thr d L) ↦{fullShare} g))
        ∗ (∃ g, ((gB).view.loc (thr d L) ↦{fullShare} g))
        ∗ (oLoc d ↦[(row2 L h1).view.set]{fullShare} (OUT f3 f4 f5 fb : Buf (Elt F) (oLoc d)))
        ∗ (oLoc d ↦[(row4 L h1).view.set]{fullShare} (OUT f3 f4 f5 fb : Buf (Elt F) (oLoc d)))
        ∗ semVal (thr d L, .dma cc0_scratch3.sem) 0
        ∗ semVal (thr d L, .dma cc0_scoped0.sem) 0
        ∗ semVal (thr d L, .dma cc0_scoped1.sem) 0
        ∗ semVal (thr d L, .dma cc0_scoped2.sem) 0
        ∗ semVal (thr d L, .dma cc0_scoped3.sem) 0
        ∗ ∃ W', ⌜∀ p ∈ W', p ∈ W ∨ p.2 = none⌝ ∗ owes (thr d L) O W') : sProp 𝕄) := by
  rw [cc0__sc_gather_body_eq_skeleton]; unfold cc0__sc_gather_body_skel
  iintro ⟨#Hlv, Hp3, Hp5, Hbx, Hbox, Hidx, Hg, Ho2, Ho4, Hs3, Hc0, Hc1, Hc2, Hc3, HO⟩
  ihave Hmw := (show levAts (K (F := F)).L (K (F := F)).lev ⊢ Transfers.MayWaits (thr d L) (default : HIx 1) O from
    (K (F := F)).mayWaits_none (thr := thr d L) hO) $$ Hlv
  have hc1 := chk1 L
  have hc2 := chk2 L
  have hc3 := chk3 L
  have hc4 := chk4 L
  sl_exec
  rw [SparseCore.vectorLoadIdx_bind (c := thr d L)]
  sl_exec
  rw [SparseCore.vectorLoadIdx_bind (c := thr d L)]
  sl_exec
  have hE3 : ∀ j, (idxB).view.writes (Elt F) j (run_low.sl.Hidx_32 d L h1 fb g7 hc1 hc2) = lst (wn L) 4096 0x42800000#32 64#32 (run_low.sl.dma0 d L h1 fb) := by
    intro j
    have e1 : run_low.sl.Hidx_32 d L h1 fb g7 hc1 hc2 = stores F (run_low.sl.v52 d L h1 fb g7 hc1 hc2) 4096#32 := rfl
    have e2 : run_low.sl.v52 d L h1 fb g7 hc1 hc2 = bases (tileNo L) 4095#32 4096#32 (maxsi (broadcast S16 0#32) (cellsOf 0x42800000#32 64#32
        ((boxB).view.readAt (Elt F) (LoadRect.whole _) ((boxB).view.write (Elt F) g7 (run_low.sl.dma0 d L h1 fb) Finset.univ)))) := rfl
    rw [e1, writes_stores d L, e2, View.write_whole_univ, Memref.readAt_whole, tileNo_eq]
    rfl
  ihave Hidx' := (Entails.of_eq (congrArg (fun z => ((idxB).view.loc (thr d L) ↦{fullShare} z : sProp 𝕄)) (hE3 _))) $$ Hidx
  have hlt3 : ∀ y : S512.Idx, BitVec.toNat ((idxB).view.read (Elt F) (lst (wn L) 4096 0x42800000#32 64#32 (run_low.sl.dma0 d L h1 fb)) y) < 3473408 :=
    fun y => lst_lt (wn L) 4096 _ _ _ (wn_low L h1) (by decide) (by decide) y
  iapply (issue4 d L (n := 3473408) p3V (by decide) (View.set_whole _) gathers_S3473408_S128 (by decide) q3 f3 _ _ hlt3) $$ [Hp3 Hg Hidx' Hs3]
  · isplitl [Hp3]; · iexact Hp3
    isplitl [Hg]; · iexact Hg
    isplitl [Hidx']; · iexact Hidx'
    iexact Hs3
  iintro HB
  iapply (wait1 d L (n := 3473408) p3V _ (u := 0) (o := 0) (by decide)) $$ [HB HO]
  · isplitr; · iexact Hmw
    isplitl [HB]; · iexact HB
    iexact HO
  iintro ⟨HB, HO⟩
  iapply (wait1 d L (n := 3473408) p3V _ (u := 4096) (o := 128) (by decide)) $$ [HB HO]
  · isplitr; · iexact Hmw
    isplitl [HB]; · iexact HB
    iexact HO
  iintro ⟨HB, HO⟩
  iapply (wait1 d L (n := 3473408) p3V _ (u := 8192) (o := 256) (by decide)) $$ [HB HO]
  · isplitr; · iexact Hmw
    isplitl [HB]; · iexact HB
    iexact HO
  iintro ⟨HB, HO⟩
  iapply (wait1 d L (n := 3473408) p3V _ (u := 12288) (o := 384) (by decide)) $$ [HB HO]
  · isplitr; · iexact Hmw
    isplitl [HB]; · iexact HB
    iexact HO
  iintro ⟨HB, HO⟩
  imod (collect4 d L (n := 3473408) p3V _ (View.set_whole _) gathers_S3473408_S128 _ q3 f3 _ _ hlt3) $$ HB with ⟨Hp3, Hg, Hidx, Hs3⟩
  sl_exec
  rw [SparseCore.vectorLoadIdx_bind (c := thr d L)]
  sl_exec
  rw [SparseCore.vectorLoadIdx_bind (c := thr d L)]
  sl_exec
  have hE5 : ∀ j, (idxB).view.writes (Elt F) j (run_low.sl.Hidx_32_1 d L h1 fb g7 hc3 hc4) = lst (wn L) 256 0x41800000#32 16#32 (run_low.sl.dma0_2 d L h1 fb) := by
    intro j
    have e1 : run_low.sl.Hidx_32_1 d L h1 fb g7 hc3 hc4 = stores F (run_low.sl.v465 d L h1 fb g7 hc3 hc4) 256#32 := rfl
    have e2 : run_low.sl.v465 d L h1 fb g7 hc3 hc4 = bases (tileNo L) 255#32 256#32 (maxsi (broadcast S16 0#32) (cellsOf 0x41800000#32 16#32
        ((boxB).view.readAt (Elt F) (LoadRect.whole _) ((boxB).view.write (Elt F) ((boxB).view.write (Elt F) g7 (run_low.sl.dma0 d L h1 fb) Finset.univ) (run_low.sl.dma0_2 d L h1 fb) Finset.univ)))) := rfl
    rw [e1, writes_stores d L, e2, View.write_whole_univ, Memref.readAt_whole, tileNo_eq]
    rfl
  ihave Hidx' := (Entails.of_eq (congrArg (fun z => ((idxB).view.loc (thr d L) ↦{fullShare} z : sProp 𝕄)) (hE5 _))) $$ Hidx
  have hlt5 : ∀ y : S512.Idx, BitVec.toNat ((idxB).view.read (Elt F) (lst (wn L) 256 0x41800000#32 16#32 (run_low.sl.dma0_2 d L h1 fb)) y) < 217088 :=
    fun y => lst_lt (wn L) 256 _ _ _ (wn_low L h1) (by decide) (by decide) y
  iapply (issue4 d L (n := 217088) p5V (by decide) (View.set_whole _) gathers_S217088_S128 (by decide) q5 f5 _ _ hlt5) $$ [Hp5 Hg Hidx' Hs3]
  · isplitl [Hp5]; · iexact Hp5
    isplitl [Hg]; · iexact Hg
    isplitl [Hidx']; · iexact Hidx'
    iexact Hs3
  iintro HB
  iapply (wait1 d L (n := 217088) p5V _ (u := 0) (o := 0) (by decide)) $$ [HB HO]
  · isplitr; · iexact Hmw
    isplitl [HB]; · iexact HB
    iexact HO
  iintro ⟨HB, HO⟩
  iapply (wait1 d L (n := 217088) p5V _ (u := 4096) (o := 128) (by decide)) $$ [HB HO]
  · isplitr; · iexact Hmw
    isplitl [HB]; · iexact HB
    iexact HO
  iintro ⟨HB, HO⟩
  iapply (wait1 d L (n := 217088) p5V _ (u := 8192) (o := 256) (by decide)) $$ [HB HO]
  · isplitr; · iexact Hmw
    isplitl [HB]; · iexact HB
    iexact HO
  iintro ⟨HB, HO⟩
  dsimp -proj only
  rw [Idealize.SL.Sem.wp_pure]
  imodintro
  iapply (wait1 d L (n := 217088) p5V _ (u := 12288) (o := 384) (by decide)) $$ [HB HO]
  · isplitr; · iexact Hmw
    isplitl [HB]; · iexact HB
    iexact HO
  iintro ⟨HB, HO⟩
  imod (collect4 d L (n := 217088) p5V _ (View.set_whole _) gathers_S217088_S128 _ q5 f5 _ _ hlt5) $$ HB with ⟨Hp5, Hg, Hidx, Hs3⟩
  sl_exec
  have hw := wn_low L h1
  have hb3 : ∀ k, k < 32 → word (n := 32) (run_low.sl.dma0 d L h1 fb : S32.Idx → F .f32) k = word (n := 512) (fb : S512.Idx → F .f32) (32 * wn L + k) :=
    fun k hk => box_word d (k0_off1_inb L h1) (wn L) (off1_at L) fb k hk
  have hb5 : ∀ k, k < 32 → word (n := 32) (run_low.sl.dma0_2 d L h1 fb : S32.Idx → F .f32) k = word (n := 512) (fb : S512.Idx → F .f32) (32 * wn L + k) :=
    fun k hk => box_word d (k0_off3_inb L h1) (wn L) (off3_at L) fb k hk
  ihave Hr2 := (Entails.of_eq (row_out d L (k0_off2 L) (k0_off2_inb L h1) (wn L) (off2_at L).1 (off2_at L).2 fullShare fo
    (run_low.sl.dma0_1 d L h1 f3 fb hlt3) (OUT f3 f4 f5 fb) (fun x z e0 e1 => by
      refine (show _ = _ from row_read (n := 4096) (wn L) 0x42800000#32 64#32 _ f3 fb hw (by decide) (by decide) hb3 x).trans ?_
      unfold OUT
      rw [if_pos (by omega), e0, e1]))) $$ Ho2
  ihave Hr4 := (Entails.of_eq (row_out d L (k0_off4 L) (k0_off4_inb L h1) (wn L + 32) (off4_at L).1 (off4_at L).2 fullShare fo
    (run_low.sl.dma0_3 d L h1 f5 fb hlt5) (OUT f3 f4 f5 fb) (fun x z e0 e1 => by
      refine (show _ = _ from row_read (n := 256) (wn L) 0x41800000#32 16#32 _ f5 fb hw (by decide) (by decide) hb5 x).trans ?_
      unfold OUT
      rw [if_neg (by omega), if_neg (by omega), e0, e1, Nat.add_sub_cancel]))) $$ Ho4
  rw [Idealize.SL.Sem.wp_ret]
  imodintro
  isplitl [Hp3]; · iexact Hp3
  isplitl [Hp5]; · iexact Hp5
  isplitl [Hbx]; · iexact Hbx
  isplitl [Hbox]; · iexists _; iexact Hbox
  isplitl [Hidx]; · iexists _; iexact Hidx
  isplitl [Hg]; · iexists _; iexact Hg
  isplitl [Hr2]; · iexact Hr2
  isplitl [Hr4]; · iexact Hr4
  isplitl [Hs3]; · iexact Hs3
  isplitl [Hc0]; · iexact Hc0
  isplitl [Hc1]; · iexact Hc1
  isplitl [Hc2]; · iexact Hc2
  isplitl [Hc3]; · iexact Hc3
  iexists _
  isplitr; rotate_left
  · iexact HO
  · ipureintro
    repeat refine keep_insert ?_
    exact fun p hp => .inl hp

end Tile

end Cert.Proof.Sc

end
-- ==== Proof.ScHigh.lean ====
/-
  The task's body, run once at a symbolic SparseCore and tile, for a tile from 16 on: it gathers a row of level 4, which it
  leaves in the result as the row of `OUT`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather
public import proofs.«01_k».proof.Proof.ScSeg
public import proofs.«01_k».proof.Proof.ScFour
public import proofs.«01_k».proof.Proof.ScVal
public import proofs.«01_k».proof.Proof.ScRow

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

section Tile

variable (d : Dev nD) (L : grid0.Coords)

set_option maxHeartbeats 4000000 in
/-- A tile from 16 on. -/
theorem run_high (h2 : k0_cond2 L = 1#1) (hn1 : ¬ k0_cond1 L = 1#1) (O : CellTallies nD τ sig (HIx 1)) (W : Waits sig (HIx 1)) (hO : ∀ g, O g none = 0)
    (q4 qb : PosShare TreeShare) (f3 : Buf (Elt F) (p3Loc d)) (f4 : Buf (Elt F) (p4Loc d)) (f5 : Buf (Elt F) (p5Loc d)) (fb : Buf (Elt F) (bxLoc d))
    (g7 : Buf (Elt F) ((thr d L).loc cc0_scratch0)) (g8 : Buf (Elt F) ((thr d L).loc cc0_scratch1)) (g9 : Buf (Elt F) ((thr d L).loc cc0_scratch2))
    (fo : Buf (Elt F) (oLoc d)) :
    iprop(levAts (K (F := F)).L (K (F := F)).lev
        ∗ ((p4V).view.loc (thr d L) ↦{q4} f4)
        ∗ ((bxV).view.loc (thr d L) ↦{qb} fb)
        ∗ ((boxB).view.loc (thr d L) ↦{fullShare} g7)
        ∗ ((idxB).view.loc (thr d L) ↦{fullShare} g8)
        ∗ ((gB).view.loc (thr d L) ↦{fullShare} g9)
        ∗ ((row6 L h2).view.loc (thr d L) ↦[(row6 L h2).view.set]{fullShare} fo)
        ∗ semVal (thr d L, .dma cc0_scratch3.sem) 0
        ∗ semVal (thr d L, .dma cc0_scoped4.sem) 0
        ∗ semVal (thr d L, .dma cc0_scoped5.sem) 0
        ∗ owes (thr d L) O W)
      ⊢ wp frame (wpE (defs₀ (F := F)) 𝒱₀ (thr d L) none) Set.univ
          (cc0__sc_gather_body L p3V (Memref.isWhole_whole _) p4V (Memref.isWhole_whole _) p5V (Memref.isWhole_whole _)
            bxV (Memref.isWhole_whole _) oV (Memref.isWhole_whole _) boxB (Memref.isWhole_whole _) idxB (Memref.isWhole_whole _)
            gB (Memref.isWhole_whole _) cc0_scratch3 cc0_scoped0 cc0_scoped1 cc0_scoped2 cc0_scoped3 cc0_scoped4 cc0_scoped5)
          fun _ => (iprop(((p4V).view.loc (thr d L) ↦{q4} f4)
        ∗ ((bxV).view.loc (thr d L) ↦{qb} fb)
        ∗ (∃ g, ((boxB).view.loc (thr d L) ↦{fullShare} g))
        ∗ (∃ g, ((idxB).view.loc (thr d L) ↦{fullShare} g))
        ∗ (∃ g, ((gB).view.loc (thr d L) ↦{fullShare} g))
        ∗ (oLoc d ↦[(row6 L h2).view.set]{fullShare} (OUT f3 f4 f5 fb : Buf (Elt F) (oLoc d)))
        ∗ semVal (thr d L, .dma cc0_scratch3.sem) 0
        ∗ semVal (thr d L, .dma cc0_scoped4.sem) 0
        ∗ semVal (thr d L, .dma cc0_scoped5.sem) 0
        ∗ ∃ W', ⌜∀ p ∈ W', p ∈ W ∨ p.2 = none⌝ ∗ owes (thr d L) O W') : sProp 𝕄) := by
  rw [cc0__sc_gather_body_eq_skeleton]; unfold cc0__sc_gather_body_skel
  iintro ⟨#Hlv, Hp4, Hbx, Hbox, Hidx, Hg, Ho6, Hs3, Hc4, Hc5, HO⟩
  ihave Hmw := (show levAts (K (F := F)).L (K (F := F)).lev ⊢ Transfers.MayWaits (thr d L) (default : HIx 1) O from
    (K (F := F)).mayWaits_none (thr := thr d L) hO) $$ Hlv
  have hc5 := chk5 L
  have hc6 := chk6 L
  sl_exec
  rw [SparseCore.vectorLoadIdx_bind (c := thr d L)]
  sl_exec
  rw [SparseCore.vectorLoadIdx_bind (c := thr d L)]
  sl_exec
  have hw16 := wn_high L h2
  have hw32 := wn_lt L
  have hr : wn L - 16 < 16 := by omega
  have hE : ∀ j, (idxB).view.writes (Elt F) j (run_high.sl.Hidx_32 d L h2 fb g7 hc5 hc6) = lst (wn L - 16) 1024 0x42000000#32 32#32 (run_high.sl.dma0 d L h2 fb) := by
    intro j
    have e1 : run_high.sl.Hidx_32 d L h2 fb g7 hc5 hc6 = stores F (run_high.sl.v53 d L h2 fb g7 hc5 hc6) 1024#32 := rfl
    have e2 : run_high.sl.v53 d L h2 fb g7 hc5 hc6 = bases (Scalar.subi (tileNo L) 16#32) 1023#32 1024#32 (maxsi (broadcast S16 0#32) (cellsOf 0x42000000#32 32#32
        ((boxB).view.readAt (Elt F) (LoadRect.whole _) ((boxB).view.write (Elt F) g7 (run_high.sl.dma0 d L h2 fb) Finset.univ)))) := rfl
    rw [e1, writes_stores d L, e2, View.write_whole_univ, Memref.readAt_whole, tileNo_sub L hw16]
    rfl
  ihave Hidx' := (Entails.of_eq (congrArg (fun z => ((idxB).view.loc (thr d L) ↦{fullShare} z : sProp 𝕄)) (hE _))) $$ Hidx
  have hlt : ∀ y : S512.Idx, BitVec.toNat ((idxB).view.read (Elt F) (lst (wn L - 16) 1024 0x42000000#32 32#32 (run_high.sl.dma0 d L h2 fb)) y) < 868352 :=
    fun y => lst_lt (wn L - 16) 1024 _ _ _ hr (by decide) (by decide) y
  iapply (issue4 d L (n := 868352) p4V (by decide) (View.set_whole _) gathers_S868352_S128 (by decide) q4 f4 _ _ hlt) $$ [Hp4 Hg Hidx' Hs3]
  · isplitl [Hp4]; · iexact Hp4
    isplitl [Hg]; · iexact Hg
    isplitl [Hidx']; · iexact Hidx'
    iexact Hs3
  iintro HB
  iapply (wait1 d L (n := 868352) p4V _ (u := 0) (o := 0) (by decide)) $$ [HB HO]
  · isplitr; · iexact Hmw
    isplitl [HB]; · iexact HB
    iexact HO
  iintro ⟨HB, HO⟩
  iapply (wait1 d L (n := 868352) p4V _ (u := 4096) (o := 128) (by decide)) $$ [HB HO]
  · isplitr; · iexact Hmw
    isplitl [HB]; · iexact HB
    iexact HO
  iintro ⟨HB, HO⟩
  iapply (wait1 d L (n := 868352) p4V _ (u := 8192) (o := 256) (by decide)) $$ [HB HO]
  · isplitr; · iexact Hmw
    isplitl [HB]; · iexact HB
    iexact HO
  iintro ⟨HB, HO⟩
  iapply (wait1 d L (n := 868352) p4V _ (u := 12288) (o := 384) (by decide)) $$ [HB HO]
  · isplitr; · iexact Hmw
    isplitl [HB]; · iexact HB
    iexact HO
  iintro ⟨HB, HO⟩
  imod (collect4 d L (n := 868352) p4V _ (View.set_whole _) gathers_S868352_S128 _ q4 f4 _ _ hlt) $$ HB with ⟨Hp4, Hg, Hidx, Hs3⟩
  sl_exec
  have hb : ∀ k, k < 32 → word (n := 32) (run_high.sl.dma0 d L h2 fb : S32.Idx → F .f32) k = word (n := 512) (fb : S512.Idx → F .f32) (32 * (wn L - 16) + k) :=
    fun k hk => box_word d (k0_off5_inb L h2) (wn L - 16) (off5_at L h2) fb k hk
  ihave Hr6 := (Entails.of_eq (row_out d L (k0_off6 L) (k0_off6_inb L h2) (wn L) (off6_at L).1 (off6_at L).2 fullShare fo
    (run_high.sl.dma0_1 d L h2 f4 fb hlt) (OUT f3 f4 f5 fb) (fun x z e0 e1 => by
      refine (show _ = _ from row_read (n := 1024) (wn L - 16) 0x42000000#32 32#32 _ f4 fb hr (by decide) (by decide) hb x).trans ?_
      unfold OUT
      rw [if_neg (by omega), if_pos (by omega), e0, e1]))) $$ Ho6
  rw [Idealize.SL.Sem.wp_ret]
  imodintro
  isplitl [Hp4]; · iexact Hp4
  isplitl [Hbx]; · iexact Hbx
  isplitl [Hbox]; · iexists _; iexact Hbox
  isplitl [Hidx]; · iexists _; iexact Hidx
  isplitl [Hg]; · iexists _; iexact Hg
  isplitl [Hr6]; · iexact Hr6
  isplitl [Hs3]; · iexact Hs3
  isplitl [Hc4]; · iexact Hc4
  isplitl [Hc5]; · iexact Hc5
  iexists _
  isplitr; rotate_left
  · iexact HO
  · ipureintro
    repeat refine keep_insert ?_
    exact fun p hp => .inl hp

end Tile

end Cert.Proof.Sc

end
-- ==== Proof.ScTask.lean ====
/-
  What the launch hands each tile and takes back: a share of each array that is only read, and the tile's own rows of the
  result, which come back as those of `OUT`. The task of a tile, from that.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather
public import proofs.«01_k».proof.Proof.ScSeg
public import proofs.«01_k».proof.Proof.ScFour
public import proofs.«01_k».proof.Proof.ScVal
public import proofs.«01_k».proof.Proof.ScRow
public import proofs.«01_k».proof.Proof.ScTile
public import proofs.«01_k».proof.Proof.ScHigh

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "p3V" => (Memref.whole Cert.KernelIdeal.main_v0_scv : Memref Cert.KernelIdeal.sig Kind.scVector Space.hbm Cert.KernelIdeal.S3473408 EltTy.f32)
local notation "p4V" => (Memref.whole Cert.KernelIdeal.main_v1_scv : Memref Cert.KernelIdeal.sig Kind.scVector Space.hbm Cert.KernelIdeal.S868352 EltTy.f32)
local notation "p5V" => (Memref.whole Cert.KernelIdeal.main_v2_scv : Memref Cert.KernelIdeal.sig Kind.scVector Space.hbm Cert.KernelIdeal.S217088 EltTy.f32)
local notation "bxV" => (Memref.whole Cert.KernelIdeal.main_v3_scv : Memref Cert.KernelIdeal.sig Kind.scVector Space.hbm Cert.KernelIdeal.S512 EltTy.f32)
local notation "oV" => (Memref.whole Cert.KernelIdeal.main_v4_scv : Memref Cert.KernelIdeal.sig Kind.scVector Space.hbm Cert.KernelIdeal.S48x512 EltTy.f32)
local notation "boxB" => (Memref.whole Cert.KernelIdeal.cc0_scratch0 : Memref Cert.KernelIdeal.sig Kind.scVector Space.vmem Cert.KernelIdeal.S32 EltTy.f32)
local notation "idxB" => (Memref.whole Cert.KernelIdeal.cc0_scratch1 : Memref Cert.KernelIdeal.sig Kind.scVector Space.vmem Cert.KernelIdeal.S512 EltTy.i32)
local notation "gB" => (Memref.whole Cert.KernelIdeal.cc0_scratch2 : Memref Cert.KernelIdeal.sig Kind.scVector Space.vmem Cert.KernelIdeal.S512 EltTy.f32)

variable [FloatOps F]

/-! ## The rows of each tile -/

/-- The rows of the result that belong to a SparseCore. -/
def coreSet (c : Fin 2) : Finset S48x512.Idx := Finset.univ.filter fun z => (z 0).val % 2 = c.val

/-- The rows of the result that belong to a tile. -/
def tileSet (c : Fin 2) (i : Fin 16) : Finset S48x512.Idx := Finset.univ.filter fun z => (z 0).val % 32 = 2 * i.val + c.val

omit [FloatOps F] in
theorem coreSet_disj (c c' : Fin 2) (h : c ≠ c') : Disjoint (coreSet c) (coreSet c') := by
  refine Finset.disjoint_left.mpr fun z hz hz' => h (Fin.ext ?_)
  exact (Finset.mem_filter.mp hz).2.symm.trans (Finset.mem_filter.mp hz').2

omit [FloatOps F] in
theorem tileSet_disj (c : Fin 2) (i i' : Fin 16) (h : i ≠ i') : Disjoint (tileSet c i) (tileSet c i') := by
  refine Finset.disjoint_left.mpr fun z hz hz' => h (Fin.ext ?_)
  have e := (Finset.mem_filter.mp hz).2.symm.trans (Finset.mem_filter.mp hz').2
  omega

omit [FloatOps F] in
theorem coreSet_cover : (Finset.univ : Finset (Fin 2)).biUnion coreSet = Finset.univ := by
  refine Finset.eq_univ_iff_forall.mpr fun z => Finset.mem_biUnion.mpr ⟨⟨(z 0).val % 2, Nat.mod_lt _ (by omega)⟩, Finset.mem_univ _, ?_⟩
  exact Finset.mem_filter.mpr ⟨Finset.mem_univ _, rfl⟩

omit [FloatOps F] in
theorem tileSet_cover (c : Fin 2) : (Finset.univ : Finset (Fin 16)).biUnion (tileSet c) = coreSet c := by
  ext z
  have hc := c.isLt
  constructor
  · intro h
    obtain ⟨i, -, hz⟩ := Finset.mem_biUnion.mp h
    have e := (Finset.mem_filter.mp hz).2
    exact Finset.mem_filter.mpr ⟨Finset.mem_univ _, by omega⟩
  · intro h
    have e := (Finset.mem_filter.mp h).2
    refine Finset.mem_biUnion.mpr ⟨⟨(z 0).val % 32 / 2, by omega⟩, Finset.mem_univ _, Finset.mem_filter.mpr ⟨Finset.mem_univ _, ?_⟩⟩
    show (z 0).val % 32 = 2 * ((z 0).val % 32 / 2) + c.val
    omega

omit [FloatOps F] in
/-- A row of the result, as a task names it, is the elements whose first coordinate it is. -/
theorem mem_rowM (off : Fin 2 → ℕ) (inb) (h1 : off 1 = 0) (z : S48x512.Idx) :
    z ∈ ((rowM off inb).view.set : Finset S48x512.Idx) ↔ (z 0).val = off 0 := by
  constructor
  · intro hz
    obtain ⟨x, -, rfl⟩ := Finset.mem_map.mp hz
    exact (rowM_emb off inb x).1
  · intro hz
    refine Finset.mem_map.mpr ⟨(at1 (z 1).val (z 1).isLt : S512.Idx), Finset.mem_univ _, ?_⟩
    obtain ⟨e0, e1⟩ := rowM_emb off inb (at1 (z 1).val (z 1).isLt : S512.Idx)
    funext a
    match a with
    | ⟨0, _⟩ => exact Fin.ext (e0.trans hz.symm)
    | ⟨1, _⟩ => exact Fin.ext (e1.trans (by rw [h1]; exact Nat.zero_add _))
    | ⟨n + 2, h⟩ => exact absurd h (by show ¬ n + 2 < 2; omega)

abbrev cL (L : grid0.Coords) : Fin 2 := ⟨(L 0).val, (L 0).isLt⟩
abbrev iL (L : grid0.Coords) : Fin 16 := ⟨(L 1).val, (L 1).isLt⟩

section Rows
variable (d : Dev nD) (L : grid0.Coords)

omit [FloatOps F] in
theorem low_disj (h1 : k0_cond1 L = 1#1) : Disjoint ((row2 L h1).view.set : Finset S48x512.Idx) ((row4 L h1).view.set : Finset S48x512.Idx) := by
  refine Finset.disjoint_left.mpr fun z hz hz' => ?_
  have e := (mem_rowM _ _ (off2_at L).2 z).mp hz
  have e' := (mem_rowM _ _ (off4_at L).2 z).mp hz'
  rw [(off2_at L).1] at e; rw [(off4_at L).1] at e'
  omega

omit [FloatOps F] in
theorem low_union (h1 : k0_cond1 L = 1#1) :
    tileSet (cL L) (iL L) = ((row2 L h1).view.set : Finset S48x512.Idx) ∪ ((row4 L h1).view.set : Finset S48x512.Idx) := by
  have hw := wn_low L h1
  ext z
  have hz0 : (z 0).val < 48 := (z 0).isLt
  rw [Finset.mem_union, mem_rowM _ _ (off2_at L).2 z, mem_rowM _ _ (off4_at L).2 z, (off2_at L).1, (off4_at L).1]
  unfold tileSet
  rw [Finset.mem_filter]
  show _ ∧ (z 0).val % 32 = wn L ↔ _
  constructor
  · rintro ⟨-, h⟩; omega
  · intro h; exact ⟨Finset.mem_univ _, by omega⟩

omit [FloatOps F] in
theorem high_set (h2 : k0_cond2 L = 1#1) : tileSet (cL L) (iL L) = ((row6 L h2).view.set : Finset S48x512.Idx) := by
  have hw := wn_high L h2
  have hw' := wn_lt L
  ext z
  have hz0 : (z 0).val < 48 := (z 0).isLt
  rw [mem_rowM _ _ (off6_at L).2 z, (off6_at L).1]
  unfold tileSet
  rw [Finset.mem_filter]
  show _ ∧ (z 0).val % 32 = wn L ↔ _
  constructor
  · rintro ⟨-, h⟩; omega
  · intro h; exact ⟨Finset.mem_univ _, by omega⟩

end Rows

/-! ## What the handshakes carry -/

/-- A SparseCore's share of an array that is read, and a tile's. -/
abbrev qC (c : Fin 2) : PosShare TreeShare := pieceOf fullShare 2 (by decide) c
abbrev qT (c : Fin 2) (i : Fin 16) : PosShare TreeShare := pieceOf (qC c) 16 (by decide) i

section Pays

variable (a3 : (d : Dev nD) → Buf (Elt F) (p3Loc d)) (a4 : (d : Dev nD) → Buf (Elt F) (p4Loc d)) (a5 : (d : Dev nD) → Buf (Elt F) (p5Loc d))
  (ab : (d : Dev nD) → Buf (Elt F) (bxLoc d))

/-- The four arrays that are read, at a share, and some rows of the result. -/
abbrev pay (q : PosShare TreeShare) (I : Finset S48x512.Idx) (d : Dev nD) (f : Buf (Elt F) (oLoc d)) : sProp 𝕄 :=
  iprop((p3Loc d ↦{q} a3 d) ∗ (p4Loc d ↦{q} a4 d) ∗ (p5Loc d ↦{q} a5 d) ∗ (bxLoc d ↦{q} ab d) ∗ oLoc d ↦[I]{fullShare} f)

/-- The result, of the arrays read. -/
abbrev outOf (d : Dev nD) : Buf (Elt F) (oLoc d) := (OUT (a3 d) (a4 d) (a5 d) (ab d) : S48x512.Idx → F .f32)

variable (o0 : (d : Dev nD) → Buf (Elt F) (oLoc d))

def P : (K (F := F)).Pay (nD := nD) (Val := Elt F) (Name := ℕ) (U := UU) where
  st := fun q d c => match q with | 0 => pay a3 a4 a5 ab (qC (Fin.cast nCore_zero c)) (coreSet (Fin.cast nCore_zero c)) d (o0 d)
  dn := fun q d c => match q with | 0 => pay a3 a4 a5 ab (qC (Fin.cast nCore_zero c)) (coreSet (Fin.cast nCore_zero c)) d (outOf a3 a4 a5 ab d)
  go := fun q d c i => match q with
    | 0 => pay a3 a4 a5 ab (qT (Fin.cast nCore_zero c) (Fin.cast nSub_zero i)) (tileSet (Fin.cast nCore_zero c) (Fin.cast nSub_zero i)) d (o0 d)
  td := fun q d c i => match q with
    | 0 => pay a3 a4 a5 ab (qT (Fin.cast nCore_zero c) (Fin.cast nSub_zero i)) (tileSet (Fin.cast nCore_zero c) (Fin.cast nSub_zero i)) d (outOf a3 a4 a5 ab d)
  x := fun _ _ => iprop(emp)

instance pay_storable (q : PosShare TreeShare) (I : Finset S48x512.Idx) (d : Dev nD) (f : Buf (Elt F) (oLoc d)) :
    BI.Storable (upEmb : UEmb _ 𝕄) (pay a3 a4 a5 ab q I d f) := inferInstance

instance P_storable : (P (F := F) a3 a4 a5 ab o0).IsStorable where
  st q d c := match q with | 0 => pay_storable a3 a4 a5 ab _ _ d _
  dn q d c := match q with | 0 => pay_storable a3 a4 a5 ab _ _ d _
  go q d c i := match q with | 0 => pay_storable a3 a4 a5 ab _ _ d _
  td q d c i := match q with | 0 => pay_storable a3 a4 a5 ab _ _ d _

section Tile

variable (d : Dev nD) (L : grid0.Coords)

/-! ## The tile's own semaphores and buffers -/

abbrev dc (s : DmaSem sig) : GSem nD τ sig := (thr d L, .dma s)

omit [FloatOps F] in
theorem dc_ne {s s' : DmaSem sig} (h : s ≠ s') : dc d L s ≠ dc d L s' :=
  fun e => h (SemLoc.dma.inj (congrArg Prod.snd e))

/-- The tile's other semaphores. -/
abbrev restCells : Finset (GSem nD τ sig) :=
  ((((((((ownCells (thr d L)).erase (dc d L cc0_scratch3.sem)).erase (dc d L cc0_scoped0.sem)).erase (dc d L cc0_scoped1.sem)).erase (dc d L cc0_scoped2.sem)).erase (dc d L cc0_scoped3.sem)).erase (dc d L cc0_scoped4.sem)).erase (dc d L cc0_scoped5.sem))

omit [FloatOps F] in
theorem ownSems0_V :
    (ownSems0 (thr d L) : sProp 𝕄)
      = iprop(semVal (dc d L cc0_scratch3.sem) 0 ∗ semVal (dc d L cc0_scoped0.sem) 0 ∗ semVal (dc d L cc0_scoped1.sem) 0 ∗ semVal (dc d L cc0_scoped2.sem) 0 ∗ semVal (dc d L cc0_scoped3.sem) 0 ∗ semVal (dc d L cc0_scoped4.sem) 0 ∗ semVal (dc d L cc0_scoped5.sem) 0
          ∗ bigSep (restCells d L) fun g => semVal g 0) := by
  unfold SparseCore.Cfg.ownSems0
  rw [SparseCore.bigSep_erase' ((mem_ownCells (g := dc d L cc0_scratch3.sem)).mpr ⟨rfl, by show (SemLoc.dma cc0_scratch3.sem : SemLoc sig).isScoped .scVector = true; decide⟩),
    SparseCore.bigSep_erase' (Finset.mem_erase.mpr ⟨dc_ne d L (by decide), (mem_ownCells (g := dc d L cc0_scoped0.sem)).mpr ⟨rfl, by show (SemLoc.dma cc0_scoped0.sem : SemLoc sig).isScoped .scVector = true; decide⟩⟩),
    SparseCore.bigSep_erase' (Finset.mem_erase.mpr ⟨dc_ne d L (by decide), Finset.mem_erase.mpr ⟨dc_ne d L (by decide), (mem_ownCells (g := dc d L cc0_scoped1.sem)).mpr ⟨rfl, by show (SemLoc.dma cc0_scoped1.sem : SemLoc sig).isScoped .scVector = true; decide⟩⟩⟩),
    SparseCore.bigSep_erase' (Finset.mem_erase.mpr ⟨dc_ne d L (by decide), Finset.mem_erase.mpr ⟨dc_ne d L (by decide), Finset.mem_erase.mpr ⟨dc_ne d L (by decide), (mem_ownCells (g := dc d L cc0_scoped2.sem)).mpr ⟨rfl, by show (SemLoc.dma cc0_scoped2.sem : SemLoc sig).isScoped .scVector = true; decide⟩⟩⟩⟩),
    SparseCore.bigSep_erase' (Finset.mem_erase.mpr ⟨dc_ne d L (by decide), Finset.mem_erase.mpr ⟨dc_ne d L (by decide), Finset.mem_erase.mpr ⟨dc_ne d L (by decide), Finset.mem_erase.mpr ⟨dc_ne d L (by decide), (mem_ownCells (g := dc d L cc0_scoped3.sem)).mpr ⟨rfl, by show (SemLoc.dma cc0_scoped3.sem : SemLoc sig).isScoped .scVector = true; decide⟩⟩⟩⟩⟩),
    SparseCore.bigSep_erase' (Finset.mem_erase.mpr ⟨dc_ne d L (by decide), Finset.mem_erase.mpr ⟨dc_ne d L (by decide), Finset.mem_erase.mpr ⟨dc_ne d L (by decide), Finset.mem_erase.mpr ⟨dc_ne d L (by decide), Finset.mem_erase.mpr ⟨dc_ne d L (by decide), (mem_ownCells (g := dc d L cc0_scoped4.sem)).mpr ⟨rfl, by show (SemLoc.dma cc0_scoped4.sem : SemLoc sig).isScoped .scVector = true; decide⟩⟩⟩⟩⟩⟩),
    SparseCore.bigSep_erase' (Finset.mem_erase.mpr ⟨dc_ne d L (by decide), Finset.mem_erase.mpr ⟨dc_ne d L (by decide), Finset.mem_erase.mpr ⟨dc_ne d L (by decide), Finset.mem_erase.mpr ⟨dc_ne d L (by decide), Finset.mem_erase.mpr ⟨dc_ne d L (by decide), Finset.mem_erase.mpr ⟨dc_ne d L (by decide), (mem_ownCells (g := dc d L cc0_scoped5.sem)).mpr ⟨rfl, by show (SemLoc.dma cc0_scoped5.sem : SemLoc sig).isScoped .scVector = true; decide⟩⟩⟩⟩⟩⟩⟩)]

abbrev db (b : Ref sig .scVector) := (Proc.scVector (cV L) (jV L)).devRef b

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase (db L cc0_scratch0)).erase (db L cc0_scratch1)).erase (db L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := db L cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := db L cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := db L cc0_scratch2) rfl⟩⟩)]

/-! ## The task -/

/-- A program's triple used with a part kept aside. -/
theorem wp_aside {p : Prog (TpuEff nD τ sig (Elt F) Λ₀ (.scVector (cV L) (jV L))) PUnit} {A : sProp 𝕄} {Q B : PUnit → sProp 𝕄} (R : sProp 𝕄)
    (h : A ⊢ wp frame (wpE (defs₀ (F := F)) 𝒱₀ (thr d L) none) Set.univ p Q) (hB : ∀ x, iprop(Q x ∗ R) ⊢ B x) :
    iprop(A ∗ R) ⊢ wp frame (wpE (defs₀ (F := F)) 𝒱₀ (thr d L) none) Set.univ p B := by
  exact (sep_mono_left h).trans ((wp_frame_r _ _ _).trans (wp_mono frame _ _ hB))

/-- The body as the launch's tasks run it. -/
abbrev bodyAt : Prog (TpuEff nD τ sig (Elt F) Λ₀ (.scVector (cV L) (jV L))) PUnit :=
  cc0__sc_gather_body L p3V (Memref.isWhole_whole _) p4V (Memref.isWhole_whole _) p5V (Memref.isWhole_whole _)
    bxV (Memref.isWhole_whole _) oV (Memref.isWhole_whole _) boxB (Memref.isWhole_whole _) idxB (Memref.isWhole_whole _)
    gB (Memref.isWhole_whole _) cc0_scratch3 cc0_scoped0 cc0_scoped1 cc0_scoped2 cc0_scoped3 cc0_scoped4 cc0_scoped5

set_option maxHeartbeats 1600000 in
/-- The task of any tile: its rows of the result become those of `OUT`. -/
theorem tile_body (hF : (K (F := F)).Facts) (O : CellTallies nD τ sig (HIx 1)) (W : Waits sig (HIx 1)) (hO : ∀ g, O g none = 0) :
    iprop(levAts (K (F := F)).L (K (F := F)).lev ∗ emp
        ∗ pay a3 a4 a5 ab (qT (cL L) (iL L)) (tileSet (cL L) (iL L)) d (o0 d)
        ∗ scopedBufs (thr d L) ∗ scopedSems0 (thr d L) ∗ owes (thr d L) O W)
      ⊢ wp frame (wpE (defs₀ (F := F)) 𝒱₀ (thr d L) none) Set.univ (bodyAt (F := F) L)
          fun _ => iprop(pay a3 a4 a5 ab (qT (cL L) (iL L)) (tileSet (cL L) (iL L)) d (outOf a3 a4 a5 ab d)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hp3, Hp4, Hp5, Hbx, Ho⟩, ⟨⟨%g7, Hb7⟩, ⟨%g8, Hb8⟩, ⟨%g9, Hb9⟩, Hbufs⟩, ⟨HS, Hc0, Hc1, Hc2, Hc3, Hc4, Hc5, Hsems⟩, HO⟩
  by_cases hw : wn L < 16
  · obtain ⟨h1, hn2⟩ := cond_low L hw
    ihave Ho' := (Entails.of_eq (show ((oLoc d ↦[tileSet (cL L) (iL L)]{fullShare} o0 d) : sProp 𝕄) = _ from
      congrArg (fun I => (oLoc d ↦[I]{fullShare} o0 d : sProp 𝕄)) (low_union L h1))) $$ Ho
    ihave Ho'' := (pointsTo_union (low_disj L h1)).1 $$ Ho'
    icases Ho'' with ⟨Ho2, Ho4⟩
    iapply (wp_aside (F := F) d L iprop((p4Loc d ↦{qT (cL L) (iL L)} a4 d) ∗ semVal (dc d L cc0_scoped4.sem) 0 ∗ semVal (dc d L cc0_scoped5.sem) 0
        ∗ (bigSep ((((ownRefs (τ := τ) (.scVector (cV L) (jV L))).erase (db L cc0_scratch0)).erase (db L cc0_scratch1)).erase (db L cc0_scratch2))
              fun b => iprop(∃ f, ((d, b) : Loc nD τ sig) ↦{fullShare} f))
        ∗ bigSep (restCells d L) fun g => semVal g 0)
      (run_low d L h1 hn2 O W hO (qT (cL L) (iL L)) (qT (cL L) (iL L)) (qT (cL L) (iL L)) (a3 d) (a4 d) (a5 d) (ab d) g7 g8 g9 (o0 d)) (fun _ => ?_))
    · iintro ⟨⟨Hp3, Hp5, Hbx, Hb7, Hb8, Hb9, Ho2, Ho4, HS, Hc0, Hc1, Hc2, Hc3, HW⟩, Hp4, Hc4, Hc5, Hbufs, Hsems⟩
      isplitl [Hp3 Hp4 Hp5 Hbx Ho2 Ho4]
      · isplitl [Hp3]; · iexact Hp3
        isplitl [Hp4]; · iexact Hp4
        isplitl [Hp5]; · iexact Hp5
        isplitl [Hbx]; · iexact Hbx
        iapply (Entails.of_eq (show ((oLoc d ↦[tileSet (cL L) (iL L)]{fullShare} outOf a3 a4 a5 ab d) : sProp 𝕄) = _ from
          congrArg (fun I => (oLoc d ↦[I]{fullShare} outOf a3 a4 a5 ab d : sProp 𝕄)) (low_union L h1)).symm)
        iapply (pointsTo_union (low_disj L h1)).2
        isplitl [Ho2]; · iexact Ho2
        iexact Ho4
      isplitl [Hb7 Hb8 Hb9 Hbufs]
      · isplitl [Hb7]; · iexact Hb7
        isplitl [Hb8]; · iexact Hb8
        isplitl [Hb9]; · iexact Hb9
        iexact Hbufs
      isplitr [HW]
      · isplitl [HS]; · iexact HS
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        iexact Hsems
      iexact HW
    isplitl [Hp3 Hp5 Hbx Hb7 Hb8 Hb9 Ho2 Ho4 HS Hc0 Hc1 Hc2 Hc3 HO]
    · isplitr; · iexact Hlv
      isplitl [Hp3]; · iexact Hp3
      isplitl [Hp5]; · iexact Hp5
      isplitl [Hbx]; · iexact Hbx
      isplitl [Hb7]; · iexact Hb7
      isplitl [Hb8]; · iexact Hb8
      isplitl [Hb9]; · iexact Hb9
      isplitl [Ho2]; · iexact Ho2
      isplitl [Ho4]; · iexact Ho4
      isplitl [HS]; · iexact HS
      isplitl [Hc0]; · iexact Hc0
      isplitl [Hc1]; · iexact Hc1
      isplitl [Hc2]; · iexact Hc2
      isplitl [Hc3]; · iexact Hc3
      iexact HO
    isplitl [Hp4]; · iexact Hp4
    isplitl [Hc4]; · iexact Hc4
    isplitl [Hc5]; · iexact Hc5
    isplitl [Hbufs]; · iexact Hbufs
    iexact Hsems
  · obtain ⟨h2, hn1⟩ := cond_high L (by omega)
    ihave Ho' := (Entails.of_eq (show ((oLoc d ↦[tileSet (cL L) (iL L)]{fullShare} o0 d) : sProp 𝕄) = _ from
      congrArg (fun I => (oLoc d ↦[I]{fullShare} o0 d : sProp 𝕄)) (high_set L h2))) $$ Ho
    iapply (wp_aside (F := F) d L iprop((p3Loc d ↦{qT (cL L) (iL L)} a3 d) ∗ (p5Loc d ↦{qT (cL L) (iL L)} a5 d)
        ∗ semVal (dc d L cc0_scoped0.sem) 0 ∗ semVal (dc d L cc0_scoped1.sem) 0 ∗ semVal (dc d L cc0_scoped2.sem) 0 ∗ semVal (dc d L cc0_scoped3.sem) 0
        ∗ (bigSep ((((ownRefs (τ := τ) (.scVector (cV L) (jV L))).erase (db L cc0_scratch0)).erase (db L cc0_scratch1)).erase (db L cc0_scratch2))
              fun b => iprop(∃ f, ((d, b) : Loc nD τ sig) ↦{fullShare} f))
        ∗ bigSep (restCells d L) fun g => semVal g 0)
      (run_high d L h2 hn1 O W hO (qT (cL L) (iL L)) (qT (cL L) (iL L)) (a3 d) (a4 d) (a5 d) (ab d) g7 g8 g9 (o0 d)) (fun _ => ?_))
    · iintro ⟨⟨Hp4, Hbx, Hb7, Hb8, Hb9, Ho6, HS, Hc4, Hc5, HW⟩, Hp3, Hp5, Hc0, Hc1, Hc2, Hc3, Hbufs, Hsems⟩
      isplitl [Hp3 Hp4 Hp5 Hbx Ho6]
      · isplitl [Hp3]; · iexact Hp3
        isplitl [Hp4]; · iexact Hp4
        isplitl [Hp5]; · iexact Hp5
        isplitl [Hbx]; · iexact Hbx
        iapply (Entails.of_eq (show ((oLoc d ↦[tileSet (cL L) (iL L)]{fullShare} outOf a3 a4 a5 ab d) : sProp 𝕄) = _ from
          congrArg (fun I => (oLoc d ↦[I]{fullShare} outOf a3 a4 a5 ab d : sProp 𝕄)) (high_set L h2)).symm)
        iexact Ho6
      isplitl [Hb7 Hb8 Hb9 Hbufs]
      · isplitl [Hb7]; · iexact Hb7
        isplitl [Hb8]; · iexact Hb8
        isplitl [Hb9]; · iexact Hb9
        iexact Hbufs
      isplitr [HW]
      · isplitl [HS]; · iexact HS
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        iexact Hsems
      iexact HW
    isplitl [Hp4 Hbx Hb7 Hb8 Hb9 Ho' HS Hc4 Hc5 HO]
    · isplitr; · iexact Hlv
      isplitl [Hp4]; · iexact Hp4
      isplitl [Hbx]; · iexact Hbx
      isplitl [Hb7]; · iexact Hb7
      isplitl [Hb8]; · iexact Hb8
      isplitl [Hb9]; · iexact Hb9
      isplitl [Ho']; · iexact Ho'
      isplitl [HS]; · iexact HS
      isplitl [Hc4]; · iexact Hc4
      isplitl [Hc5]; · iexact Hc5
      iexact HO
    isplitl [Hp3]; · iexact Hp3
    isplitl [Hp5]; · iexact Hp5
    isplitl [Hc0]; · iexact Hc0
    isplitl [Hc1]; · iexact Hc1
    isplitl [Hc2]; · iexact Hc2
    isplitl [Hc3]; · iexact Hc3
    isplitl [Hbufs]; · iexact Hbufs
    iexact Hsems

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P a3 a4 a5 ab o0) v₀ 0 := by
  intro d c i O W hO _ _
  simp only [show (P a3 a4 a5 ab o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body a3 a4 a5 ab o0 d (coordsV ⟨_, hci.1⟩ ⟨_, hci.2⟩) hF O W hO).trans (wp_mono frame _ _ fun _ => obl_post)

end Pays

end Cert.Proof.Sc

end
-- ==== Proof.TcBody.lean ====
/-
  The TensorCore kernel's body: from its windows' buffers held whole it runs to its return, the inputs' buffers as they
  were and the four results' at functions of the inputs' contents.
-/
module

public import proofs.«01_k».proof.Proof.Gen.KernelIdeal.Skeleton
public import proofs.«01_k».proof.Proof.ScSetup

@[expose] public section

noncomputable section

namespace Cert.Proof.Tc

open Cert.KernelIdeal Cert.KernelIdeal.Gen
open Cert.Proof.Sc (UU)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What buffer `M` of core `c` holds, and the buffer held whole. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

set_option maxHeartbeats 4000000 in
set_option maxRecDepth 65536 in
/-- What the body leaves in the four results' buffers, with the run to it. -/
def bodyRun (c : Dev nD) (i : grid1.Coords) (M0 : Memref sig .tc .vmem S16x8x4096 .f32) (h0 : M0.IsWhole) (M1 : Memref sig .tc .vmem S16x8x1024 .f32) (h1 : M1.IsWhole) (M2 : Memref sig .tc .vmem S16x8x256 .f32) (h2 : M2.IsWhole) (M3 : Memref sig .tc .vmem S16x8 .f32) (h3 : M3.IsWhole) (M4 : Memref sig .tc .vmem S16x8 .f32) (h4 : M4.IsWhole) (M5 : Memref sig .tc .vmem S16x136 .f32) (h5 : M5.IsWhole) (M6 : Memref sig .tc .vmem S16x136 .f32) (h6 : M6.IsWhole) (M7 : Memref sig .tc .vmem S16x136 .f32) (h7 : M7.IsWhole) (M8 : Memref sig .tc .vmem S48x512 .f32) (h8 : M8.IsWhole) (M9 : Memref sig .tc .vmem S512x8 .f32) (h9 : M9.IsWhole) (M10 : Memref sig .tc .vmem S512x136 .f32) (h10 : M10.IsWhole) (M11 : Memref sig .tc .vmem S512x136 .f32) (h11 : M11.IsWhole) (M12 : Memref sig .tc .vmem S512x136 .f32) (h12 : M12.IsWhole) (M13 : Memref sig .tc .vmem S8x136 .f32) (h13 : M13.IsWhole) (M14 : Memref sig .tc .smem S1 .f32) (h14 : M14.IsWhole) (M15 : Memref sig .tc .smem S1 .f32) (h15 : M15.IsWhole) (M16 : Memref sig .tc .smem S1 .f32) (h16 : M16.IsWhole) (M17 : Memref sig .tc .smem S1 .f32) (h17 : M17.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) :
    { W : Bf (F := F) c M14 × Bf (F := F) c M15 × Bf (F := F) c M16 × Bf (F := F) c M17 //
      ∀ (f14 : Bf (F := F) c M14) (f15 : Bf (F := F) c M15) (f16 : Bf (F := F) c M16) (f17 : Bf (F := F) c M17) (E : Set ℕ) (Q : PUnit → sProp 𝕄),
        iprop((pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13) ∗ (pt c M14 f14 ∗ pt c M15 f15 ∗ pt c M16 f16 ∗ pt c M17 f17) ∗ (iprop((pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13) ∗ (pt c M14 W.1 ∗ pt c M15 W.2.1 ∗ pt c M16 W.2.2.1 ∗ pt c M17 W.2.2.2)) -∗ Q ⟨⟩))
          ⊢ wp frame (wpE (defs₀ (F := F)) Variants.none c none) E (cc1__tc_loss_body i M0 h0 M1 h1 M2 h2 M3 h3 M4 h4 M5 h5 M6 h6 M7 h7 M8 h8 M9 h9 M10 h10 M11 h11 M12 h12 M13 h13 M14 h14 M15 h15 M16 h16 M17 h17) Q } := by
  refine ⟨⟨?w14, ?w15, ?w16, ?w17⟩, fun f14 f15 f16 f17 E Q => ?run⟩
  case run =>
    rw [cc1__tc_loss_body_eq_skeleton]; unfold cc1__tc_loss_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
    unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel k1_part18_skel k1_part19_skel k1_part20_skel
    iintro ⟨⟨H0, H1, H2, H3, H4, H5, H6, H7, H8, H9, H10, H11, H12, H13⟩, ⟨H14, H15, H16, H17⟩, Hk⟩
    sl_exec!
    sl_step
    iapply Hk
    isplitl [H0 H1 H2 H3 H4 H5 H6 H7 H8 H9 H10 H11 H12 H13]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexact H14
    isplitl [H15]; · iexact H15
    isplitl [H16]; · iexact H16
    iexact H17

end Cert.Proof.Tc

end
-- ==== Proof.TcRegion.lean ====
/-
  The TensorCore kernel's region: its proof data at an entry valuation of the unscoped buffers, the body's obligation, and
  the region from that valuation to the one with the four results' arrays at what the body leaves.
-/
module

public import proofs.«01_k».proof.Proof.Gen.KernelIdeal.Launch
public import proofs.«01_k».proof.Proof.Gen.KernelIdeal.Points
public import Idealize.ShloMosaic.Lib.Pipeline.RegionsLoop
public import proofs.«01_k».proof.Proof.TcBody

@[expose] public section

noncomputable section

namespace Cert.Proof.Tc

open Cert.KernelIdeal Cert.KernelIdeal.Gen
open Cert.Proof.Sc (UU EP)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The proof data -/

variable (V : (c : Dev nD) → (b : Ref sig .tc) → Buf (Elt F) ((c : Thread nD τ).loc b))

/-- The windows' blocks as their fetches stage them. -/
theorem size0 : ∀ a, ((cfg1.win 0).xblock (cfg1.grid.coords t1_0)).size a = (cfg1.win 0).block.size a := by decide
abbrev stg0 (c : Dev nD) : (cfg1.win 0).block.Idx → Elt F (cfg1.win 0).elt := fun j =>
  ((cfg1.win 0).blk t1_0).view.read (Elt F) (V c (Pipeline.arrRef spec1 0)) fun a => ⟨(j a).val, lt_of_lt_of_eq (j a).isLt (size0 a).symm⟩
theorem size1 : ∀ a, ((cfg1.win 1).xblock (cfg1.grid.coords t1_0)).size a = (cfg1.win 1).block.size a := by decide
abbrev stg1 (c : Dev nD) : (cfg1.win 1).block.Idx → Elt F (cfg1.win 1).elt := fun j =>
  ((cfg1.win 1).blk t1_0).view.read (Elt F) (V c (Pipeline.arrRef spec1 1)) fun a => ⟨(j a).val, lt_of_lt_of_eq (j a).isLt (size1 a).symm⟩
theorem size2 : ∀ a, ((cfg1.win 2).xblock (cfg1.grid.coords t1_0)).size a = (cfg1.win 2).block.size a := by decide
abbrev stg2 (c : Dev nD) : (cfg1.win 2).block.Idx → Elt F (cfg1.win 2).elt := fun j =>
  ((cfg1.win 2).blk t1_0).view.read (Elt F) (V c (Pipeline.arrRef spec1 2)) fun a => ⟨(j a).val, lt_of_lt_of_eq (j a).isLt (size2 a).symm⟩
abbrev stg3 (c : Dev nD) : (cfg1.win 3).block.Idx → Elt F (cfg1.win 3).elt := ((cfg1.win 3).blk t1_0).view.read (Elt F) (V c (Pipeline.arrRef spec1 3))
abbrev stg4 (c : Dev nD) : (cfg1.win 4).block.Idx → Elt F (cfg1.win 4).elt := ((cfg1.win 4).blk t1_0).view.read (Elt F) (V c (Pipeline.arrRef spec1 4))
abbrev stg5 (c : Dev nD) : (cfg1.win 5).block.Idx → Elt F (cfg1.win 5).elt := ((cfg1.win 5).blk t1_0).view.read (Elt F) (V c (Pipeline.arrRef spec1 5))
abbrev stg6 (c : Dev nD) : (cfg1.win 6).block.Idx → Elt F (cfg1.win 6).elt := ((cfg1.win 6).blk t1_0).view.read (Elt F) (V c (Pipeline.arrRef spec1 6))
abbrev stg7 (c : Dev nD) : (cfg1.win 7).block.Idx → Elt F (cfg1.win 7).elt := ((cfg1.win 7).blk t1_0).view.read (Elt F) (V c (Pipeline.arrRef spec1 7))
abbrev stg8 (c : Dev nD) : (cfg1.win 8).block.Idx → Elt F (cfg1.win 8).elt := ((cfg1.win 8).blk t1_0).view.read (Elt F) (V c (Pipeline.arrRef spec1 8))
abbrev stg9 (c : Dev nD) : (cfg1.win 9).block.Idx → Elt F (cfg1.win 9).elt := ((cfg1.win 9).blk t1_0).view.read (Elt F) (V c (Pipeline.arrRef spec1 9))
abbrev stg10 (c : Dev nD) : (cfg1.win 10).block.Idx → Elt F (cfg1.win 10).elt := ((cfg1.win 10).blk t1_0).view.read (Elt F) (V c (Pipeline.arrRef spec1 10))
abbrev stg11 (c : Dev nD) : (cfg1.win 11).block.Idx → Elt F (cfg1.win 11).elt := ((cfg1.win 11).blk t1_0).view.read (Elt F) (V c (Pipeline.arrRef spec1 11))
abbrev stg12 (c : Dev nD) : (cfg1.win 12).block.Idx → Elt F (cfg1.win 12).elt := ((cfg1.win 12).blk t1_0).view.read (Elt F) (V c (Pipeline.arrRef spec1 12))
abbrev stg13 (c : Dev nD) : (cfg1.win 13).block.Idx → Elt F (cfg1.win 13).elt := ((cfg1.win 13).blk t1_0).view.read (Elt F) (V c (Pipeline.arrRef spec1 13))

/-- The body's run on the staged blocks. -/
abbrev runAt (c : Dev nD) := bodyRun (F := F) c (grid1.coords t1_0) (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) (stage1_8 0) (hstage1_8 0) (stage1_9 0) (hstage1_9 0) (stage1_10 0) (hstage1_10 0) (stage1_11 0) (hstage1_11 0) (stage1_12 0) (hstage1_12 0) (stage1_13 0) (hstage1_13 0) (stage1_14 0) (hstage1_14 0) (stage1_15 0) (hstage1_15 0) (stage1_16 0) (hstage1_16 0) (stage1_17 0) (hstage1_17 0)
  (stg0 V c) (stg1 V c) (stg2 V c) (stg3 V c) (stg4 V c) (stg5 V c) (stg6 V c) (stg7 V c) (stg8 V c) (stg9 V c) (stg10 V c) (stg11 V c) (stg12 V c) (stg13 V c)

/-- The pairs of an own cell and an index the core has waited on before the region. -/
def seen (c : Dev nD) : Set (SemLoc sig × HIx 1) := {p | (Sc.K (F := F)).lev ((c : Thread nD τ), p.1) p.2 ≤ 8}

def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => stg9 V c
    | ⟨10, _⟩ => stg10 V c
    | ⟨11, _⟩ => stg11 V c
    | ⟨12, _⟩ => stg12 V c
    | ⟨13, _⟩ => stg13 V c
    | ⟨14, _⟩ => (runAt V c).1.1
    | ⟨15, _⟩ => (runAt V c).1.2.1
    | ⟨16, _⟩ => (runAt V c).1.2.2.1
    | ⟨17, _⟩ => (runAt V c).1.2.2.2
    | ⟨k + 18, h⟩ => absurd (show k + 18 < 18 from h) (by omega)
  Φ _ := Pipeline.scopedRest (Ix := HIx 1) (Name := ℕ) (U := UU) (Lvl := ℕ) (Val := Elt F) spec1 c
  q _ := fullShare
  owed _ := 0
  recorded _ := seen (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_0 (c : Dev nD) (d : (cfg1.win 0).block.Idx → Elt F (cfg1.win 0).elt) : (dat V c).before 0 t1_0 d = stg0 V c := by
  unfold Dat.before; rw [if_pos (by decide)]
  unfold Dat.fetched Window.fill
  funext j
  exact dif_pos (((cfg1.win 0).moved_iff (cfg1.grid.coords t1_0) j).mpr fun a => lt_of_lt_of_eq (j a).isLt (size0 a).symm)
theorem before_1 (c : Dev nD) (d : (cfg1.win 1).block.Idx → Elt F (cfg1.win 1).elt) : (dat V c).before 1 t1_0 d = stg1 V c := by
  unfold Dat.before; rw [if_pos (by decide)]
  unfold Dat.fetched Window.fill
  funext j
  exact dif_pos (((cfg1.win 1).moved_iff (cfg1.grid.coords t1_0) j).mpr fun a => lt_of_lt_of_eq (j a).isLt (size1 a).symm)
theorem before_2 (c : Dev nD) (d : (cfg1.win 2).block.Idx → Elt F (cfg1.win 2).elt) : (dat V c).before 2 t1_0 d = stg2 V c := by
  unfold Dat.before; rw [if_pos (by decide)]
  unfold Dat.fetched Window.fill
  funext j
  exact dif_pos (((cfg1.win 2).moved_iff (cfg1.grid.coords t1_0) j).mpr fun a => lt_of_lt_of_eq (j a).isLt (size2 a).symm)
theorem before_3 (c : Dev nD) (d : (cfg1.win 3).block.Idx → Elt F (cfg1.win 3).elt) : (dat V c).before 3 t1_0 d = stg3 V c := by
  unfold Dat.before; rw [if_pos (by decide)]; rfl
theorem before_4 (c : Dev nD) (d : (cfg1.win 4).block.Idx → Elt F (cfg1.win 4).elt) : (dat V c).before 4 t1_0 d = stg4 V c := by
  unfold Dat.before; rw [if_pos (by decide)]; rfl
theorem before_5 (c : Dev nD) (d : (cfg1.win 5).block.Idx → Elt F (cfg1.win 5).elt) : (dat V c).before 5 t1_0 d = stg5 V c := by
  unfold Dat.before; rw [if_pos (by decide)]; rfl
theorem before_6 (c : Dev nD) (d : (cfg1.win 6).block.Idx → Elt F (cfg1.win 6).elt) : (dat V c).before 6 t1_0 d = stg6 V c := by
  unfold Dat.before; rw [if_pos (by decide)]; rfl
theorem before_7 (c : Dev nD) (d : (cfg1.win 7).block.Idx → Elt F (cfg1.win 7).elt) : (dat V c).before 7 t1_0 d = stg7 V c := by
  unfold Dat.before; rw [if_pos (by decide)]; rfl
theorem before_8 (c : Dev nD) (d : (cfg1.win 8).block.Idx → Elt F (cfg1.win 8).elt) : (dat V c).before 8 t1_0 d = stg8 V c := by
  unfold Dat.before; rw [if_pos (by decide)]; rfl
theorem before_9 (c : Dev nD) (d : (cfg1.win 9).block.Idx → Elt F (cfg1.win 9).elt) : (dat V c).before 9 t1_0 d = stg9 V c := by
  unfold Dat.before; rw [if_pos (by decide)]; rfl
theorem before_10 (c : Dev nD) (d : (cfg1.win 10).block.Idx → Elt F (cfg1.win 10).elt) : (dat V c).before 10 t1_0 d = stg10 V c := by
  unfold Dat.before; rw [if_pos (by decide)]; rfl
theorem before_11 (c : Dev nD) (d : (cfg1.win 11).block.Idx → Elt F (cfg1.win 11).elt) : (dat V c).before 11 t1_0 d = stg11 V c := by
  unfold Dat.before; rw [if_pos (by decide)]; rfl
theorem before_12 (c : Dev nD) (d : (cfg1.win 12).block.Idx → Elt F (cfg1.win 12).elt) : (dat V c).before 12 t1_0 d = stg12 V c := by
  unfold Dat.before; rw [if_pos (by decide)]; rfl
theorem before_13 (c : Dev nD) (d : (cfg1.win 13).block.Idx → Elt F (cfg1.win 13).elt) : (dat V c).before 13 t1_0 d = stg13 V c := by
  unfold Dat.before; rw [if_pos (by decide)]; rfl

theorem owns_elim (c : Dev nD) (b : Ref sig .tc) (X : b.ty.Contents (Elt F)) :
    (owns (c : Thread nD τ) (Memref.whole b) fullShare X : sProp 𝕄) ⊢ iprop(∃ f : Buf (Elt F) ((c : Thread nD τ).loc b), ⌜f = X⌝ ∗ ((c : Thread nD τ).loc b ↦{fullShare} f)) := by
  rw [owns_whole_eq]

theorem owns_intro (c : Dev nD) (b : Ref sig .tc) (X : b.ty.Contents (Elt F)) :
    ((c : Thread nD τ).loc b ↦{fullShare} X : sProp 𝕄) ⊢ owns (c : Thread nD τ) (Memref.whole b) fullShare X := by
  rw [owns_whole_eq]; iintro H; iexists X; isplitr
  · ipureintro; rfl
  iexact H

set_option maxHeartbeats 2000000 in
theorem body_obligation (c : Dev nD) : BodyObligation (dat V c) (defs₀ (F := F)) Variants.none (none : HIx 1) Set.univ := fun t => by
  obtain rfl := fin_N1 t
  rw [bigSep_W1, bigSep_W1]
  rw [show (dat V c).Φ t1_0.succ = (dat V c).Φ t1_0.castSucc from rfl,
    show (dat V c).owesAt (none : HIx 1) t1_0.succ = (dat V c).owesAt (none : HIx 1) t1_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave H0' := (show (owns (c : Thread nD τ) ((cfg1.win 0).stage (cfg1.slots t1_0 0)) fullShare ((dat V c).before 0 t1_0 d0) : sProp 𝕄) ⊢ _ from owns_elim c cc1_stg0_0 _) $$ H0
  icases H0' with ⟨%f0, %hf0, H0⟩
  ihave H1' := (show (owns (c : Thread nD τ) ((cfg1.win 1).stage (cfg1.slots t1_0 1)) fullShare ((dat V c).before 1 t1_0 d1) : sProp 𝕄) ⊢ _ from owns_elim c cc1_stg1_0 _) $$ H1
  icases H1' with ⟨%f1, %hf1, H1⟩
  ihave H2' := (show (owns (c : Thread nD τ) ((cfg1.win 2).stage (cfg1.slots t1_0 2)) fullShare ((dat V c).before 2 t1_0 d2) : sProp 𝕄) ⊢ _ from owns_elim c cc1_stg2_0 _) $$ H2
  icases H2' with ⟨%f2, %hf2, H2⟩
  ihave H3' := (show (owns (c : Thread nD τ) ((cfg1.win 3).stage (cfg1.slots t1_0 3)) fullShare ((dat V c).before 3 t1_0 d3) : sProp 𝕄) ⊢ _ from owns_elim c cc1_stg3_0 _) $$ H3
  icases H3' with ⟨%f3, %hf3, H3⟩
  ihave H4' := (show (owns (c : Thread nD τ) ((cfg1.win 4).stage (cfg1.slots t1_0 4)) fullShare ((dat V c).before 4 t1_0 d4) : sProp 𝕄) ⊢ _ from owns_elim c cc1_stg4_0 _) $$ H4
  icases H4' with ⟨%f4, %hf4, H4⟩
  ihave H5' := (show (owns (c : Thread nD τ) ((cfg1.win 5).stage (cfg1.slots t1_0 5)) fullShare ((dat V c).before 5 t1_0 d5) : sProp 𝕄) ⊢ _ from owns_elim c cc1_stg5_0 _) $$ H5
  icases H5' with ⟨%f5, %hf5, H5⟩
  ihave H6' := (show (owns (c : Thread nD τ) ((cfg1.win 6).stage (cfg1.slots t1_0 6)) fullShare ((dat V c).before 6 t1_0 d6) : sProp 𝕄) ⊢ _ from owns_elim c cc1_stg6_0 _) $$ H6
  icases H6' with ⟨%f6, %hf6, H6⟩
  ihave H7' := (show (owns (c : Thread nD τ) ((cfg1.win 7).stage (cfg1.slots t1_0 7)) fullShare ((dat V c).before 7 t1_0 d7) : sProp 𝕄) ⊢ _ from owns_elim c cc1_stg7_0 _) $$ H7
  icases H7' with ⟨%f7, %hf7, H7⟩
  ihave H8' := (show (owns (c : Thread nD τ) ((cfg1.win 8).stage (cfg1.slots t1_0 8)) fullShare ((dat V c).before 8 t1_0 d8) : sProp 𝕄) ⊢ _ from owns_elim c cc1_stg8_0 _) $$ H8
  icases H8' with ⟨%f8, %hf8, H8⟩
  ihave H9' := (show (owns (c : Thread nD τ) ((cfg1.win 9).stage (cfg1.slots t1_0 9)) fullShare ((dat V c).before 9 t1_0 d9) : sProp 𝕄) ⊢ _ from owns_elim c cc1_stg9_0 _) $$ H9
  icases H9' with ⟨%f9, %hf9, H9⟩
  ihave H10' := (show (owns (c : Thread nD τ) ((cfg1.win 10).stage (cfg1.slots t1_0 10)) fullShare ((dat V c).before 10 t1_0 d10) : sProp 𝕄) ⊢ _ from owns_elim c cc1_stg10_0 _) $$ H10
  icases H10' with ⟨%f10, %hf10, H10⟩
  ihave H11' := (show (owns (c : Thread nD τ) ((cfg1.win 11).stage (cfg1.slots t1_0 11)) fullShare ((dat V c).before 11 t1_0 d11) : sProp 𝕄) ⊢ _ from owns_elim c cc1_stg11_0 _) $$ H11
  icases H11' with ⟨%f11, %hf11, H11⟩
  ihave H12' := (show (owns (c : Thread nD τ) ((cfg1.win 12).stage (cfg1.slots t1_0 12)) fullShare ((dat V c).before 12 t1_0 d12) : sProp 𝕄) ⊢ _ from owns_elim c cc1_stg12_0 _) $$ H12
  icases H12' with ⟨%f12, %hf12, H12⟩
  ihave H13' := (show (owns (c : Thread nD τ) ((cfg1.win 13).stage (cfg1.slots t1_0 13)) fullShare ((dat V c).before 13 t1_0 d13) : sProp 𝕄) ⊢ _ from owns_elim c cc1_stg13_0 _) $$ H13
  icases H13' with ⟨%f13, %hf13, H13⟩
  ihave H14' := (show (owns (c : Thread nD τ) ((cfg1.win 14).stage (cfg1.slots t1_0 14)) fullShare ((dat V c).before 14 t1_0 d14) : sProp 𝕄) ⊢ _ from owns_elim c cc1_stg14_0 _) $$ H14
  icases H14' with ⟨%f14, -, H14⟩
  ihave H15' := (show (owns (c : Thread nD τ) ((cfg1.win 15).stage (cfg1.slots t1_0 15)) fullShare ((dat V c).before 15 t1_0 d15) : sProp 𝕄) ⊢ _ from owns_elim c cc1_stg15_0 _) $$ H15
  icases H15' with ⟨%f15, -, H15⟩
  ihave H16' := (show (owns (c : Thread nD τ) ((cfg1.win 16).stage (cfg1.slots t1_0 16)) fullShare ((dat V c).before 16 t1_0 d16) : sProp 𝕄) ⊢ _ from owns_elim c cc1_stg16_0 _) $$ H16
  icases H16' with ⟨%f16, -, H16⟩
  ihave H17' := (show (owns (c : Thread nD τ) ((cfg1.win 17).stage (cfg1.slots t1_0 17)) fullShare ((dat V c).before 17 t1_0 d17) : sProp 𝕄) ⊢ _ from owns_elim c cc1_stg17_0 _) $$ H17
  icases H17' with ⟨%f17, -, H17⟩
  rw [before_0] at hf0
  rw [before_1] at hf1
  rw [before_2] at hf2
  rw [before_3] at hf3
  rw [before_4] at hf4
  rw [before_5] at hf5
  rw [before_6] at hf6
  rw [before_7] at hf7
  rw [before_8] at hf8
  rw [before_9] at hf9
  rw [before_10] at hf10
  rw [before_11] at hf11
  rw [before_12] at hf12
  rw [before_13] at hf13
  subst hf0 hf1 hf2 hf3 hf4 hf5 hf6 hf7 hf8 hf9 hf10 hf11 hf12 hf13
  iapply ((runAt V c).2 f14 f15 f16 f17 Set.univ _)
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14 H15 H16 H17]
  · isplitl [H14]; · iexact H14
    isplitl [H15]; · iexact H15
    isplitl [H16]; · iexact H16
    iexact H17
  iintro ⟨⟨H0, H1, H2, H3, H4, H5, H6, H7, H8, H9, H10, H11, H12, H13⟩, ⟨H14, H15, H16, H17⟩⟩
  isplitl [HΦ]; · iexact HΦ
  isplitl [Howes]; · iexact Howes
  isplitl [H0]; · iapply (show (pt c (stage1_0 0) (stg0 V c) : sProp 𝕄) ⊢ (owns (c : Thread nD τ) ((cfg1.win 0).stage (cfg1.slots t1_0 0)) fullShare ((dat V c).after 0 t1_0) : sProp 𝕄) from owns_intro c cc1_stg0_0 _) $$ H0
  isplitl [H1]; · iapply (show (pt c (stage1_1 0) (stg1 V c) : sProp 𝕄) ⊢ (owns (c : Thread nD τ) ((cfg1.win 1).stage (cfg1.slots t1_0 1)) fullShare ((dat V c).after 1 t1_0) : sProp 𝕄) from owns_intro c cc1_stg1_0 _) $$ H1
  isplitl [H2]; · iapply (show (pt c (stage1_2 0) (stg2 V c) : sProp 𝕄) ⊢ (owns (c : Thread nD τ) ((cfg1.win 2).stage (cfg1.slots t1_0 2)) fullShare ((dat V c).after 2 t1_0) : sProp 𝕄) from owns_intro c cc1_stg2_0 _) $$ H2
  isplitl [H3]; · iapply (show (pt c (stage1_3 0) (stg3 V c) : sProp 𝕄) ⊢ (owns (c : Thread nD τ) ((cfg1.win 3).stage (cfg1.slots t1_0 3)) fullShare ((dat V c).after 3 t1_0) : sProp 𝕄) from owns_intro c cc1_stg3_0 _) $$ H3
  isplitl [H4]; · iapply (show (pt c (stage1_4 0) (stg4 V c) : sProp 𝕄) ⊢ (owns (c : Thread nD τ) ((cfg1.win 4).stage (cfg1.slots t1_0 4)) fullShare ((dat V c).after 4 t1_0) : sProp 𝕄) from owns_intro c cc1_stg4_0 _) $$ H4
  isplitl [H5]; · iapply (show (pt c (stage1_5 0) (stg5 V c) : sProp 𝕄) ⊢ (owns (c : Thread nD τ) ((cfg1.win 5).stage (cfg1.slots t1_0 5)) fullShare ((dat V c).after 5 t1_0) : sProp 𝕄) from owns_intro c cc1_stg5_0 _) $$ H5
  isplitl [H6]; · iapply (show (pt c (stage1_6 0) (stg6 V c) : sProp 𝕄) ⊢ (owns (c : Thread nD τ) ((cfg1.win 6).stage (cfg1.slots t1_0 6)) fullShare ((dat V c).after 6 t1_0) : sProp 𝕄) from owns_intro c cc1_stg6_0 _) $$ H6
  isplitl [H7]; · iapply (show (pt c (stage1_7 0) (stg7 V c) : sProp 𝕄) ⊢ (owns (c : Thread nD τ) ((cfg1.win 7).stage (cfg1.slots t1_0 7)) fullShare ((dat V c).after 7 t1_0) : sProp 𝕄) from owns_intro c cc1_stg7_0 _) $$ H7
  isplitl [H8]; · iapply (show (pt c (stage1_8 0) (stg8 V c) : sProp 𝕄) ⊢ (owns (c : Thread nD τ) ((cfg1.win 8).stage (cfg1.slots t1_0 8)) fullShare ((dat V c).after 8 t1_0) : sProp 𝕄) from owns_intro c cc1_stg8_0 _) $$ H8
  isplitl [H9]; · iapply (show (pt c (stage1_9 0) (stg9 V c) : sProp 𝕄) ⊢ (owns (c : Thread nD τ) ((cfg1.win 9).stage (cfg1.slots t1_0 9)) fullShare ((dat V c).after 9 t1_0) : sProp 𝕄) from owns_intro c cc1_stg9_0 _) $$ H9
  isplitl [H10]; · iapply (show (pt c (stage1_10 0) (stg10 V c) : sProp 𝕄) ⊢ (owns (c : Thread nD τ) ((cfg1.win 10).stage (cfg1.slots t1_0 10)) fullShare ((dat V c).after 10 t1_0) : sProp 𝕄) from owns_intro c cc1_stg10_0 _) $$ H10
  isplitl [H11]; · iapply (show (pt c (stage1_11 0) (stg11 V c) : sProp 𝕄) ⊢ (owns (c : Thread nD τ) ((cfg1.win 11).stage (cfg1.slots t1_0 11)) fullShare ((dat V c).after 11 t1_0) : sProp 𝕄) from owns_intro c cc1_stg11_0 _) $$ H11
  isplitl [H12]; · iapply (show (pt c (stage1_12 0) (stg12 V c) : sProp 𝕄) ⊢ (owns (c : Thread nD τ) ((cfg1.win 12).stage (cfg1.slots t1_0 12)) fullShare ((dat V c).after 12 t1_0) : sProp 𝕄) from owns_intro c cc1_stg12_0 _) $$ H12
  isplitl [H13]; · iapply (show (pt c (stage1_13 0) (stg13 V c) : sProp 𝕄) ⊢ (owns (c : Thread nD τ) ((cfg1.win 13).stage (cfg1.slots t1_0 13)) fullShare ((dat V c).after 13 t1_0) : sProp 𝕄) from owns_intro c cc1_stg13_0 _) $$ H13
  isplitl [H14]; · iapply (show (pt c (stage1_14 0) (runAt V c).1.1 : sProp 𝕄) ⊢ (owns (c : Thread nD τ) ((cfg1.win 14).stage (cfg1.slots t1_0 14)) fullShare ((dat V c).after 14 t1_0) : sProp 𝕄) from owns_intro c cc1_stg14_0 _) $$ H14
  isplitl [H15]; · iapply (show (pt c (stage1_15 0) (runAt V c).1.2.1 : sProp 𝕄) ⊢ (owns (c : Thread nD τ) ((cfg1.win 15).stage (cfg1.slots t1_0 15)) fullShare ((dat V c).after 15 t1_0) : sProp 𝕄) from owns_intro c cc1_stg15_0 _) $$ H15
  isplitl [H16]; · iapply (show (pt c (stage1_16 0) (runAt V c).1.2.2.1 : sProp 𝕄) ⊢ (owns (c : Thread nD τ) ((cfg1.win 16).stage (cfg1.slots t1_0 16)) fullShare ((dat V c).after 16 t1_0) : sProp 𝕄) from owns_intro c cc1_stg16_0 _) $$ H16
  iapply (show (pt c (stage1_17 0) (runAt V c).1.2.2.2 : sProp 𝕄) ⊢ (owns (c : Thread nD τ) ((cfg1.win 17).stage (cfg1.slots t1_0 17)) fullShare ((dat V c).after 17 t1_0) : sProp 𝕄) from owns_intro c cc1_stg17_0 _) $$ H17

/-! ## The region -/

abbrev L₀ : GSem nD τ sig → Finset (HIx 1) := fun _ => ∅
abbrev lv₀ : GSem nD τ sig → HIx 1 → ℕ := fun _ _ => 0

/-- Result `j`'s array after the region. -/
def out14 (c : Dev nD) : Buf (Elt F) ((c : Thread nD τ).loc main_v21_0) := (dat V c).arrAt 14 cfg1.N
def out15 (c : Dev nD) : Buf (Elt F) ((c : Thread nD τ).loc main_v21_1) := (dat V c).arrAt 15 cfg1.N
def out16 (c : Dev nD) : Buf (Elt F) ((c : Thread nD τ).loc main_v21_2) := (dat V c).arrAt 16 cfg1.N
def out17 (c : Dev nD) : Buf (Elt F) ((c : Thread nD τ).loc main_v21_3) := (dat V c).arrAt 17 cfg1.N

variable (Vp : (c : Dev nD) → (b : Ref sig .tc) → Buf (Elt F) ((c : Thread nD τ).loc b))

set_option backward.isDefEq.respectTransparency.types false in
def reg (h14 : ∀ c, Vp c main_v21_0 = out14 V c) (h15 : ∀ c, Vp c main_v21_1 = out15 V c) (h16 : ∀ c, Vp c main_v21_2 = out16 V c) (h17 : ∀ c, Vp c main_v21_3 = out17 V c)
    (hne : ∀ c (b : Ref sig .tc), b ≠ main_v21_0 → b ≠ main_v21_1 → b ≠ main_v21_2 → b ≠ main_v21_3 → Vp c b = V c b) :
    Pipeline.RegionSeg (pcfgs (F := F)) adm (pdats V) (none : HIx 1) defs₀ Variants.none L₀ lv₀ 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ L₀ lv₀ 0 fun _ _ => rfl
  pre c := iprop(unscopedBufs c (V c) ∗ ∃ W : Waits sig (HIx 1), ⌜(W : Set (SemLoc sig × HIx 1)) ⊆ seen (F := F) c⌝ ∗ owes (c : Thread nD τ) (0 : CellTallies nD τ sig (HIx 1)) W)
  post c := iprop(unscopedBufs c (Vp c) ∗ ∃ W : Waits sig (HIx 1), ⌜(W : Set (SemLoc sig × HIx 1)) ⊆ seen (F := F) c⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c (Pipeline.arrRef spec1 0) (by decide) (by decide) (by decide) (by decide)).symm
        · exact ((pdats V 0 c).arrAt_in 1 rfl _).trans (hne c (Pipeline.arrRef spec1 1) (by decide) (by decide) (by decide) (by decide)).symm
        · exact ((pdats V 0 c).arrAt_in 2 rfl _).trans (hne c (Pipeline.arrRef spec1 2) (by decide) (by decide) (by decide) (by decide)).symm
        · exact ((pdats V 0 c).arrAt_in 3 rfl _).trans (hne c (Pipeline.arrRef spec1 3) (by decide) (by decide) (by decide) (by decide)).symm
        · exact ((pdats V 0 c).arrAt_in 4 rfl _).trans (hne c (Pipeline.arrRef spec1 4) (by decide) (by decide) (by decide) (by decide)).symm
        · exact ((pdats V 0 c).arrAt_in 5 rfl _).trans (hne c (Pipeline.arrRef spec1 5) (by decide) (by decide) (by decide) (by decide)).symm
        · exact ((pdats V 0 c).arrAt_in 6 rfl _).trans (hne c (Pipeline.arrRef spec1 6) (by decide) (by decide) (by decide) (by decide)).symm
        · exact ((pdats V 0 c).arrAt_in 7 rfl _).trans (hne c (Pipeline.arrRef spec1 7) (by decide) (by decide) (by decide) (by decide)).symm
        · exact ((pdats V 0 c).arrAt_in 8 rfl _).trans (hne c (Pipeline.arrRef spec1 8) (by decide) (by decide) (by decide) (by decide)).symm
        · exact ((pdats V 0 c).arrAt_in 9 rfl _).trans (hne c (Pipeline.arrRef spec1 9) (by decide) (by decide) (by decide) (by decide)).symm
        · exact ((pdats V 0 c).arrAt_in 10 rfl _).trans (hne c (Pipeline.arrRef spec1 10) (by decide) (by decide) (by decide) (by decide)).symm
        · exact ((pdats V 0 c).arrAt_in 11 rfl _).trans (hne c (Pipeline.arrRef spec1 11) (by decide) (by decide) (by decide) (by decide)).symm
        · exact ((pdats V 0 c).arrAt_in 12 rfl _).trans (hne c (Pipeline.arrRef spec1 12) (by decide) (by decide) (by decide) (by decide)).symm
        · exact ((pdats V 0 c).arrAt_in 13 rfl _).trans (hne c (Pipeline.arrRef spec1 13) (by decide) (by decide) (by decide) (by decide)).symm
        · exact (h14 c).symm
        · exact (h15 c).symm
        · exact (h16 c).symm
        · exact (h17 c).symm)
      (fun b hb => hne c b (fun h => hb (h ▸ Finset.mem_image.mpr ⟨14, Finset.mem_univ _, rfl⟩)) (fun h => hb (h ▸ Finset.mem_image.mpr ⟨15, Finset.mem_univ _, rfl⟩))
        (fun h => hb (h ▸ Finset.mem_image.mpr ⟨16, Finset.mem_univ _, rfl⟩)) (fun h => hb (h ▸ Finset.mem_image.mpr ⟨17, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof.Tc

end
-- ==== Proof.ScLaunch.lean ====
/-
  The launch: the arrays split among the SparseCores and their tiles, and joined again; @main on the TensorCore, its host
  operations and the two calls; and the program's run from any memory.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.Gen.KernelIdeal
public import proofs.«01_k».proof.Proof.Gen.KernelIdeal.Skeleton
public import proofs.«01_k».proof.Proof.ScIdx
public import proofs.«01_k».proof.Proof.ScSetup
public import proofs.«01_k».proof.Proof.ScGather
public import proofs.«01_k».proof.Proof.ScSeg
public import proofs.«01_k».proof.Proof.ScFour
public import proofs.«01_k».proof.Proof.ScVal
public import proofs.«01_k».proof.Proof.ScRow
public import proofs.«01_k».proof.Proof.ScTask
public import proofs.«01_k».proof.Proof.TcRegion

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ
variable [FloatOps F]

/-! ## The arrays among the SparseCores and their tiles -/

section Split

variable (a3 : (d : Dev nD) → Buf (Elt F) (p3Loc d)) (a4 : (d : Dev nD) → Buf (Elt F) (p4Loc d)) (a5 : (d : Dev nD) → Buf (Elt F) (p5Loc d))
  (ab : (d : Dev nD) → Buf (Elt F) (bxLoc d)) (o0 : (d : Dev nD) → Buf (Elt F) (oLoc d))

omit [FloatOps F] in
theorem pay_tiles (c : Fin 2) (d : Dev nD) (f : Buf (Elt F) (oLoc d)) :
    (pay a3 a4 a5 ab (qC c) (coreSet c) d f : sProp 𝕄) = bigSep Finset.univ fun i : Fin 16 => pay a3 a4 a5 ab (qT c i) (tileSet c i) d f := by
  unfold pay
  rw [bigSep_sep', bigSep_sep', bigSep_sep', bigSep_sep', ← tileSet_cover c,
    pointsTo_biUnion Finset.univ (ℓ := oLoc d) (tileSet c) (fun i _ i' _ h => tileSet_disj c i i' h),
    pointsTo_piecesOf (ℓ := p3Loc d) Finset.univ (a3 d) (o := 16) (by decide) (qC c), pointsTo_piecesOf (ℓ := p4Loc d) Finset.univ (a4 d) (o := 16) (by decide) (qC c),
    pointsTo_piecesOf (ℓ := p5Loc d) Finset.univ (a5 d) (o := 16) (by decide) (qC c), pointsTo_piecesOf (ℓ := bxLoc d) Finset.univ (ab d) (o := 16) (by decide) (qC c)]

omit [FloatOps F] in
theorem pay_cores (d : Dev nD) (f : Buf (Elt F) (oLoc d)) :
    (pay a3 a4 a5 ab fullShare Finset.univ d f : sProp 𝕄) = bigSep Finset.univ fun c : Fin 2 => pay a3 a4 a5 ab (qC c) (coreSet c) d f := by
  unfold pay
  rw [bigSep_sep', bigSep_sep', bigSep_sep', bigSep_sep', ← coreSet_cover,
    pointsTo_biUnion Finset.univ (ℓ := oLoc d) coreSet (fun c _ c' _ h => coreSet_disj c c' h),
    pointsTo_piecesOf (ℓ := p3Loc d) Finset.univ (a3 d) (o := 2) (by decide) fullShare, pointsTo_piecesOf (ℓ := p4Loc d) Finset.univ (a4 d) (o := 2) (by decide) fullShare,
    pointsTo_piecesOf (ℓ := p5Loc d) Finset.univ (a5 d) (o := 2) (by decide) fullShare, pointsTo_piecesOf (ℓ := bxLoc d) Finset.univ (ab d) (o := 2) (by decide) fullShare]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P a3 a4 a5 ab o0) 0 := by
  intro d c
  show pay a3 a4 a5 ab (qC (Fin.cast nCore_zero c)) (coreSet (Fin.cast nCore_zero c)) d (o0 d) ⊢ |={Set.univ}=> iprop(
      (bigSep Finset.univ fun i : Fin ((K (F := F)).nSub 0) =>
        pay a3 a4 a5 ab (qT (Fin.cast nCore_zero c) (Fin.cast nSub_zero i)) (tileSet (Fin.cast nCore_zero c) (Fin.cast nSub_zero i)) d (o0 d))
      ∗ ((bigSep Finset.univ fun i : Fin ((K (F := F)).nSub 0) =>
        pay a3 a4 a5 ab (qT (Fin.cast nCore_zero c) (Fin.cast nSub_zero i)) (tileSet (Fin.cast nCore_zero c) (Fin.cast nSub_zero i)) d (outOf a3 a4 a5 ab d))
          -∗ pay a3 a4 a5 ab (qC (Fin.cast nCore_zero c)) (coreSet (Fin.cast nCore_zero c)) d (outOf a3 a4 a5 ab d)))
  rw [bigSep_tasks (F := F) (fun i => pay a3 a4 a5 ab (qT (Fin.cast nCore_zero c) i) (tileSet (Fin.cast nCore_zero c) i) d (o0 d)),
    bigSep_tasks (F := F) (fun i => pay a3 a4 a5 ab (qT (Fin.cast nCore_zero c) i) (tileSet (Fin.cast nCore_zero c) i) d (outOf a3 a4 a5 ab d)),
    ← pay_tiles, ← pay_tiles]
  iintro H; imodintro
  isplitl [H]; · iexact H
  iintro H; iexact H

theorem st0_eq (d : Dev nD) : (bigSep Finset.univ fun c : Fin ((K (F := F)).nCore 0) => (P a3 a4 a5 ab o0).st 0 d c)
    = (pay a3 a4 a5 ab fullShare Finset.univ d (o0 d) : sProp 𝕄) := by
  rw [pay_cores]
  exact bigSep_cores (F := F) (fun c => pay a3 a4 a5 ab (qC c) (coreSet c) d (o0 d))

theorem dn0_eq (d : Dev nD) : (bigSep Finset.univ fun c : Fin ((K (F := F)).nCore 0) => (P a3 a4 a5 ab o0).dn 0 d c)
    = (pay a3 a4 a5 ab fullShare Finset.univ d (outOf a3 a4 a5 ab d) : sProp 𝕄) := by
  rw [pay_cores]
  exact bigSep_cores (F := F) (fun c => pay a3 a4 a5 ab (qC c) (coreSet c) d (outOf a3 a4 a5 ab d))

/-! ## The launch element of the certificate's ghost state -/

def u₀ : UU := (initOf (K (F := F)).hsCells (K (F := F)).hsToks,
  (initOf (Pipeline.cells (nD := nD) (τ := τ) (Pipeline.pin (pcfgs (F := F)) Tc.adm) cellOf_inj) (Pipeline.launchToks (nD := nD) (τ := τ) (Pipeline.pin (pcfgs (F := F)) Tc.adm) cellOf_inj), 1))

/-- What the pipeline of device `d`'s TensorCore starts from. -/
abbrev G (d : Dev nD) : sProp 𝕄 :=
  iprop(Pipeline.cellsGhost (nD := nD) (τ := τ) (Pipeline.pin (pcfgs (F := F)) Tc.adm) EP 0 d ∗ Pipeline.toksInit (nD := nD) (τ := τ) (Pipeline.pin (pcfgs (F := F)) Tc.adm) EP 0 d)

omit [FloatOps F] in
/-- Nothing for each of many is nothing. -/
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (P a3 a4 a5 ab o0).x q thr) := by
  unfold u₀
  iintro Hu
  ihave H := (ownU_pair (initOf (K (F := F)).hsCells (K (F := F)).hsToks)
    ((initOf (Pipeline.cells (nD := nD) (τ := τ) (Pipeline.pin (pcfgs (F := F)) Tc.adm) cellOf_inj) (Pipeline.launchToks (nD := nD) (τ := τ) (Pipeline.pin (pcfgs (F := F)) Tc.adm) cellOf_inj), 1) : UR sig nD τ × Counters)) $$ Hu
  icases H with ⟨HH, HP⟩
  ihave HP' := (show (BI.own (embR ((initOf (Pipeline.cells (nD := nD) (τ := τ) (Pipeline.pin (pcfgs (F := F)) Tc.adm) cellOf_inj) (Pipeline.launchToks (nD := nD) (τ := τ) (Pipeline.pin (pcfgs (F := F)) Tc.adm) cellOf_inj), 1) : UR sig nD τ × Counters)) : sProp 𝕄) ⊢ (BI.own (EP (initOf (Pipeline.cells (nD := nD) (τ := τ) (Pipeline.pin (pcfgs (F := F)) Tc.adm) cellOf_inj) (Pipeline.launchToks (nD := nD) (τ := τ) (Pipeline.pin (pcfgs (F := F)) Tc.adm) cellOf_inj))) : sProp 𝕄) from .rfl) $$ HP
  imod (Pipeline.fund_ghost (nD := nD) (τ := τ) (Pipeline.pin (pcfgs (F := F)) Tc.adm) EP cellOf_inj) $$ HP' with ⟨Hg, Ht⟩
  imodintro
  isplitl [HH]; · iexact HH
  isplitl [Hg Ht]
  · rw [show (bigSep Finset.univ (G (F := F)) : sProp 𝕄) = iprop((bigSep Finset.univ fun c : Dev nD => bigSep Finset.univ fun p : Fin 1 => Pipeline.cellsGhost (nD := nD) (τ := τ) (Pipeline.pin (pcfgs (F := F)) Tc.adm) EP p c)
        ∗ (bigSep Finset.univ fun c : Dev nD => bigSep Finset.univ fun p : Fin 1 => Pipeline.toksInit (nD := nD) (τ := τ) (Pipeline.pin (pcfgs (F := F)) Tc.adm) EP p c)) from by
      rw [← bigSep_sep']
      exact bigSep_congr fun c _ => by rw [bigSep_univ_of_subsingleton (0 : Fin 1), bigSep_univ_of_subsingleton (0 : Fin 1)]]
    isplitl [Hg] <;> iassumption
  rw [show (bigSep Finset.univ fun thr : Thread nD τ => bigSep Finset.univ fun q : Fin 1 => (P (F := F) a3 a4 a5 ab o0).x q thr) = bigSep Finset.univ fun _ => iprop(emp) from
    bigSep_congr fun _ _ => bigSep_univ_of_subsingleton (0 : Fin 1), bigSep_none]
  iempintro

end Split

/-! ## @main on the TensorCore -/

/-- The host operations before the SparseCore call: the tables and the arguments as lists of words. -/
def ops1 : List (HloOp τ sig (Elt F)) :=
  [StableHlo.nullary main_cst (fun i => FloatOps.ofBits .f32 (lit0 (S512x8.rowMajor i))),
   StableHlo.nullary main_cst_0 (fun i => FloatOps.ofBits .f32 (lit1 (S512x136.rowMajor i))),
   StableHlo.nullary main_cst_1 (fun i => FloatOps.ofBits .f32 (lit2 (S512x136.rowMajor i))),
   StableHlo.nullary main_cst_2 (fun i => FloatOps.ofBits .f32 (lit3 (S512x136.rowMajor i))),
   StableHlo.nullary main_cst_3 (fun i => FloatOps.ofBits .f32 (lit4 (S8x136.rowMajor i))),
   StableHlo.reshape main_arg0 main_v0 (rfl : (.f32 : EltTy) = .f32) shapeCasts_S16x53x64x64_S3473408,
   StableHlo.reshape main_arg1 main_v1 (rfl : (.f32 : EltTy) = .f32) shapeCasts_S16x53x32x32_S868352,
   StableHlo.reshape main_arg2 main_v2 (rfl : (.f32 : EltTy) = .f32) shapeCasts_S16x53x16x16_S217088,
   StableHlo.reshape main_arg3 main_v3 (rfl : (.f32 : EltTy) = .f32) shapeCasts_S16x8x4_S512]

/-- Those between the two calls: the arguments as the windows take them. -/
def ops2 : List (HloOp τ sig (Elt F)) :=
  [StableHlo.reshape main_arg0 main_v5 (rfl : (.f32 : EltTy) = .f32) shapeCasts_S16x53x64x64_S16x53x4096,
   StableHlo.reshape main_arg1 main_v6 (rfl : (.f32 : EltTy) = .f32) shapeCasts_S16x53x32x32_S16x53x1024,
   StableHlo.reshape main_arg2 main_v7 (rfl : (.f32 : EltTy) = .f32) shapeCasts_S16x53x16x16_S16x53x256,
   StableHlo.unary main_arg3 main_v8 ((extractStridedSlice S16x8x1 ![0, 0, 0] · slices_S16x8x4_S16x8x1_0_0_0) : (⟨S16x8x4, .f32⟩ : BufTy).Contents (Elt F) → (⟨S16x8x1, .f32⟩ : BufTy).Contents (Elt F)),
   StableHlo.reshape main_v8 main_v9 (rfl : (.f32 : EltTy) = .f32) shapeCasts_S16x8x1_S16x8,
   StableHlo.unary main_arg3 main_v10 ((extractStridedSlice S16x8x1 ![0, 0, 1] · slices_S16x8x4_S16x8x1_0_0_1) : (⟨S16x8x4, .f32⟩ : BufTy).Contents (Elt F) → (⟨S16x8x1, .f32⟩ : BufTy).Contents (Elt F)),
   StableHlo.reshape main_v10 main_v11 (rfl : (.f32 : EltTy) = .f32) shapeCasts_S16x8x1_S16x8,
   StableHlo.unary main_arg5 main_v12 ((extractStridedSlice S16x8x17x1 ![0, 0, 0, 0] · slices_S16x8x17x3_S16x8x17x1_0_0_0_0) : (⟨S16x8x17x3, .f32⟩ : BufTy).Contents (Elt F) → (⟨S16x8x17x1, .f32⟩ : BufTy).Contents (Elt F)),
   StableHlo.reshape main_v12 main_v13 (rfl : (.f32 : EltTy) = .f32) shapeCasts_S16x8x17x1_S16x8x17,
   StableHlo.reshape main_v13 main_v14 (rfl : (.f32 : EltTy) = .f32) shapeCasts_S16x8x17_S16x136,
   StableHlo.unary main_arg5 main_v15 ((extractStridedSlice S16x8x17x1 ![0, 0, 0, 1] · slices_S16x8x17x3_S16x8x17x1_0_0_0_1) : (⟨S16x8x17x3, .f32⟩ : BufTy).Contents (Elt F) → (⟨S16x8x17x1, .f32⟩ : BufTy).Contents (Elt F)),
   StableHlo.reshape main_v15 main_v16 (rfl : (.f32 : EltTy) = .f32) shapeCasts_S16x8x17x1_S16x8x17,
   StableHlo.reshape main_v16 main_v17 (rfl : (.f32 : EltTy) = .f32) shapeCasts_S16x8x17_S16x136,
   StableHlo.unary main_arg5 main_v18 ((extractStridedSlice S16x8x17x1 ![0, 0, 0, 2] · slices_S16x8x17x3_S16x8x17x1_0_0_0_2) : (⟨S16x8x17x3, .f32⟩ : BufTy).Contents (Elt F) → (⟨S16x8x17x1, .f32⟩ : BufTy).Contents (Elt F)),
   StableHlo.reshape main_v18 main_v19 (rfl : (.f32 : EltTy) = .f32) shapeCasts_S16x8x17x1_S16x8x17,
   StableHlo.reshape main_v19 main_v20 (rfl : (.f32 : EltTy) = .f32) shapeCasts_S16x8x17_S16x136]

/-- Those after the calls: the two results. -/
def ops3 : List (HloOp τ sig (Elt F)) :=
  [StableHlo.reshape main_v21_0 main_v22 (rfl : (.f32 : EltTy) = .f32) shapeCasts_S1_S_,
   StableHlo.reshape main_v21_1 main_v23 (rfl : (.f32 : EltTy) = .f32) shapeCasts_S1_S_,
   StableHlo.reshape main_v21_2 main_v24 (rfl : (.f32 : EltTy) = .f32) shapeCasts_S1_S_,
   StableHlo.reshape main_v21_3 main_v25 (rfl : (.f32 : EltTy) = .f32) shapeCasts_S1_S_]

theorem main_eq (d : Dev nD) : main (F := F) d = StableHlo.seq ops1 >>= fun _ => (sc (F := F)).run d 0 >>= fun _ => StableHlo.seq ops2 >>= fun _ =>
    Prog.lift (.customCall (SparseCore.inner (Pipeline.entry 0)) ()) >>= fun _ => StableHlo.seq ops3 >>= fun _ => pure ⟨⟩ := by
  simp only [main, ops1, ops2, ops3, StableHlo.seq, bind_assoc, pure_bind]

abbrev UC : Finset (DevRef τ sig) := Pipeline.ucRefs τ sig

theorem ops1_sub : ∀ op ∈ ops1 (F := F), op.bufs ⊆ UC := by
  simp only [ops1, List.forall_mem_cons, List.not_mem_nil, false_implies, implies_true, and_true]
  refine ⟨?_, ?_, ?_, ?_, ?_, ?_, ?_, ?_, ?_⟩
  all_goals exact Pipeline.sub_ucRefs _ (by simp)
theorem ops1_fresh : ∀ op ∈ ops1 (F := F), op.fresh = ∅ := by
  simp only [ops1, List.forall_mem_cons, List.not_mem_nil, false_implies, implies_true, and_true]
  refine ⟨?_, ?_, ?_, ?_, ?_, ?_, ?_, ?_, ?_⟩
  all_goals rfl

theorem ops2_sub : ∀ op ∈ ops2 (F := F), op.bufs ⊆ UC := by
  simp only [ops2, List.forall_mem_cons, List.not_mem_nil, false_implies, implies_true, and_true]
  refine ⟨?_, ?_, ?_, ?_, ?_, ?_, ?_, ?_, ?_, ?_, ?_, ?_, ?_, ?_, ?_, ?_⟩
  all_goals exact Pipeline.sub_ucRefs _ (by simp)
theorem ops2_fresh : ∀ op ∈ ops2 (F := F), op.fresh = ∅ := by
  simp only [ops2, List.forall_mem_cons, List.not_mem_nil, false_implies, implies_true, and_true]
  refine ⟨?_, ?_, ?_, ?_, ?_, ?_, ?_, ?_, ?_, ?_, ?_, ?_, ?_, ?_, ?_, ?_⟩
  all_goals rfl

theorem ops3_sub : ∀ op ∈ ops3 (F := F), op.bufs ⊆ UC := by
  simp only [ops3, List.forall_mem_cons, List.not_mem_nil, false_implies, implies_true, and_true]
  refine ⟨?_, ?_, ?_, ?_⟩
  all_goals exact Pipeline.sub_ucRefs _ (by simp)
theorem ops3_fresh : ∀ op ∈ ops3 (F := F), op.fresh = ∅ := by
  simp only [ops3, List.forall_mem_cons, List.not_mem_nil, false_implies, implies_true, and_true]
  refine ⟨?_, ?_, ?_, ?_⟩
  all_goals rfl

variable (m : (ℓ : Loc nD τ sig) → Buf (Elt F) ℓ) (ρ : Dev nD → PrngReg)

abbrev dv (b : Ref sig .tc) : DevRef τ sig := Proc.devRef .tc b

/-- Argument 0 as one list of words. -/
def a3 (d : Dev nD) : Buf (Elt F) (p3Loc d) := shapeCast S3473408 (m ((SparseCore.T d).loc main_arg0)) shapeCasts_S16x53x64x64_S3473408
/-- Argument 1 as one list of words. -/
def a4 (d : Dev nD) : Buf (Elt F) (p4Loc d) := shapeCast S868352 (m ((SparseCore.T d).loc main_arg1)) shapeCasts_S16x53x32x32_S868352
/-- Argument 2 as one list of words. -/
def a5 (d : Dev nD) : Buf (Elt F) (p5Loc d) := shapeCast S217088 (m ((SparseCore.T d).loc main_arg2)) shapeCasts_S16x53x16x16_S217088
/-- Argument 3 as one list of words. -/
def ab (d : Dev nD) : Buf (Elt F) (bxLoc d) := shapeCast S512 (m ((SparseCore.T d).loc main_arg3)) shapeCasts_S16x8x4_S512

/-- The gathered rows, of the launch memory's arguments. -/
def res (d : Dev nD) : Buf (Elt F) (oLoc d) := outOf (a3 m) (a4 m) (a5 m) (ab m) d

/-- The TensorCore's buffers at the launch, before the first call, after it, before the second call, after it, at the end. -/
def V0 (d : Dev nD) : Valuation τ sig (Elt F) := fun b => m (d, b)
def V1 (d : Dev nD) : Valuation τ sig (Elt F) := StableHlo.after ops1 (V0 m d)
def V2 (d : Dev nD) : Valuation τ sig (Elt F) := Function.update (V1 m d) (dv main_v4) (res m d)
def V3 (d : Dev nD) : Valuation τ sig (Elt F) := StableHlo.after ops2 (V2 m d)
def V3t : (c : Dev nD) → (b : Ref sig .tc) → Buf (Elt F) ((c.tc : Thread nD τ).loc b) := fun c b => V3 m c (dv b)
def V4 (d : Dev nD) : Valuation τ sig (Elt F) :=
  Function.update (Function.update (Function.update (Function.update (V3 m d) (dv main_v21_0) (Tc.out14 (V3t m) d)) (dv main_v21_1) (Tc.out15 (V3t m) d))
    (dv main_v21_2) (Tc.out16 (V3t m) d)) (dv main_v21_3) (Tc.out17 (V3t m) d)
def V4t : (c : Dev nD) → (b : Ref sig .tc) → Buf (Elt F) ((c.tc : Thread nD τ).loc b) := fun c b => V4 m c (dv b)
def V5 (d : Dev nD) : Valuation τ sig (Elt F) := StableHlo.after ops3 (V4 m d)

/-- What the host operations write. -/
theorem ops1_writes : (ops1 (F := F)).Forall fun op => op.writes ⊆ ([main_cst, main_cst_0, main_cst_1, main_cst_2, main_cst_3, main_v0, main_v1, main_v2, main_v3].map (Proc.devRef (τ := τ) .tc)).toFinset := by
  simp only [ops1, List.Forall]
  refine ⟨?_, ?_, ?_, ?_, ?_, ?_, ?_, ?_, ?_⟩
  · show ({dv main_cst} : Finset (DevRef τ sig)) ⊆ (([main_cst, main_cst_0, main_cst_1, main_cst_2, main_cst_3, main_v0, main_v1, main_v2, main_v3]).map (Proc.devRef (τ := τ) .tc)).toFinset; decide
  · show ({dv main_cst_0} : Finset (DevRef τ sig)) ⊆ (([main_cst, main_cst_0, main_cst_1, main_cst_2, main_cst_3, main_v0, main_v1, main_v2, main_v3]).map (Proc.devRef (τ := τ) .tc)).toFinset; decide
  · show ({dv main_cst_1} : Finset (DevRef τ sig)) ⊆ (([main_cst, main_cst_0, main_cst_1, main_cst_2, main_cst_3, main_v0, main_v1, main_v2, main_v3]).map (Proc.devRef (τ := τ) .tc)).toFinset; decide
  · show ({dv main_cst_2} : Finset (DevRef τ sig)) ⊆ (([main_cst, main_cst_0, main_cst_1, main_cst_2, main_cst_3, main_v0, main_v1, main_v2, main_v3]).map (Proc.devRef (τ := τ) .tc)).toFinset; decide
  · show ({dv main_cst_3} : Finset (DevRef τ sig)) ⊆ (([main_cst, main_cst_0, main_cst_1, main_cst_2, main_cst_3, main_v0, main_v1, main_v2, main_v3]).map (Proc.devRef (τ := τ) .tc)).toFinset; decide
  · show ({dv main_v0} : Finset (DevRef τ sig)) ⊆ (([main_cst, main_cst_0, main_cst_1, main_cst_2, main_cst_3, main_v0, main_v1, main_v2, main_v3]).map (Proc.devRef (τ := τ) .tc)).toFinset; decide
  · show ({dv main_v1} : Finset (DevRef τ sig)) ⊆ (([main_cst, main_cst_0, main_cst_1, main_cst_2, main_cst_3, main_v0, main_v1, main_v2, main_v3]).map (Proc.devRef (τ := τ) .tc)).toFinset; decide
  · show ({dv main_v2} : Finset (DevRef τ sig)) ⊆ (([main_cst, main_cst_0, main_cst_1, main_cst_2, main_cst_3, main_v0, main_v1, main_v2, main_v3]).map (Proc.devRef (τ := τ) .tc)).toFinset; decide
  · show ({dv main_v3} : Finset (DevRef τ sig)) ⊆ (([main_cst, main_cst_0, main_cst_1, main_cst_2, main_cst_3, main_v0, main_v1, main_v2, main_v3]).map (Proc.devRef (τ := τ) .tc)).toFinset; decide
theorem ops2_writes : (ops2 (F := F)).Forall fun op => op.writes ⊆ ([main_v5, main_v6, main_v7, main_v8, main_v9, main_v10, main_v11, main_v12, main_v13, main_v14, main_v15, main_v16, main_v17, main_v18, main_v19, main_v20].map (Proc.devRef (τ := τ) .tc)).toFinset := by
  simp only [ops2, List.Forall]
  refine ⟨?_, ?_, ?_, ?_, ?_, ?_, ?_, ?_, ?_, ?_, ?_, ?_, ?_, ?_, ?_, ?_⟩
  · show ({dv main_v5} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v6} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v7} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v8} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v9} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v10} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v11} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v12} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v13} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v14} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v15} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v16} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v17} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v18} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v19} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
  · show ({dv main_v20} : Finset (DevRef τ sig)) ⊆ (([main_v5, main_v6, main_v7, main_v8, main_v9, main_v10, main_v11, main_v12, main_v13, main_v14, main_v15, main_v16, main_v17, main_v18, main_v19, main_v20]).map (Proc.devRef (τ := τ) .tc)).toFinset; decide
theorem ops3_writes : (ops3 (F := F)).Forall fun op => op.writes ⊆ ([main_v22, main_v23, main_v24, main_v25].map (Proc.devRef (τ := τ) .tc)).toFinset := by
  simp only [ops3, List.Forall]
  refine ⟨?_, ?_, ?_, ?_⟩
  · show ({dv main_v22} : Finset (DevRef τ sig)) ⊆ (([main_v22, main_v23, main_v24, main_v25]).map (Proc.devRef (τ := τ) .tc)).toFinset; decide
  · show ({dv main_v23} : Finset (DevRef τ sig)) ⊆ (([main_v22, main_v23, main_v24, main_v25]).map (Proc.devRef (τ := τ) .tc)).toFinset; decide
  · show ({dv main_v24} : Finset (DevRef τ sig)) ⊆ (([main_v22, main_v23, main_v24, main_v25]).map (Proc.devRef (τ := τ) .tc)).toFinset; decide
  · show ({dv main_v25} : Finset (DevRef τ sig)) ⊆ (([main_v22, main_v23, main_v24, main_v25]).map (Proc.devRef (τ := τ) .tc)).toFinset; decide

/-- The first call's operands and result. -/
abbrev S5 : Finset (DevRef τ sig) := {dv main_v0, dv main_v1, dv main_v2, dv main_v3, dv main_v4}
theorem S5_sub : S5 ⊆ UC := by decide

omit [FloatOps F] in
theorem held_S5 (d : Dev nD) (W : Valuation τ sig (Elt F)) :
    (held (T d) S5 W : sProp 𝕄)
      = iprop((p3Loc d ↦{fullShare} W (dv main_v0)) ∗ (p4Loc d ↦{fullShare} W (dv main_v1)) ∗ (p5Loc d ↦{fullShare} W (dv main_v2)) ∗ (bxLoc d ↦{fullShare} W (dv main_v3)) ∗ (oLoc d ↦{fullShare} W (dv main_v4))) := by
  unfold held S5
  rw [SparseCore.bigSep_insert' (by decide), SparseCore.bigSep_insert' (by decide), SparseCore.bigSep_insert' (by decide), SparseCore.bigSep_insert' (by decide), bigSep_singleton]

/-- The launch data of the first call. -/
abbrev PM : (K (F := F)).Pay (nD := nD) (Val := Elt F) (Name := ℕ) (U := UU) := P (a3 m) (a4 m) (a5 m) (ab m) (fun d => m (oLoc d))

theorem V1_v0 (d : Dev nD) : V1 m d (dv main_v0) = a3 m d := by unfold V1 ops1; after_results; rfl
theorem V1_v1 (d : Dev nD) : V1 m d (dv main_v1) = a4 m d := by unfold V1 ops1; after_results; rfl
theorem V1_v2 (d : Dev nD) : V1 m d (dv main_v2) = a5 m d := by unfold V1 ops1; after_results; rfl
theorem V1_v3 (d : Dev nD) : V1 m d (dv main_v3) = ab m d := by unfold V1 ops1; after_results; rfl
theorem V1_v4 (d : Dev nD) : V1 m d (dv main_v4) = m (oLoc d) := StableHlo.after_of_writes_sub _ _ ops1_writes (by decide)

attribute [local irreducible] V1 V2 V3 V4 V5 a3 a4 a5 ab res

theorem hv4 : dv main_v4 ∈ S5 := by decide

/-- After the first call: its operands as before, its result written. -/
theorem held_V2 (d : Dev nD) :
    (held (T d) UC (V2 m d) : sProp 𝕄)
      = iprop(((p3Loc d ↦{fullShare} a3 m d) ∗ (p4Loc d ↦{fullShare} a4 m d) ∗ (p5Loc d ↦{fullShare} a5 m d) ∗ (bxLoc d ↦{fullShare} ab m d) ∗ (oLoc d ↦{fullShare} res m d))
          ∗ held (T d) (UC \ S5) (V1 m d)) := by
  rw [StableHlo.held_sub_split (T d) S5_sub, held_S5]
  have e (b : DevRef τ sig) (h : b ≠ dv main_v4) : V2 m d b = V1 m d b := by unfold V2; exact Function.update_of_ne h _ _
  have e4 : V2 m d (dv main_v4) = res m d := by unfold V2; exact Function.update_self _ _ _
  rw [e4, e (dv main_v0) (by decide), e (dv main_v1) (by decide), e (dv main_v2) (by decide), e (dv main_v3) (by decide), V1_v0, V1_v1, V1_v2, V1_v3,
    StableHlo.held_congr (T d) (S := UC \ S5) (V := V2 m d) (V' := V1 m d) fun b hb => e b fun h => (Finset.mem_sdiff.mp hb).2 (h ▸ hv4)]

theorem held_V1 (d : Dev nD) :
    (held (T d) UC (V1 m d) : sProp 𝕄)
      = iprop(((p3Loc d ↦{fullShare} a3 m d) ∗ (p4Loc d ↦{fullShare} a4 m d) ∗ (p5Loc d ↦{fullShare} a5 m d) ∗ (bxLoc d ↦{fullShare} ab m d) ∗ (oLoc d ↦{fullShare} m (oLoc d)))
          ∗ held (T d) (UC \ S5) (V1 m d)) := by
  rw [StableHlo.held_sub_split (T d) S5_sub, held_S5, V1_v0, V1_v1, V1_v2, V1_v3, V1_v4]

theorem after1_eq (d : Dev nD) : (held d.tc UC (StableHlo.after ops1 (V0 m d)) : sProp 𝕄) = held (T d) UC (V1 m d) := by unfold V1; rfl
theorem after3_eq (d : Dev nD) : (held d.tc UC (StableHlo.after ops2 (V2 m d)) : sProp 𝕄) = held (T d) UC (V3 m d) := by unfold V3; rfl
theorem after5_eq (d : Dev nD) : (held d.tc UC (StableHlo.after ops3 (V4 m d)) : sProp 𝕄) = held (T d) UC (V5 m d) := by unfold V5; rfl
theorem dn_eq (d : Dev nD) : (pay (a3 m) (a4 m) (a5 m) (ab m) fullShare Finset.univ d (outOf (a3 m) (a4 m) (a5 m) (ab m) d) : sProp 𝕄)
    = iprop((p3Loc d ↦{fullShare} a3 m d) ∗ (p4Loc d ↦{fullShare} a4 m d) ∗ (p5Loc d ↦{fullShare} a5 m d) ∗ (bxLoc d ↦{fullShare} ab m d) ∗ (oLoc d ↦{fullShare} res m d)) := by
  unfold res; rfl
theorem unscoped0 (d : Dev nD) : (unscopedBufs d (fun b => m ((SparseCore.T d).loc b)) : sProp 𝕄) = held (T d) UC (V0 m d) := by
  unfold V0; exact Pipeline.unscopedBufs_held (Val := Elt F) (Ix := HIx 1) (Name := ℕ) (U := UU) (Lvl := ℕ) d (fun b => m (d, b))
theorem unscoped3 (d : Dev nD) : (unscopedBufs d (V3t m d) : sProp 𝕄) = held (T d) UC (V3 m d) := by
  unfold V3t; exact Pipeline.unscopedBufs_held (Val := Elt F) (Ix := HIx 1) (Name := ℕ) (U := UU) (Lvl := ℕ) d (V3 m d)
theorem unscoped4 (d : Dev nD) : (unscopedBufs d (V4t m d) : sProp 𝕄) = held (T d) UC (V4 m d) := by
  unfold V4t; exact Pipeline.unscopedBufs_held (Val := Elt F) (Ix := HIx 1) (Name := ℕ) (U := UU) (Lvl := ℕ) d (V4 m d)

def region : Pipeline.RegionSeg (pcfgs (F := F)) Tc.adm (Tc.pdats (V3t m)) (none : HIx 1) defs₀ Variants.none Tc.L₀ Tc.lv₀ 0 := Tc.reg (V3t m) (V4t m)
  (fun c => show V4 m c (dv main_v21_0) = _ by
    unfold V4; rw [Function.update_of_ne (by decide), Function.update_of_ne (by decide), Function.update_of_ne (by decide), Function.update_self])
  (fun c => show V4 m c (dv main_v21_1) = _ by
    unfold V4; rw [Function.update_of_ne (by decide), Function.update_of_ne (by decide), Function.update_self])
  (fun c => show V4 m c (dv main_v21_2) = _ by
    unfold V4; rw [Function.update_of_ne (by decide), Function.update_self])
  (fun c => show V4 m c (dv main_v21_3) = _ by
    unfold V4; rw [Function.update_self])
  (fun c b h0 h1 h2 h3 => show V4 m c (dv b) = V3 m c (dv b) by
    have n {x : Ref sig .tc} (h : b ≠ x) : dv b ≠ dv x := fun e => h (Proc.devRef_injective _ e)
    unfold V4; rw [Function.update_of_ne (n h3), Function.update_of_ne (n h2), Function.update_of_ne (n h1), Function.update_of_ne (n h0)])

abbrev FIN (d : Dev nD) : sProp 𝕄 := held (T d) UC (V5 m d)

theorem region_pre (d : Dev nD) : (region m).pre d
    = iprop(held (T d) UC (V3 m d) ∗ ∃ W : Waits sig (HIx 1), ⌜(W : Set (SemLoc sig × HIx 1)) ⊆ Tc.seen (F := F) d⌝ ∗ owes (T d) (0 : CellTallies nD τ sig (HIx 1)) W) := by
  rw [← unscoped3]; unfold region; rfl
theorem region_post (d : Dev nD) : (region m).post d
    = iprop(held (T d) UC (V4 m d) ∗ ∃ W : Waits sig (HIx 1), ⌜(W : Set (SemLoc sig × HIx 1)) ⊆ Tc.seen (F := F) d⌝ ∗ owes (T d) (0 : CellTallies nD τ sig (HIx 1)) W) := by
  rw [← unscoped4]; unfold region; rfl

attribute [local irreducible] region

/-- The second call on device `d`'s TensorCore. -/
theorem tcCall [∀ e, Nonempty (Elt F e)] (d : Dev nD) (Q : PUnit → sProp 𝕄) :
    iprop((iprop(boundary (d.tc : Thread nD τ) ∗ (region m).post d) -∗ wp frame (wpE (Pipeline.defs (pcfgs (F := F)) defs₀) Variants.none.lift (d.tc : Thread nD τ) none) Set.univ (.ret ⟨⟩) Q)
        ∗ boundary (d.tc : Thread nD τ) ∗ (region m).pre d ∗ levAts Tc.L₀ Tc.lv₀ ∗ G d)
      ⊢ wp frame (wpE (Pipeline.defs (pcfgs (F := F)) defs₀) Variants.none.lift (d.tc : Thread nD τ) none) Set.univ (.op (.customCall (Pipeline.entry 0) ()) fun _ => .ret ⟨⟩) Q := by
  have hv : ∀ u ∈ (none : Option (Variants.none.lift).V), (Variants.none.lift).lt (.inr ((Pipeline.pin (pcfgs (F := F)) Tc.adm 0).tripCount + 1)) u := fun _ h => nomatch h
  have h := Pipeline.RegionSeg.wp (pcfgs (F := F)) Tc.adm (Tc.pdats (V3t m)) (none : HIx 1) cellOf_inj EP defs₀ Variants.none Tc.L₀ Tc.lv₀ (region m) d none
    hv (fun _ => .ret ⟨⟩) Q
  exact h

/-- The same in the whole program. -/
theorem tcCall' [∀ e, Nonempty (Elt F e)] (d : Dev nD) (Q : PUnit → sProp 𝕄) :
    iprop((iprop(boundary (d.tc : Thread nD τ) ∗ (region m).post d) -∗ wp frame (wpE (Pipeline.defs (pcfgs (F := F)) defs₀) Variants.none.lift (d.tc : Thread nD τ) none) Set.univ (.ret ⟨⟩) Q)
        ∗ boundary (d.tc : Thread nD τ) ∗ (region m).pre d ∗ levAts Tc.L₀ Tc.lv₀ ∗ G d)
      ⊢ wp frame (wpE ((K (F := F)).defs (D (F := F))) 𝒱 (SparseCore.T d) none) Set.univ (Prog.lift (.customCall (SparseCore.inner (Pipeline.entry 0)) ())) Q := by
  have e : SparseCore.liftProg (Q := 1) (.op (.customCall (Pipeline.entry 0) ()) fun _ => .ret ⟨⟩ : Prog (TpuEff nD τ sig (Elt F) (ΛP (F := F)) .tc) PUnit)
      = Prog.lift (.customCall (SparseCore.inner (Pipeline.entry 0)) ()) := rfl
  have hl := (K (F := F)).wp_liftProg (D (F := F)) 𝒱 (SparseCore.T d) Set.univ none (.op (.customCall (Pipeline.entry 0) ()) fun _ => .ret ⟨⟩ : Prog (TpuEff nD τ sig (Elt F) (ΛP (F := F)) .tc) PUnit) Q
  rw [e] at hl
  refine .trans ?_ hl
  exact tcCall m d Q

set_option maxHeartbeats 1000000 in
/-- @main on device `d`'s TensorCore: the host operations and the two calls. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped0, main_eq]
  iintro ⟨#Hctx, Hst, ⟨Hb, Hheld, Hts, -⟩, ⟨Hg, Ht⟩⟩
  iapply (StableHlo.wp_seq 𝒱 none Set.univ d UC _ ops1 ops1_sub ops1_fresh (V0 m d)) $$ [Hb Hheld]
  · isplitl [Hb] <;> iassumption
  iintro ⟨Hb, Hheld⟩
  ihave Hheld := (Entails.of_eq (after1_eq (F := F) m d)) $$ Hheld
  ihave Hh := (Entails.of_eq (held_V1 (F := F) m d)) $$ Hheld
  icases Hh with ⟨⟨Hr0, Hr1, Hr2, Hr3, Ho⟩, Hrest⟩
  rw [wp_bind]
  iapply ((K (F := F)).wp_run (D (F := F)) 𝒱 (EH := EH) (P := PM m) κ d 0) $$ [Hst Hr0 Hr1 Hr2 Hr3 Ho Hrest Hb Hts Hg Ht]
  isplitr; · iexact Hctx
  isplitl [Hst]; · iexact Hst
  isplitl [Hr0 Hr1 Hr2 Hr3 Ho]
  · rw [st0_eq]
    isplitl [Hr0]; · iexact Hr0
    isplitl [Hr1]; · iexact Hr1
    isplitl [Hr2]; · iexact Hr2
    isplitl [Hr3]; · iexact Hr3
    iexact Ho
  iintro ⟨Hst, Hdn⟩
  ihave Hdn' := (Entails.of_eq ((dn0_eq (a3 m) (a4 m) (a5 m) (ab m) (fun d => m (oLoc d)) d).trans (dn_eq (F := F) m d))) $$ Hdn
  ihave Hheld := (Entails.of_eq (held_V2 (F := F) m d).symm) $$ [Hdn' Hrest]
  · isplitl [Hdn']; · iexact Hdn'
    iexact Hrest
  iapply (StableHlo.wp_seq 𝒱 none Set.univ d UC _ ops2 ops2_sub ops2_fresh (V2 m d)) $$ [Hb Hheld]
  · isplitl [Hb] <;> iassumption
  iintro ⟨Hb, Hheld⟩
  ihave Hheld := (Entails.of_eq (after3_eq (F := F) m d)) $$ Hheld
  rw [wp_bind]
  unfold SparseCore.Cfg.tcSt
  icases Hst with ⟨⟨%W, %hW, HO⟩, Hst⟩
  rw [(K (F := F)).Otc_end d (n := (0 : Fin 1).val + 1) le_rfl]
  iapply (tcCall' m d _) $$ [Hb Hheld HO Hg Ht Hst Hts]
  isplitl [Hst Hts]
  · iintro ⟨Hb, Hpost⟩
    rw [wp_ret]; imodintro
    ihave Hpost' := (Entails.of_eq (region_post (F := F) m d)) $$ Hpost
    icases Hpost' with ⟨Hheld, %W', %hW', HO⟩
    iapply (StableHlo.wp_seq 𝒱 none Set.univ d UC _ ops3 ops3_sub ops3_fresh (V4 m d)) $$ [Hb Hheld]
    · isplitl [Hb] <;> iassumption
    iintro ⟨Hb, Hheld⟩
    ihave Hheld := (Entails.of_eq (after5_eq (F := F) m d)) $$ Hheld
    rw [wp_pure]; imodintro
    isplitl [Hst HO]
    · isplitl [HO]
      · iexists W'
        isplitr; · ipureintro; exact fun p hp => hW' hp
        rw [(K (F := F)).Otc_end d (n := 1) le_rfl]; iexact HO
      iexact Hst
    isplitl [Hheld]; · iexact Hheld
    isplitl [Hb] <;> iassumption
  isplitl [Hb]; · iexact Hb
  isplitl [Hheld HO]
  · rw [region_pre]
    isplitl [Hheld]; · iexact Hheld
    iexists W
    isplitr; · ipureintro; exact fun p hp => hW p hp
    iexact HO
  isplitr
  · rw [show (levAts Tc.L₀ Tc.lv₀ : sProp 𝕄) = iprop(emp) from by
      unfold levAts; simp only [Tc.L₀, BI.bigSep_empty]; exact bigSep_none _]
    iempintro
  isplitl [Hg]; · iexact Hg
  iexact Ht

def fq (d : Dev nD) (s' : Phys nD τ sig (Elt F)) : Prop := ∀ b ∈ UC, s'.mem.mem (d, b) = V5 m d b

theorem hfin (d : Dev nD) (s' : Phys nD τ sig (Elt F)) : iprop(FIN m d ∗ SI s') ⊢ (⌜fq m d s'⌝ : sProp 𝕄) := by
  unfold fq
  refine (forall_intro fun b => (forall_intro fun hb => ?_).trans pure_forall.2).trans pure_forall.2
  have h1 : (held (T d) UC (V5 m d) : sProp 𝕄) ⊢ (((d, b) : Loc nD τ sig) ↦{fullShare} V5 m d b) := by unfold held; exact bigSep_elim hb
  refine (Laws.sep_mono h1 .rfl).trans (Laws.sep_comm.1.trans ((SI_pointsTo_agree (st := s') (ℓ := ((d, b) : Loc nD τ sig)) (I := Finset.univ) (q := fullShare) (f := V5 m d b)).trans
    (Laws.pure_mono fun h => funext fun i => h i (Finset.mem_univ i))))

/-! ## The program's run -/

/-- What the program ends in: every buffer of @main at its final contents, and every semaphore at zero. -/
def QC : PUnit × MemSt nD τ sig (Elt F) → Prop := fun r => (∀ d : Dev nD, ∀ b ∈ UC, r.2.mem (d, b) = V5 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (a3 m) (a4 m) (a5 m) (ab m) (fun d => m (oLoc d)) facts)
    (fun q _ => match q with | 0 => SparseCore.Cfg.VecSplit.of_plain (vecSplit (a3 m) (a4 m) (a5 m) (ab m) (fun d => m (oLoc d))))
    m ρ main G (FIN m) (u₀ (F := F)) (sep_elim_left.trans (hu₀ (a3 m) (a4 m) (a5 m) (ab m) (fun d => m (oLoc d))))
    (hmain m ρ) (fq m) (hfin m) (QC m) (fun _ h hz => ⟨h, hz⟩)

end Cert.Proof.Sc

end
-- ==== Proof.TcVal.lean ====
/-
  The objectness the TensorCore kernel leaves, as one function of what its windows hold: level by level the softplus of
  every cell's prediction, less the gathered prediction of every box that is the last of its image in its cell.
-/
module

public import proofs.«01_k».proof.Proof.TcRegion
public import Idealize.ShloMosaic.Lib.ValueIdxCore

@[expose] public section

noncomputable section

namespace Cert.Proof.Tc

open Cert.KernelIdeal Cert.KernelIdeal.Gen

open Idealize.ShloMosaic Idealize.ShloMosaic.TcCoe
open Idealize.ShloMosaic.Pipeline (Dat Cfg Window cellOf)

variable {F : FTy → Type} [FloatOps F]

theorem slices_col (k : ℕ) (h : k < 8) : S16x8.Slices ![0, k] S16x1 := by
  interval_cases k <;> decide

/-- One box of every image. -/
def col {α : Type} (k : ℕ) (h : k < 8) (v : S16x8.Idx → α) : S16x1.Idx → α := extractStridedSlice S16x1 ![0, k] v (slices_col k h)

/-- One where two boxes share their cell and the second is inside the map. -/
def both (vl : IVec S16x8 1) (cl : IVec S16x8 32) (i j : ℕ) (hi : i < 8 := by decide) (hj : j < 8 := by decide) : FVec F S16x1 .f32 :=
  sitofp .f32 (extui 32 (andi (cmpi .eq (col i hi cl) (col j hj cl)) (col j hj vl)) natLt_1_32)

def zeroCol : FVec F S16x1 .f32 := broadcast S16x1 (Scalar.ofBits .f32 0x00000000#32 : F .f32)

/-- One at every box inside the map that no later box of its image covers. -/
def lastW (vl : IVec S16x8 1) (cl : IVec S16x8 32) : FVec F S16x8 .f32 :=
  select (andi vl (cmpf .oeq (concatenate S16x8 1 [
    ⟨S16x1, addf (addf (addf (addf (addf (addf (addf (zeroCol (F := F)) (both vl cl 0 1)) (both vl cl 0 2)) (both vl cl 0 3)) (both vl cl 0 4)) (both vl cl 0 5)) (both vl cl 0 6)) (both vl cl 0 7)⟩,
    ⟨S16x1, addf (addf (addf (addf (addf (addf (zeroCol (F := F)) (both vl cl 1 2)) (both vl cl 1 3)) (both vl cl 1 4)) (both vl cl 1 5)) (both vl cl 1 6)) (both vl cl 1 7)⟩,
    ⟨S16x1, addf (addf (addf (addf (addf (zeroCol (F := F)) (both vl cl 2 3)) (both vl cl 2 4)) (both vl cl 2 5)) (both vl cl 2 6)) (both vl cl 2 7)⟩,
    ⟨S16x1, addf (addf (addf (addf (zeroCol (F := F)) (both vl cl 3 4)) (both vl cl 3 5)) (both vl cl 3 6)) (both vl cl 3 7)⟩,
    ⟨S16x1, addf (addf (addf (zeroCol (F := F)) (both vl cl 4 5)) (both vl cl 4 6)) (both vl cl 4 7)⟩,
    ⟨S16x1, addf (addf (zeroCol (F := F)) (both vl cl 5 6)) (both vl cl 5 7)⟩,
    ⟨S16x1, addf (zeroCol (F := F)) (both vl cl 6 7)⟩,
    ⟨S16x1, zeroCol (F := F)⟩] concatenates_S16x1_S16x1_S16x1_S16x1_S16x1_S16x1_S16x1_S16x1_S16x8_d1)
    (broadcast S16x8 (Scalar.ofBits .f32 0x00000000#32 : F .f32))))
    (broadcast S16x8 (Scalar.ofBits .f32 0x3F800000#32 : F .f32)) (broadcast S16x8 (Scalar.ofBits .f32 0x00000000#32 : F .f32))

/-- Where each box falls, row times width plus column. -/
def cellT (s wd : BitVec 32) (x y : FVec F S16x8 .f32) : IVec S16x8 32 :=
  addi (muli (fptosi 32 (floor (mulf y (broadcast S16x8 (Scalar.ofBits .f32 s : F .f32))))) (broadcast S16x8 wd))
    (fptosi 32 (floor (mulf x (broadcast S16x8 (Scalar.ofBits .f32 s : F .f32)))))

def insT (n : BitVec 32) (q : IVec S16x8 32) : IVec S16x8 1 := andi (cmpi .sge q (broadcast S16x8 0#32)) (cmpi .slt q (broadcast S16x8 n))

def clipT (hi : BitVec 32) (q : IVec S16x8 32) : IVec S16x8 32 := minsi (broadcast S16x8 hi) (maxsi (broadcast S16x8 0#32) q)

/-- The boxes' share of a level. -/
def boxT (hw : BitVec 32) (vl : IVec S16x8 1) (cl : IVec S16x8 32) (g : FVec F S16x512 .f32) (s : FVec F S512x8 .f32) : F .f32 :=
  Scalar.divf (extractAt ![0, 0, 0] (shapeCast S1x1x1 (multiReduction .add [1, 2] S1
    (shapeCast S1x16x8 (mulf (lastW (F := F) vl cl) (matmul dot_S16x512_S512x8_S16x8_1_0_0_1_n_n none (shapeCast S16x512 g shapeCasts_S16x512_S16x512) s (constant S16x8 .f32 0x00000000#32)))
      shapeCasts_S16x8_S1x16x8) 0x00000000#32 reduces_S1x16x8_S1 (.inl rfl) rfl) shapeCasts_S1_S1x1x1) inpos_S1x1x1_p0_0_0) (Scalar.ofBits .f32 hw)

/-- The softplus of every word. -/
def softT {s : Shape} (x : FVec F s .f32) : FVec F s .f32 :=
  addf (maximumf x (broadcast s (Scalar.ofBits .f32 0x00000000#32 : F .f32))) (log1p (exp (subf (broadcast s (Scalar.ofBits .f32 0x00000000#32 : F .f32)) (absf x))))

/-- The maps' share of a level. -/
def mapT (n : ℕ) (hw : BitVec 32) (x : FVec F ⟨3, ![16, 1, n]⟩ .f32) (h1 : (⟨3, ![16, 1, n]⟩ : Shape).ShapeCasts ⟨3, ![16, 1, n]⟩)
    (h2 : (⟨3, ![16, 1, n]⟩ : Shape).ShapeCasts ⟨4, ![1, 16, 1, n]⟩) (h3 : (⟨4, ![1, 16, 1, n]⟩ : Shape).Reduces [1, 2, 3] S1) : F .f32 :=
  Scalar.divf (extractAt ![0, 0, 0, 0] (shapeCast S1x1x1x1 (multiReduction .add [1, 2, 3] S1
    (shapeCast ⟨4, ![1, 16, 1, n]⟩ (softT (shapeCast ⟨3, ![16, 1, n]⟩ x h1)) h2) 0x00000000#32 h3 (.inl rfl) rfl) shapeCasts_S1_S1x1x1x1) inpos_S1x1x1x1_p0_0_0_0) (Scalar.ofBits .f32 hw)

/-- The objectness. -/
def objT (x0 : FVec F S16x1x4096 .f32) (x1 : FVec F S16x1x1024 .f32) (x2 : FVec F S16x1x256 .f32) (bx by' : FVec F S16x8 .f32)
    (g0 g1 g2 : FVec F S16x512 .f32) (s : FVec F S512x8 .f32) : F .f32 :=
  let u := shapeCast S16x8 bx shapeCasts_S16x8_S16x8
  let v := shapeCast S16x8 by' shapeCasts_S16x8_S16x8
  let q0 := cellT 0x42800000#32 64#32 u v
  let q1 := cellT 0x42000000#32 32#32 u v
  let q2 := cellT 0x41800000#32 16#32 u v
  Scalar.subf (Scalar.addf (Scalar.subf (Scalar.addf (Scalar.subf (Scalar.addf (Scalar.ofBits .f32 0x00000000#32)
    (mapT 4096 0x45800000#32 x0 shapeCasts_S16x1x4096_S16x1x4096 shapeCasts_S16x1x4096_S1x16x1x4096 reduces_S1x16x1x4096_S1))
    (boxT 0x45800000#32 (insT 4096#32 q0) (clipT 4095#32 q0) g0 s))
    (mapT 1024 0x44800000#32 x1 shapeCasts_S16x1x1024_S16x1x1024 shapeCasts_S16x1x1024_S1x16x1x1024 reduces_S1x16x1x1024_S1))
    (boxT 0x44800000#32 (insT 1024#32 q1) (clipT 1023#32 q1) g1 s))
    (mapT 256 0x43800000#32 x2 shapeCasts_S16x1x256_S16x1x256 shapeCasts_S16x1x256_S1x16x1x256 reduces_S1x16x1x256_S1))
    (boxT 0x43800000#32 (insT 256#32 q2) (clipT 255#32 q2) g2 s)

section Body
variable (c : Dev nD) (M0 : Memref sig .tc .vmem S16x8x4096 .f32) (M1 : Memref sig .tc .vmem S16x8x1024 .f32) (M2 : Memref sig .tc .vmem S16x8x256 .f32)
  (M3 M4 : Memref sig .tc .vmem S16x8 .f32) (M8 : Memref sig .tc .vmem S48x512 .f32) (M9 : Memref sig .tc .vmem S512x8 .f32)
  (f0 : Bf c M0 (F := F)) (f1 : Bf c M1 (F := F)) (f2 : Bf c M2 (F := F)) (f3 : Bf c M3 (F := F)) (f4 : Bf c M4 (F := F)) (f8 : Bf c M8 (F := F)) (f9 : Bf c M9 (F := F))

theorem H15_eq : bodyRun.sl.H15_1 c M0 M1 M2 M3 M4 M8 M9 f0 f1 f2 f3 f4 f8 f9 =
    [⟨Rect.unit ![0] ![1] inb_S1_S1_0, fun _ => objT
      (View.readAt (Elt F) M0.view (Rect.unit (s := S16x8x4096) ![0, 1, 0] S16x1x4096.size inb_S16x8x4096_S16x1x4096_0_1_0).toLoadRect f0)
      (View.readAt (Elt F) M1.view (Rect.unit (s := S16x8x1024) ![0, 1, 0] S16x1x1024.size inb_S16x8x1024_S16x1x1024_0_1_0).toLoadRect f1)
      (View.readAt (Elt F) M2.view (Rect.unit (s := S16x8x256) ![0, 1, 0] S16x1x256.size inb_S16x8x256_S16x1x256_0_1_0).toLoadRect f2)
      (View.readAt (Elt F) M3.view (Rect.unit ![0, 0] S16x8.size inb_S16x8_S16x8_0_0).toLoadRect f3)
      (View.readAt (Elt F) M4.view (Rect.unit ![0, 0] S16x8.size inb_S16x8_S16x8_0_0).toLoadRect f4)
      (View.readAt (Elt F) M8.view (Rect.unit (s := S48x512) ![0, 0] S16x512.size inb_S48x512_S16x512_0_0).toLoadRect f8)
      (View.readAt (Elt F) M8.view (Rect.unit (s := S48x512) ![16, 0] S16x512.size inb_S48x512_S16x512_16_0).toLoadRect f8)
      (View.readAt (Elt F) M8.view (Rect.unit (s := S48x512) ![32, 0] S16x512.size inb_S48x512_S16x512_32_0).toLoadRect f8)
      (View.readAt (Elt F) M9.view (Rect.unit ![0, 0] S512x8.size inb_S512x8_S512x8_0_0).toLoadRect f9)⟩] := by
  unfold bodyRun.sl.H15_1
  rfl
end Body

variable (V : (c : Dev nD) → (b : Ref sig .tc) → Buf (Elt F) ((c : Thread nD τ).loc b))

theorem read_15 (c : Dev nD) (f : Buf (Elt F) ((c : Thread nD τ).loc main_v21_1)) : (win1_15.blk t1_0).view.read (Elt F) f = f :=
  Memref.read_access_unit_zero (Elt F) main_v21_1
    (show (fun a => (win1_15.index t1_0) a * main_v21_1.ty.shape.size a) = fun _ => 0 from funext fun a => by fin_cases a <;> decide) (fun a => by fin_cases a <;> decide) f
theorem read_16 (c : Dev nD) (f : Buf (Elt F) ((c : Thread nD τ).loc main_v21_2)) : (win1_16.blk t1_0).view.read (Elt F) f = f :=
  Memref.read_access_unit_zero (Elt F) main_v21_2
    (show (fun a => (win1_16.index t1_0) a * main_v21_2.ty.shape.size a) = fun _ => 0 from funext fun a => by fin_cases a <;> decide) (fun a => by fin_cases a <;> decide) f
theorem read_3 (c : Dev nD) (f : Buf (Elt F) ((c : Thread nD τ).loc main_v9)) : (win1_3.blk t1_0).view.read (Elt F) f = f :=
  Memref.read_access_unit_zero (Elt F) main_v9
    (show (fun a => (win1_3.index t1_0) a * main_v9.ty.shape.size a) = fun _ => 0 from funext fun a => by fin_cases a <;> decide) (fun a => by fin_cases a <;> decide) f
theorem read_4 (c : Dev nD) (f : Buf (Elt F) ((c : Thread nD τ).loc main_v11)) : (win1_4.blk t1_0).view.read (Elt F) f = f :=
  Memref.read_access_unit_zero (Elt F) main_v11
    (show (fun a => (win1_4.index t1_0) a * main_v11.ty.shape.size a) = fun _ => 0 from funext fun a => by fin_cases a <;> decide) (fun a => by fin_cases a <;> decide) f
theorem read_8 (c : Dev nD) (f : Buf (Elt F) ((c : Thread nD τ).loc main_v4)) : (win1_8.blk t1_0).view.read (Elt F) f = f :=
  Memref.read_access_unit_zero (Elt F) main_v4
    (show (fun a => (win1_8.index t1_0) a * main_v4.ty.shape.size a) = fun _ => 0 from funext fun a => by fin_cases a <;> decide) (fun a => by fin_cases a <;> decide) f
theorem read_9 (c : Dev nD) (f : Buf (Elt F) ((c : Thread nD τ).loc main_cst)) : (win1_9.blk t1_0).view.read (Elt F) f = f :=
  Memref.read_access_unit_zero (Elt F) main_cst
    (show (fun a => (win1_9.index t1_0) a * main_cst.ty.shape.size a) = fun _ => 0 from funext fun a => by fin_cases a <;> decide) (fun a => by fin_cases a <;> decide) f

/-- The objectness channel of a level's maps. -/
def chan {n : ℕ} {α : Type} (v : (⟨3, ![16, 53, n]⟩ : Shape).Idx → α) : (⟨3, ![16, 1, n]⟩ : Shape).Idx → α :=
  fun j => v (ValueIdx.ix3 (j 0 : Fin 16) (⟨1, by decide⟩ : Fin 53) (j 2 : Fin n))

/-- Sixteen rows of the forty-eight. -/
def rows (l : ℕ) (h : l < 3) {α : Type} (v : S48x512.Idx → α) : S16x512.Idx → α :=
  fun j => v (ValueIdx.ix2 (⟨16 * l + (j 0).val, by have : (j 0).val < 16 := (j 0).isLt; omega⟩ : Fin 48) (j 1 : Fin 512))

section Reads
variable (c : Dev nD)
theorem rd0 : View.readAt (Elt F) (stage1_0 0).view (Rect.unit (s := S16x8x4096) ![0, 1, 0] S16x1x4096.size inb_S16x8x4096_S16x1x4096_0_1_0).toLoadRect (stg0 V c) = chan (n := 4096) (V c main_v5) := by
  funext j
  refine congrArg (V c main_v5) (funext fun a => Fin.ext ?_)
  fin_cases a
  · show 0 * 16 + 1 * (0 + 1 * (j 0).val) = (j 0).val; omega
  · have h : (j 1).val < 1 := (j 1).isLt
    show 0 * 8 + 1 * (1 + 1 * (j 1).val) = 1; omega
  · show 0 * 4096 + 1 * (0 + 1 * (j 2).val) = (j 2).val; omega
theorem rd1 : View.readAt (Elt F) (stage1_1 0).view (Rect.unit (s := S16x8x1024) ![0, 1, 0] S16x1x1024.size inb_S16x8x1024_S16x1x1024_0_1_0).toLoadRect (stg1 V c) = chan (n := 1024) (V c main_v6) := by
  funext j
  refine congrArg (V c main_v6) (funext fun a => Fin.ext ?_)
  fin_cases a
  · show 0 * 16 + 1 * (0 + 1 * (j 0).val) = (j 0).val; omega
  · have h : (j 1).val < 1 := (j 1).isLt
    show 0 * 8 + 1 * (1 + 1 * (j 1).val) = 1; omega
  · show 0 * 1024 + 1 * (0 + 1 * (j 2).val) = (j 2).val; omega
theorem rd2 : View.readAt (Elt F) (stage1_2 0).view (Rect.unit (s := S16x8x256) ![0, 1, 0] S16x1x256.size inb_S16x8x256_S16x1x256_0_1_0).toLoadRect (stg2 V c) = chan (n := 256) (V c main_v7) := by
  funext j
  refine congrArg (V c main_v7) (funext fun a => Fin.ext ?_)
  fin_cases a
  · show 0 * 16 + 1 * (0 + 1 * (j 0).val) = (j 0).val; omega
  · have h : (j 1).val < 1 := (j 1).isLt
    show 0 * 8 + 1 * (1 + 1 * (j 1).val) = 1; omega
  · show 0 * 256 + 1 * (0 + 1 * (j 2).val) = (j 2).val; omega
theorem rd8_0 : View.readAt (Elt F) (stage1_8 0).view (Rect.unit (s := S48x512) ![0, 0] S16x512.size inb_S48x512_S16x512_0_0).toLoadRect (stg8 V c) = rows 0 (by decide) (V c main_v4) := by
  rw [show stg8 V c = V c main_v4 from read_8 c _]
  funext j
  refine congrArg (V c main_v4) (funext fun a => Fin.ext ?_)
  fin_cases a
  · show 0 + 1 * (j 0).val = 16 * 0 + (j 0).val; omega
  · show 0 + 1 * (j 1).val = (j 1).val; omega
theorem rd8_1 : View.readAt (Elt F) (stage1_8 0).view (Rect.unit (s := S48x512) ![16, 0] S16x512.size inb_S48x512_S16x512_16_0).toLoadRect (stg8 V c) = rows 1 (by decide) (V c main_v4) := by
  rw [show stg8 V c = V c main_v4 from read_8 c _]
  funext j
  refine congrArg (V c main_v4) (funext fun a => Fin.ext ?_)
  fin_cases a
  · show 16 + 1 * (j 0).val = 16 * 1 + (j 0).val; omega
  · show 0 + 1 * (j 1).val = (j 1).val; omega
theorem rd8_2 : View.readAt (Elt F) (stage1_8 0).view (Rect.unit (s := S48x512) ![32, 0] S16x512.size inb_S48x512_S16x512_32_0).toLoadRect (stg8 V c) = rows 2 (by decide) (V c main_v4) := by
  rw [show stg8 V c = V c main_v4 from read_8 c _]
  funext j
  refine congrArg (V c main_v4) (funext fun a => Fin.ext ?_)
  fin_cases a
  · show 32 + 1 * (j 0).val = 16 * 2 + (j 0).val; omega
  · show 0 + 1 * (j 1).val = (j 1).val; omega
theorem rd3 : View.readAt (Elt F) (stage1_3 0).view (Rect.unit ![0, 0] S16x8.size inb_S16x8_S16x8_0_0).toLoadRect (stg3 V c) = V c main_v9 := by
  rw [show stg3 V c = V c main_v9 from read_3 c _]
  funext j
  refine congrArg (V c main_v9) (funext fun a => Fin.ext ?_)
  fin_cases a
  · show 0 + 1 * (j 0).val = (j 0).val; omega
  · show 0 + 1 * (j 1).val = (j 1).val; omega
theorem rd4 : View.readAt (Elt F) (stage1_4 0).view (Rect.unit ![0, 0] S16x8.size inb_S16x8_S16x8_0_0).toLoadRect (stg4 V c) = V c main_v11 := by
  rw [show stg4 V c = V c main_v11 from read_4 c _]
  funext j
  refine congrArg (V c main_v11) (funext fun a => Fin.ext ?_)
  fin_cases a
  · show 0 + 1 * (j 0).val = (j 0).val; omega
  · show 0 + 1 * (j 1).val = (j 1).val; omega
theorem rd9 : View.readAt (Elt F) (stage1_9 0).view (Rect.unit ![0, 0] S512x8.size inb_S512x8_S512x8_0_0).toLoadRect (stg9 V c) = V c main_cst := by
  rw [show stg9 V c = V c main_cst from read_9 c _]
  funext j
  refine congrArg (V c main_cst) (funext fun a => Fin.ext ?_)
  fin_cases a
  · show 0 + 1 * (j 0).val = (j 0).val; omega
  · show 0 + 1 * (j 1).val = (j 1).val; omega
end Reads

theorem word_15 (w : Elt F .f32) : (View.whole cc1_stg15_0).writes (Elt F) (View.whole cc1_stg15_0).junk [⟨Rect.unit (s := S1) ![0] ![1] inb_S1_S1_0, fun _ => w⟩] = fun _ => w := by
  funext x
  have h := View.read_writes_apply_of_pieces (Val := Elt F) (View.whole cc1_stg15_0) (View.whole cc1_stg15_0).junk (fun _ => w) [⟨Rect.unit (s := S1) ![0] ![1] inb_S1_S1_0, fun _ => w⟩]
    (fun p hp => by obtain rfl := List.mem_singleton.mp hp; exact fun _ => rfl) x
    ⟨_, List.mem_singleton_self _, LoadRect.mem_set _ |>.mpr fun a => ⟨(x a).val, by fin_cases a; exact (x 0).isLt, by fin_cases a; show (x 0).val = 0 + 1 * (x 0).val; omega⟩⟩
  exact h

theorem word_16 (w : Elt F .f32) : (View.whole cc1_stg16_0).writes (Elt F) (View.whole cc1_stg16_0).junk [⟨Rect.unit (s := S1) ![0] ![1] inb_S1_S1_0, fun _ => w⟩] = fun _ => w := by
  funext x
  have h := View.read_writes_apply_of_pieces (Val := Elt F) (View.whole cc1_stg16_0) (View.whole cc1_stg16_0).junk (fun _ => w) [⟨Rect.unit (s := S1) ![0] ![1] inb_S1_S1_0, fun _ => w⟩]
    (fun p hp => by obtain rfl := List.mem_singleton.mp hp; exact fun _ => rfl) x
    ⟨_, List.mem_singleton_self _, LoadRect.mem_set _ |>.mpr fun a => ⟨(x a).val, by fin_cases a; exact (x 0).isLt, by fin_cases a; show (x 0).val = 0 + 1 * (x 0).val; omega⟩⟩
  exact h

theorem out15_eq (c : Dev nD) : out15 V c = fun _ => objT (chan (n := 4096) (V c main_v5)) (chan (n := 1024) (V c main_v6)) (chan (n := 256) (V c main_v7))
    (V c main_v9) (V c main_v11) (rows 0 (by decide) (V c main_v4)) (rows 1 (by decide) (V c main_v4)) (rows 2 (by decide) (V c main_v4)) (V c main_cst) := by
  unfold out15
  have hw : ((cfg1.win 15).blk t1_0).view.read (Elt F) ((dat V c).arrAt 15 cfg1.N) = (dat V c).flushed 15 t1_0 := by
    rw [show cfg1.N = t1_0.val + 1 from rfl, (dat V c).arrAt_succ (15 : Fin 18) t1_0, flush1_15, if_pos rfl]
    exact View.read_write_univ _ _
  refine ((read_15 c _).symm.trans hw).trans ?_
  show (runAt V c).1.2.1 = _
  unfold runAt bodyRun
  dsimp only
  rw [H15_eq]
  rw [rd0, rd1, rd2, rd3, rd4, rd8_0, rd8_1, rd8_2, rd9]
  exact word_15 _

theorem out16_eq (c : Dev nD) : out16 V c = fun _ => Scalar.ofBits .f32 0x00000000#32 := by
  unfold out16
  have hw : ((cfg1.win 16).blk t1_0).view.read (Elt F) ((dat V c).arrAt 16 cfg1.N) = (dat V c).flushed 16 t1_0 := by
    rw [show cfg1.N = t1_0.val + 1 from rfl, (dat V c).arrAt_succ (16 : Fin 18) t1_0, flush1_16, if_pos rfl]
    exact View.read_write_univ _ _
  refine ((read_16 c _).symm.trans hw).trans ?_
  show (runAt V c).1.2.2.1 = _
  unfold runAt bodyRun
  dsimp only
  exact word_16 _
end Cert.Proof.Tc
-- ==== Proof.KptVal.lean ====
/-
  The keypoints' loss and the total the TensorCore kernel leaves, as functions of what its windows hold.
-/
module

public import proofs.«01_k».proof.Proof.TcVal

@[expose] public section

noncomputable section

namespace Cert.Proof.Tc

open Cert.KernelIdeal Cert.KernelIdeal.Gen

open Idealize.ShloMosaic Idealize.ShloMosaic.TcCoe
open Idealize.ShloMosaic.Pipeline (Dat Cfg Window cellOf)

variable {F : FTy → Type} [FloatOps F]

/-- The smooth l1 of every word. -/
def slT {s : Shape} (d : FVec F s .f32) : FVec F s .f32 :=
  select (cmpf .olt (absf d) (broadcast s (Scalar.ofBits .f32 0x3F800000#32 : F .f32)))
    (mulf (mulf (broadcast s (Scalar.ofBits .f32 0x3F000000#32 : F .f32)) d) d)
    (subf (absf d) (broadcast s (Scalar.ofBits .f32 0x3F000000#32 : F .f32)))

/-- One at every visible keypoint. -/
def visT (ks : FVec F S16x136 .f32) : FVec F S16x136 .f32 :=
  sitofp .f32 (extui 32 (cmpf .ogt ks (broadcast S16x136 (Scalar.ofBits .f32 0x00000000#32 : F .f32))) natLt_1_32)

/-- One channel of the keypoints of every box. -/
def selT (g : FVec F S16x512 .f32) (s : FVec F S512x136 .f32) : FVec F S16x136 .f32 :=
  matmul dot_S16x512_S512x136_S16x136_1_0_0_1_n_n none (shapeCast S16x512 g shapeCasts_S16x512_S16x512) s (constant S16x136 .f32 0x00000000#32)

/-- One at every visible keypoint of a box that is the last in its cell. -/
def maskT (vl : IVec S16x8 1) (cl : IVec S16x8 32) (ks : FVec F S16x136 .f32) (rep : FVec F S8x136 .f32) : FVec F S16x136 .f32 :=
  mulf (matmul dot_S16x8_S8x136_S16x136_1_0_0_1_n_n none (lastW (F := F) vl cl) rep (constant S16x136 .f32 0x00000000#32)) (visT ks)

/-- A row's sum. -/
def rowSum (x : FVec F S16x136 .f32) : FVec F S16x1 .f32 :=
  shapeCast S16x1 (multiReduction .add [1] S16 x 0x00000000#32 reduces_S16x136_S16 (.inl rfl) rfl) shapeCasts_S16_S16x1

/-- The images' quotients, summed. -/
def shareT (x m : FVec F S16x136 .f32) : F .f32 :=
  extractAt ![0, 0, 0] (shapeCast S1x1x1 (multiReduction .add [1, 2] S1
    (shapeCast S1x16x1 (divf (rowSum x) (addf (rowSum m) (broadcast S16x1 (Scalar.ofBits .f32 0x358637BD#32 : F .f32)))) shapeCasts_S16x1_S1x16x1)
    0x00000000#32 reduces_S1x16x1_S1 (.inl rfl) rfl) shapeCasts_S1_S1x1x1) inpos_S1x1x1_p0_0_0

def lxyT (x y m : FVec F S16x136 .f32) : FVec F S16x136 .f32 := mulf (addf (slT x) (slT y)) m

def lscT (x t m : FVec F S16x136 .f32) : FVec F S16x136 .f32 :=
  mulf (addf (subf (maximumf x (broadcast S16x136 (Scalar.ofBits .f32 0x00000000#32 : F .f32))) (mulf x t))
    (log1p (exp (subf (broadcast S16x136 (Scalar.ofBits .f32 0x00000000#32 : F .f32)) (absf x))))) m

/-- A level's two shares. -/
def kxyT (vl : IVec S16x8 1) (cl : IVec S16x8 32) (g : FVec F S16x512 .f32) (kx ky ks : FVec F S16x136 .f32) (sx sy : FVec F S512x136 .f32) (rep : FVec F S8x136 .f32) : F .f32 :=
  shareT (lxyT (subf (selT g sx) kx) (subf (selT g sy) ky) (maskT vl cl ks rep)) (maskT vl cl ks rep)
def kscT (vl : IVec S16x8 1) (cl : IVec S16x8 32) (g : FVec F S16x512 .f32) (ks : FVec F S16x136 .f32) (ss : FVec F S512x136 .f32) (rep : FVec F S8x136 .f32) : F .f32 :=
  shareT (lscT (selT g ss) ks (maskT vl cl ks rep)) (maskT vl cl ks rep)

/-- The keypoints' loss. -/
def kptT (bx by' : FVec F S16x8 .f32) (kx ky ks : FVec F S16x136 .f32) (g0 g1 g2 : FVec F S16x512 .f32) (sx sy ss : FVec F S512x136 .f32) (rep : FVec F S8x136 .f32) : F .f32 :=
  let u := shapeCast S16x8 bx shapeCasts_S16x8_S16x8
  let v := shapeCast S16x8 by' shapeCasts_S16x8_S16x8
  let a := shapeCast S16x136 kx shapeCasts_S16x136_S16x136
  let b := shapeCast S16x136 ky shapeCasts_S16x136_S16x136
  let t := shapeCast S16x136 ks shapeCasts_S16x136_S16x136
  let q0 := cellT 0x42800000#32 64#32 u v
  let q1 := cellT 0x42000000#32 32#32 u v
  let q2 := cellT 0x41800000#32 16#32 u v
  Scalar.addf (Scalar.addf (Scalar.addf (Scalar.addf (Scalar.addf (Scalar.addf (Scalar.ofBits .f32 0x00000000#32)
    (kxyT (insT 4096#32 q0) (clipT 4095#32 q0) g0 a b t sx sy rep)) (kscT (insT 4096#32 q0) (clipT 4095#32 q0) g0 t ss rep))
    (kxyT (insT 1024#32 q1) (clipT 1023#32 q1) g1 a b t sx sy rep)) (kscT (insT 1024#32 q1) (clipT 1023#32 q1) g1 t ss rep))
    (kxyT (insT 256#32 q2) (clipT 255#32 q2) g2 a b t sx sy rep)) (kscT (insT 256#32 q2) (clipT 255#32 q2) g2 t ss rep)

section Body
variable (c : Dev nD) (M0 : Memref sig .tc .vmem S16x8x4096 .f32) (M1 : Memref sig .tc .vmem S16x8x1024 .f32) (M2 : Memref sig .tc .vmem S16x8x256 .f32)
  (M3 M4 : Memref sig .tc .vmem S16x8 .f32) (M5 M6 M7 : Memref sig .tc .vmem S16x136 .f32) (M8 : Memref sig .tc .vmem S48x512 .f32) (M9 : Memref sig .tc .vmem S512x8 .f32)
  (M10 M11 M12 : Memref sig .tc .vmem S512x136 .f32) (M13 : Memref sig .tc .vmem S8x136 .f32)
  (f0 : Bf c M0 (F := F)) (f1 : Bf c M1 (F := F)) (f2 : Bf c M2 (F := F)) (f3 : Bf c M3 (F := F)) (f4 : Bf c M4 (F := F))
  (f5 : Bf c M5 (F := F)) (f6 : Bf c M6 (F := F)) (f7 : Bf c M7 (F := F)) (f8 : Bf c M8 (F := F)) (f9 : Bf c M9 (F := F))
  (f10 : Bf c M10 (F := F)) (f11 : Bf c M11 (F := F)) (f12 : Bf c M12 (F := F)) (f13 : Bf c M13 (F := F))

/-- The keypoints' loss of the windows' contents. -/
def kptB : F .f32 := kptT
  (View.readAt (Elt F) M3.view (Rect.unit ![0, 0] S16x8.size inb_S16x8_S16x8_0_0).toLoadRect f3)
  (View.readAt (Elt F) M4.view (Rect.unit ![0, 0] S16x8.size inb_S16x8_S16x8_0_0).toLoadRect f4)
  (View.readAt (Elt F) M5.view (Rect.unit ![0, 0] S16x136.size inb_S16x136_S16x136_0_0).toLoadRect f5)
  (View.readAt (Elt F) M6.view (Rect.unit ![0, 0] S16x136.size inb_S16x136_S16x136_0_0).toLoadRect f6)
  (View.readAt (Elt F) M7.view (Rect.unit ![0, 0] S16x136.size inb_S16x136_S16x136_0_0).toLoadRect f7)
  (View.readAt (Elt F) M8.view (Rect.unit (s := S48x512) ![0, 0] S16x512.size inb_S48x512_S16x512_0_0).toLoadRect f8)
  (View.readAt (Elt F) M8.view (Rect.unit (s := S48x512) ![16, 0] S16x512.size inb_S48x512_S16x512_16_0).toLoadRect f8)
  (View.readAt (Elt F) M8.view (Rect.unit (s := S48x512) ![32, 0] S16x512.size inb_S48x512_S16x512_32_0).toLoadRect f8)
  (View.readAt (Elt F) M10.view (Rect.unit ![0, 0] S512x136.size inb_S512x136_S512x136_0_0).toLoadRect f10)
  (View.readAt (Elt F) M11.view (Rect.unit ![0, 0] S512x136.size inb_S512x136_S512x136_0_0).toLoadRect f11)
  (View.readAt (Elt F) M12.view (Rect.unit ![0, 0] S512x136.size inb_S512x136_S512x136_0_0).toLoadRect f12)
  (View.readAt (Elt F) M13.view (Rect.unit ![0, 0] S8x136.size inb_S8x136_S8x136_0_0).toLoadRect f13)

theorem H17_eq : bodyRun.sl.H17_1 c M3 M4 M5 M6 M7 M8 M10 M11 M12 M13 f3 f4 f5 f6 f7 f8 f10 f11 f12 f13 =
    [⟨Rect.unit ![0] ![1] inb_S1_S1_0, fun _ => kptB c M3 M4 M5 M6 M7 M8 M10 M11 M12 M13 f3 f4 f5 f6 f7 f8 f10 f11 f12 f13⟩] := by
  unfold bodyRun.sl.H17_1
  rfl

theorem H14_eq : bodyRun.sl.H14_1 c M0 M1 M2 M3 M4 M5 M6 M7 M8 M9 M10 M11 M12 M13 f0 f1 f2 f3 f4 f5 f6 f7 f8 f9 f10 f11 f12 f13 =
    [⟨Rect.unit ![0] ![1] inb_S1_S1_0, fun _ => Scalar.mulf (Scalar.ofBits .f32 0x42B40000#32) (Scalar.addf (objT
      (View.readAt (Elt F) M0.view (Rect.unit (s := S16x8x4096) ![0, 1, 0] S16x1x4096.size inb_S16x8x4096_S16x1x4096_0_1_0).toLoadRect f0)
      (View.readAt (Elt F) M1.view (Rect.unit (s := S16x8x1024) ![0, 1, 0] S16x1x1024.size inb_S16x8x1024_S16x1x1024_0_1_0).toLoadRect f1)
      (View.readAt (Elt F) M2.view (Rect.unit (s := S16x8x256) ![0, 1, 0] S16x1x256.size inb_S16x8x256_S16x1x256_0_1_0).toLoadRect f2)
      (View.readAt (Elt F) M3.view (Rect.unit ![0, 0] S16x8.size inb_S16x8_S16x8_0_0).toLoadRect f3)
      (View.readAt (Elt F) M4.view (Rect.unit ![0, 0] S16x8.size inb_S16x8_S16x8_0_0).toLoadRect f4)
      (View.readAt (Elt F) M8.view (Rect.unit (s := S48x512) ![0, 0] S16x512.size inb_S48x512_S16x512_0_0).toLoadRect f8)
      (View.readAt (Elt F) M8.view (Rect.unit (s := S48x512) ![16, 0] S16x512.size inb_S48x512_S16x512_16_0).toLoadRect f8)
      (View.readAt (Elt F) M8.view (Rect.unit (s := S48x512) ![32, 0] S16x512.size inb_S48x512_S16x512_32_0).toLoadRect f8)
      (View.readAt (Elt F) M9.view (Rect.unit ![0, 0] S512x8.size inb_S512x8_S512x8_0_0).toLoadRect f9))
      (kptB c M3 M4 M5 M6 M7 M8 M10 M11 M12 M13 f3 f4 f5 f6 f7 f8 f10 f11 f12 f13))⟩] := by
  unfold bodyRun.sl.H14_1
  rfl
end Body

variable (V : (c : Dev nD) → (b : Ref sig .tc) → Buf (Elt F) ((c : Thread nD τ).loc b))

theorem read_14 (c : Dev nD) (f : Buf (Elt F) ((c : Thread nD τ).loc main_v21_0)) : (win1_14.blk t1_0).view.read (Elt F) f = f :=
  Memref.read_access_unit_zero (Elt F) main_v21_0
    (show (fun a => (win1_14.index t1_0) a * main_v21_0.ty.shape.size a) = fun _ => 0 from funext fun a => by fin_cases a <;> decide) (fun a => by fin_cases a <;> decide) f
theorem read_17 (c : Dev nD) (f : Buf (Elt F) ((c : Thread nD τ).loc main_v21_3)) : (win1_17.blk t1_0).view.read (Elt F) f = f :=
  Memref.read_access_unit_zero (Elt F) main_v21_3
    (show (fun a => (win1_17.index t1_0) a * main_v21_3.ty.shape.size a) = fun _ => 0 from funext fun a => by fin_cases a <;> decide) (fun a => by fin_cases a <;> decide) f
theorem read_5 (c : Dev nD) (f : Buf (Elt F) ((c : Thread nD τ).loc main_v14)) : (win1_5.blk t1_0).view.read (Elt F) f = f :=
  Memref.read_access_unit_zero (Elt F) main_v14
    (show (fun a => (win1_5.index t1_0) a * main_v14.ty.shape.size a) = fun _ => 0 from funext fun a => by fin_cases a <;> decide) (fun a => by fin_cases a <;> decide) f
theorem read_6 (c : Dev nD) (f : Buf (Elt F) ((c : Thread nD τ).loc main_v17)) : (win1_6.blk t1_0).view.read (Elt F) f = f :=
  Memref.read_access_unit_zero (Elt F) main_v17
    (show (fun a => (win1_6.index t1_0) a * main_v17.ty.shape.size a) = fun _ => 0 from funext fun a => by fin_cases a <;> decide) (fun a => by fin_cases a <;> decide) f
theorem read_7 (c : Dev nD) (f : Buf (Elt F) ((c : Thread nD τ).loc main_v20)) : (win1_7.blk t1_0).view.read (Elt F) f = f :=
  Memref.read_access_unit_zero (Elt F) main_v20
    (show (fun a => (win1_7.index t1_0) a * main_v20.ty.shape.size a) = fun _ => 0 from funext fun a => by fin_cases a <;> decide) (fun a => by fin_cases a <;> decide) f
theorem read_10 (c : Dev nD) (f : Buf (Elt F) ((c : Thread nD τ).loc main_cst_0)) : (win1_10.blk t1_0).view.read (Elt F) f = f :=
  Memref.read_access_unit_zero (Elt F) main_cst_0
    (show (fun a => (win1_10.index t1_0) a * main_cst_0.ty.shape.size a) = fun _ => 0 from funext fun a => by fin_cases a <;> decide) (fun a => by fin_cases a <;> decide) f
theorem read_11 (c : Dev nD) (f : Buf (Elt F) ((c : Thread nD τ).loc main_cst_1)) : (win1_11.blk t1_0).view.read (Elt F) f = f :=
  Memref.read_access_unit_zero (Elt F) main_cst_1
    (show (fun a => (win1_11.index t1_0) a * main_cst_1.ty.shape.size a) = fun _ => 0 from funext fun a => by fin_cases a <;> decide) (fun a => by fin_cases a <;> decide) f
theorem read_12 (c : Dev nD) (f : Buf (Elt F) ((c : Thread nD τ).loc main_cst_2)) : (win1_12.blk t1_0).view.read (Elt F) f = f :=
  Memref.read_access_unit_zero (Elt F) main_cst_2
    (show (fun a => (win1_12.index t1_0) a * main_cst_2.ty.shape.size a) = fun _ => 0 from funext fun a => by fin_cases a <;> decide) (fun a => by fin_cases a <;> decide) f
theorem read_13 (c : Dev nD) (f : Buf (Elt F) ((c : Thread nD τ).loc main_cst_3)) : (win1_13.blk t1_0).view.read (Elt F) f = f :=
  Memref.read_access_unit_zero (Elt F) main_cst_3
    (show (fun a => (win1_13.index t1_0) a * main_cst_3.ty.shape.size a) = fun _ => 0 from funext fun a => by fin_cases a <;> decide) (fun a => by fin_cases a <;> decide) f

section Reads
variable (c : Dev nD)
theorem rd5 : View.readAt (Elt F) (stage1_5 0).view (Rect.unit ![0, 0] S16x136.size inb_S16x136_S16x136_0_0).toLoadRect (stg5 V c) = V c main_v14 := by
  rw [show stg5 V c = V c main_v14 from read_5 c _]
  funext j
  refine congrArg (V c main_v14) (funext fun a => Fin.ext ?_)
  fin_cases a
  · show 0 + 1 * (j 0).val = (j 0).val; omega
  · show 0 + 1 * (j 1).val = (j 1).val; omega
theorem rd6 : View.readAt (Elt F) (stage1_6 0).view (Rect.unit ![0, 0] S16x136.size inb_S16x136_S16x136_0_0).toLoadRect (stg6 V c) = V c main_v17 := by
  rw [show stg6 V c = V c main_v17 from read_6 c _]
  funext j
  refine congrArg (V c main_v17) (funext fun a => Fin.ext ?_)
  fin_cases a
  · show 0 + 1 * (j 0).val = (j 0).val; omega
  · show 0 + 1 * (j 1).val = (j 1).val; omega
theorem rd7 : View.readAt (Elt F) (stage1_7 0).view (Rect.unit ![0, 0] S16x136.size inb_S16x136_S16x136_0_0).toLoadRect (stg7 V c) = V c main_v20 := by
  rw [show stg7 V c = V c main_v20 from read_7 c _]
  funext j
  refine congrArg (V c main_v20) (funext fun a => Fin.ext ?_)
  fin_cases a
  · show 0 + 1 * (j 0).val = (j 0).val; omega
  · show 0 + 1 * (j 1).val = (j 1).val; omega
theorem rd10 : View.readAt (Elt F) (stage1_10 0).view (Rect.unit ![0, 0] S512x136.size inb_S512x136_S512x136_0_0).toLoadRect (stg10 V c) = V c main_cst_0 := by
  rw [show stg10 V c = V c main_cst_0 from read_10 c _]
  funext j
  refine congrArg (V c main_cst_0) (funext fun a => Fin.ext ?_)
  fin_cases a
  · show 0 + 1 * (j 0).val = (j 0).val; omega
  · show 0 + 1 * (j 1).val = (j 1).val; omega
theorem rd11 : View.readAt (Elt F) (stage1_11 0).view (Rect.unit ![0, 0] S512x136.size inb_S512x136_S512x136_0_0).toLoadRect (stg11 V c) = V c main_cst_1 := by
  rw [show stg11 V c = V c main_cst_1 from read_11 c _]
  funext j
  refine congrArg (V c main_cst_1) (funext fun a => Fin.ext ?_)
  fin_cases a
  · show 0 + 1 * (j 0).val = (j 0).val; omega
  · show 0 + 1 * (j 1).val = (j 1).val; omega
theorem rd12 : View.readAt (Elt F) (stage1_12 0).view (Rect.unit ![0, 0] S512x136.size inb_S512x136_S512x136_0_0).toLoadRect (stg12 V c) = V c main_cst_2 := by
  rw [show stg12 V c = V c main_cst_2 from read_12 c _]
  funext j
  refine congrArg (V c main_cst_2) (funext fun a => Fin.ext ?_)
  fin_cases a
  · show 0 + 1 * (j 0).val = (j 0).val; omega
  · show 0 + 1 * (j 1).val = (j 1).val; omega
theorem rd13 : View.readAt (Elt F) (stage1_13 0).view (Rect.unit ![0, 0] S8x136.size inb_S8x136_S8x136_0_0).toLoadRect (stg13 V c) = V c main_cst_3 := by
  rw [show stg13 V c = V c main_cst_3 from read_13 c _]
  funext j
  refine congrArg (V c main_cst_3) (funext fun a => Fin.ext ?_)
  fin_cases a
  · show 0 + 1 * (j 0).val = (j 0).val; omega
  · show 0 + 1 * (j 1).val = (j 1).val; omega
end Reads

theorem word_14 (w : Elt F .f32) : (View.whole cc1_stg14_0).writes (Elt F) (View.whole cc1_stg14_0).junk [⟨Rect.unit (s := S1) ![0] ![1] inb_S1_S1_0, fun _ => w⟩] = fun _ => w := by
  funext x
  have h := View.read_writes_apply_of_pieces (Val := Elt F) (View.whole cc1_stg14_0) (View.whole cc1_stg14_0).junk (fun _ => w) [⟨Rect.unit (s := S1) ![0] ![1] inb_S1_S1_0, fun _ => w⟩]
    (fun p hp => by obtain rfl := List.mem_singleton.mp hp; exact fun _ => rfl) x
    ⟨_, List.mem_singleton_self _, LoadRect.mem_set _ |>.mpr fun a => ⟨(x a).val, by fin_cases a; exact (x 0).isLt, by fin_cases a; show (x 0).val = 0 + 1 * (x 0).val; omega⟩⟩
  exact h

theorem word_17 (w : Elt F .f32) : (View.whole cc1_stg17_0).writes (Elt F) (View.whole cc1_stg17_0).junk [⟨Rect.unit (s := S1) ![0] ![1] inb_S1_S1_0, fun _ => w⟩] = fun _ => w := by
  funext x
  have h := View.read_writes_apply_of_pieces (Val := Elt F) (View.whole cc1_stg17_0) (View.whole cc1_stg17_0).junk (fun _ => w) [⟨Rect.unit (s := S1) ![0] ![1] inb_S1_S1_0, fun _ => w⟩]
    (fun p hp => by obtain rfl := List.mem_singleton.mp hp; exact fun _ => rfl) x
    ⟨_, List.mem_singleton_self _, LoadRect.mem_set _ |>.mpr fun a => ⟨(x a).val, by fin_cases a; exact (x 0).isLt, by fin_cases a; show (x 0).val = 0 + 1 * (x 0).val; omega⟩⟩
  exact h

/-- The keypoints' loss, and the objectness, of the buffers. -/
def kptO (c : Dev nD) : F .f32 := kptT (V c main_v9) (V c main_v11) (V c main_v14) (V c main_v17) (V c main_v20)
  (rows 0 (by decide) (V c main_v4)) (rows 1 (by decide) (V c main_v4)) (rows 2 (by decide) (V c main_v4)) (V c main_cst_0) (V c main_cst_1) (V c main_cst_2) (V c main_cst_3)
def objO (c : Dev nD) : F .f32 := objT (chan (n := 4096) (V c main_v5)) (chan (n := 1024) (V c main_v6)) (chan (n := 256) (V c main_v7))
    (V c main_v9) (V c main_v11) (rows 0 (by decide) (V c main_v4)) (rows 1 (by decide) (V c main_v4)) (rows 2 (by decide) (V c main_v4)) (V c main_cst)

theorem out17_eq (c : Dev nD) : out17 V c = fun _ => kptO V c := by
  unfold out17
  have hw : ((cfg1.win 17).blk t1_0).view.read (Elt F) ((dat V c).arrAt 17 cfg1.N) = (dat V c).flushed 17 t1_0 := by
    rw [show cfg1.N = t1_0.val + 1 from rfl, (dat V c).arrAt_succ (17 : Fin 18) t1_0, flush1_17, if_pos rfl]
    exact View.read_write_univ _ _
  refine ((read_17 c _).symm.trans hw).trans ?_
  show (runAt V c).1.2.2.2 = _
  unfold runAt bodyRun
  dsimp only
  rw [H17_eq]
  unfold kptB
  rw [rd3, rd4, rd5, rd6, rd7, rd8_0, rd8_1, rd8_2, rd10, rd11, rd12, rd13]
  exact word_17 _

theorem out14_eq (c : Dev nD) : out14 V c = fun _ => Scalar.mulf (Scalar.ofBits .f32 0x42B40000#32) (Scalar.addf (objO V c) (kptO V c)) := by
  unfold out14
  have hw : ((cfg1.win 14).blk t1_0).view.read (Elt F) ((dat V c).arrAt 14 cfg1.N) = (dat V c).flushed 14 t1_0 := by
    rw [show cfg1.N = t1_0.val + 1 from rfl, (dat V c).arrAt_succ (14 : Fin 18) t1_0, flush1_14, if_pos rfl]
    exact View.read_write_univ _ _
  refine ((read_14 c _).symm.trans hw).trans ?_
  show (runAt V c).1.1 = _
  unfold runAt bodyRun
  dsimp only
  rw [H14_eq]
  unfold kptB
  rw [rd0, rd1, rd2, rd3, rd4, rd5, rd6, rd7, rd8_0, rd8_1, rd8_2, rd9, rd10, rd11, rd12, rd13]
  exact word_14 _
end Cert.Proof.Tc
-- ==== Proof.KerVal.lean ====
/-
  What the kernel's four returned buffers hold after the run, in terms of the launch memory.
-/
module

public import proofs.«01_k».proof.Proof.ScLaunch
public import proofs.«01_k».proof.Proof.KptVal

@[expose] public section

noncomputable section

namespace Cert.Proof.Sc

open Cert.KernelIdeal Cert.KernelIdeal.Gen
open Idealize.ShloMosaic Idealize.ShloMosaic.TcCoe
open Idealize.ShloMosaic.StableHlo
open Cert.Proof.Tc (objT kptT chan rows)

variable {F : FTy → Type} [FloatOps F]
variable (m : (ℓ : Loc nD τ sig) → Buf (Elt F) ℓ) (d : Dev nD)

abbrev A0 : FVec F S16x53x64x64 .f32 := m ((d.tc : Thread nD τ).loc main_arg0)
abbrev A1 : FVec F S16x53x32x32 .f32 := m ((d.tc : Thread nD τ).loc main_arg1)
abbrev A2 : FVec F S16x53x16x16 .f32 := m ((d.tc : Thread nD τ).loc main_arg2)
abbrev A3 : FVec F S16x8x4 .f32 := m ((d.tc : Thread nD τ).loc main_arg3)

abbrev A5 : FVec F S16x8x17x3 .f32 := m ((d.tc : Thread nD τ).loc main_arg5)

/-- One channel of the keypoints, a row an image. -/
def kp (c : ℕ) (h : S16x8x17x3.Slices ![0, 0, 0, c] S16x8x17x1) (a : FVec F S16x8x17x3 .f32) : FVec F S16x136 .f32 :=
  shapeCast S16x136 (shapeCast S16x8x17 (extractStridedSlice S16x8x17x1 ![0, 0, 0, c] a h) shapeCasts_S16x8x17x1_S16x8x17) shapeCasts_S16x8x17_S16x136

theorem V2_arg (b : Ref sig .tc) (h : dv b ≠ dv main_v4 := by decide) (h1 : b ∉ ([main_cst, main_cst_0, main_cst_1, main_cst_2, main_cst_3, main_v0, main_v1, main_v2, main_v3] : List (Ref sig .tc)) := by decide) :
    V2 m d (dv b) = m ((d.tc : Thread nD τ).loc b) := by
  unfold V2
  rw [Function.update_of_ne h]
  unfold V1
  exact StableHlo.after_of_writes_sub _ _ ops1_writes h1

theorem V3_v5 : V3 m d (dv main_v5) = shapeCast S16x53x4096 (A0 m d) shapeCasts_S16x53x64x64_S16x53x4096 := by
  unfold V3 ops2; after_results; rw [V2_arg m d main_arg0]; rfl
theorem V3_v6 : V3 m d (dv main_v6) = shapeCast S16x53x1024 (A1 m d) shapeCasts_S16x53x32x32_S16x53x1024 := by
  unfold V3 ops2; after_results; rw [V2_arg m d main_arg1]; rfl
theorem V3_v7 : V3 m d (dv main_v7) = shapeCast S16x53x256 (A2 m d) shapeCasts_S16x53x16x16_S16x53x256 := by
  unfold V3 ops2; after_results; rw [V2_arg m d main_arg2]; rfl
theorem V3_v9 : V3 m d (dv main_v9) = shapeCast S16x8 (extractStridedSlice S16x8x1 ![0, 0, 0] (A3 m d) slices_S16x8x4_S16x8x1_0_0_0) shapeCasts_S16x8x1_S16x8 := by
  unfold V3 ops2; after_results; rw [V2_arg m d main_arg3]; rfl
theorem V3_v11 : V3 m d (dv main_v11) = shapeCast S16x8 (extractStridedSlice S16x8x1 ![0, 0, 1] (A3 m d) slices_S16x8x4_S16x8x1_0_0_1) shapeCasts_S16x8x1_S16x8 := by
  unfold V3 ops2; after_results; rw [V2_arg m d main_arg3]; rfl
theorem V3_v4 : V3 m d (dv main_v4) = res m d := by
  unfold V3
  rw [StableHlo.after_of_writes_sub _ _ ops2_writes (by decide)]
  unfold V2
  exact Function.update_self _ _ _
theorem V3_cst : V3 m d (dv main_cst) = fun i => FloatOps.ofBits .f32 (lit0 (S512x8.rowMajor i)) := by
  unfold V3
  rw [StableHlo.after_of_writes_sub _ _ ops2_writes (by decide)]
  unfold V2
  rw [Function.update_of_ne (by decide)]
  unfold V1 ops1; after_results; rfl

theorem V3_v14 : V3 m d (dv main_v14) = kp 0 slices_S16x8x17x3_S16x8x17x1_0_0_0_0 (A5 m d) := by
  unfold V3 ops2; after_results; rw [V2_arg m d main_arg5]; rfl
theorem V3_v17 : V3 m d (dv main_v17) = kp 1 slices_S16x8x17x3_S16x8x17x1_0_0_0_1 (A5 m d) := by
  unfold V3 ops2; after_results; rw [V2_arg m d main_arg5]; rfl
theorem V3_v20 : V3 m d (dv main_v20) = kp 2 slices_S16x8x17x3_S16x8x17x1_0_0_0_2 (A5 m d) := by
  unfold V3 ops2; after_results; rw [V2_arg m d main_arg5]; rfl
theorem V3_cst_0 : V3 m d (dv main_cst_0) = fun i => FloatOps.ofBits .f32 (lit1 (S512x136.rowMajor i)) := by
  unfold V3
  rw [StableHlo.after_of_writes_sub _ _ ops2_writes (by decide)]
  unfold V2
  rw [Function.update_of_ne (by decide)]
  unfold V1 ops1; after_results; rfl
theorem V3_cst_1 : V3 m d (dv main_cst_1) = fun i => FloatOps.ofBits .f32 (lit2 (S512x136.rowMajor i)) := by
  unfold V3
  rw [StableHlo.after_of_writes_sub _ _ ops2_writes (by decide)]
  unfold V2
  rw [Function.update_of_ne (by decide)]
  unfold V1 ops1; after_results; rfl
theorem V3_cst_2 : V3 m d (dv main_cst_2) = fun i => FloatOps.ofBits .f32 (lit3 (S512x136.rowMajor i)) := by
  unfold V3
  rw [StableHlo.after_of_writes_sub _ _ ops2_writes (by decide)]
  unfold V2
  rw [Function.update_of_ne (by decide)]
  unfold V1 ops1; after_results; rfl
theorem V3_cst_3 : V3 m d (dv main_cst_3) = fun i => FloatOps.ofBits .f32 (lit4 (S8x136.rowMajor i)) := by
  unfold V3
  rw [StableHlo.after_of_writes_sub _ _ ops2_writes (by decide)]
  unfold V2
  rw [Function.update_of_ne (by decide)]
  unfold V1 ops1; after_results; rfl

theorem V4_0 : V4 m d (dv main_v21_0) = Tc.out14 (V3t m) d := by
  unfold V4; rw [Function.update_of_ne (by decide), Function.update_of_ne (by decide), Function.update_of_ne (by decide), Function.update_self]
theorem V4_3 : V4 m d (dv main_v21_3) = Tc.out17 (V3t m) d := by
  unfold V4; rw [Function.update_self]
theorem V4_1 : V4 m d (dv main_v21_1) = Tc.out15 (V3t m) d := by
  unfold V4; rw [Function.update_of_ne (by decide), Function.update_of_ne (by decide), Function.update_self]
theorem V4_2 : V4 m d (dv main_v21_2) = Tc.out16 (V3t m) d := by
  unfold V4; rw [Function.update_of_ne (by decide), Function.update_self]

/-- The objectness as a function of the launch memory. -/
def objM : F .f32 :=
  objT (chan (n := 4096) (shapeCast S16x53x4096 (A0 m d) shapeCasts_S16x53x64x64_S16x53x4096)) (chan (n := 1024) (shapeCast S16x53x1024 (A1 m d) shapeCasts_S16x53x32x32_S16x53x1024))
    (chan (n := 256) (shapeCast S16x53x256 (A2 m d) shapeCasts_S16x53x16x16_S16x53x256))
    (shapeCast S16x8 (extractStridedSlice S16x8x1 ![0, 0, 0] (A3 m d) slices_S16x8x4_S16x8x1_0_0_0) shapeCasts_S16x8x1_S16x8)
    (shapeCast S16x8 (extractStridedSlice S16x8x1 ![0, 0, 1] (A3 m d) slices_S16x8x4_S16x8x1_0_0_1) shapeCasts_S16x8x1_S16x8)
    (rows 0 (by decide) (res m d)) (rows 1 (by decide) (res m d)) (rows 2 (by decide) (res m d)) (fun i => FloatOps.ofBits .f32 (lit0 (S512x8.rowMajor i)))

/-- The keypoints' loss as a function of the launch memory. -/
def kptM : F .f32 :=
  kptT (shapeCast S16x8 (extractStridedSlice S16x8x1 ![0, 0, 0] (A3 m d) slices_S16x8x4_S16x8x1_0_0_0) shapeCasts_S16x8x1_S16x8)
    (shapeCast S16x8 (extractStridedSlice S16x8x1 ![0, 0, 1] (A3 m d) slices_S16x8x4_S16x8x1_0_0_1) shapeCasts_S16x8x1_S16x8)
    (kp 0 slices_S16x8x17x3_S16x8x17x1_0_0_0_0 (A5 m d)) (kp 1 slices_S16x8x17x3_S16x8x17x1_0_0_0_1 (A5 m d)) (kp 2 slices_S16x8x17x3_S16x8x17x1_0_0_0_2 (A5 m d))
    (rows 0 (by decide) (res m d)) (rows 1 (by decide) (res m d)) (rows 2 (by decide) (res m d))
    (fun i => FloatOps.ofBits .f32 (lit1 (S512x136.rowMajor i))) (fun i => FloatOps.ofBits .f32 (lit2 (S512x136.rowMajor i)))
    (fun i => FloatOps.ofBits .f32 (lit3 (S512x136.rowMajor i))) (fun i => FloatOps.ofBits .f32 (lit4 (S8x136.rowMajor i)))

theorem objO_eq : Tc.objO (V3t m) d = objM m d := by
  unfold Tc.objO
  show objT (chan (V3 m d (dv main_v5))) (chan (V3 m d (dv main_v6))) (chan (V3 m d (dv main_v7))) (V3 m d (dv main_v9)) (V3 m d (dv main_v11))
    (rows 0 _ (V3 m d (dv main_v4))) (rows 1 _ (V3 m d (dv main_v4))) (rows 2 _ (V3 m d (dv main_v4))) (V3 m d (dv main_cst)) = _
  rw [V3_v5, V3_v6, V3_v7, V3_v9, V3_v11, V3_v4, V3_cst]
  rfl
theorem kptO_eq : Tc.kptO (V3t m) d = kptM m d := by
  unfold Tc.kptO
  show kptT (V3 m d (dv main_v9)) (V3 m d (dv main_v11)) (V3 m d (dv main_v14)) (V3 m d (dv main_v17)) (V3 m d (dv main_v20))
    (rows 0 _ (V3 m d (dv main_v4))) (rows 1 _ (V3 m d (dv main_v4))) (rows 2 _ (V3 m d (dv main_v4)))
    (V3 m d (dv main_cst_0)) (V3 m d (dv main_cst_1)) (V3 m d (dv main_cst_2)) (V3 m d (dv main_cst_3)) = _
  rw [V3_v9, V3_v11, V3_v14, V3_v17, V3_v20, V3_v4, V3_cst_0, V3_cst_1, V3_cst_2, V3_cst_3]
  rfl

theorem V5_v22 : V5 m d (dv main_v22) = fun _ => Scalar.mulf (Scalar.ofBits .f32 0x42B40000#32) (Scalar.addf (objM m d) (kptM m d)) := by
  unfold V5 ops3; after_results
  rw [V4_0, Tc.out14_eq, objO_eq, kptO_eq]
  rfl
theorem V5_v23 : V5 m d (dv main_v23) = fun _ => objM m d := by
  unfold V5 ops3; after_results
  rw [V4_1, Tc.out15_eq]
  exact (congrArg (fun w => shapeCast S_ (fun _ : S1.Idx => w) shapeCasts_S1_S_) (objO_eq m d)).trans rfl
theorem V5_v24 : V5 m d (dv main_v24) = fun _ => Scalar.ofBits .f32 0x00000000#32 := by
  unfold V5 ops3; after_results
  rw [V4_2, Tc.out16_eq]
  rfl
theorem V5_v25 : V5 m d (dv main_v25) = fun _ => kptM m d := by
  unfold V5 ops3; after_results
  rw [V4_3, Tc.out17_eq, kptO_eq]
  rfl

theorem V5_arg (b : Ref sig .tc) (h3 : b ∉ ([main_v22, main_v23, main_v24, main_v25] : List (Ref sig .tc)) := by decide)
    (h4 : dv b ≠ dv main_v21_0 ∧ dv b ≠ dv main_v21_1 ∧ dv b ≠ dv main_v21_2 ∧ dv b ≠ dv main_v21_3 := by decide)
    (h2 : b ∉ ([main_v5, main_v6, main_v7, main_v8, main_v9, main_v10, main_v11, main_v12, main_v13, main_v14, main_v15, main_v16, main_v17, main_v18, main_v19, main_v20] : List (Ref sig .tc)) := by decide)
    (h : dv b ≠ dv main_v4 := by decide) (h1 : b ∉ ([main_cst, main_cst_0, main_cst_1, main_cst_2, main_cst_3, main_v0, main_v1, main_v2, main_v3] : List (Ref sig .tc)) := by decide) :
    V5 m d (dv b) = m ((d.tc : Thread nD τ).loc b) := by
  unfold V5
  rw [StableHlo.after_of_writes_sub _ _ ops3_writes h3]
  unfold V4
  rw [Function.update_of_ne h4.2.2.2, Function.update_of_ne h4.2.2.1, Function.update_of_ne h4.2.1, Function.update_of_ne h4.1]
  unfold V3
  rw [StableHlo.after_of_writes_sub _ _ ops2_writes h2]
  exact V2_arg m d b h h1

/-- The whole run: the four results, the arguments as they were, every semaphore at zero. -/
theorem run_vals [∀ e, Nonempty (Elt F e)] (ρ : Dev nD → PrngReg) :
    θ_run KernelIdeal.defs threads ⟨m, fun _ => 0, ρ⟩ fun r => (∀ d : Dev nD,
      r.2.mem ((d.tc : Thread nD τ).loc main_v22) = (fun _ => Scalar.mulf (Scalar.ofBits .f32 0x42B40000#32) (Scalar.addf (objM m d) (kptM m d)))
      ∧ r.2.mem ((d.tc : Thread nD τ).loc main_v23) = (fun _ => objM m d)
      ∧ r.2.mem ((d.tc : Thread nD τ).loc main_v24) = (fun _ => Scalar.ofBits .f32 0x00000000#32)
      ∧ r.2.mem ((d.tc : Thread nD τ).loc main_v25) = (fun _ => kptM m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)) ∧ r.2.sem = fun _ => 0 :=
  (θ_run KernelIdeal.defs _ _).mono (fun r h => ⟨fun d => ⟨(h.1 d (dv main_v22) (by decide)).trans (V5_v22 m d), (h.1 d (dv main_v23) (by decide)).trans (V5_v23 m d),
    (h.1 d (dv main_v24) (by decide)).trans (V5_v24 m d), (h.1 d (dv main_v25) (by decide)).trans (V5_v25 m d),
    (h.1 d (dv main_arg0) (by decide)).trans (V5_arg m d main_arg0), (h.1 d (dv main_arg1) (by decide)).trans (V5_arg m d main_arg1),
    (h.1 d (dv main_arg2) (by decide)).trans (V5_arg m d main_arg2), (h.1 d (dv main_arg3) (by decide)).trans (V5_arg m d main_arg3),
    (h.1 d (dv main_arg4) (by decide)).trans (V5_arg m d main_arg4), (h.1 d (dv main_arg5) (by decide)).trans (V5_arg m d main_arg5)⟩, h.2⟩)
    (run_main m ρ)

end Cert.Proof.Sc
-- ==== Proof.ScAlg.lean ====
/-
  The arithmetic of a box's cell over the extended reals: the task's largest integer not above a value is the value's floor,
  and the task's one scaling is the reference's division and multiplication.
-/
module

public import Idealize.ShloMosaic.Lib.IdealHost
public import Idealize.ShloMosaic.PureOps.Ideal

@[expose] public section

noncomputable section

namespace Cert.Proof.Sc

open Idealize.ShloMosaic

theorem bits_8 : Ideal.ofBits .f32 0x41000000#32 = ((8 : ℝ) : EReal) := by simp [Ideal.ofBits, Ideal.ieee, -EReal.coe_mul, -EReal.coe_neg]; norm_num
theorem bits_16 : Ideal.ofBits .f32 0x41800000#32 = ((16 : ℝ) : EReal) := by simp [Ideal.ofBits, Ideal.ieee, -EReal.coe_mul, -EReal.coe_neg]; norm_num
theorem bits_32 : Ideal.ofBits .f32 0x42000000#32 = ((32 : ℝ) : EReal) := by simp [Ideal.ofBits, Ideal.ieee, -EReal.coe_mul, -EReal.coe_neg]; norm_num
theorem bits_64 : Ideal.ofBits .f32 0x42800000#32 = ((64 : ℝ) : EReal) := by simp [Ideal.ofBits, Ideal.ieee, -EReal.coe_mul, -EReal.coe_neg]; norm_num
theorem bits_512 : Ideal.ofBits .f32 0x44000000#32 = ((512 : ℝ) : EReal) := by simp [Ideal.ofBits, Ideal.ieee, -EReal.coe_mul, -EReal.coe_neg]; norm_num
theorem bits_low : Ideal.ofBits .f32 0xCC000000#32 = ((-33554432 : ℝ) : EReal) := by simp [Ideal.ofBits, Ideal.ieee, -EReal.coe_mul, -EReal.coe_neg]; norm_num

/-- Dividing by a stride and multiplying by the side is multiplying by their quotient. -/
theorem scale_eq (x : EReal) (a b c : ℝ) (ha : a ≠ 0) (h : a⁻¹ * b = c) :
    Ideal.div x (a : EReal) * (b : EReal) = x * (c : EReal) := by
  unfold Ideal.div
  rw [if_neg (by exact_mod_cast ha), mul_assoc, ← EReal.coe_inv, ← EReal.coe_mul, h]

/-- What is not far left of the image stays an integer of 32 bits when it is scaled. -/
theorem scale_ge (x : EReal) (c : ℝ) (h0 : 0 ≤ c) (hc : c ≤ 64) (h : ((-33554432 : ℝ) : EReal) ≤ x) :
    ((-2147483648 : ℝ) : EReal) ≤ x * (c : EReal) := by
  refine le_trans ?_ (mul_le_mul_of_nonneg_right h (by exact_mod_cast h0))
  rw [← EReal.coe_mul]
  exact_mod_cast (by linarith : (-2147483648 : ℝ) ≤ -33554432 * c)

/-- The task's largest integer not above a value. -/
def flo (v : EReal) : BitVec 32 :=
  Ideal.fptosi 32 v - (if v < (((Ideal.fptosi 32 v).toInt : ℝ) : EReal) then 1#32 else 0#32)

theorem toInt_clamp (z : ℤ) (h1 : -2147483648 ≤ z) (h2 : z ≤ 2147483647) : (BitVec.ofInt 32 z).toInt = z := by
  rw [BitVec.toInt_ofInt]
  exact Int.bmod_eq_of_le (by norm_num; omega) (by norm_num; omega)

theorem flo_eq (v : EReal) (hv : ((-2147483648 : ℝ) : EReal) ≤ v) : flo v = Ideal.fptosi 32 (Ideal.liftRound Int.floor v) := by
  unfold flo
  induction v with
  | bot => exact absurd hv (by simp)
  | top => simp [Ideal.fptosi]
  | coe r =>
    have hr : (-2147483648 : ℝ) ≤ r := by exact_mod_cast hv
    have hfl : -2147483648 ≤ ⌊r⌋ := Int.le_floor.mpr (by exact_mod_cast hr)
    rw [Ideal.liftRound_coe]
    unfold Ideal.fptosi
    rw [Ideal.toIntClamped_coe, Ideal.toIntClamped_coe]
    norm_num
    have hb : ∀ k : ℤ, -2147483648 ≤ k → k ≤ 2147483647 → k.bmod 4294967296 = k := fun k h1 h2 =>
      Int.bmod_eq_of_le (by norm_num; omega) (by norm_num; omega)
    by_cases h0 : 0 ≤ r
    · have hf0 : 0 ≤ ⌊r⌋ := Int.floor_nonneg.mpr h0
      rw [if_pos h0, hb _ (le_max_left _ _) (max_le (by norm_num) (min_le_left _ _)), if_neg, BitVec.sub_zero]
      rw [not_lt, max_eq_right (le_min (by norm_num) hfl)]
      exact le_trans (by exact_mod_cast min_le_right (2147483647 : ℤ) ⌊r⌋) (Int.floor_le r)
    · have hr0 : r < 0 := not_le.mp h0
      have hf0 : ⌊r⌋ < 0 := Int.floor_lt.mpr (by exact_mod_cast hr0)
      have hc0 : ⌈r⌉ ≤ 0 := Int.ceil_le.mpr (by exact_mod_cast hr0.le)
      have hfc : ⌊r⌋ ≤ ⌈r⌉ := Int.floor_le_ceil r
      rw [if_neg h0, min_eq_right (by omega : ⌈r⌉ ≤ 2147483647), max_eq_right (by omega : -2147483648 ≤ ⌈r⌉),
        min_eq_right (by omega : ⌊r⌋ ≤ 2147483647), max_eq_right hfl, hb _ (by omega) (by omega)]
      by_cases hz : r < (⌈r⌉ : ℝ)
      · rw [if_pos hz]
        have e : ⌊r⌋ = ⌈r⌉ - 1 := by
          have h1 : ⌊r⌋ < ⌈r⌉ := Int.floor_lt.mpr hz
          have h2 := Int.ceil_le_floor_add_one r
          omega
        rw [e]
        apply BitVec.eq_of_toInt_eq
        rw [toInt_clamp _ (by omega) (by omega), BitVec.toInt_sub, toInt_clamp _ (by omega) (by omega)]
        rw [show (1#32 : BitVec 32).toInt = 1 from by decide]
        exact hb _ (by omega) (by omega)
      · rw [if_neg hz]
        have e : ⌊r⌋ = ⌈r⌉ := by
          refine le_antisymm hfc (Int.le_floor.mpr (not_lt.mp hz))
        rw [e, BitVec.sub_zero]

end Cert.Proof.Sc

end
-- ==== Proof.ObjMath.lean ====
/-
  The objectness of a level over the extended reals: the targets met one by one against the last boxes of their cells, and
  the differences' sums against the sums' differences.
-/
module

public import proofs.«01_k».proof.Proof.ScAlg

@[expose] public section

noncomputable section

namespace Cert.Proof.Obj

open Idealize.ShloMosaic

theorem hits_eq (n : ℕ) (c : Fin 8 → ℕ) (v : Fin 8 → Prop) (hc : ∀ i, v i → c i < n) (y : ℕ → EReal) :
    (open Classical in ∑ k : Fin n, (if ∃ i, v i ∧ c i = k.val then y k.val else 0))
      = (open Classical in ∑ i, (if v i ∧ ∀ j, i < j → ¬ (c i = c j ∧ v j) then y (c i) else 0)) := by
  classical
  have h1 : ∀ i, (if v i ∧ ∀ j, i < j → ¬ (c i = c j ∧ v j) then y (c i) else 0)
      = ∑ k : Fin n, if (v i ∧ ∀ j, i < j → ¬ (c i = c j ∧ v j)) ∧ c i = k.val then y k.val else 0 := by
    intro i
    by_cases h : v i ∧ ∀ j, i < j → ¬ (c i = c j ∧ v j)
    · rw [if_pos h, Finset.sum_eq_single (⟨c i, hc i h.1⟩ : Fin n)]
      · rw [if_pos ⟨h, rfl⟩]
      · intro k _ hk
        rw [if_neg]
        exact fun e => hk (Fin.ext e.2.symm)
      · exact fun e => absurd (Finset.mem_univ _) e
    · rw [if_neg h]
      exact (Finset.sum_eq_zero fun k _ => if_neg fun e => h e.1).symm
  rw [Finset.sum_congr rfl fun i _ => h1 i, Finset.sum_comm]
  refine Finset.sum_congr rfl fun k _ => ?_
  by_cases h : ∃ i, v i ∧ c i = k.val
  · rw [if_pos h]
    have hne : (Finset.univ.filter fun i : Fin 8 => v i ∧ c i = k.val).Nonempty := by
      obtain ⟨i, hi⟩ := h
      exact ⟨i, by simp [hi]⟩
    have hm := Finset.max'_mem _ hne
    have hle : ∀ i, v i ∧ c i = k.val → i ≤ Finset.max' _ hne := fun i hi => Finset.le_max' _ _ (by simp [hi])
    generalize Finset.max' _ hne = t at hm hle
    have ht : v t ∧ c t = k.val := by simpa using hm
    rw [Finset.sum_eq_single t]
    · rw [if_pos ⟨⟨ht.1, fun j hj e => absurd (hle j ⟨e.2, e.1.symm.trans ht.2⟩) (not_le.mpr hj)⟩, ht.2⟩]
    · intro i _ hi
      rw [if_neg]
      rintro ⟨⟨hv, hl⟩, he⟩
      exact hl t (lt_of_le_of_ne (hle i ⟨hv, he⟩) hi) ⟨he.trans ht.2.symm, ht.1⟩
    · exact fun e => absurd (Finset.mem_univ _) e
  · rw [if_neg h]
    exact (Finset.sum_eq_zero fun i _ => if_neg fun e => h ⟨i, e.1.1, e.2⟩).symm

/-! ## Sums and means -/

theorem neg_sum_top {ι : Type} (s : Finset ι) (f : ι → EReal) (h : ∀ i, f i ≠ ⊤) : (∑ i ∈ s, f i ≠ ⊤) ∧ -(∑ i ∈ s, f i) = ∑ i ∈ s, -f i := by
  classical
  induction s using Finset.induction_on with
  | empty => simp
  | insert a s ha ih =>
    rw [Finset.sum_insert ha, Finset.sum_insert ha]
    exact ⟨EReal.add_ne_top (h a) ih.1, by rw [EReal.neg_add (.inr ih.1) (.inl (h a)), sub_eq_add_neg, ih.2]⟩

theorem neg_sum_bot {ι : Type} (s : Finset ι) (f : ι → EReal) (h : ∀ i, f i ≠ ⊥) : (∑ i ∈ s, f i ≠ ⊥) ∧ -(∑ i ∈ s, f i) = ∑ i ∈ s, -f i := by
  classical
  induction s using Finset.induction_on with
  | empty => simp
  | insert a s ha ih =>
    rw [Finset.sum_insert ha, Finset.sum_insert ha]
    exact ⟨fun e => (EReal.add_eq_bot_iff.mp e).elim (h a) ih.1, by rw [EReal.neg_add (.inl (h a)) (.inr ih.1), sub_eq_add_neg, ih.2]⟩

theorem div_nat (a : EReal) (n : ℕ) (hn : 0 < n) : Ideal.div a ((n : ℝ) : EReal) = a * (((n : ℝ)⁻¹ : ℝ) : EReal) := by
  unfold Ideal.div
  have h : (n : ℝ) ≠ 0 := by exact_mod_cast hn.ne'
  rw [if_neg (by exact_mod_cast h), ← EReal.coe_inv]

theorem add_mul_coe (a b : EReal) (c : ℝ) (hc : 0 ≤ c) : (a + b) * (c : EReal) = a * c + b * c :=
  EReal.right_distrib_of_nonneg_of_ne_top (by exact_mod_cast hc) (EReal.coe_ne_top c) a b

theorem sum_mul_coe {ι : Type} (s : Finset ι) (f : ι → EReal) (c : ℝ) (hc : 0 ≤ c) : (∑ i ∈ s, f i) * (c : EReal) = ∑ i ∈ s, f i * c := by
  classical
  induction s using Finset.induction_on with
  | empty => simp
  | insert a s h ih => rw [Finset.sum_insert h, Finset.sum_insert h, add_mul_coe _ _ _ hc, ih]

/-- The softplus. -/
def sp (x : EReal) : EReal := max x 0 + Ideal.log1p (Ideal.exp (0 - max x (-x)))

theorem bce_eq (x t : EReal) : (max x 0 - x * t) + Ideal.log1p (Ideal.exp (-(max x (-x)))) = sp x + -(x * t) := by
  unfold sp
  rw [zero_sub, sub_eq_add_neg, add_right_comm]

theorem bits_4096 : Ideal.ofBits .f32 0x45800000#32 = ((4096 : ℝ) : EReal) := by simp [Ideal.ofBits, Ideal.ieee, -EReal.coe_mul, -EReal.coe_neg]; norm_num
theorem bits_1024 : Ideal.ofBits .f32 0x44800000#32 = ((1024 : ℝ) : EReal) := by simp [Ideal.ofBits, Ideal.ieee, -EReal.coe_mul, -EReal.coe_neg]; norm_num
theorem bits_256 : Ideal.ofBits .f32 0x43800000#32 = ((256 : ℝ) : EReal) := by simp [Ideal.ofBits, Ideal.ieee, -EReal.coe_mul, -EReal.coe_neg]; norm_num
theorem bits_0 : Ideal.ofBits .f32 0x00000000#32 = 0 := by simp [Ideal.ofBits, Ideal.ieee]
theorem bits_1 : Ideal.ofBits .f32 0x3F800000#32 = ((1 : ℝ) : EReal) := by simp [Ideal.ofBits, Ideal.ieee, -EReal.coe_mul, -EReal.coe_neg]; norm_num

/-! ## A level -/

section Level
variable (n : ℕ) (q : Fin 16 → Fin 8 → BitVec 32) (x : Fin 16 → ℕ → EReal)

/-- Inside the map. -/
def Ins (b : BitVec 32) : Prop := 0 ≤ b.toInt ∧ b.toInt < n

/-- Clipped to the map. -/
def clp (b : BitVec 32) : ℕ := min (n - 1) b.toInt.toNat

/-- The last of its image's boxes in its cell, inside the map. -/
def Last (r : Fin 16) (i : Fin 8) : Prop := Ins n (q r i) ∧ ∀ j, i < j → ¬ (clp n (q r i) = clp n (q r j) ∧ Ins n (q r j))

/-- The maps' share, the boxes' share, and the reference's level. -/
def mapsV : EReal := Ideal.div (∑ r : Fin 16, ∑ k : Fin n, sp (x r k.val)) ((n : ℝ) : EReal)
def boxesV : EReal := Ideal.div (∑ r : Fin 16, ∑ i : Fin 8, (open Classical in if Last n q r i then x r (clp n (q r i)) else 0)) ((n : ℝ) : EReal)
def tgt (r : Fin 16) (k : ℕ) : EReal := open Classical in if ∃ i, q r i = BitVec.ofNat 32 k then 1 else 0
def levelV : EReal := ∑ r : Fin 16, Ideal.div (∑ k : Fin n, (sp (x r k.val) + -(x r k.val * tgt q r k.val))) ((n : ℝ) : EReal)

/-- Not both infinities. -/
def One : Prop := (∀ r k, k < n → x r k ≠ ⊤) ∨ (∀ r k, k < n → x r k ≠ ⊥)

theorem eq_ofNat_iff (hn : n ≤ 4096) (b : BitVec 32) (k : ℕ) (hk : k < n) : b = BitVec.ofNat 32 k ↔ Ins n b ∧ clp n b = k := by
  have e : (BitVec.ofNat 32 k).toInt = k := by
    have h : (BitVec.ofNat 32 k).toNat = k := by rw [BitVec.toNat_ofNat]; exact Nat.mod_eq_of_lt (by norm_num; omega)
    rw [BitVec.toInt_eq_toNat_of_lt (by rw [h]; norm_num; omega), h]
  unfold Ins clp
  constructor
  · rintro rfl
    rw [e]
    omega
  · rintro ⟨h, hc⟩
    refine BitVec.eq_of_toInt_eq ?_
    rw [e]
    omega

theorem neg_boxes (hn0 : 0 < n) (h : One n x) :
    (open Classical in -(∑ r : Fin 16, ∑ i : Fin 8, (if Last n q r i then x r (clp n (q r i)) else 0))
      = ∑ r : Fin 16, ∑ i : Fin 8, (if Last n q r i then -x r (clp n (q r i)) else 0)) := by
  classical
  have hlt : ∀ r i, Last n q r i → clp n (q r i) < n := fun r i h => by unfold clp; omega
  have e : ∀ r i, -(if Last n q r i then x r (clp n (q r i)) else 0) = if Last n q r i then -x r (clp n (q r i)) else 0 := by
    intro r i
    split_ifs
    · rfl
    · exact neg_zero
  rcases h with h | h
  · have h1 : ∀ r i, (if Last n q r i then x r (clp n (q r i)) else 0) ≠ ⊤ := by
      intro r i
      split_ifs with hl
      · exact h r _ (hlt r i hl)
      · exact EReal.zero_ne_top
    rw [(neg_sum_top _ _ fun r => (neg_sum_top _ _ (h1 r)).1).2]
    exact Finset.sum_congr rfl fun r _ => (neg_sum_top _ _ (h1 r)).2.trans (Finset.sum_congr rfl fun i _ => e r i)
  · have h1 : ∀ r i, (if Last n q r i then x r (clp n (q r i)) else 0) ≠ ⊥ := by
      intro r i
      split_ifs with hl
      · exact h r _ (hlt r i hl)
      · exact EReal.zero_ne_bot
    rw [(neg_sum_bot _ _ fun r => (neg_sum_bot _ _ (h1 r)).1).2]
    exact Finset.sum_congr rfl fun r _ => (neg_sum_bot _ _ (h1 r)).2.trans (Finset.sum_congr rfl fun i _ => e r i)

theorem level_eq (hn0 : 0 < n) (hn : n ≤ 4096) (h : One n x) : levelV n q x = mapsV n x - boxesV n q x := by
  classical
  have hc : (0 : ℝ) ≤ (n : ℝ)⁻¹ := by positivity
  unfold levelV mapsV boxesV
  rw [div_nat _ n hn0, div_nat _ n hn0, Finset.sum_congr rfl fun r _ => div_nat _ n hn0, ← sum_mul_coe _ _ _ hc, sub_eq_add_neg, ← EReal.neg_mul,
    neg_boxes n q x hn0 h, ← add_mul_coe _ _ _ hc, ← Finset.sum_add_distrib]
  congr 1
  refine Finset.sum_congr rfl fun r _ => ?_
  rw [Finset.sum_add_distrib]
  congr 1
  have h := hits_eq n (fun i => clp n (q r i)) (fun i => Ins n (q r i)) (fun i hi => by unfold clp; omega) (fun k => -x r k)
  unfold Last
  refine Eq.trans ?_ (h.trans (Finset.sum_congr rfl fun i _ => by congr))
  refine Finset.sum_congr rfl fun k _ => ?_
  unfold tgt
  by_cases hk : ∃ i, q r i = BitVec.ofNat 32 k.val
  · rw [if_pos hk, if_pos ((exists_congr fun i => eq_ofNat_iff n hn _ _ k.isLt).mp hk), mul_one]
  · rw [if_neg hk, if_neg (fun h' => hk ((exists_congr fun i => eq_ofNat_iff n hn _ _ k.isLt).mpr h')), mul_zero, neg_zero]
end Level

end Cert.Proof.Obj
-- ==== Proof.ObjTc.lean ====
/-
  The TensorCore kernel's objectness over the extended reals: each level's shares.
-/
module

public import proofs.«01_k».proof.Proof.TcVal
public import proofs.«01_k».proof.Proof.ObjMath
public import Idealize.ShloMosaic.Lib.Pipeline.Value
public import Idealize.ShloMosaic.Lib.MatmulPlain

@[expose] public section

noncomputable section

namespace Cert.Proof.Obj

open Cert.KernelIdeal Cert.KernelIdeal.Gen
open Idealize.ShloMosaic Idealize.ShloMosaic.ValueIdx
open Cert.Proof.Tc

theorem sum_maps {n : ℕ} (f : (⟨4, ![1, 16, 1, n]⟩ : Shape).Idx → EReal) :
    ∑ i, f i = ∑ r : Fin 16, ∑ k : Fin n, f (ix4 (0 : Fin 1) r (0 : Fin 1) k) := by
  rw [← Fintype.sum_prod_type' (fun (r : Fin 16) (k : Fin n) => f (ix4 (0 : Fin 1) r (0 : Fin 1) k))]
  refine Fintype.sum_equiv
    { toFun := fun i => ((i 1 : Fin 16), (i 3 : Fin n))
      invFun := fun p => ix4 (0 : Fin 1) p.1 (0 : Fin 1) p.2
      left_inv := fun i => funext fun a => by
        fin_cases a
        · exact Subsingleton.elim (α := Fin 1) _ _
        · rfl
        · exact Subsingleton.elim (α := Fin 1) _ _
        · rfl
      right_inv := fun p => rfl } _ _ fun i => ?_
  refine congrArg f (funext fun a => ?_)
  fin_cases a
  · exact Subsingleton.elim (α := Fin 1) _ _
  · rfl
  · exact Subsingleton.elim (α := Fin 1) _ _
  · rfl

theorem sum_boxes (f : S1x16x8.Idx → EReal) : ∑ i, f i = ∑ r : Fin 16, ∑ k : Fin 8, f (ix3 (0 : Fin 1) r k) := by
  rw [← Fintype.sum_prod_type' (fun (r : Fin 16) (k : Fin 8) => f (ix3 (0 : Fin 1) r k))]
  refine Fintype.sum_equiv
    { toFun := fun i => ((i 1 : Fin 16), (i 2 : Fin 8))
      invFun := fun p => ix3 (0 : Fin 1) p.1 p.2
      left_inv := fun i => funext fun a => by
        fin_cases a
        · exact Subsingleton.elim (α := Fin 1) _ _
        · rfl
        · rfl
      right_inv := fun p => rfl } _ _ fun i => ?_
  refine congrArg f (funext fun a => ?_)
  fin_cases a
  · exact Subsingleton.elim (α := Fin 1) _ _
  · rfl
  · rfl

theorem mapT_eq (n : ℕ) (hw : BitVec 32) (hb : Ideal.ofBits .f32 hw = ((n : ℝ) : EReal)) (X : FVec Ideal ⟨3, ![16, 1, n]⟩ .f32)
    (x : Fin 16 → ℕ → EReal) (hx : ∀ (r : Fin 16) (k : Fin n), X (ix3 r (0 : Fin 1) k) = x r k.val) (h1) (h2) (h3) :
    mapT (F := Ideal) n hw X h1 h2 h3 = mapsV n x := by
  unfold mapT
  show Ideal.div (Ideal.reduceAdd h3 _ _) (Ideal.ofBits .f32 hw) = _
  rw [Ideal.reduceAdd_total h3 (by intro b; fin_cases b; rfl), sum_maps]
  have hk : ∀ (r : Fin 16) (k : Fin n), shapeCast ⟨4, ![1, 16, 1, n]⟩ (softT (F := Ideal) (shapeCast ⟨3, ![16, 1, n]⟩ X h1)) h2 (ix4 (0 : Fin 1) r (0 : Fin 1) k)
      = sp (x r k.val) := by
    intro r k
    refine (shapeCast_apply _ h2 _ (ix3 r (0 : Fin 1) k) ?_).trans ?_
    · rw [Shape.rowMajor_val_three, Shape.rowMajor_val_four]
      show (r.val * 1 + 0) * n + k.val = ((0 * 16 + r.val) * 1 + 0) * n + k.val
      simp
    · unfold sp
      have e : shapeCast ⟨3, ![16, 1, n]⟩ X h1 (ix3 r (0 : Fin 1) k) = x r k.val := (shapeCast_apply X h1 _ _ rfl).trans (hx r k)
      rw [← e, ← bits_0]
      rfl
  rw [Finset.sum_congr rfl fun r _ => Finset.sum_congr rfl fun k _ => hk r k, hb]
  rfl

theorem col_apply {α : Type} (k : ℕ) (h : k < 8) (v : S16x8.Idx → α) (r : Fin 16) : col k h v (ix2 r (0 : Fin 1)) = v (ix2 r (⟨k, h⟩ : Fin 8)) := by
  unfold col
  exact extractStridedSlice_apply _ _ _ _ _ (by intro d; fin_cases d <;> simp)

theorem both_apply (vl : IVec S16x8 1) (cl : IVec S16x8 32) (i j : ℕ) (hi : i < 8) (hj : j < 8) (r : Fin 16) :
    both (F := Ideal) vl cl i j hi hj (ix2 r (0 : Fin 1)) = (open Classical in if cl (ix2 r (⟨i, hi⟩ : Fin 8)) = cl (ix2 r (⟨j, hj⟩ : Fin 8)) ∧ vl (ix2 r (⟨j, hj⟩ : Fin 8)) = 1#1 then (1 : EReal) else 0) := by
  rw [← col_apply i hi cl r, ← col_apply j hj cl r, ← col_apply j hj vl r]
  unfold both
  generalize col i hi cl = a
  generalize col j hj cl = b
  generalize col j hj vl = v
  show (((((BitVec.ofBool (a (ix2 r (0 : Fin 1)) == b (ix2 r (0 : Fin 1)))) &&& v (ix2 r (0 : Fin 1))).setWidth 32).toInt : ℝ) : EReal) = _
  generalize a (ix2 r (0 : Fin 1)) = a
  generalize b (ix2 r (0 : Fin 1)) = b
  generalize v (ix2 r (0 : Fin 1)) = v
  have hv : v = 0#1 ∨ v = 1#1 := by revert v; decide
  by_cases h : a = b
  · rcases hv with rfl | rfl <;> simp [h]
  · have e : (a == b) = false := by simpa using h
    rcases hv with rfl | rfl <;> simp [h, e]

/-- A count of nothing yet, and of nothing exactly when all counted so far fail. -/
def Cnt (a : EReal) (S : Prop) : Prop := 0 ≤ a ∧ (a = 0 ↔ S)

theorem Cnt.step {a : EReal} {S : Prop} (h : Cnt a S) (P : Prop) [Decidable P] : Cnt (a + (if P then (1 : EReal) else 0)) (S ∧ ¬ P) := by
  by_cases hP : P
  · rw [if_pos hP]
    have : 0 < a + 1 := lt_of_lt_of_le (by norm_num : (0 : EReal) < 0 + 1) (add_le_add_left h.1 1)
    exact ⟨this.le, ⟨fun e => absurd e this.ne', fun e => absurd hP e.2⟩⟩
  · rw [if_neg hP, add_zero]
    exact ⟨h.1, h.2.trans ⟨fun s => ⟨s, hP⟩, fun s => s.1⟩⟩

theorem zero_cnt (r : Fin 16) : Cnt (zeroCol (F := Ideal) (ix2 r (0 : Fin 1))) True :=
  ⟨le_of_eq bits_0.symm, fun _ => trivial, fun _ => bits_0⟩

theorem cat8 (v0 v1 v2 v3 v4 v5 v6 v7 : FVec Ideal S16x1 .f32) (h) (r : Fin 16) (i : Fin 8) :
    concatenate S16x8 1 [⟨S16x1, v0⟩, ⟨S16x1, v1⟩, ⟨S16x1, v2⟩, ⟨S16x1, v3⟩, ⟨S16x1, v4⟩, ⟨S16x1, v5⟩, ⟨S16x1, v6⟩, ⟨S16x1, v7⟩] h (ix2 r i)
      = (![v0, v1, v2, v3, v4, v5, v6, v7] i) (ix2 r (0 : Fin 1)) := by
  refine concatenate_ofFn_unit_apply (t := S16x8) (s₁ := S16x1) 1 (N := 8) ![v0, v1, v2, v3, v4, v5, v6, v7] h rfl rfl (ix2 r i) i rfl (ix2 r (0 : Fin 1)) ?_
  intro b hb
  fin_cases b
  · rfl
  · exact absurd rfl hb

section Last
variable (vl : IVec S16x8 1) (cl : IVec S16x8 32) (r : Fin 16)

def Both (i j : Fin 8) : Prop := cl (ix2 r i) = cl (ix2 r j) ∧ vl (ix2 r j) = 1#1

theorem col_step (a : FVec Ideal S16x1 .f32) (S : Prop) (h : Cnt (a (ix2 r (0 : Fin 1))) S) (i j : ℕ) (hi : i < 8) (hj : j < 8) :
    Cnt (addf a (both (F := Ideal) vl cl i j hi hj) (ix2 r (0 : Fin 1))) (S ∧ ¬ Both vl cl r ⟨i, hi⟩ ⟨j, hj⟩) := by
  show Cnt (a (ix2 r (0 : Fin 1)) + both (F := Ideal) vl cl i j hi hj (ix2 r (0 : Fin 1))) _
  rw [both_apply]
  exact h.step _

theorem lastW_apply (i : Fin 8) : lastW (F := Ideal) vl cl (ix2 r i)
    = (open Classical in if vl (ix2 r i) = 1#1 ∧ ∀ j, i < j → ¬ Both vl cl r i j then (1 : EReal) else 0) := by
  have key : ∀ (D : FVec Ideal S16x8 .f32) (S : Prop), Cnt (D (ix2 r i)) S →
      select (andi vl (cmpf .oeq D (broadcast S16x8 (Scalar.ofBits .f32 0x00000000#32 : Ideal .f32)))) (broadcast S16x8 (Scalar.ofBits .f32 0x3F800000#32 : Ideal .f32))
        (broadcast S16x8 (Scalar.ofBits .f32 0x00000000#32 : Ideal .f32)) (ix2 r i) = (open Classical in if vl (ix2 r i) = 1#1 ∧ S then (1 : EReal) else 0) := by
    intro D S h
    show (if (vl (ix2 r i)) &&& BitVec.ofBool (decide (D (ix2 r i) = Ideal.ofBits .f32 0x00000000#32)) = 1#1 then Ideal.ofBits .f32 0x3F800000#32 else Ideal.ofBits .f32 0x00000000#32) = _
    rw [bits_0, bits_1]
    have hv : vl (ix2 r i) = 0#1 ∨ vl (ix2 r i) = 1#1 := by generalize vl (ix2 r i) = v; revert v; decide
    by_cases hS : S
    · rw [decide_eq_true (h.2.mpr hS)]
      rcases hv with e | e <;> simp [e, hS]
    · rw [decide_eq_false (fun e => hS (h.2.mp e))]
      rcases hv with e | e <;> simp [e, hS]
  unfold lastW
  refine (key _ (∀ j, i < j → ¬ Both vl cl r i j) ?_).trans (by congr)
  rw [cat8]
  have z := zero_cnt r
  have c0 := col_step vl cl r _ _ (col_step vl cl r _ _ (col_step vl cl r _ _ (col_step vl cl r _ _ (col_step vl cl r _ _ (col_step vl cl r _ _ (col_step vl cl r _ _ z 0 1 (by decide) (by decide)) 0 2 (by decide) (by decide)) 0 3 (by decide) (by decide)) 0 4 (by decide) (by decide)) 0 5 (by decide) (by decide)) 0 6 (by decide) (by decide)) 0 7 (by decide) (by decide)
  have c1 := col_step vl cl r _ _ (col_step vl cl r _ _ (col_step vl cl r _ _ (col_step vl cl r _ _ (col_step vl cl r _ _ (col_step vl cl r _ _ z 1 2 (by decide) (by decide)) 1 3 (by decide) (by decide)) 1 4 (by decide) (by decide)) 1 5 (by decide) (by decide)) 1 6 (by decide) (by decide)) 1 7 (by decide) (by decide)
  have c2 := col_step vl cl r _ _ (col_step vl cl r _ _ (col_step vl cl r _ _ (col_step vl cl r _ _ (col_step vl cl r _ _ z 2 3 (by decide) (by decide)) 2 4 (by decide) (by decide)) 2 5 (by decide) (by decide)) 2 6 (by decide) (by decide)) 2 7 (by decide) (by decide)
  have c3 := col_step vl cl r _ _ (col_step vl cl r _ _ (col_step vl cl r _ _ (col_step vl cl r _ _ z 3 4 (by decide) (by decide)) 3 5 (by decide) (by decide)) 3 6 (by decide) (by decide)) 3 7 (by decide) (by decide)
  have c4 := col_step vl cl r _ _ (col_step vl cl r _ _ (col_step vl cl r _ _ z 4 5 (by decide) (by decide)) 4 6 (by decide) (by decide)) 4 7 (by decide) (by decide)
  have c5 := col_step vl cl r _ _ (col_step vl cl r _ _ z 5 6 (by decide) (by decide)) 5 7 (by decide) (by decide)
  have c6 := col_step vl cl r _ _ z 6 7 (by decide) (by decide)
  have red : ∀ (a : EReal) (S T : Prop), Cnt a S → (S ↔ T) → Cnt a T := fun a S T h e => ⟨h.1, h.2.trans e⟩
  fin_cases i
  · refine red _ _ _ c0 ⟨fun h j hj => ?_, fun h => ⟨⟨⟨⟨⟨⟨⟨trivial, h 1 (by decide)⟩, h 2 (by decide)⟩, h 3 (by decide)⟩, h 4 (by decide)⟩, h 5 (by decide)⟩, h 6 (by decide)⟩, h 7 (by decide)⟩⟩
    fin_cases j <;> first | exact absurd hj (by decide) | exact h.2 | exact h.1.2 | exact h.1.1.2 | exact h.1.1.1.2 | exact h.1.1.1.1.2 | exact h.1.1.1.1.1.2 | exact h.1.1.1.1.1.1.2
  · refine red _ _ _ c1 ⟨fun h j hj => ?_, fun h => ⟨⟨⟨⟨⟨⟨trivial, h 2 (by decide)⟩, h 3 (by decide)⟩, h 4 (by decide)⟩, h 5 (by decide)⟩, h 6 (by decide)⟩, h 7 (by decide)⟩⟩
    fin_cases j <;> first | exact absurd hj (by decide) | exact h.2 | exact h.1.2 | exact h.1.1.2 | exact h.1.1.1.2 | exact h.1.1.1.1.2 | exact h.1.1.1.1.1.2
  · refine red _ _ _ c2 ⟨fun h j hj => ?_, fun h => ⟨⟨⟨⟨⟨trivial, h 3 (by decide)⟩, h 4 (by decide)⟩, h 5 (by decide)⟩, h 6 (by decide)⟩, h 7 (by decide)⟩⟩
    fin_cases j <;> first | exact absurd hj (by decide) | exact h.2 | exact h.1.2 | exact h.1.1.2 | exact h.1.1.1.2 | exact h.1.1.1.1.2
  · refine red _ _ _ c3 ⟨fun h j hj => ?_, fun h => ⟨⟨⟨⟨trivial, h 4 (by decide)⟩, h 5 (by decide)⟩, h 6 (by decide)⟩, h 7 (by decide)⟩⟩
    fin_cases j <;> first | exact absurd hj (by decide) | exact h.2 | exact h.1.2 | exact h.1.1.2 | exact h.1.1.1.2
  · refine red _ _ _ c4 ⟨fun h j hj => ?_, fun h => ⟨⟨⟨trivial, h 5 (by decide)⟩, h 6 (by decide)⟩, h 7 (by decide)⟩⟩
    fin_cases j <;> first | exact absurd hj (by decide) | exact h.2 | exact h.1.2 | exact h.1.1.2
  · refine red _ _ _ c5 ⟨fun h j hj => ?_, fun h => ⟨⟨trivial, h 6 (by decide)⟩, h 7 (by decide)⟩⟩
    fin_cases j <;> first | exact absurd hj (by decide) | exact h.2 | exact h.1.2
  · refine red _ _ _ c6 ⟨fun h j hj => ?_, fun h => ⟨trivial, h 7 (by decide)⟩⟩
    fin_cases j <;> first | exact absurd hj (by decide) | exact h.2
  · refine red _ _ _ z ⟨fun _ j hj => ?_, fun _ => trivial⟩
    fin_cases j <;> exact absurd hj (by decide)
end Last

theorem boxT_eq (n : ℕ) (hw : BitVec 32) (hb : Ideal.ofBits .f32 hw = ((n : ℝ) : EReal)) (vl : IVec S16x8 1) (cl : IVec S16x8 32)
    (g : FVec Ideal S16x512 .f32) (s : FVec Ideal S512x8 .f32) (q : Fin 16 → Fin 8 → BitVec 32) (x : Fin 16 → ℕ → EReal)
    (hv : ∀ r i, vl (ix2 r i) = 1#1 ↔ Ins n (q r i)) (hc : ∀ r i, (cl (ix2 r i)).toNat = clp n (q r i))
    (hg : ∀ (r : Fin 16) (i : Fin 8), g (ix2 r (⟨64 * i.val, by omega⟩ : Fin 512)) = x r (clp n (q r i)))
    (hs : ∀ (k : Fin 512) (i : Fin 8), s (ix2 k i) = if k.val = 64 * i.val then (1 : EReal) else 0) :
    boxT (F := Ideal) hw vl cl g s = boxesV n q x := by
  classical
  unfold boxT
  show Ideal.div (Ideal.reduceAdd reduces_S1x16x8_S1 _ _) (Ideal.ofBits .f32 hw) = _
  rw [Ideal.reduceAdd_total reduces_S1x16x8_S1 (by intro b; fin_cases b; rfl), sum_boxes]
  have hm : ∀ (r : Fin 16) (i : Fin 8), FloatOps.matmul (F := Ideal) dot_S16x512_S512x8_S16x8_1_0_0_1_n_n none (shapeCast S16x512 g shapeCasts_S16x512_S16x512) s (constant S16x8 .f32 0x00000000#32) (ix2 r i)
      = x r (clp n (q r i)) := by
    intro r i
    refine (Ideal.matmul_plain_apply (M := 16) (K := 512) (N := 8) none _ _ _ r i).trans ?_
    rw [Finset.sum_eq_single (⟨64 * i.val, by omega⟩ : Fin 512)]
    · rw [hs, if_pos rfl, mul_one, shapeCast_apply g shapeCasts_S16x512_S16x512 _ (ix2 r (⟨64 * i.val, by omega⟩ : Fin 512)) rfl, hg]
      show Ideal.ofBits .f32 0x00000000#32 + _ = _
      rw [bits_0, zero_add]
    · intro k _ hk
      rw [hs, if_neg (fun e => hk (Fin.ext e)), mul_zero]
    · exact fun e => absurd (Finset.mem_univ _) e
  have hl : ∀ (r : Fin 16) (i : Fin 8), lastW (F := Ideal) vl cl (ix2 r i) = if Last n q r i then (1 : EReal) else 0 := by
    intro r i
    rw [lastW_apply]
    have e : (vl (ix2 r i) = 1#1 ∧ ∀ j, i < j → ¬ Both vl cl r i j) ↔ Last n q r i := by
      unfold Last Both
      refine and_congr (hv r i) (forall_congr' fun j => imp_congr Iff.rfl (not_congr (and_congr ?_ (hv r j))))
      rw [← hc r i, ← hc r j]
      exact ⟨fun h => congrArg _ h, fun h => BitVec.eq_of_toNat_eq h⟩
    by_cases h : Last n q r i
    · rw [if_pos (e.mpr h), if_pos h]
    · rw [if_neg (fun h' => h (e.mp h')), if_neg h]
  have ht : ∀ (r : Fin 16) (i : Fin 8), shapeCast S1x16x8 (mulf (lastW (F := Ideal) vl cl) (matmul dot_S16x512_S512x8_S16x8_1_0_0_1_n_n none (shapeCast S16x512 g shapeCasts_S16x512_S16x512) s (constant S16x8 .f32 0x00000000#32)))
      shapeCasts_S16x8_S1x16x8 (ix3 (0 : Fin 1) r i) = if Last n q r i then x r (clp n (q r i)) else 0 := by
    intro r i
    refine (shapeCast_apply _ _ _ (ix2 r i) ?_).trans ?_
    · rw [Shape.rowMajor_val_three, Shape.rowMajor_val_two]
      show r.val * 8 + i.val = (0 * 16 + r.val) * 8 + i.val
      simp
    · show lastW (F := Ideal) vl cl (ix2 r i) * FloatOps.matmul (F := Ideal) dot_S16x512_S512x8_S16x8_1_0_0_1_n_n none (shapeCast S16x512 g shapeCasts_S16x512_S16x512) s (constant S16x8 .f32 0x00000000#32) (ix2 r i) = _
      rw [hl, hm]
      split_ifs
      · exact one_mul _
      · exact zero_mul _
  rw [Finset.sum_congr rfl fun r _ => Finset.sum_congr rfl fun i _ => ht r i, hb]
  unfold boxesV
  congr

end Cert.Proof.Obj
-- ==== Proof.ScCell.lean ====
/-
  A box's cell over the extended reals, as the reference computes it: divide by the level's stride, multiply by the image's
  side, take the floor.
-/
module

public import proofs.«01_k».proof.Proof.ScVal
public import proofs.«01_k».proof.Proof.ScAlg

@[expose] public section

noncomputable section

namespace Cert.Proof.Sc

open Cert.KernelIdeal Cert.KernelIdeal.Gen
open Idealize.ShloMosaic

/-- One coordinate of a box's cell, as the reference computes it. -/
def coord (a : BitVec 32) (x : EReal) : BitVec 32 :=
  Ideal.fptosi 32 (Ideal.liftRound Int.floor (Ideal.div x (Ideal.ofBits .f32 a) * Ideal.ofBits .f32 0x44000000#32))

theorem flo_scale (s a : BitVec 32) (sr ar : ℝ) (hs : Ideal.ofBits .f32 s = (sr : EReal)) (ha : Ideal.ofBits .f32 a = (ar : EReal))
    (har : ar ≠ 0) (h : ar⁻¹ * 512 = sr) (h0 : 0 ≤ sr) (h1 : sr ≤ 64) (x : EReal) (hx : Ideal.ofBits .f32 0xCC000000#32 ≤ x) :
    flo (x * Ideal.ofBits .f32 s) = coord a x := by
  rw [bits_low] at hx
  rw [hs, flo_eq _ (scale_ge x sr h0 h1 hx), ← scale_eq x ar 512 sr har h]
  unfold coord
  rw [ha, bits_512]

theorem flv_lane (v : FVec Ideal S16 .f32) (k : S16.Idx) : flv (F := Ideal) v k = flo (v k) := by
  unfold flv flo
  show Ideal.fptosi 32 (v k) - (if BitVec.ofBool (decide (v k < (((Ideal.fptosi 32 (v k)).toInt : ℝ) : EReal))) = 1#1 then 1#32 else 0#32) = _
  congr 1
  by_cases h : v k < (((Ideal.fptosi 32 (v k)).toInt : ℝ) : EReal)
  · rw [if_pos h, decide_eq_true h]; rfl
  · rw [if_neg h, decide_eq_false h]; rfl

theorem cell1_eq (s wd a : BitVec 32) (sr ar : ℝ) (hs : Ideal.ofBits .f32 s = (sr : EReal)) (ha : Ideal.ofBits .f32 a = (ar : EReal))
    (har : ar ≠ 0) (h : ar⁻¹ * 512 = sr) (h0 : 0 ≤ sr) (h1 : sr ≤ 64) (x y : EReal)
    (hx : Ideal.ofBits .f32 0xCC000000#32 ≤ x) (hy : Ideal.ofBits .f32 0xCC000000#32 ≤ y) :
    cell1 (F := Ideal) s wd x y = coord a y * wd + coord a x := by
  rw [← flo_scale s a sr ar hs ha har h h0 h1 x hx, ← flo_scale s a sr ar hs ha har h h0 h1 y hy]
  unfold cell1 cells
  show flv _ _ * wd + flv _ _ = _
  rw [flv_lane, flv_lane]
  rfl

end Cert.Proof.Sc

end
-- ==== Proof.ObjKernel.lean ====
/-
  The kernel's objectness over the extended reals, in terms of the launch memory: the sum over the levels of what the
  reference's definition gives.
-/
module

public import proofs.«01_k».proof.Proof.KerVal
public import proofs.«01_k».proof.Proof.ObjTc
public import proofs.«01_k».proof.Proof.ScCell

@[expose] public section

noncomputable section

namespace Cert.Proof.Obj

open Cert.KernelIdeal Cert.KernelIdeal.Gen
open Idealize.ShloMosaic Idealize.ShloMosaic.ValueIdx
open Cert.Proof.Tc
open Cert.Proof.Sc (coord word word_at cell1 cell1_eq posOf rowVal OUT scale_eq bits_8 bits_16 bits_32 bits_64 bits_512)

/-! ## The data of a level -/

/-- The objectness channel of a level's predictions, read from the list of its words. -/
def xl (n : ℕ) [NeZero (848 * n)] (p : (⟨1, ![848 * n]⟩ : Shape).Idx → EReal) : Fin 16 → ℕ → EReal :=
  fun r k => word p ((r.val * 53 + 1) * n + k)

/-- The keypoints' channels, from the third. -/
def zl (n : ℕ) [NeZero (848 * n)] (p : (⟨1, ![848 * n]⟩ : Shape).Idx → EReal) : Fin 16 → ℕ → ℕ → EReal :=
  fun r o k => word p ((r.val * 53 + (2 + o)) * n + k)

/-- The keypoints of the boxes. -/
def kl (a : S16x8x17x3.Idx → EReal) : Fin 16 → Fin 8 → Fin 17 → Fin 3 → EReal := fun r i κ c => a (ix4 r i κ c)

/-- The boxes' cells. -/
def ql (a wd : BitVec 32) (bx : S16x8x4.Idx → EReal) : Fin 16 → Fin 8 → BitVec 32 :=
  fun r i => coord a (bx (ix3 r i (1 : Fin 4))) * wd + coord a (bx (ix3 r i (0 : Fin 4)))

/-- A word of the list, by its place in the maps. -/
theorem flat_apply {α : Type} (s n : ℕ) [NeZero (848 * n)] (hs : 0 < s) (hn : n = s * s) (p : (⟨4, ![16, 53, s, s]⟩ : Shape).Idx → α)
    (hF : (⟨4, ![16, 53, s, s]⟩ : Shape).ShapeCasts ⟨1, ![848 * n]⟩) (r : Fin 16) (k : Fin n) (c : Fin 53)
    (hk : k.val / s < s) (hm : k.val % s < s) :
    word (shapeCast ⟨1, ![848 * n]⟩ p hF) ((r.val * 53 + c.val) * n + k.val) = p (ix4 r c ⟨k.val / s, hk⟩ ⟨k.val % s, hm⟩) := by
  have hd : k.val / s * s + k.val % s = k.val := Nat.div_add_mod' _ _
  have hlt : (r.val * 53 + c.val) * n + k.val < 848 * n := by
    calc (r.val * 53 + c.val) * n + k.val < (r.val * 53 + c.val) * n + n := by have := k.isLt; omega
      _ = (r.val * 53 + c.val + 1) * n := by ring
      _ ≤ 848 * n := Nat.mul_le_mul_right _ (by omega)
  rw [word_at _ _ hlt]
  refine shapeCast_apply p hF _ (ix4 r c ⟨k.val / s, hk⟩ ⟨k.val % s, hm⟩) ?_
  rw [Shape.rowMajor_val_one, Shape.rowMajor_val_four]
  show ((r.val * 53 + c.val) * s + k.val / s) * s + k.val % s = (r.val * 53 + c.val) * n + k.val
  generalize k.val / s = u at hd
  generalize k.val % s = v at hd
  rw [← hd, hn]; ring

theorem div_lt (s n : ℕ) (hs : 0 < s) (hn : n = s * s) (k : Fin n) : k.val / s < s := by
  rw [Nat.div_lt_iff_lt_mul hs, ← hn]; exact k.isLt

/-- The kernel's maps are the list's words. -/
theorem chan_apply {α : Type} (s n : ℕ) [NeZero (848 * n)] (hs : 0 < s) (hn : n = s * s) (p : (⟨4, ![16, 53, s, s]⟩ : Shape).Idx → α)
    (hC : (⟨4, ![16, 53, s, s]⟩ : Shape).ShapeCasts ⟨3, ![16, 53, n]⟩)
    (hF : (⟨4, ![16, 53, s, s]⟩ : Shape).ShapeCasts ⟨1, ![848 * n]⟩) (r : Fin 16) (k : Fin n) :
    chan (n := n) (shapeCast ⟨3, ![16, 53, n]⟩ p hC) (ix3 r (0 : Fin 1) k) = word (shapeCast ⟨1, ![848 * n]⟩ p hF) ((r.val * 53 + 1) * n + k.val) := by
  have hk := div_lt s n hs hn k
  have hm : k.val % s < s := Nat.mod_lt _ hs
  have hd : k.val / s * s + k.val % s = k.val := Nat.div_add_mod' _ _
  refine Eq.trans ?_ (flat_apply s n hs hn p hF r k (1 : Fin 53) hk hm).symm
  refine shapeCast_apply p hC (ix3 r (1 : Fin 53) k) (ix4 r (1 : Fin 53) ⟨k.val / s, hk⟩ ⟨k.val % s, hm⟩) ?_
  rw [Shape.rowMajor_val_three, Shape.rowMajor_val_four]
  show ((r.val * 53 + 1) * s + k.val / s) * s + k.val % s = (r.val * 53 + 1) * n + k.val
  generalize k.val / s = u at hd
  generalize k.val % s = v at hd
  rw [← hd, hn]; ring

/-! ## The boxes -/

theorem toInt_small (n : ℕ) (hn' : n ≤ 4096) : (BitVec.ofNat 32 n).toInt = (n : ℤ) := by
  rw [BitVec.toInt_ofNat']
  exact Int.bmod_eq_of_le (by omega) (by omega)

theorem clip_eq (n : ℕ) (hn : 0 < n) (hn' : n ≤ 4096) (q : BitVec 32) :
    (IntOp.minsi (BitVec.ofNat 32 (n - 1)) (IntOp.maxsi 0#32 q)).toNat = clp n q := by
  have h1 := toInt_small (n - 1) (by omega)
  have h0 : (0#32 : BitVec 32).toInt = 0 := by decide
  have hm : (IntOp.maxsi 0#32 q).toInt = max 0 q.toInt := by
    unfold IntOp.maxsi
    rw [BitVec.slt_eq_decide, h0]
    by_cases h : q.toInt < 0
    · rw [if_pos (decide_eq_true h), h0]; omega
    · rw [if_neg (by simpa using h)]; omega
  have hk : (IntOp.minsi (BitVec.ofNat 32 (n - 1)) (IntOp.maxsi 0#32 q)).toInt = min ((n - 1 : ℕ) : ℤ) (max 0 q.toInt) := by
    unfold IntOp.minsi
    rw [BitVec.slt_eq_decide, hm, h1]
    by_cases h : ((n - 1 : ℕ) : ℤ) < max 0 q.toInt
    · rw [if_pos (decide_eq_true h), h1]; omega
    · rw [if_neg (by simpa using h), hm]; omega
  have hb := BitVec.toInt_eq_toNat_cond (IntOp.minsi (BitVec.ofNat 32 (n - 1)) (IntOp.maxsi 0#32 q))
  have hl := (IntOp.minsi (BitVec.ofNat 32 (n - 1)) (IntOp.maxsi 0#32 q)).isLt
  unfold clp
  rw [hk] at hb
  split at hb <;> omega

theorem ins_iff (n : ℕ) (hn' : n ≤ 4096) (q : IVec S16x8 32) (r : Fin 16) (i : Fin 8) :
    insT (BitVec.ofNat 32 n) q (ix2 r i) = 1#1 ↔ Ins n (q (ix2 r i)) := by
  show BitVec.ofBool ((0#32 : BitVec 32).sle (q (ix2 r i))) &&& BitVec.ofBool ((q (ix2 r i)).slt (BitVec.ofNat 32 n)) = 1#1 ↔ _
  rw [BitVec.sle_eq_decide, BitVec.slt_eq_decide, toInt_small n hn', show (0#32 : BitVec 32).toInt = 0 from by decide]
  unfold Ins
  by_cases h1 : 0 ≤ (q (ix2 r i)).toInt <;> by_cases h2 : (q (ix2 r i)).toInt < (n : ℤ) <;> simp [h1, h2]

theorem clip_apply (n : ℕ) (hn : 0 < n) (hn' : n ≤ 4096) (q : IVec S16x8 32) (r : Fin 16) (i : Fin 8) :
    (clipT (BitVec.ofNat 32 (n - 1)) q (ix2 r i)).toNat = clp n (q (ix2 r i)) := clip_eq n hn hn' _

/-- The two coordinates of the boxes, as the kernel is given them. -/
theorem bx0 {α : Type} (bx : S16x8x4.Idx → α) (r : Fin 16) (i : Fin 8) :
    shapeCast S16x8 (shapeCast S16x8 (extractStridedSlice S16x8x1 ![0, 0, 0] bx slices_S16x8x4_S16x8x1_0_0_0) shapeCasts_S16x8x1_S16x8) shapeCasts_S16x8_S16x8 (ix2 r i)
      = bx (ix3 r i (0 : Fin 4)) :=
  (shapeCast_apply _ _ _ (ix2 r i) rfl).trans ((shapeCast_apply _ _ _ (ix3 r i (0 : Fin 1)) (by rw [Shape.rowMajor_val_three, Shape.rowMajor_val_two]; simp)).trans
    (extractStridedSlice_apply _ _ _ _ _ (by intro d; fin_cases d <;> simp)))
theorem bx1 {α : Type} (bx : S16x8x4.Idx → α) (r : Fin 16) (i : Fin 8) :
    shapeCast S16x8 (shapeCast S16x8 (extractStridedSlice S16x8x1 ![0, 0, 1] bx slices_S16x8x4_S16x8x1_0_0_1) shapeCasts_S16x8x1_S16x8) shapeCasts_S16x8_S16x8 (ix2 r i)
      = bx (ix3 r i (1 : Fin 4)) :=
  (shapeCast_apply _ _ _ (ix2 r i) rfl).trans ((shapeCast_apply _ _ _ (ix3 r i (0 : Fin 1)) (by rw [Shape.rowMajor_val_three, Shape.rowMajor_val_two]; simp)).trans
    (extractStridedSlice_apply _ _ _ _ _ (by intro d; fin_cases d <;> simp)))

theorem cellT_eq (s wd a : BitVec 32) (sr ar : ℝ) (hs : Ideal.ofBits .f32 s = (sr : EReal)) (ha : Ideal.ofBits .f32 a = (ar : EReal))
    (har : ar ≠ 0) (h : ar⁻¹ * 512 = sr) (u v : FVec Ideal S16x8 .f32) (bx : S16x8x4.Idx → EReal)
    (hu : ∀ r i, u (ix2 r i) = bx (ix3 r i (0 : Fin 4))) (hv : ∀ r i, v (ix2 r i) = bx (ix3 r i (1 : Fin 4))) (r : Fin 16) (i : Fin 8) :
    cellT (F := Ideal) s wd u v (ix2 r i) = ql a wd bx r i := by
  have key : ∀ x : EReal, Ideal.fptosi 32 (Ideal.liftRound Int.floor (x * Ideal.ofBits .f32 s)) = coord a x := by
    intro x
    unfold coord
    rw [hs, ha, bits_512, scale_eq x ar 512 sr har h]
  unfold ql
  rw [← key, ← key, ← hu, ← hv]
  rfl

/-- The rows gathered, at the first word of a box. -/
theorem rowVal_eq (n : ℕ) [NeZero (848 * n)] (sb wd a : BitVec 32) (p : (⟨1, ![848 * n]⟩ : Shape).Idx → EReal) (bx : S16x8x4.Idx → EReal)
    (hB : S16x8x4.ShapeCasts S512)
    (hcell : ∀ (r : Fin 16) (j : Fin 8), cell1 (F := Ideal) sb wd (bx (ix3 r j (0 : Fin 4))) (bx (ix3 r j (1 : Fin 4))) = ql a wd bx r j)
    (r : Fin 16) (i : Fin 8) :
    rowVal (F := Ideal) r.val n sb wd p (shapeCast _ bx hB) (64 * i.val) = word p ((r.val * 53 + 1) * n + clp n (ql a wd bx r i)) := by
  have hbx : ∀ c : Fin 4, word (shapeCast S512 bx hB) (32 * r.val + (4 * i.val + c.val)) = bx (ix3 r i c) := by
    intro c
    rw [word_at _ _ (by omega)]
    refine shapeCast_apply _ _ _ _ ?_
    rw [Shape.rowMajor_val_one, Shape.rowMajor_val_three]
    show (r.val * 8 + i.val) * 4 + c.val = 32 * r.val + (4 * i.val + c.val)
    omega
  have e0 := hbx 0
  have e1 := hbx 1
  simp only [Fin.val_zero, Fin.val_one, Nat.add_zero, Fin.isValue] at e0 e1
  unfold rowVal posOf
  beta_reduce
  rw [show 64 * i.val / 64 = i.val from by omega, show min (64 * i.val % 64) 51 = 0 from by omega, e0, e1, hcell, Nat.add_zero]
  rfl

/-! ## The selection matrix -/

theorem lit_all : (List.range 4096).all (fun j => lit0 ⟨j % 4096, Nat.mod_lt _ (by decide)⟩ == if j / 8 = 64 * (j % 8) then 0x3F800000#32 else 0#32) = true := by
  decide +kernel

theorem lit_eq (k : Fin 512) (i : Fin 8) :
    FloatOps.ofBits (F := Ideal) .f32 (lit0 (S512x8.rowMajor (ix2 k i))) = if k.val = 64 * i.val then (1 : EReal) else 0 := by
  have hj : k.val * 8 + i.val < 4096 := by omega
  have h := List.all_eq_true.mp lit_all (k.val * 8 + i.val) (List.mem_range.mpr hj)
  have e : (S512x8.rowMajor (ix2 k i)) = ⟨(k.val * 8 + i.val) % 4096, Nat.mod_lt _ (by decide)⟩ := by
    apply Fin.ext
    rw [Shape.rowMajor_val_two]
    exact (Nat.mod_eq_of_lt hj).symm
  rw [e, beq_iff_eq.mp h, show (k.val * 8 + i.val) / 8 = k.val from by omega, show (k.val * 8 + i.val) % 8 = i.val from by omega]
  split
  · exact bits_1
  · exact bits_0

/-! ## The levels -/

/-- The boxes are not far left of or above the image. -/
def Near (bx : S16x8x4.Idx → EReal) : Prop := ∀ (r : Fin 16) (j : Fin 8) (c : Fin 2), Ideal.ofBits .f32 0xCC000000#32 ≤ bx (ix3 r j (⟨c.val, by omega⟩ : Fin 4))

theorem boxes_level (n : ℕ) [NeZero (848 * n)] (hn : 0 < n) (hn' : n ≤ 4096) (hw : BitVec 32) (hb : Ideal.ofBits .f32 hw = ((n : ℝ) : EReal))
    (wd a : BitVec 32) {sp : Shape} (p : sp.Idx → EReal) (hF : sp.ShapeCasts ⟨1, ![848 * n]⟩) (bx : S16x8x4.Idx → EReal)
    (q : IVec S16x8 32) (hq : ∀ r i, q (ix2 r i) = ql a wd bx r i) (g : FVec Ideal S16x512 .f32)
    (hg : ∀ (r : Fin 16) (i : Fin 8), g (ix2 r (⟨64 * i.val, by omega⟩ : Fin 512)) = word (shapeCast ⟨1, ![848 * n]⟩ p hF) ((r.val * 53 + 1) * n + clp n (ql a wd bx r i))) :
    boxT (F := Ideal) hw (insT (BitVec.ofNat 32 n) q) (clipT (BitVec.ofNat 32 (n - 1)) q) g (fun i => FloatOps.ofBits .f32 (lit0 (S512x8.rowMajor i)))
      = boxesV n (ql a wd bx) (xl n (shapeCast ⟨1, ![848 * n]⟩ p hF)) := by
  refine boxT_eq n hw hb _ _ g _ (ql a wd bx) _ ?_ ?_ ?_ lit_eq
  · intro r i; rw [ins_iff n hn', hq]
  · intro r i; rw [clip_apply n hn hn', hq]
  · intro r i; rw [hg]; rfl

/-- The levels, added in the kernel's order. -/
theorem levels_add (z a0 c0 a1 c1 a2 c2 : Ideal .f32) (x0 y0 x1 y1 x2 y2 : EReal) (hz : z = (0 : EReal)) (h0 : a0 = x0) (k0 : c0 = y0)
    (h1 : a1 = x1) (k1 : c1 = y1) (h2 : a2 = x2) (k2 : c2 = y2) :
    Scalar.subf (F := Ideal) (Scalar.addf (F := Ideal) (Scalar.subf (F := Ideal) (Scalar.addf (F := Ideal) (Scalar.subf (F := Ideal) (Scalar.addf (F := Ideal) z a0) c0) a1) c1) a2) c2
      = x0 - y0 + (x1 - y1) + (x2 - y2) := by
  subst hz h0 k0 h1 k1 h2 k2
  show (((((0 : EReal) + a0) - c0) + a1) - c1) + a2 - c2 = _
  simp only [sub_eq_add_neg, zero_add, add_assoc]

/-- The kernel's objectness. -/
theorem objM_eq (m : (ℓ : Loc nD τ sig) → Buf (Elt Ideal) ℓ) (d : Dev nD)
    (h0 : One 4096 (xl 4096 (shapeCast S3473408 (Sc.A0 m d) shapeCasts_S16x53x64x64_S3473408)))
    (h1 : One 1024 (xl 1024 (shapeCast S868352 (Sc.A1 m d) shapeCasts_S16x53x32x32_S868352)))
    (h2 : One 256 (xl 256 (shapeCast S217088 (Sc.A2 m d) shapeCasts_S16x53x16x16_S217088)))
    (h3 : Near (Sc.A3 m d)) :
    Sc.objM m d = levelV 4096 (ql 0x41000000#32 64#32 (Sc.A3 m d)) (xl 4096 (shapeCast S3473408 (Sc.A0 m d) shapeCasts_S16x53x64x64_S3473408))
      + levelV 1024 (ql 0x41800000#32 32#32 (Sc.A3 m d)) (xl 1024 (shapeCast S868352 (Sc.A1 m d) shapeCasts_S16x53x32x32_S868352))
      + levelV 256 (ql 0x42000000#32 16#32 (Sc.A3 m d)) (xl 256 (shapeCast S217088 (Sc.A2 m d) shapeCasts_S16x53x16x16_S217088)) := by
  have c0 : ∀ (r : Fin 16) (j : Fin 8), cell1 (F := Ideal) 0x42800000#32 64#32 (Sc.A3 m d (ix3 r j (0 : Fin 4))) (Sc.A3 m d (ix3 r j (1 : Fin 4))) = ql 0x41000000#32 64#32 (Sc.A3 m d) r j :=
    fun r j => cell1_eq _ _ _ 64 8 bits_64 bits_8 (by norm_num) (by norm_num) (by norm_num) (by norm_num) _ _ (h3 r j 0) (h3 r j 1)
  have c1 : ∀ (r : Fin 16) (j : Fin 8), cell1 (F := Ideal) 0x42000000#32 32#32 (Sc.A3 m d (ix3 r j (0 : Fin 4))) (Sc.A3 m d (ix3 r j (1 : Fin 4))) = ql 0x41800000#32 32#32 (Sc.A3 m d) r j :=
    fun r j => cell1_eq _ _ _ 32 16 bits_32 bits_16 (by norm_num) (by norm_num) (by norm_num) (by norm_num) _ _ (h3 r j 0) (h3 r j 1)
  have c2 : ∀ (r : Fin 16) (j : Fin 8), cell1 (F := Ideal) 0x41800000#32 16#32 (Sc.A3 m d (ix3 r j (0 : Fin 4))) (Sc.A3 m d (ix3 r j (1 : Fin 4))) = ql 0x42000000#32 16#32 (Sc.A3 m d) r j :=
    fun r j => cell1_eq _ _ _ 16 32 bits_16 bits_32 (by norm_num) (by norm_num) (by norm_num) (by norm_num) _ _ (h3 r j 0) (h3 r j 1)
  have g0 : ∀ (r : Fin 16) (i : Fin 8), rows 0 (by decide) (Sc.res m d : S48x512.Idx → EReal) (ix2 r (⟨64 * i.val, by omega⟩ : Fin 512))
      = word (shapeCast S3473408 (Sc.A0 m d) shapeCasts_S16x53x64x64_S3473408) ((r.val * 53 + 1) * 4096 + clp 4096 (ql 0x41000000#32 64#32 (Sc.A3 m d) r i)) := by
    intro r i
    refine Eq.trans ?_ (rowVal_eq 4096 0x42800000#32 64#32 0x41000000#32 _ (Sc.A3 m d) shapeCasts_S16x8x4_S512 c0 r i)
    show OUT (F := Ideal) _ _ _ _ (ix2 (⟨16 * 0 + r.val, _⟩ : Fin 48) (⟨64 * i.val, _⟩ : Fin 512)) = _
    unfold OUT
    rw [if_pos (show 16 * 0 + r.val < 16 by omega)]
    show rowVal (16 * 0 + r.val) _ _ _ _ _ (64 * i.val) = _
    rw [show 16 * 0 + r.val = r.val by omega]
    rfl
  have g1 : ∀ (r : Fin 16) (i : Fin 8), rows 1 (by decide) (Sc.res m d : S48x512.Idx → EReal) (ix2 r (⟨64 * i.val, by omega⟩ : Fin 512))
      = word (shapeCast S868352 (Sc.A1 m d) shapeCasts_S16x53x32x32_S868352) ((r.val * 53 + 1) * 1024 + clp 1024 (ql 0x41800000#32 32#32 (Sc.A3 m d) r i)) := by
    intro r i
    refine Eq.trans ?_ (rowVal_eq 1024 0x42000000#32 32#32 0x41800000#32 _ (Sc.A3 m d) shapeCasts_S16x8x4_S512 c1 r i)
    show OUT (F := Ideal) _ _ _ _ (ix2 (⟨16 * 1 + r.val, _⟩ : Fin 48) (⟨64 * i.val, _⟩ : Fin 512)) = _
    unfold OUT
    rw [if_neg (show ¬ 16 * 1 + r.val < 16 by omega), if_pos (show 16 * 1 + r.val < 32 by omega)]
    show rowVal (16 * 1 + r.val - 16) _ _ _ _ _ (64 * i.val) = _
    rw [show 16 * 1 + r.val - 16 = r.val by omega]
    rfl
  have g2 : ∀ (r : Fin 16) (i : Fin 8), rows 2 (by decide) (Sc.res m d : S48x512.Idx → EReal) (ix2 r (⟨64 * i.val, by omega⟩ : Fin 512))
      = word (shapeCast S217088 (Sc.A2 m d) shapeCasts_S16x53x16x16_S217088) ((r.val * 53 + 1) * 256 + clp 256 (ql 0x42000000#32 16#32 (Sc.A3 m d) r i)) := by
    intro r i
    refine Eq.trans ?_ (rowVal_eq 256 0x41800000#32 16#32 0x42000000#32 _ (Sc.A3 m d) shapeCasts_S16x8x4_S512 c2 r i)
    show OUT (F := Ideal) _ _ _ _ (ix2 (⟨16 * 2 + r.val, _⟩ : Fin 48) (⟨64 * i.val, _⟩ : Fin 512)) = _
    unfold OUT
    rw [if_neg (show ¬ 16 * 2 + r.val < 16 by omega), if_neg (show ¬ 16 * 2 + r.val < 32 by omega)]
    show rowVal (16 * 2 + r.val - 32) _ _ _ _ _ (64 * i.val) = _
    rw [show 16 * 2 + r.val - 32 = r.val by omega]
    rfl
  have q0 := fun u v hu hv => cellT_eq 0x42800000#32 64#32 0x41000000#32 64 8 bits_64 bits_8 (by norm_num) (by norm_num) u v (Sc.A3 m d) hu hv
  have q1 := fun u v hu hv => cellT_eq 0x42000000#32 32#32 0x41800000#32 32 16 bits_32 bits_16 (by norm_num) (by norm_num) u v (Sc.A3 m d) hu hv
  have q2 := fun u v hu hv => cellT_eq 0x41800000#32 16#32 0x42000000#32 16 32 bits_16 bits_32 (by norm_num) (by norm_num) u v (Sc.A3 m d) hu hv
  have m0 := mapT_eq 4096 0x45800000#32 (by rw [bits_4096]; norm_num) (chan (n := 4096) (shapeCast S16x53x4096 (Sc.A0 m d) shapeCasts_S16x53x64x64_S16x53x4096))
    (xl 4096 (shapeCast S3473408 (Sc.A0 m d) shapeCasts_S16x53x64x64_S3473408))
    (fun r k => (chan_apply 64 4096 (by decide) (by decide) (Sc.A0 m d) shapeCasts_S16x53x64x64_S16x53x4096 shapeCasts_S16x53x64x64_S3473408 r k))
    shapeCasts_S16x1x4096_S16x1x4096 shapeCasts_S16x1x4096_S1x16x1x4096 reduces_S1x16x1x4096_S1
  have m1 := mapT_eq 1024 0x44800000#32 (by rw [bits_1024]; norm_num) (chan (n := 1024) (shapeCast S16x53x1024 (Sc.A1 m d) shapeCasts_S16x53x32x32_S16x53x1024))
    (xl 1024 (shapeCast S868352 (Sc.A1 m d) shapeCasts_S16x53x32x32_S868352))
    (fun r k => (chan_apply 32 1024 (by decide) (by decide) (Sc.A1 m d) shapeCasts_S16x53x32x32_S16x53x1024 shapeCasts_S16x53x32x32_S868352 r k))
    shapeCasts_S16x1x1024_S16x1x1024 shapeCasts_S16x1x1024_S1x16x1x1024 reduces_S1x16x1x1024_S1
  have m2 := mapT_eq 256 0x43800000#32 (by rw [bits_256]; norm_num) (chan (n := 256) (shapeCast S16x53x256 (Sc.A2 m d) shapeCasts_S16x53x16x16_S16x53x256))
    (xl 256 (shapeCast S217088 (Sc.A2 m d) shapeCasts_S16x53x16x16_S217088))
    (fun r k => (chan_apply 16 256 (by decide) (by decide) (Sc.A2 m d) shapeCasts_S16x53x16x16_S16x53x256 shapeCasts_S16x53x16x16_S217088 r k))
    shapeCasts_S16x1x256_S16x1x256 shapeCasts_S16x1x256_S1x16x1x256 reduces_S1x16x1x256_S1
  have b0 := boxes_level 4096 (by decide) (by decide) 0x45800000#32 (by rw [bits_4096]; norm_num) 64#32 0x41000000#32 (Sc.A0 m d) shapeCasts_S16x53x64x64_S3473408 (Sc.A3 m d)
    _ (q0 _ _ (bx0 (Sc.A3 m d)) (bx1 (Sc.A3 m d))) _ g0
  have b1 := boxes_level 1024 (by decide) (by decide) 0x44800000#32 (by rw [bits_1024]; norm_num) 32#32 0x41800000#32 (Sc.A1 m d) shapeCasts_S16x53x32x32_S868352 (Sc.A3 m d)
    _ (q1 _ _ (bx0 (Sc.A3 m d)) (bx1 (Sc.A3 m d))) _ g1
  have b2 := boxes_level 256 (by decide) (by decide) 0x43800000#32 (by rw [bits_256]; norm_num) 16#32 0x42000000#32 (Sc.A2 m d) shapeCasts_S16x53x16x16_S217088 (Sc.A3 m d)
    _ (q2 _ _ (bx0 (Sc.A3 m d)) (bx1 (Sc.A3 m d))) _ g2
  rw [level_eq 4096 _ _ (by decide) (by decide) h0, level_eq 1024 _ _ (by decide) (by decide) h1, level_eq 256 _ _ (by decide) (by decide) h2]
  unfold Sc.objM objT
  exact levels_add _ _ _ _ _ _ _ _ _ _ _ _ _ bits_0 m0 b0 m1 b1 m2 b2

end Cert.Proof.Obj
-- ==== Proof.ObjTame.lean ====
/-
  What the precondition says of the arguments: no level's objectness holds both infinities, and the left and the upper edge
  of each box is at or above the bound.
-/
module

public import proofs.«01_k».proof.Proof.Gen.Pre_tame
public import proofs.«01_k».proof.Proof.ObjKernel
public import Idealize.ShloMosaic.Lib.ReduceAll
public import Idealize.ShloMosaic.Lib.Pipeline.Value

@[expose] public section

noncomputable section

namespace Cert.Proof.Obj

open Idealize.ShloMosaic Idealize.ShloMosaic.ValueIdx
open Cert.Pre_tame (S_ S16x64x64 S16x32x32 S16x16x16 S16x8x2 S16x8x4 S16x53x64x64 S16x53x32x32 S16x53x16x16 S16x8 S16x8x17x3)

instance : Subsingleton S_.Idx := ⟨fun _ _ => funext fun a => a.elim0⟩

theorem and_split (a b : BitVec 1) (h : a &&& b = 1#1) : a = 1#1 ∧ b = 1#1 := by
  revert a b; decide

theorem of_bool (b : Prop) [Decidable b] (h : BitVec.ofBool (decide b) = 1#1) : b := by
  by_contra hc
  rw [decide_eq_false hc] at h
  exact absurd h (by decide)

theorem bits_inf : Ideal.ofBits .f32 0x7F800000#32 = (⊤ : EReal) := by simp [Ideal.ofBits, Ideal.ieee]

theorem bits_ninf : Ideal.ofBits .f32 0xFF800000#32 = (⊥ : EReal) := by simp [Ideal.ofBits, Ideal.ieee]

theorem or_split (a b : BitVec 1) (h : a ||| b = 1#1) : a = 1#1 ∨ b = 1#1 := by
  revert a b; decide

/-- The objectness channel of the precondition, as words of the list. -/
theorem chan_word (s n : ℕ) [NeZero (848 * n)] (hs : 0 < s) (hn : n = s * s) (p : (⟨4, ![16, 53, s, s]⟩ : Shape).Idx → EReal)
    (hS : (⟨4, ![16, 53, s, s]⟩ : Shape).Slices ![0, 1, 0, 0] ⟨4, ![16, 1, s, s]⟩) (hC : (⟨4, ![16, 1, s, s]⟩ : Shape).ShapeCasts ⟨3, ![16, s, s]⟩)
    (hF : (⟨4, ![16, 53, s, s]⟩ : Shape).ShapeCasts ⟨1, ![848 * n]⟩) (r : Fin 16) (k : ℕ) (hk : k < n) :
    ∃ j, xl n (shapeCast ⟨1, ![848 * n]⟩ p hF) r k = shapeCast ⟨3, ![16, s, s]⟩ (extractStridedSlice ⟨4, ![16, 1, s, s]⟩ ![0, 1, 0, 0] p hS) hC j := by
  have hd := div_lt s n hs hn ⟨k, hk⟩
  have hm : k % s < s := Nat.mod_lt _ hs
  refine ⟨ix3 r (⟨k / s, hd⟩ : Fin s) (⟨k % s, hm⟩ : Fin s), ?_⟩
  refine (flat_apply s n hs hn p hF r ⟨k, hk⟩ (1 : Fin 53) hd hm).trans ?_
  refine ((shapeCast_apply _ hC _ (ix4 r (0 : Fin 1) (⟨k / s, hd⟩ : Fin s) (⟨k % s, hm⟩ : Fin s)) ?_).trans (extractStridedSlice_apply _ _ _ _ _ ?_)).symm
  · rw [Shape.rowMajor_val_three, Shape.rowMajor_val_four]
    show ((r.val * 1 + 0) * s + k / s) * s + k % s = (r.val * s + k / s) * s + k % s
    simp
  · intro d; fin_cases d <;> simp

theorem one_of (s n : ℕ) [NeZero (848 * n)] (hs : 0 < s) (hn : n = s * s) (p : FVec Ideal ⟨4, ![16, 53, s, s]⟩ .f32)
    (hS : (⟨4, ![16, 53, s, s]⟩ : Shape).Slices ![0, 1, 0, 0] ⟨4, ![16, 1, s, s]⟩) (hC : (⟨4, ![16, 1, s, s]⟩ : Shape).ShapeCasts ⟨3, ![16, s, s]⟩)
    (hF : (⟨4, ![16, 53, s, s]⟩ : Shape).ShapeCasts ⟨1, ![848 * n]⟩) (hb : S_.BroadcastsInDim ⟨3, ![16, s, s]⟩ (![] : Fin 0 → Fin 3))
    (hr : (⟨3, ![16, s, s]⟩ : Shape).ReducesTo [0, 1, 2] S_) (hu : 0 < S_.numel)
    (h : Host.reduce IntOp.andi (cmpf .olt (shapeCast ⟨3, ![16, s, s]⟩ (extractStridedSlice ⟨4, ![16, 1, s, s]⟩ ![0, 1, 0, 0] p hS) hC)
          (broadcastInDim ⟨3, ![16, s, s]⟩ ![] hb (constant (F := Ideal) S_ .f32 0x7F800000#32))) (constantI S_ 1 1#1) hr hu ix0
        ||| Host.reduce IntOp.andi (cmpf .ogt (shapeCast ⟨3, ![16, s, s]⟩ (extractStridedSlice ⟨4, ![16, 1, s, s]⟩ ![0, 1, 0, 0] p hS) hC)
          (broadcastInDim ⟨3, ![16, s, s]⟩ ![] hb (constant (F := Ideal) S_ .f32 0xFF800000#32))) (constantI S_ 1 1#1) hr hu ix0 = 1#1) :
    One n (xl n (shapeCast ⟨1, ![848 * n]⟩ p hF)) := by
  rcases or_split _ _ h with h | h
  · refine .inl fun r k hk => ?_
    obtain ⟨j, hj⟩ := chan_word s n hs hn p hS hC hF r k hk
    have k1 := Host.reduce_andi_all _ _ _ _ _ h j
    have k2 : BitVec.ofBool (decide (shapeCast ⟨3, ![16, s, s]⟩ (extractStridedSlice ⟨4, ![16, 1, s, s]⟩ ![0, 1, 0, 0] p hS) hC j < Ideal.ofBits .f32 0x7F800000#32)) = 1#1 := k1
    rw [← hj, bits_inf] at k2
    exact (of_bool _ k2).ne
  · refine .inr fun r k hk => ?_
    obtain ⟨j, hj⟩ := chan_word s n hs hn p hS hC hF r k hk
    have k1 := Host.reduce_andi_all _ _ _ _ _ h j
    have k2 : BitVec.ofBool (decide (Ideal.ofBits .f32 0xFF800000#32 < shapeCast ⟨3, ![16, s, s]⟩ (extractStridedSlice ⟨4, ![16, 1, s, s]⟩ ![0, 1, 0, 0] p hS) hC j)) = 1#1 := k1
    rw [← hj, bits_ninf] at k2
    exact (of_bool _ k2).ne'

theorem tame_all (p0 : FVec Ideal S16x53x64x64 .f32) (p1 : FVec Ideal S16x53x32x32 .f32) (p2 : FVec Ideal S16x53x16x16 .f32) (b : FVec Ideal S16x8x4 .f32)
    (c : IVec S16x8 32) (e : FVec Ideal S16x8x17x3 .f32) (h : Cert.Pre_tame.fn (F := Ideal) p0 p1 p2 b c e ix0 = 1#1) :
    One 4096 (xl 4096 (shapeCast Cert.KernelIdeal.S3473408 p0 Cert.KernelIdeal.Gen.shapeCasts_S16x53x64x64_S3473408))
      ∧ One 1024 (xl 1024 (shapeCast Cert.KernelIdeal.S868352 p1 Cert.KernelIdeal.Gen.shapeCasts_S16x53x32x32_S868352))
      ∧ One 256 (xl 256 (shapeCast Cert.KernelIdeal.S217088 p2 Cert.KernelIdeal.Gen.shapeCasts_S16x53x16x16_S217088)) ∧ Near b := by
  obtain ⟨h012, h3⟩ := and_split _ _ h
  obtain ⟨h01, h2⟩ := and_split _ _ h012
  obtain ⟨h0, h1⟩ := and_split _ _ h01
  refine ⟨one_of 64 4096 (by decide) (by decide) p0 Cert.Pre_tame.Gen.slices_S16x53x64x64_S16x1x64x64_0_1_0_0 Cert.Pre_tame.Gen.shapeCasts_S16x1x64x64_S16x64x64 _
      Cert.Pre_tame.Gen.bcast_S_S16x64x64 Cert.Pre_tame.Gen.reducesTo_S16x64x64_S_d0_1_2 Cert.Pre_tame.Gen.h_S_ h0,
    one_of 32 1024 (by decide) (by decide) p1 Cert.Pre_tame.Gen.slices_S16x53x32x32_S16x1x32x32_0_1_0_0 Cert.Pre_tame.Gen.shapeCasts_S16x1x32x32_S16x32x32 _
      Cert.Pre_tame.Gen.bcast_S_S16x32x32 Cert.Pre_tame.Gen.reducesTo_S16x32x32_S_d0_1_2 Cert.Pre_tame.Gen.h_S_ h1,
    one_of 16 256 (by decide) (by decide) p2 Cert.Pre_tame.Gen.slices_S16x53x16x16_S16x1x16x16_0_1_0_0 Cert.Pre_tame.Gen.shapeCasts_S16x1x16x16_S16x16x16 _
      Cert.Pre_tame.Gen.bcast_S_S16x16x16 Cert.Pre_tame.Gen.reducesTo_S16x16x16_S_d0_1_2 Cert.Pre_tame.Gen.h_S_ h2, fun r j d => ?_⟩
  have k1 := Host.reduce_andi_all _ _ _ _ _ h3 (ix3 r j d)
  have k2 : extractStridedSlice S16x8x2 ![0, 0, 0] b Cert.Pre_tame.Gen.slices_S16x8x4_S16x8x2_0_0_0 (ix3 r j d) = b (ix3 r j (⟨d.val, by omega⟩ : Fin 4)) :=
    extractStridedSlice_apply _ _ _ _ _ (by intro d; fin_cases d <;> simp)
  have k3 : BitVec.ofBool (decide (Ideal.ofBits .f32 0xCC000000#32 ≤ extractStridedSlice S16x8x2 ![0, 0, 0] b Cert.Pre_tame.Gen.slices_S16x8x4_S16x8x2_0_0_0 (ix3 r j d))) = 1#1 := k1
  rw [k2] at k3
  exact of_bool _ k3

end Cert.Proof.Obj

end
-- ==== Proof.RefObj.lean ====
/-
  The reference's objectness over the extended reals: one level as a function of the predictions and the boxes, and the
  three levels added.
-/
module

public import proofs.«01_k».proof.Proof.Gen.ReferenceIdeal
public import proofs.«01_k».proof.Proof.Gen.ReferenceIdeal.Run
public import proofs.«01_k».proof.Proof.ObjKernel
public import Idealize.ShloMosaic.Lib.IdealHost
public import Idealize.ShloMosaic.Lib.Pointwise.Reduce
public import Idealize.ShloMosaic.Lib.Pipeline.Value

@[expose] public section

noncomputable section

namespace Cert.Proof.Obj.Ref

open Cert.ReferenceIdeal Cert.ReferenceIdeal.Gen
open Idealize.ShloMosaic hiding ix1 ix2 ix3 ix4
open Idealize.ShloMosaic.ValueIdx
open Cert.Proof.Sc (coord word)

/-! ## The cells -/

/-- Where the boxes fall, column and row. -/
def gridR (a : BitVec 32) (bx : FVec Ideal S16x8x4 .f32) : IVec S16x8x2 32 :=
  fptosi 32 (Host.floor (mulf (Host.divf (extractStridedSlice S16x8x2 ![0, 0, 0] bx slices_S16x8x4_S16x8x2_0_0_0)
    (broadcastInDim S16x8x2 ![] bcast_S_S16x8x2 (constant S_ .f32 a))) (broadcastInDim S16x8x2 ![] bcast_S_S16x8x2 (constant S_ .f32 0x44000000#32))))

/-- Row times width plus column. -/
def cellR (wd : BitVec 32) (g : IVec S16x8x2 32) : IVec S16x8 32 :=
  addi (muli (shapeCast _ (extractStridedSlice S16x8x1 ![0, 0, 1] g slices_S16x8x2_S16x8x1_0_0_1) shapeCasts_S16x8x1_S16x8)
    (broadcastInDim S16x8 ![] bcast_S_S16x8 (constantI S_ 32 wd)))
    (shapeCast _ (extractStridedSlice S16x8x1 ![0, 0, 0] g slices_S16x8x2_S16x8x1_0_0_0) shapeCasts_S16x8x1_S16x8)

theorem gridR_apply (a : BitVec 32) (bx : FVec Ideal S16x8x4 .f32) (r : Fin 16) (j : Fin 8) (c : Fin 2) :
    gridR a bx (ix3 r j c) = coord a (bx (ix3 r j (⟨c.val, by omega⟩ : Fin 4))) := by
  have h1 : extractStridedSlice S16x8x2 ![0, 0, 0] bx slices_S16x8x4_S16x8x2_0_0_0 (ix3 r j c) = bx (ix3 r j (⟨c.val, by omega⟩ : Fin 4)) :=
    extractStridedSlice_apply _ _ _ _ _ (by intro d; fin_cases d <;> simp)
  unfold coord
  rw [← h1]
  rfl

theorem cellR_apply (wd a : BitVec 32) (bx : FVec Ideal S16x8x4 .f32) (r : Fin 16) (j : Fin 8) :
    cellR wd (gridR a bx) (ix2 r j) = ql a wd bx r j := by
  have h1 : shapeCast S16x8 (extractStridedSlice S16x8x1 ![0, 0, 1] (gridR a bx) slices_S16x8x2_S16x8x1_0_0_1) shapeCasts_S16x8x1_S16x8 (ix2 r j) = gridR a bx (ix3 r j (1 : Fin 2)) :=
    (shapeCast_apply _ _ _ (ix3 r j (0 : Fin 1)) (by rw [Shape.rowMajor_val_three, Shape.rowMajor_val_two]; simp)).trans
      (extractStridedSlice_apply _ _ _ _ _ (by intro d; fin_cases d <;> simp))
  have h0 : shapeCast S16x8 (extractStridedSlice S16x8x1 ![0, 0, 0] (gridR a bx) slices_S16x8x2_S16x8x1_0_0_0) shapeCasts_S16x8x1_S16x8 (ix2 r j) = gridR a bx (ix3 r j (0 : Fin 2)) :=
    (shapeCast_apply _ _ _ (ix3 r j (0 : Fin 1)) (by rw [Shape.rowMajor_val_three, Shape.rowMajor_val_two]; simp)).trans
      (extractStridedSlice_apply _ _ _ _ _ (by intro d; fin_cases d <;> simp))
  rw [gridR_apply] at h1 h0
  unfold ql
  refine Eq.trans ?_ (congrArg₂ (fun u v : BitVec 32 => u * wd + v) h1 h0)
  rfl

/-! ## The predictions -/

/-- The objectness channel, one row an image. -/
def objR {α : Type} (s n : ℕ) (p : (⟨4, ![16, 53, s, s]⟩ : Shape).Idx → α) (hT : (⟨4, ![16, 53, s, s]⟩ : Shape).Transposes [0, 2, 3, 1] ⟨4, ![16, s, s, 53]⟩)
    (hC : (⟨4, ![16, s, s, 53]⟩ : Shape).ShapeCasts ⟨3, ![16, n, 53]⟩) (hS : (⟨3, ![16, n, 53]⟩ : Shape).Slices ![0, 0, 1] ⟨3, ![16, n, 1]⟩)
    (hD : (⟨3, ![16, n, 1]⟩ : Shape).ShapeCasts ⟨2, ![16, n]⟩) : (⟨2, ![16, n]⟩ : Shape).Idx → α :=
  shapeCast _ (extractStridedSlice ⟨3, ![16, n, 1]⟩ ![0, 0, 1] (shapeCast ⟨3, ![16, n, 53]⟩ (transpose ⟨4, ![16, s, s, 53]⟩ [0, 2, 3, 1] p hT) hC) hS) hD

theorem objR_apply {α : Type} (s n : ℕ) [NeZero (848 * n)] (hs : 0 < s) (hn : n = s * s) (p : (⟨4, ![16, 53, s, s]⟩ : Shape).Idx → α)
    (hT : (⟨4, ![16, 53, s, s]⟩ : Shape).Transposes [0, 2, 3, 1] ⟨4, ![16, s, s, 53]⟩)
    (hC : (⟨4, ![16, s, s, 53]⟩ : Shape).ShapeCasts ⟨3, ![16, n, 53]⟩) (hS : (⟨3, ![16, n, 53]⟩ : Shape).Slices ![0, 0, 1] ⟨3, ![16, n, 1]⟩)
    (hD : (⟨3, ![16, n, 1]⟩ : Shape).ShapeCasts ⟨2, ![16, n]⟩) (hF : (⟨4, ![16, 53, s, s]⟩ : Shape).ShapeCasts ⟨1, ![848 * n]⟩)
    (r : Fin 16) (k : Fin n) :
    objR s n p hT hC hS hD (ix2 r k) = word (shapeCast ⟨1, ![848 * n]⟩ p hF) ((r.val * 53 + 1) * n + k.val) := by
  have hk := div_lt s n hs hn k
  have hm : k.val % s < s := Nat.mod_lt _ hs
  have hd : k.val / s * s + k.val % s = k.val := Nat.div_add_mod' _ _
  refine Eq.trans ?_ (flat_apply s n hs hn p hF r k (1 : Fin 53) hk hm).symm
  refine (shapeCast_apply _ hD _ (ix3 r k (0 : Fin 1)) ?_).trans ((extractStridedSlice_apply _ _ _ _ (ix3 r k (1 : Fin 53)) ?_).trans
    ((shapeCast_apply _ hC _ (ix4 r (⟨k.val / s, hk⟩ : Fin s) (⟨k.val % s, hm⟩ : Fin s) (1 : Fin 53)) ?_).trans (transpose_apply _ _ _ _ _ (by intro d; fin_cases d <;> rfl))))
  · rw [Shape.rowMajor_val_three, Shape.rowMajor_val_two]
    show (r.val * n + k.val) * 1 + 0 = r.val * n + k.val
    omega
  · intro d; fin_cases d <;> simp
  · rw [Shape.rowMajor_val_three, Shape.rowMajor_val_four]
    show ((r.val * s + k.val / s) * s + k.val % s) * 53 + 1 = (r.val * n + k.val) * 53 + 1
    generalize k.val / s = u at hd
    generalize k.val % s = v at hd
    rw [← hd, hn]; ring

/-! ## The targets -/

/-- One box's targets over the targets of the boxes before it. -/
def stepR (n i : ℕ) (ha : (⟨1, ![n]⟩ : Shape).BroadcastsInDim ⟨2, ![1, n]⟩ (![1] : Fin 1 → Fin 2)) (hb : (⟨2, ![1, n]⟩ : Shape).BroadcastsInDim ⟨2, ![16, n]⟩ (![0, 1] : Fin 2 → Fin 2))
    (hd : S16x1.BroadcastsInDim ⟨2, ![16, n]⟩ (![0, 1] : Fin 2 → Fin 2)) (hc : S_.BroadcastsInDim ⟨2, ![16, n]⟩ (![] : Fin 0 → Fin 2)) (hs : S16x8.Slices ![0, i] S16x1)
    (q : IVec S16x8 32) (t : FVec Ideal ⟨2, ![16, n]⟩ .f32) : FVec Ideal ⟨2, ![16, n]⟩ .f32 :=
  select (cmpi .eq (broadcastInDim ⟨2, ![16, n]⟩ ![0, 1] hb (broadcastInDim ⟨2, ![1, n]⟩ ![1] ha (iotaInDim ⟨1, ![n]⟩ 32 0)))
    (broadcastInDim ⟨2, ![16, n]⟩ ![0, 1] hd (broadcastInDim S16x1 ![0] bcast_S16_S16x1_0 (shapeCast S16 (extractStridedSlice S16x1 ![0, i] q hs) shapeCasts_S16x1_S16))))
    (broadcastInDim ⟨2, ![16, n]⟩ ![] hc (id (constant S_ .f32 0x3F800000#32))) t

theorem stepR_apply (n i : ℕ) (hn : n ≠ 1) (hi : i < 8) (ha : (⟨1, ![n]⟩ : Shape).BroadcastsInDim ⟨2, ![1, n]⟩ (![1] : Fin 1 → Fin 2)) (hb : (⟨2, ![1, n]⟩ : Shape).BroadcastsInDim ⟨2, ![16, n]⟩ (![0, 1] : Fin 2 → Fin 2))
    (hd : S16x1.BroadcastsInDim ⟨2, ![16, n]⟩ (![0, 1] : Fin 2 → Fin 2)) (hc : S_.BroadcastsInDim ⟨2, ![16, n]⟩ (![] : Fin 0 → Fin 2)) (hs : S16x8.Slices ![0, i] S16x1)
    (q : IVec S16x8 32) (t : FVec Ideal ⟨2, ![16, n]⟩ .f32) (r : Fin 16) (k : Fin n) :
    stepR n i ha hb hd hc hs q t (ix2 r k) = if q (ix2 r (⟨i, hi⟩ : Fin 8)) = BitVec.ofNat 32 k.val then (1 : EReal) else t (ix2 r k) := by
  have e1 : broadcastInDim ⟨2, ![16, n]⟩ ![0, 1] hb (broadcastInDim ⟨2, ![1, n]⟩ ![1] ha (iotaInDim ⟨1, ![n]⟩ 32 0)) (ix2 r k) = BitVec.ofNat 32 k.val :=
    (broadcastInDim_apply _ hb _ _ (ix2 (0 : Fin 1) k) (by intro a; fin_cases a <;> simp [hn])).trans
      ((broadcastInDim_apply _ ha _ _ (ix1 k) (by intro a; fin_cases a; simp [hn])).trans rfl)
  have e2 : broadcastInDim ⟨2, ![16, n]⟩ ![0, 1] hd (broadcastInDim S16x1 ![0] bcast_S16_S16x1_0 (shapeCast S16 (extractStridedSlice S16x1 ![0, i] q hs) shapeCasts_S16x1_S16)) (ix2 r k)
      = q (ix2 r (⟨i, hi⟩ : Fin 8)) :=
    (broadcastInDim_apply _ hd _ _ (ix2 r (0 : Fin 1)) (by intro a; fin_cases a <;> simp)).trans
      ((broadcastInDim_apply _ bcast_S16_S16x1_0 _ _ (ix1 r) (by intro a; fin_cases a; simp)).trans
        ((shapeCast_apply _ _ _ (ix2 r (0 : Fin 1)) (by rw [Shape.rowMajor_val_one, Shape.rowMajor_val_two]; simp)).trans
          (extractStridedSlice_apply _ _ _ _ _ (by intro d; fin_cases d <;> simp))))
  have e3 : broadcastInDim ⟨2, ![16, n]⟩ ![] hc (id (constant (F := Ideal) S_ .f32 0x3F800000#32)) (ix2 r k) = (1 : EReal) := bits_1
  unfold stepR
  show (if BitVec.ofBool (broadcastInDim ⟨2, ![16, n]⟩ ![0, 1] hb (broadcastInDim ⟨2, ![1, n]⟩ ![1] ha (iotaInDim ⟨1, ![n]⟩ 32 0)) (ix2 r k)
    == broadcastInDim ⟨2, ![16, n]⟩ ![0, 1] hd (broadcastInDim S16x1 ![0] bcast_S16_S16x1_0 (shapeCast S16 (extractStridedSlice S16x1 ![0, i] q hs) shapeCasts_S16x1_S16)) (ix2 r k)) = 1#1
    then broadcastInDim ⟨2, ![16, n]⟩ ![] hc (id (constant (F := Ideal) S_ .f32 0x3F800000#32)) (ix2 r k) else t (ix2 r k)) = _
  rw [e1, e2, e3]
  by_cases h : q (ix2 r (⟨i, hi⟩ : Fin 8)) = BitVec.ofNat 32 k.val
  · rw [if_pos h, if_pos]; rw [h]; simp
  · rw [if_neg h, if_neg]
    intro hh
    apply h
    by_contra hne
    have : (BitVec.ofNat 32 k.val == q (ix2 r (⟨i, hi⟩ : Fin 8))) = false := by simpa using fun e => h e.symm
    rw [this] at hh
    exact absurd hh (by decide)

/-! ## A level -/

section Level
variable (n : ℕ) (ha : (⟨1, ![n]⟩ : Shape).BroadcastsInDim ⟨2, ![1, n]⟩ (![1] : Fin 1 → Fin 2)) (hb : (⟨2, ![1, n]⟩ : Shape).BroadcastsInDim ⟨2, ![16, n]⟩ (![0, 1] : Fin 2 → Fin 2))
  (hd : S16x1.BroadcastsInDim ⟨2, ![16, n]⟩ (![0, 1] : Fin 2 → Fin 2)) (hc : S_.BroadcastsInDim ⟨2, ![16, n]⟩ (![] : Fin 0 → Fin 2))

/-- The targets. -/
def tgtR (q : IVec S16x8 32) : FVec Ideal ⟨2, ![16, n]⟩ .f32 :=
  stepR n 7 ha hb hd hc slices_S16x8_S16x1_0_7 q <| stepR n 6 ha hb hd hc slices_S16x8_S16x1_0_6 q <| stepR n 5 ha hb hd hc slices_S16x8_S16x1_0_5 q <|
  stepR n 4 ha hb hd hc slices_S16x8_S16x1_0_4 q <| stepR n 3 ha hb hd hc slices_S16x8_S16x1_0_3 q <| stepR n 2 ha hb hd hc slices_S16x8_S16x1_0_2 q <|
  stepR n 1 ha hb hd hc slices_S16x8_S16x1_0_1 q <| stepR n 0 ha hb hd hc slices_S16x8_S16x1_0_0 q <| broadcastInDim ⟨2, ![16, n]⟩ ![] hc (constant S_ .f32 0x00000000#32)

theorem ite_chain (P : Fin 8 → Prop) [∀ i, Decidable (P i)] (D : Decidable (∃ i, P i)) :
    (if P 7 then (1 : EReal) else if P 6 then 1 else if P 5 then 1 else if P 4 then 1 else if P 3 then 1 else if P 2 then 1 else if P 1 then 1 else if P 0 then 1 else 0)
      = @ite EReal (∃ i, P i) D 1 0 := by
  by_cases h : ∃ i, P i
  · rw [if_pos h]
    obtain ⟨i, hi⟩ := h
    fin_cases i <;> simp at hi <;> simp [hi]
  · rw [if_neg h]
    have h' : ∀ i, ¬ P i := fun i hi => h ⟨i, hi⟩
    simp [h']

theorem tgtR_apply (hn : n ≠ 1) (q : IVec S16x8 32) (q' : Fin 16 → Fin 8 → BitVec 32) (hq : ∀ r i, q (ix2 r i) = q' r i) (r : Fin 16) (k : Fin n) :
    tgtR n ha hb hd hc q (ix2 r k) = tgt q' r k.val := by
  have e0 : broadcastInDim ⟨2, ![16, n]⟩ ![] hc (constant (F := Ideal) S_ .f32 0x00000000#32) (ix2 r k) = (0 : EReal) := bits_0
  unfold tgtR tgt
  rw [stepR_apply n 7 hn (by decide), stepR_apply n 6 hn (by decide), stepR_apply n 5 hn (by decide), stepR_apply n 4 hn (by decide),
    stepR_apply n 3 hn (by decide), stepR_apply n 2 hn (by decide), stepR_apply n 1 hn (by decide), stepR_apply n 0 hn (by decide), e0]
  simp only [hq]
  exact ite_chain (fun i => q' r i = BitVec.ofNat 32 k.val) _

/-- The sums of an image's cross entropies. -/
def sumR (hr : (⟨2, ![16, n]⟩ : Shape).ReducesTo [1] S16) (x : FVec Ideal ⟨2, ![16, n]⟩ .f32) (q : IVec S16x8 32) : FVec Ideal S16 .f32 :=
  Host.reduceAdd (addf (subf (maximumf x (broadcastInDim ⟨2, ![16, n]⟩ ![] hc (constant S_ .f32 0x00000000#32))) (mulf x (tgtR n ha hb hd hc q)))
    (Host.log1p (Host.exp (Host.negf (Host.absf x))))) (constant S_ .f32 0x00000000#32) hr h_S_

/-- A level: the images' means, summed. -/
def levelR (hr : (⟨2, ![16, n]⟩ : Shape).ReducesTo [1] S16) (hw : BitVec 32) (x : FVec Ideal ⟨2, ![16, n]⟩ .f32) (q : IVec S16x8 32) : FVec Ideal S_ .f32 :=
  Host.reduceAdd (Host.divf (sumR n ha hb hd hc hr x q) (broadcastInDim S16 ![] bcast_S_S16 (constant S_ .f32 hw))) (constant S_ .f32 0x00000000#32) reducesTo_S16_S_d0 h_S_

theorem levelR_apply (hn : n ≠ 1) (hr : (⟨2, ![16, n]⟩ : Shape).ReducesTo [1] S16) (hw : BitVec 32) (hb' : Ideal.ofBits .f32 hw = ((n : ℝ) : EReal))
    (x : FVec Ideal ⟨2, ![16, n]⟩ .f32) (q : IVec S16x8 32) (x' : Fin 16 → ℕ → EReal) (q' : Fin 16 → Fin 8 → BitVec 32)
    (hx : ∀ r (k : Fin n), x (ix2 r k) = x' r k.val) (hq : ∀ r i, q (ix2 r i) = q' r i) (j : S_.Idx) :
    levelR n ha hb hd hc hr hw x q j = levelV n q' x' := by
  have key : ∀ r : Fin 16, sumR n ha hb hd hc hr x q (ix1 r) = ∑ k : Fin n, (sp (x' r k.val) + -(x' r k.val * tgt q' r k.val)) := by
    intro r
    unfold sumR
    rw [hostReduceAdd_apply, Ideal.hostReduceAdd_r2_a1]
    refine Eq.trans (congrArg₂ (· + ·) bits_0 (Finset.sum_congr rfl fun k _ => ?_)) (zero_add _)
    rw [← bce_eq, ← hx r k, ← tgtR_apply n ha hb hd hc hn q q' hq r k]
    have e0 : broadcastInDim ⟨2, ![16, n]⟩ ![] hc (constant (F := Ideal) S_ .f32 0x00000000#32) (ix2 r k) = (0 : EReal) := bits_0
    rw [← e0]
    rfl
  unfold levelR
  rw [hostReduceAdd_apply, Ideal.hostReduceAdd_r1_a0]
  unfold levelV
  refine Eq.trans (congrArg₂ (· + ·) bits_0 (Finset.sum_congr rfl fun r _ => ?_)) (zero_add _)
  rw [hostDivf_apply]
  exact congrArg₂ Ideal.div (key r) hb'

end Level

/-! ## The three levels -/

section Total
open Cert.ReferenceIdeal.Value Idealize.ShloMosaic.StableHlo
variable (V : Valuation τ sig (Elt Ideal))

/-- The reference's term is the three levels'. -/
def totR : FVec Ideal S_ .f32 :=
  addf (addf (addf (constant S_ .f32 0x00000000#32)
    (levelR 4096 bcast_S4096_S1x4096_1 bcast_S1x4096_S16x4096_0_1 bcast_S16x1_S16x4096_0_1 bcast_S_S16x4096 reducesTo_S16x4096_S16_d1 0x45800000#32
      (objR 64 4096 (V (Proc.devRef .tc main_arg0)) transposes_S16x53x64x64_S16x64x64x53_0_2_3_1 shapeCasts_S16x64x64x53_S16x4096x53 slices_S16x4096x53_S16x4096x1_0_0_1 shapeCasts_S16x4096x1_S16x4096)
      (cellR 64#32 (gridR 0x41000000#32 (V (Proc.devRef .tc main_arg3))))))
    (levelR 1024 bcast_S1024_S1x1024_1 bcast_S1x1024_S16x1024_0_1 bcast_S16x1_S16x1024_0_1 bcast_S_S16x1024 reducesTo_S16x1024_S16_d1 0x44800000#32
      (objR 32 1024 (V (Proc.devRef .tc main_arg1)) transposes_S16x53x32x32_S16x32x32x53_0_2_3_1 shapeCasts_S16x32x32x53_S16x1024x53 slices_S16x1024x53_S16x1024x1_0_0_1 shapeCasts_S16x1024x1_S16x1024)
      (cellR 32#32 (gridR 0x41800000#32 (V (Proc.devRef .tc main_arg3))))))
    (levelR 256 bcast_S256_S1x256_1 bcast_S1x256_S16x256_0_1 bcast_S16x1_S16x256_0_1 bcast_S_S16x256 reducesTo_S16x256_S16_d1 0x43800000#32
      (objR 16 256 (V (Proc.devRef .tc main_arg2)) transposes_S16x53x16x16_S16x16x16x53_0_2_3_1 shapeCasts_S16x16x16x53_S16x256x53 slices_S16x256x53_S16x256x1_0_0_1 shapeCasts_S16x256x1_S16x256)
      (cellR 16#32 (gridR 0x42000000#32 (V (Proc.devRef .tc main_arg3)))))

theorem totR_rfl : res_main_v536 V = totR V := rfl

theorem totR_eq (p0 : FVec Ideal S16x53x64x64 .f32) (p1 : FVec Ideal S16x53x32x32 .f32) (p2 : FVec Ideal S16x53x16x16 .f32) (bx : FVec Ideal S16x8x4 .f32)
    (e0 : V (Proc.devRef .tc main_arg0) = p0) (e1 : V (Proc.devRef .tc main_arg1) = p1) (e2 : V (Proc.devRef .tc main_arg2) = p2) (e3 : V (Proc.devRef .tc main_arg3) = bx) :
    totR V = fun _ => (levelV 4096 (ql 0x41000000#32 64#32 bx) (xl 4096 (shapeCast Cert.KernelIdeal.S3473408 p0 Cert.KernelIdeal.Gen.shapeCasts_S16x53x64x64_S3473408))
      + levelV 1024 (ql 0x41800000#32 32#32 bx) (xl 1024 (shapeCast Cert.KernelIdeal.S868352 p1 Cert.KernelIdeal.Gen.shapeCasts_S16x53x32x32_S868352))
      + levelV 256 (ql 0x42000000#32 16#32 bx) (xl 256 (shapeCast Cert.KernelIdeal.S217088 p2 Cert.KernelIdeal.Gen.shapeCasts_S16x53x16x16_S217088)) : EReal) := by
  subst e0 e1 e2 e3
  funext j
  have l0 := levelR_apply 4096 bcast_S4096_S1x4096_1 bcast_S1x4096_S16x4096_0_1 bcast_S16x1_S16x4096_0_1 bcast_S_S16x4096 (by decide) reducesTo_S16x4096_S16_d1 0x45800000#32 (by rw [bits_4096]; norm_num)
    _ _ (xl 4096 (shapeCast Cert.KernelIdeal.S3473408 (V (Proc.devRef .tc main_arg0)) Cert.KernelIdeal.Gen.shapeCasts_S16x53x64x64_S3473408)) _ (fun r k => (objR_apply 64 4096 (by decide) (by decide) (V (Proc.devRef .tc main_arg0)) transposes_S16x53x64x64_S16x64x64x53_0_2_3_1 shapeCasts_S16x64x64x53_S16x4096x53 slices_S16x4096x53_S16x4096x1_0_0_1 shapeCasts_S16x4096x1_S16x4096
      Cert.KernelIdeal.Gen.shapeCasts_S16x53x64x64_S3473408 r k)) (cellR_apply 64#32 0x41000000#32 (V (Proc.devRef .tc main_arg3))) j
  have l1 := levelR_apply 1024 bcast_S1024_S1x1024_1 bcast_S1x1024_S16x1024_0_1 bcast_S16x1_S16x1024_0_1 bcast_S_S16x1024 (by decide) reducesTo_S16x1024_S16_d1 0x44800000#32 (by rw [bits_1024]; norm_num)
    _ _ (xl 1024 (shapeCast Cert.KernelIdeal.S868352 (V (Proc.devRef .tc main_arg1)) Cert.KernelIdeal.Gen.shapeCasts_S16x53x32x32_S868352)) _ (fun r k => (objR_apply 32 1024 (by decide) (by decide) (V (Proc.devRef .tc main_arg1)) transposes_S16x53x32x32_S16x32x32x53_0_2_3_1 shapeCasts_S16x32x32x53_S16x1024x53 slices_S16x1024x53_S16x1024x1_0_0_1 shapeCasts_S16x1024x1_S16x1024
      Cert.KernelIdeal.Gen.shapeCasts_S16x53x32x32_S868352 r k)) (cellR_apply 32#32 0x41800000#32 (V (Proc.devRef .tc main_arg3))) j
  have l2 := levelR_apply 256 bcast_S256_S1x256_1 bcast_S1x256_S16x256_0_1 bcast_S16x1_S16x256_0_1 bcast_S_S16x256 (by decide) reducesTo_S16x256_S16_d1 0x43800000#32 (by rw [bits_256]; norm_num)
    _ _ (xl 256 (shapeCast Cert.KernelIdeal.S217088 (V (Proc.devRef .tc main_arg2)) Cert.KernelIdeal.Gen.shapeCasts_S16x53x16x16_S217088)) _ (fun r k => (objR_apply 16 256 (by decide) (by decide) (V (Proc.devRef .tc main_arg2)) transposes_S16x53x16x16_S16x16x16x53_0_2_3_1 shapeCasts_S16x16x16x53_S16x256x53 slices_S16x256x53_S16x256x1_0_0_1 shapeCasts_S16x256x1_S16x256
      Cert.KernelIdeal.Gen.shapeCasts_S16x53x16x16_S217088 r k)) (cellR_apply 16#32 0x42000000#32 (V (Proc.devRef .tc main_arg3))) j
  refine Eq.trans ?_ (congrArg₂ (· + ·) (congrArg₂ (· + ·) ((congrArg₂ (· + ·) bits_0 l0).trans (zero_add _)) l1) l2)
  rfl

end Total

end Cert.Proof.Obj.Ref

end
-- ==== Proof.KptMath.lean ====
/-
  The keypoints of a level over the extended reals: what the last box left in each cell, summed over the cells, against the
  sum over the boxes that are the last in their cell.
-/
module

public import proofs.«01_k».proof.Proof.ObjMath

@[expose] public section

noncomputable section

namespace Cert.Proof.Obj

open Idealize.ShloMosaic

/-- The value of the last of eight that holds. -/
def chain {α : Type} (P : Fin 8 → Prop) (v : Fin 8 → α) (z : α) : α :=
  open Classical in if P 7 then v 7 else if P 6 then v 6 else if P 5 then v 5 else if P 4 then v 4 else if P 3 then v 3 else if P 2 then v 2 else if P 1 then v 1 else if P 0 then v 0 else z

theorem chain_map {α β γ : Type} (g : α → β → γ) (P : Fin 8 → Prop) (v : Fin 8 → α) (z : α) (w : Fin 8 → β) (y : β) :
    g (chain P v z) (chain P w y) = chain P (fun i => g (v i) (w i)) (g z y) := by
  unfold chain
  split_ifs <;> rfl

/-- A value, or zero. -/
def pick (P : Prop) (x : EReal) : EReal := open Classical in if P then x else 0

theorem pick_pos {P : Prop} (h : P) (x : EReal) : pick P x = x := if_pos h
theorem pick_neg {P : Prop} (h : ¬ P) (x : EReal) : pick P x = 0 := if_neg h
theorem pick_congr {P Q : Prop} (h : P ↔ Q) (x : EReal) : pick P x = pick Q x := by rw [propext h]

theorem sum_last (P : Fin 8 → Prop) (t : Fin 8) (ht : P t) (hl : ∀ j, t < j → ¬ P j) (f : Fin 8 → EReal) :
    ∑ i, pick (P i ∧ ∀ j, i < j → ¬ P j) (f i) = f t := by
  classical
  rw [Finset.sum_eq_single t]
  · exact pick_pos (And.intro ht hl) _
  · intro i _ hi
    refine pick_neg (fun h => ?_) _
    rcases lt_or_gt_of_ne hi with h' | h'
    · exact h.2 t h' ht
    · exact hl i h' h.1
  · exact fun h => absurd (Finset.mem_univ _) h

theorem chain_sum (P : Fin 8 → Prop) (f : Fin 8 → EReal) :
    chain P f 0 = ∑ i, pick (P i ∧ ∀ j, i < j → ¬ P j) (f i) := by
  classical
  unfold chain
  split_ifs with h7 h6 h5 h4 h3 h2 h1 h0
  all_goals first
    | exact (sum_last P _ (by assumption) (fun j hj => by
        fin_cases j <;> first | exact absurd hj (by decide) | exact h7 | exact h6 | exact h5 | exact h4 | exact h3 | exact h2 | exact h1) f).symm
    | exact (Finset.sum_eq_zero fun i _ => pick_neg (fun h => by
        have h' := h.1
        fin_cases i <;> first | exact h7 h' | exact h6 h' | exact h5 h' | exact h4 h' | exact h3 h' | exact h2 h' | exact h1 h' | exact h0 h') _).symm

section Level
variable (n : ℕ) (q : Fin 16 → Fin 8 → BitVec 32)

/-- What the last boxes left, summed over the cells, is the sum over the boxes that are the last in their cell. -/
theorem cells_sum (hn0 : 0 < n) (hn : n ≤ 4096) (r : Fin 16) (f : Fin 8 → ℕ → EReal) :
    ∑ k : Fin n, chain (fun i => q r i = BitVec.ofNat 32 k.val) (fun i => f i k.val) 0
      = ∑ i, pick (Last n q r i) (f i (clp n (q r i))) := by
  classical
  rw [Finset.sum_congr rfl fun (k : Fin n) _ => chain_sum (fun i => q r i = BitVec.ofNat 32 k.val) (fun i => f i k.val), Finset.sum_comm]
  refine Finset.sum_congr rfl fun i _ => ?_
  by_cases h : Ins n (q r i)
  · have hlt : clp n (q r i) < n := by unfold clp; omega
    rw [Finset.sum_eq_single (⟨clp n (q r i), hlt⟩ : Fin n)]
    · refine pick_congr ?_ _
      unfold Last
      refine and_congr ⟨fun _ => h, fun _ => (eq_ofNat_iff n hn _ _ hlt).mpr ⟨h, rfl⟩⟩ (forall_congr' fun j => imp_congr Iff.rfl (not_congr ?_))
      rw [eq_ofNat_iff n hn _ _ hlt]
      exact ⟨fun e => ⟨e.2.symm, e.1⟩, fun e => ⟨e.2, e.1.symm⟩⟩
    · intro k _ hk
      exact pick_neg (fun e => hk (Fin.ext ((eq_ofNat_iff n hn _ _ k.isLt).mp e.1).2.symm)) _
    · exact fun e => absurd (Finset.mem_univ _) e
  · rw [Finset.sum_eq_zero fun (k : Fin n) _ => pick_neg (fun e => h ((eq_ofNat_iff n hn _ _ k.isLt).mp e.1).1) _, pick_neg fun e => h e.1]

/-! ## A level's keypoints -/

/-- The smooth l1, and the binary cross entropy with logits. -/
def sl (d : EReal) : EReal := if max d (-d) < Ideal.ofBits .f32 0x3F800000#32 then Ideal.ofBits .f32 0x3F000000#32 * d * d else max d (-d) - Ideal.ofBits .f32 0x3F000000#32
def bceE (x t : EReal) : EReal := max x 0 - x * t + Ideal.log1p (Ideal.exp (-(max x (-x))))

/-- Visible. -/
def W (s : EReal) : EReal := if 0 < s then 1 else 0

variable (z : Fin 16 → ℕ → ℕ → EReal) (kk : Fin 16 → Fin 8 → Fin 17 → Fin 3 → EReal)

/-- The terms of a keypoint of a box in a cell. -/
def txy (r : Fin 16) (i : Fin 8) (κ : Fin 17) (k : ℕ) : EReal :=
  (sl (z r (3 * κ.val) k - kk r i κ 0) + sl (z r (3 * κ.val + 1) k - kk r i κ 1)) * W (kk r i κ 2)
def tsc (r : Fin 16) (i : Fin 8) (κ : Fin 17) (k : ℕ) : EReal := bceE (z r (3 * κ.val + 2) k) (kk r i κ 2) * W (kk r i κ 2)

def sumL (t : Fin 8 → Fin 17 → ℕ → EReal) (r : Fin 16) : EReal :=
  ∑ κ : Fin 17, ∑ i : Fin 8, pick (Last n q r i) (t i κ (clp n (q r i)))

def cntV (r : Fin 16) : EReal := sumL n q (fun i κ _ => W (kk r i κ 2)) r + Ideal.ofBits .f32 0x358637BD#32

/-- The level's two shares. -/
def kxyV : EReal := ∑ r : Fin 16, Ideal.div (sumL n q (txy z kk r) r) (cntV n q kk r)
def kscV : EReal := ∑ r : Fin 16, Ideal.div (sumL n q (tsc z kk r) r) (cntV n q kk r)

theorem cells_sumL (hn0 : 0 < n) (hn : n ≤ 4096) (r : Fin 16) (t : Fin 8 → Fin 17 → ℕ → EReal) :
    ∑ k : Fin n, ∑ κ : Fin 17, chain (fun i => q r i = BitVec.ofNat 32 k.val) (fun i => t i κ k.val) 0 = sumL n q t r := by
  rw [Finset.sum_comm]
  exact Finset.sum_congr rfl fun κ _ => cells_sum n q hn0 hn r fun i k => t i κ k

theorem W_cases (s : EReal) : W s = 0 ∨ W s = 1 := by
  unfold W
  split
  · exact .inr rfl
  · exact .inl rfl

theorem add_mul_W (a b s : EReal) : a * W s + b * W s = (a + b) * W s := by
  rcases W_cases s with h | h <;> simp [h]

theorem chain_xy (P : Fin 8 → Prop) (a b : EReal) (x y s : Fin 8 → EReal) :
    sl (a - chain P x 0) * chain P (fun i => W (s i)) 0 + sl (b - chain P y 0) * chain P (fun i => W (s i)) 0
      = chain P (fun i => (sl (a - x i) + sl (b - y i)) * W (s i)) 0 := by
  unfold chain
  split_ifs
  all_goals first | exact add_mul_W _ _ _ | rw [mul_zero, mul_zero, add_zero]

theorem chain_sc (P : Fin 8 → Prop) (a : EReal) (s : Fin 8 → EReal) :
    bceE a (chain P s 0) * chain P (fun i => W (s i)) 0 = chain P (fun i => bceE a (s i) * W (s i)) 0 := by
  unfold chain
  split_ifs
  all_goals first | rfl | exact mul_zero _

/-- The smooth l1 and the visibility, as bits decide them. -/
theorem sl_bit (d : EReal) (D : Decidable (max d (-d) < Ideal.ofBits .f32 0x3F800000#32)) :
    (if BitVec.ofBool (@decide _ D) = 1#1 then Ideal.ofBits .f32 0x3F000000#32 * d * d else max d (-d) - Ideal.ofBits .f32 0x3F000000#32) = sl d := by
  unfold sl
  by_cases h : max d (-d) < Ideal.ofBits .f32 0x3F800000#32
  · rw [if_pos h, if_pos (by rw [decide_eq_true h]; rfl)]
  · rw [if_neg h, if_neg (by rw [decide_eq_false h]; decide)]

theorem W_bit (s : EReal) (D : Decidable (0 < s)) : (((BitVec.ofBool (@decide _ D)).toNat : ℝ) : EReal) = W s := by
  unfold W
  by_cases h : 0 < s
  · rw [if_pos h, decide_eq_true h]; simp
  · rw [if_neg h, decide_eq_false h]; simp

theorem W_bit' (s : EReal) (D : Decidable (0 < s)) : ((((BitVec.ofBool (@decide _ D)).setWidth 32).toInt : ℝ) : EReal) = W s := by
  unfold W
  by_cases h : 0 < s
  · rw [if_pos h, decide_eq_true h]; simp
  · rw [if_neg h, decide_eq_false h]; simp

/-- A column of the kernel's rows of 136 is a box and a keypoint. -/
theorem sum_136 (t : Fin 136 → EReal) : ∑ x, t x = ∑ κ : Fin 17, ∑ i : Fin 8, t (⟨17 * i.val + κ.val, by omega⟩ : Fin 136) := by
  rw [Finset.sum_comm, ← Fintype.sum_prod_type' (fun (i : Fin 8) (κ : Fin 17) => t (⟨17 * i.val + κ.val, by omega⟩ : Fin 136))]
  exact (Fintype.sum_equiv (finProdFinEquiv (m := 8) (n := 17)) _ _ fun p => congrArg t (Fin.ext (Nat.add_comm _ _))).symm

theorem row_sumL (r : Fin 16) (t : Fin 8 → Fin 17 → ℕ → EReal) (u : Fin 136 → EReal)
    (hu : ∀ (i : Fin 8) (κ : Fin 17), u (⟨17 * i.val + κ.val, by omega⟩ : Fin 136) = pick (Last n q r i) (t i κ (clp n (q r i)))) :
    ∑ x, u x = sumL n q t r := by
  rw [sum_136]
  exact Finset.sum_congr rfl fun κ _ => Finset.sum_congr rfl fun i _ => hu i κ
end Level

/-- The total, in the two ways it is formed. -/
theorem total_eq (a L : EReal) : (90 : EReal) * (a + L) = (3 * a + 3 * 0 + 3 * L) * 30 := by
  have e90 : (90 : EReal) = ((90 : ℝ) : EReal) := rfl
  have e3 : (3 : EReal) = ((3 : ℝ) : EReal) := rfl
  have e30 : (30 : EReal) = ((30 : ℝ) : EReal) := rfl
  rw [mul_zero, add_zero, e90, e3, e30, mul_comm, mul_comm _ a, mul_comm _ L, ← add_mul_coe a L 3 (by norm_num), mul_assoc, ← EReal.coe_mul]
  norm_num

end Cert.Proof.Obj

end
-- ==== Proof.RefKpt.lean ====
/-
  The reference's keypoints over the extended reals: one level as a function of the predictions, the boxes and their
  keypoints, and the three levels added.
-/
module

public import proofs.«01_k».proof.Proof.RefObj
public import proofs.«01_k».proof.Proof.KptMath

@[expose] public section

noncomputable section

namespace Cert.Proof.Obj.Ref

open Cert.ReferenceIdeal Cert.ReferenceIdeal.Gen
open Idealize.ShloMosaic hiding ix1 ix2 ix3 ix4
open Idealize.ShloMosaic.ValueIdx
open Cert.Proof.Sc (coord word)

/-! ## The predictions -/

/-- The keypoints' channels, a cell and a keypoint a row. -/
def kptR {α : Type} (s n : ℕ) (p : (⟨4, ![16, 53, s, s]⟩ : Shape).Idx → α) (hT : (⟨4, ![16, 53, s, s]⟩ : Shape).Transposes [0, 2, 3, 1] ⟨4, ![16, s, s, 53]⟩)
    (hC : (⟨4, ![16, s, s, 53]⟩ : Shape).ShapeCasts ⟨3, ![16, n, 53]⟩) (hS : (⟨3, ![16, n, 53]⟩ : Shape).Slices ![0, 0, 2] ⟨3, ![16, n, 51]⟩)
    (hD : (⟨3, ![16, n, 51]⟩ : Shape).ShapeCasts ⟨4, ![16, n, 17, 3]⟩) : (⟨4, ![16, n, 17, 3]⟩ : Shape).Idx → α :=
  shapeCast _ (extractStridedSlice ⟨3, ![16, n, 51]⟩ ![0, 0, 2] (shapeCast ⟨3, ![16, n, 53]⟩ (transpose ⟨4, ![16, s, s, 53]⟩ [0, 2, 3, 1] p hT) hC) hS) hD

theorem kptR_apply (s n : ℕ) [NeZero (848 * n)] (hs : 0 < s) (hn : n = s * s) (p : (⟨4, ![16, 53, s, s]⟩ : Shape).Idx → EReal)
    (hT : (⟨4, ![16, 53, s, s]⟩ : Shape).Transposes [0, 2, 3, 1] ⟨4, ![16, s, s, 53]⟩)
    (hC : (⟨4, ![16, s, s, 53]⟩ : Shape).ShapeCasts ⟨3, ![16, n, 53]⟩) (hS : (⟨3, ![16, n, 53]⟩ : Shape).Slices ![0, 0, 2] ⟨3, ![16, n, 51]⟩)
    (hD : (⟨3, ![16, n, 51]⟩ : Shape).ShapeCasts ⟨4, ![16, n, 17, 3]⟩) (hF : (⟨4, ![16, 53, s, s]⟩ : Shape).ShapeCasts ⟨1, ![848 * n]⟩)
    (r : Fin 16) (k : Fin n) (κ : Fin 17) (c : Fin 3) :
    kptR s n p hT hC hS hD (ix4 r k κ c) = zl n (shapeCast ⟨1, ![848 * n]⟩ p hF) r (3 * κ.val + c.val) k.val := by
  have hk := div_lt s n hs hn k
  have hm : k.val % s < s := Nat.mod_lt _ hs
  have hd : k.val / s * s + k.val % s = k.val := Nat.div_add_mod' _ _
  have ho : 2 + (3 * κ.val + c.val) < 53 := by omega
  refine Eq.trans ?_ (flat_apply s n hs hn p hF r k (⟨2 + (3 * κ.val + c.val), ho⟩ : Fin 53) hk hm).symm
  refine (shapeCast_apply _ hD _ (ix3 r k (⟨3 * κ.val + c.val, by omega⟩ : Fin 51)) ?_).trans ((extractStridedSlice_apply _ _ _ _ (ix3 r k (⟨2 + (3 * κ.val + c.val), ho⟩ : Fin 53)) ?_).trans
    ((shapeCast_apply _ hC _ (ix4 r (⟨k.val / s, hk⟩ : Fin s) (⟨k.val % s, hm⟩ : Fin s) (⟨2 + (3 * κ.val + c.val), ho⟩ : Fin 53)) ?_).trans (transpose_apply _ _ _ _ _ (by intro d; fin_cases d <;> rfl))))
  · rw [Shape.rowMajor_val_three, Shape.rowMajor_val_four]
    show (r.val * n + k.val) * 51 + (3 * κ.val + c.val) = ((r.val * n + k.val) * 17 + κ.val) * 3 + c.val
    ring
  · intro d; fin_cases d <;> simp
  · rw [Shape.rowMajor_val_three, Shape.rowMajor_val_four]
    show ((r.val * s + k.val / s) * s + k.val % s) * 53 + (2 + (3 * κ.val + c.val)) = (r.val * n + k.val) * 53 + (2 + (3 * κ.val + c.val))
    generalize k.val / s = u at hd
    generalize k.val % s = v at hd
    rw [← hd, hn]; ring

/-! ## What a box leaves in its cell -/

def marksR (a : FVec Ideal S16x8x17x3 .f32) : FVec Ideal S16x8x17x4 .f32 :=
  concatenate S16x8x17x4 3 [⟨S16x8x17x3, a⟩, ⟨S16x8x17x1, (uitofp .f32 (cmpf .ogt (extractStridedSlice S16x8x17x1 ![0, 0, 0, 2] a slices_S16x8x17x3_S16x8x17x1_0_0_0_2) (broadcastInDim S16x8x17x1 ![] bcast_S_S16x8x17x1 (constant S_ .f32 0x00000000#32))))⟩] concatenates_S16x8x17x3_S16x8x17x1_S16x8x17x4_d3

theorem marksR_kpt (a : FVec Ideal S16x8x17x3 .f32) (r : Fin 16) (i : Fin 8) (κ : Fin 17) (c : Fin 3) :
    marksR a (ix4 r i κ (⟨c.val, by omega⟩ : Fin 4)) = kl a r i κ c := by
  refine Eq.trans (concatenate_pair_apply_left (t := S16x8x17x4) (s₁ := S16x8x17x3) 3 a _ concatenates_S16x8x17x3_S16x8x17x1_S16x8x17x4_d3
    (ix4 r i κ (⟨c.val, by omega⟩ : Fin 4)) rfl (ix4 r i κ c) ?_) rfl
  intro b
  fin_cases b <;> rfl

theorem marksR_vis (a : FVec Ideal S16x8x17x3 .f32) (r : Fin 16) (i : Fin 8) (κ : Fin 17) :
    marksR a (ix4 r i κ (3 : Fin 4)) = W (kl a r i κ 2) := by
  have e : extractStridedSlice S16x8x17x1 ![0, 0, 0, 2] a slices_S16x8x17x3_S16x8x17x1_0_0_0_2 (ix4 r i κ (0 : Fin 1)) = kl a r i κ 2 :=
    extractStridedSlice_apply _ _ _ _ _ (by intro d; fin_cases d <;> simp)
  refine Eq.trans (concatenate_pair_apply_right (t := S16x8x17x4) (s₁ := S16x8x17x3) (s₂ := S16x8x17x1) 3 a _ concatenates_S16x8x17x3_S16x8x17x1_S16x8x17x4_d3
    (ix4 r i κ (3 : Fin 4)) rfl rfl (ix4 r i κ (0 : Fin 1)) ?_ rfl) ?_
  · intro b hb
    fin_cases b <;> first | rfl | exact absurd rfl hb
  rw [← e]
  have z : broadcastInDim S16x8x17x1 ![] bcast_S_S16x8x17x1 (constant (F := Ideal) S_ .f32 0x00000000#32) (ix4 r i κ (0 : Fin 1)) = (0 : EReal) := bits_0
  show (((BitVec.ofBool (decide (broadcastInDim S16x8x17x1 ![] bcast_S_S16x8x17x1 (constant (F := Ideal) S_ .f32 0x00000000#32) (ix4 r i κ (0 : Fin 1))
    < extractStridedSlice S16x8x17x1 ![0, 0, 0, 2] a slices_S16x8x17x3_S16x8x17x1_0_0_0_2 (ix4 r i κ (0 : Fin 1))))).toNat : ℝ) : EReal) = _
  rw [z]
  exact W_bit _ _

/-! ## A level -/

/-- The shapes of a level of that many cells. -/
structure Sh (n : ℕ) : Prop where
  ha : (⟨1, ![n]⟩ : Shape).BroadcastsInDim ⟨2, ![1, n]⟩ (![1] : Fin 1 → Fin 2)
  hb : (⟨2, ![1, n]⟩ : Shape).BroadcastsInDim ⟨2, ![16, n]⟩ (![0, 1] : Fin 2 → Fin 2)
  hd : S16x1.BroadcastsInDim ⟨2, ![16, n]⟩ (![0, 1] : Fin 2 → Fin 2)
  he : (⟨2, ![16, n]⟩ : Shape).BroadcastsInDim ⟨4, ![16, n, 1, 1]⟩ (![0, 1] : Fin 2 → Fin 4)
  hf : (⟨4, ![16, n, 1, 1]⟩ : Shape).BroadcastsInDim ⟨4, ![16, n, 17, 4]⟩ (![0, 1, 2, 3] : Fin 4 → Fin 4)
  hg : S16x1x17x4.BroadcastsInDim ⟨4, ![16, n, 17, 4]⟩ (![0, 1, 2, 3] : Fin 4 → Fin 4)
  hz : S_.BroadcastsInDim ⟨4, ![16, n, 17, 4]⟩ (![] : Fin 0 → Fin 4)
  s3 : (⟨4, ![16, n, 17, 4]⟩ : Shape).Slices ![0, 0, 0, 3] ⟨4, ![16, n, 17, 1]⟩
  s2 : (⟨4, ![16, n, 17, 4]⟩ : Shape).Slices ![0, 0, 0, 2] ⟨4, ![16, n, 17, 1]⟩
  c1 : (⟨4, ![16, n, 17, 1]⟩ : Shape).ShapeCasts ⟨3, ![16, n, 17]⟩
  p2 : (⟨4, ![16, n, 17, 3]⟩ : Shape).Slices ![0, 0, 0, 2] ⟨4, ![16, n, 17, 1]⟩
  px : (⟨4, ![16, n, 17, 3]⟩ : Shape).Slices ![0, 0, 0, 0] ⟨4, ![16, n, 17, 2]⟩
  sx : (⟨4, ![16, n, 17, 4]⟩ : Shape).Slices ![0, 0, 0, 0] ⟨4, ![16, n, 17, 2]⟩
  bz : S_.BroadcastsInDim ⟨4, ![16, n, 17, 2]⟩ (![] : Fin 0 → Fin 4)
  bm : (⟨3, ![16, n, 17]⟩ : Shape).BroadcastsInDim ⟨4, ![16, n, 17, 1]⟩ (![0, 1, 2] : Fin 3 → Fin 4)
  bn : (⟨4, ![16, n, 17, 1]⟩ : Shape).BroadcastsInDim ⟨4, ![16, n, 17, 2]⟩ (![0, 1, 2, 3] : Fin 4 → Fin 4)
  bs : S_.BroadcastsInDim ⟨3, ![16, n, 17]⟩ (![] : Fin 0 → Fin 3)
  r3 : (⟨4, ![16, n, 17, 2]⟩ : Shape).ReducesTo [3] ⟨3, ![16, n, 17]⟩
  r12 : (⟨3, ![16, n, 17]⟩ : Shape).ReducesTo [1, 2] S16

section Level
variable {n : ℕ} (H : Sh n)

/-- One at the cell of a box. -/
def hitR (i : ℕ) (hs : S16x8.Slices ![0, i] S16x1) (q : IVec S16x8 32) : IVec ⟨2, ![16, n]⟩ 1 :=
  cmpi .eq (broadcastInDim ⟨2, ![16, n]⟩ ![0, 1] H.hb (broadcastInDim ⟨2, ![1, n]⟩ ![1] H.ha (iotaInDim ⟨1, ![n]⟩ 32 0)))
    (broadcastInDim ⟨2, ![16, n]⟩ ![0, 1] H.hd (broadcastInDim S16x1 ![0] bcast_S16_S16x1_0 (shapeCast S16 (extractStridedSlice S16x1 ![0, i] q hs) shapeCasts_S16x1_S16)))

theorem hitR_iff (i : ℕ) (hn : n ≠ 1) (hi : i < 8) (hs : S16x8.Slices ![0, i] S16x1) (q : IVec S16x8 32) (r : Fin 16) (k : Fin n) :
    hitR H i hs q (ix2 r k) = 1#1 ↔ q (ix2 r (⟨i, hi⟩ : Fin 8)) = BitVec.ofNat 32 k.val := by
  have e1 : broadcastInDim ⟨2, ![16, n]⟩ ![0, 1] H.hb (broadcastInDim ⟨2, ![1, n]⟩ ![1] H.ha (iotaInDim ⟨1, ![n]⟩ 32 0)) (ix2 r k) = BitVec.ofNat 32 k.val :=
    (broadcastInDim_apply _ H.hb _ _ (ix2 (0 : Fin 1) k) (by intro a; fin_cases a <;> simp [hn])).trans
      ((broadcastInDim_apply _ H.ha _ _ (ix1 k) (by intro a; fin_cases a; simp [hn])).trans rfl)
  have e2 : broadcastInDim ⟨2, ![16, n]⟩ ![0, 1] H.hd (broadcastInDim S16x1 ![0] bcast_S16_S16x1_0 (shapeCast S16 (extractStridedSlice S16x1 ![0, i] q hs) shapeCasts_S16x1_S16)) (ix2 r k)
      = q (ix2 r (⟨i, hi⟩ : Fin 8)) :=
    (broadcastInDim_apply _ H.hd _ _ (ix2 r (0 : Fin 1)) (by intro a; fin_cases a <;> simp)).trans
      ((broadcastInDim_apply _ bcast_S16_S16x1_0 _ _ (ix1 r) (by intro a; fin_cases a; simp)).trans
        ((shapeCast_apply _ _ _ (ix2 r (0 : Fin 1)) (by rw [Shape.rowMajor_val_one, Shape.rowMajor_val_two]; simp)).trans
          (extractStridedSlice_apply _ _ _ _ _ (by intro d; fin_cases d <;> simp))))
  unfold hitR
  show BitVec.ofBool (broadcastInDim ⟨2, ![16, n]⟩ ![0, 1] H.hb (broadcastInDim ⟨2, ![1, n]⟩ ![1] H.ha (iotaInDim ⟨1, ![n]⟩ 32 0)) (ix2 r k)
    == broadcastInDim ⟨2, ![16, n]⟩ ![0, 1] H.hd (broadcastInDim S16x1 ![0] bcast_S16_S16x1_0 (shapeCast S16 (extractStridedSlice S16x1 ![0, i] q hs) shapeCasts_S16x1_S16)) (ix2 r k)) = 1#1 ↔ _
  rw [e1, e2]
  constructor
  · intro h
    by_contra hne
    have : (BitVec.ofNat 32 k.val == q (ix2 r (⟨i, hi⟩ : Fin 8))) = false := by simpa using fun e => hne e.symm
    rw [this] at h
    exact absurd h (by decide)
  · intro h; rw [h]; simp

/-- One box's marks over those of the boxes before it. -/
def step4 (i : ℕ) (hs : S16x8.Slices ![0, i] S16x1) (hm : S16x8x17x4.Slices ![0, i, 0, 0] S16x1x17x4) (q : IVec S16x8 32) (mk : FVec Ideal S16x8x17x4 .f32)
    (t : FVec Ideal ⟨4, ![16, n, 17, 4]⟩ .f32) : FVec Ideal ⟨4, ![16, n, 17, 4]⟩ .f32 :=
  select (broadcastInDim ⟨4, ![16, n, 17, 4]⟩ ![0, 1, 2, 3] H.hf (broadcastInDim ⟨4, ![16, n, 1, 1]⟩ ![0, 1] H.he (hitR H i hs q)))
    (broadcastInDim ⟨4, ![16, n, 17, 4]⟩ ![0, 1, 2, 3] H.hg (broadcastInDim S16x1x17x4 ![0, 2, 3] bcast_S16x17x4_S16x1x17x4_0_2_3
      (shapeCast S16x17x4 (extractStridedSlice S16x1x17x4 ![0, i, 0, 0] mk hm) shapeCasts_S16x1x17x4_S16x17x4))) t

theorem step4_apply (i : ℕ) (hn : n ≠ 1) (hi : i < 8) (hs : S16x8.Slices ![0, i] S16x1) (hm : S16x8x17x4.Slices ![0, i, 0, 0] S16x1x17x4) (q : IVec S16x8 32)
    (mk : FVec Ideal S16x8x17x4 .f32) (t : FVec Ideal ⟨4, ![16, n, 17, 4]⟩ .f32) (r : Fin 16) (k : Fin n) (κ : Fin 17) (c : Fin 4) :
    step4 H i hs hm q mk t (ix4 r k κ c)
      = @ite _ (q (ix2 r (⟨i, hi⟩ : Fin 8)) = BitVec.ofNat 32 k.val) (Classical.propDecidable _) (mk (ix4 r (⟨i, hi⟩ : Fin 8) κ c)) (t (ix4 r k κ c)) := by
  have e1 : broadcastInDim ⟨4, ![16, n, 17, 4]⟩ ![0, 1, 2, 3] H.hf (broadcastInDim ⟨4, ![16, n, 1, 1]⟩ ![0, 1] H.he (hitR H i hs q)) (ix4 r k κ c) = hitR H i hs q (ix2 r k) :=
    (broadcastInDim_apply _ H.hf _ _ (ix4 r k (0 : Fin 1) (0 : Fin 1)) (by intro a; fin_cases a <;> simp [hn])).trans
      (broadcastInDim_apply _ H.he _ _ (ix2 r k) (by intro a; fin_cases a <;> simp [hn]))
  have e2 : broadcastInDim ⟨4, ![16, n, 17, 4]⟩ ![0, 1, 2, 3] H.hg (broadcastInDim S16x1x17x4 ![0, 2, 3] bcast_S16x17x4_S16x1x17x4_0_2_3
      (shapeCast S16x17x4 (extractStridedSlice S16x1x17x4 ![0, i, 0, 0] mk hm) shapeCasts_S16x1x17x4_S16x17x4)) (ix4 r k κ c) = mk (ix4 r (⟨i, hi⟩ : Fin 8) κ c) :=
    (broadcastInDim_apply _ H.hg _ _ (ix4 r (0 : Fin 1) κ c) (by intro a; fin_cases a <;> simp)).trans
      ((broadcastInDim_apply _ bcast_S16x17x4_S16x1x17x4_0_2_3 _ _ (ix3 r κ c) (by intro a; fin_cases a <;> simp)).trans
        ((shapeCast_apply _ _ _ (ix4 r (0 : Fin 1) κ c) (by rw [Shape.rowMajor_val_three, Shape.rowMajor_val_four]; simp)).trans
          (extractStridedSlice_apply _ _ _ _ _ (by intro d; fin_cases d <;> simp))))
  unfold step4
  show (if broadcastInDim ⟨4, ![16, n, 17, 4]⟩ ![0, 1, 2, 3] H.hf (broadcastInDim ⟨4, ![16, n, 1, 1]⟩ ![0, 1] H.he (hitR H i hs q)) (ix4 r k κ c) = 1#1
    then broadcastInDim ⟨4, ![16, n, 17, 4]⟩ ![0, 1, 2, 3] H.hg (broadcastInDim S16x1x17x4 ![0, 2, 3] bcast_S16x17x4_S16x1x17x4_0_2_3
      (shapeCast S16x17x4 (extractStridedSlice S16x1x17x4 ![0, i, 0, 0] mk hm) shapeCasts_S16x1x17x4_S16x17x4)) (ix4 r k κ c) else t (ix4 r k κ c)) = _
  rw [e1, e2]
  exact @if_congr _ _ _ _ (Classical.propDecidable _) _ _ _ _ (hitR_iff H i hn hi hs q r k) rfl rfl

/-- What the boxes leave in the cells. -/
def cellsR (q : IVec S16x8 32) (mk : FVec Ideal S16x8x17x4 .f32) : FVec Ideal ⟨4, ![16, n, 17, 4]⟩ .f32 :=
  step4 H 7 slices_S16x8_S16x1_0_7 slices_S16x8x17x4_S16x1x17x4_0_7_0_0 q mk <| step4 H 6 slices_S16x8_S16x1_0_6 slices_S16x8x17x4_S16x1x17x4_0_6_0_0 q mk <|
  step4 H 5 slices_S16x8_S16x1_0_5 slices_S16x8x17x4_S16x1x17x4_0_5_0_0 q mk <| step4 H 4 slices_S16x8_S16x1_0_4 slices_S16x8x17x4_S16x1x17x4_0_4_0_0 q mk <|
  step4 H 3 slices_S16x8_S16x1_0_3 slices_S16x8x17x4_S16x1x17x4_0_3_0_0 q mk <| step4 H 2 slices_S16x8_S16x1_0_2 slices_S16x8x17x4_S16x1x17x4_0_2_0_0 q mk <|
  step4 H 1 slices_S16x8_S16x1_0_1 slices_S16x8x17x4_S16x1x17x4_0_1_0_0 q mk <| step4 H 0 slices_S16x8_S16x1_0_0 slices_S16x8x17x4_S16x1x17x4_0_0_0_0 q mk <|
  broadcastInDim ⟨4, ![16, n, 17, 4]⟩ ![] H.hz (constant S_ .f32 0x00000000#32)

theorem cellsR_apply (hn : n ≠ 1) (q : IVec S16x8 32) (q' : Fin 16 → Fin 8 → BitVec 32) (hq : ∀ r i, q (ix2 r i) = q' r i) (mk : FVec Ideal S16x8x17x4 .f32)
    (r : Fin 16) (k : Fin n) (κ : Fin 17) (c : Fin 4) :
    cellsR H q mk (ix4 r k κ c) = chain (fun i => q' r i = BitVec.ofNat 32 k.val) (fun i => mk (ix4 r i κ c)) 0 := by
  have e0 : broadcastInDim ⟨4, ![16, n, 17, 4]⟩ ![] H.hz (constant (F := Ideal) S_ .f32 0x00000000#32) (ix4 r k κ c) = (0 : EReal) := bits_0
  unfold cellsR chain
  rw [step4_apply H 7 hn (by decide), step4_apply H 6 hn (by decide), step4_apply H 5 hn (by decide), step4_apply H 4 hn (by decide),
    step4_apply H 3 hn (by decide), step4_apply H 2 hn (by decide), step4_apply H 1 hn (by decide), step4_apply H 0 hn (by decide), e0]
  simp only [hq]
  rfl

def maskR (T : FVec Ideal ⟨4, ![16, n, 17, 4]⟩ .f32) : FVec Ideal ⟨3, ![16, n, 17]⟩ .f32 := shapeCast _ (extractStridedSlice ⟨4, ![16, n, 17, 1]⟩ ![0, 0, 0, 3] T H.s3) H.c1
def wantR (T : FVec Ideal ⟨4, ![16, n, 17, 4]⟩ .f32) : FVec Ideal ⟨3, ![16, n, 17]⟩ .f32 := shapeCast _ (extractStridedSlice ⟨4, ![16, n, 17, 1]⟩ ![0, 0, 0, 2] T H.s2) H.c1
def scoreR (x : FVec Ideal ⟨4, ![16, n, 17, 3]⟩ .f32) : FVec Ideal ⟨3, ![16, n, 17]⟩ .f32 := shapeCast _ (extractStridedSlice ⟨4, ![16, n, 17, 1]⟩ ![0, 0, 0, 2] x H.p2) H.c1
def diffR (x : FVec Ideal ⟨4, ![16, n, 17, 3]⟩ .f32) (T : FVec Ideal ⟨4, ![16, n, 17, 4]⟩ .f32) : FVec Ideal ⟨4, ![16, n, 17, 2]⟩ .f32 :=
  subf (extractStridedSlice ⟨4, ![16, n, 17, 2]⟩ ![0, 0, 0, 0] x H.px) (extractStridedSlice ⟨4, ![16, n, 17, 2]⟩ ![0, 0, 0, 0] T H.sx)

theorem last_apply {α : Type} {m' : ℕ} (o : ℕ) (ho : o < m') (v : (⟨4, ![16, n, 17, m']⟩ : Shape).Idx → α) (h : (⟨4, ![16, n, 17, m']⟩ : Shape).Slices ![0, 0, 0, o] ⟨4, ![16, n, 17, 1]⟩)
    (hc : (⟨4, ![16, n, 17, 1]⟩ : Shape).ShapeCasts ⟨3, ![16, n, 17]⟩) (r : Fin 16) (k : Fin n) (κ : Fin 17) :
    shapeCast ⟨3, ![16, n, 17]⟩ (extractStridedSlice ⟨4, ![16, n, 17, 1]⟩ ![0, 0, 0, o] v h) hc (ix3 r k κ) = v (ix4 r k κ (⟨o, ho⟩ : Fin m')) :=
  (shapeCast_apply _ _ _ (ix4 r k κ (0 : Fin 1)) (by
    rw [Shape.rowMajor_val_three, Shape.rowMajor_val_four]
    show ((r.val * n + k.val) * 17 + κ.val) * 1 + 0 = (r.val * n + k.val) * 17 + κ.val
    omega)).trans (extractStridedSlice_apply _ _ _ _ _ (by intro d; fin_cases d <;> simp))

/-- The smooth l1 of a word. -/
theorem sl_apply {s : Shape} (D B1 Bh : FVec Ideal s .f32) (j : s.Idx) (h1 : B1 j = Ideal.ofBits .f32 0x3F800000#32) (hh : Bh j = Ideal.ofBits .f32 0x3F000000#32) :
    select (cmpf .olt (Host.absf D) B1) (mulf (mulf Bh D) D) (subf (Host.absf D) Bh) j = sl (D j) := by
  rw [← sl_bit _ (Classical.propDecidable _), ← h1, ← hh]
  show (if BitVec.ofBool (decide (max (D j) (-(D j)) < B1 j)) = 1#1 then Bh j * D j * D j else max (D j) (-(D j)) - Bh j) = _
  congr

/-- The images' counts of visible keypoints. -/
def cntR (T : FVec Ideal ⟨4, ![16, n, 17, 4]⟩ .f32) : FVec Ideal S16 .f32 :=
  addf (Host.reduceAdd (maskR H T) (constant S_ .f32 0x00000000#32) H.r12 h_S_) (broadcastInDim S16 ![] bcast_S_S16 (constant S_ .f32 0x358637BD#32))

/-- The images' sums. -/
def sxyR (x : FVec Ideal ⟨4, ![16, n, 17, 3]⟩ .f32) (T : FVec Ideal ⟨4, ![16, n, 17, 4]⟩ .f32) : FVec Ideal S16 .f32 :=
  Host.reduceAdd (Host.reduceAdd (mulf (select (cmpf .olt (Host.absf (diffR H x T)) (broadcastInDim ⟨4, ![16, n, 17, 2]⟩ ![] H.bz (constant S_ .f32 0x3F800000#32)))
      (mulf (mulf (broadcastInDim ⟨4, ![16, n, 17, 2]⟩ ![] H.bz (constant S_ .f32 0x3F000000#32)) (diffR H x T)) (diffR H x T))
      (subf (Host.absf (diffR H x T)) (broadcastInDim ⟨4, ![16, n, 17, 2]⟩ ![] H.bz (constant S_ .f32 0x3F000000#32))))
    (broadcastInDim ⟨4, ![16, n, 17, 2]⟩ ![0, 1, 2, 3] H.bn (broadcastInDim ⟨4, ![16, n, 17, 1]⟩ ![0, 1, 2] H.bm (maskR H T))))
    (constant S_ .f32 0x00000000#32) H.r3 h_S_) (constant S_ .f32 0x00000000#32) H.r12 h_S_
def sscR (x : FVec Ideal ⟨4, ![16, n, 17, 3]⟩ .f32) (T : FVec Ideal ⟨4, ![16, n, 17, 4]⟩ .f32) : FVec Ideal S16 .f32 :=
  Host.reduceAdd (mulf (addf (subf (maximumf (scoreR H x) (broadcastInDim ⟨3, ![16, n, 17]⟩ ![] H.bs (constant S_ .f32 0x00000000#32))) (mulf (scoreR H x) (wantR H T)))
    (Host.log1p (Host.exp (Host.negf (Host.absf (scoreR H x)))))) (maskR H T)) (constant S_ .f32 0x00000000#32) H.r12 h_S_

/-- The images' quotients, summed. -/
def quotR (a b : FVec Ideal S16 .f32) : FVec Ideal S_ .f32 := Host.reduceAdd (Host.divf a b) (constant S_ .f32 0x00000000#32) reducesTo_S16_S_d0 h_S_

theorem quotR_apply (a b : FVec Ideal S16 .f32) (a' b' : Fin 16 → EReal) (ha : ∀ r, a (ix1 r) = a' r) (hb : ∀ r, b (ix1 r) = b' r) (j : S_.Idx) :
    quotR a b j = ∑ r, Ideal.div (a' r) (b' r) := by
  unfold quotR
  rw [hostReduceAdd_apply, Ideal.hostReduceAdd_r1_a0]
  refine Eq.trans (congrArg₂ (· + ·) bits_0 (Finset.sum_congr rfl fun r _ => ?_)) (zero_add _)
  rw [hostDivf_apply]
  exact congrArg₂ Ideal.div (ha r) (hb r)

variable (h0 : 0 < n) (h1 : n ≠ 1) (hn : n ≤ 4096) (q : IVec S16x8 32) (q' : Fin 16 → Fin 8 → BitVec 32) (hq : ∀ r i, q (ix2 r i) = q' r i)
  (x : FVec Ideal ⟨4, ![16, n, 17, 3]⟩ .f32) (z : Fin 16 → ℕ → ℕ → EReal) (hx : ∀ r (k : Fin n) κ c, x (ix4 r k κ c) = z r (3 * κ.val + c.val) k.val)
  (a : FVec Ideal S16x8x17x3 .f32)
include h0 h1 hn hq hx

omit h0 hn hx in
theorem mask_apply (r : Fin 16) (k : Fin n) (κ : Fin 17) :
    maskR H (cellsR H q (marksR a)) (ix3 r k κ) = chain (fun i => q' r i = BitVec.ofNat 32 k.val) (fun i => W (kl a r i κ 2)) 0 := by
  unfold maskR
  rw [last_apply 3 (by decide)]
  refine (cellsR_apply H h1 q q' hq _ r k κ _).trans ?_
  exact congrArg (fun v => chain _ v 0) (funext fun i => marksR_vis a r i κ)

omit h0 hn hx in
theorem kpt_apply (r : Fin 16) (k : Fin n) (κ : Fin 17) (c : Fin 3) :
    cellsR H q (marksR a) (ix4 r k κ (⟨c.val, by omega⟩ : Fin 4)) = chain (fun i => q' r i = BitVec.ofNat 32 k.val) (fun i => kl a r i κ c) 0 :=
  (cellsR_apply H h1 q q' hq _ r k κ _).trans (congrArg (fun v => chain _ v 0) (funext fun i => marksR_kpt a r i κ c))

omit hx in
theorem cntR_apply (r : Fin 16) : cntR H (cellsR H q (marksR a)) (ix1 r) = cntV n q' (kl a) r := by
  unfold cntR cntV
  refine congrArg₂ (· + ·) ?_ rfl
  rw [hostReduceAdd_apply, Ideal.hostReduceAdd_r3_a12]
  exact (congrArg₂ (· + ·) bits_0 (Finset.sum_congr rfl fun k _ => Finset.sum_congr rfl fun κ _ => mask_apply H h1 q q' hq a r k κ)).trans
    ((zero_add _).trans (cells_sumL n q' h0 hn r fun i κ _ => W (kl a r i κ 2)))

theorem sscR_apply (r : Fin 16) : sscR H x (cellsR H q (marksR a)) (ix1 r) = sumL n q' (tsc z (kl a) r) r := by
  unfold sscR
  rw [hostReduceAdd_apply, Ideal.hostReduceAdd_r3_a12]
  refine (congrArg₂ (· + ·) bits_0 (Finset.sum_congr rfl fun k _ => Finset.sum_congr rfl fun κ _ => ?_)).trans
    ((zero_add _).trans (cells_sumL n q' h0 hn r (tsc z (kl a) r)))
  have e1 : scoreR H x (ix3 r k κ) = z r (3 * κ.val + 2) k.val := (last_apply 2 (by decide) x H.p2 H.c1 r k κ).trans (hx r k κ 2)
  have e2 : wantR H (cellsR H q (marksR a)) (ix3 r k κ) = _ := (last_apply 2 (by decide) _ H.s2 H.c1 r k κ).trans (kpt_apply H h1 q q' hq a r k κ 2)
  have e3 := mask_apply H h1 q q' hq a r k κ
  refine Eq.trans ?_ (chain_sc _ (z r (3 * κ.val + 2) k.val) fun i => kl a r i κ 2)
  rw [← e1, ← e2, ← e3]
  unfold bceE
  rw [← bits_0]
  rfl

theorem sxyR_apply (r : Fin 16) : sxyR H x (cellsR H q (marksR a)) (ix1 r) = sumL n q' (txy z (kl a) r) r := by
  unfold sxyR
  rw [hostReduceAdd_apply, Ideal.hostReduceAdd_r3_a12]
  refine (congrArg₂ (· + ·) bits_0 (Finset.sum_congr rfl fun k _ => Finset.sum_congr rfl fun κ _ => ?_)).trans
    ((zero_add _).trans (cells_sumL n q' h0 hn r (txy z (kl a) r)))
  rw [hostReduceAdd_apply, Ideal.hostReduceAdd_r4_a3]
  refine (congrArg₂ (· + ·) bits_0 (Fin.sum_univ_two _)).trans ((zero_add _).trans ?_)
  have d (c : Fin 2) : diffR H x (cellsR H q (marksR a)) (ix4 r k κ c) = z r (3 * κ.val + c.val) k.val - chain (fun i => q' r i = BitVec.ofNat 32 k.val) (fun i => kl a r i κ (⟨c.val, by omega⟩ : Fin 3)) 0 :=
    congrArg₂ (· - ·) ((extractStridedSlice_apply _ _ _ _ (ix4 r k κ (⟨c.val, by omega⟩ : Fin 3)) (by intro d; fin_cases d <;> simp)).trans (hx r k κ _))
      ((extractStridedSlice_apply _ _ _ _ (ix4 r k κ (⟨c.val, by omega⟩ : Fin 4)) (by intro d; fin_cases d <;> simp)).trans (kpt_apply H h1 q q' hq a r k κ (⟨c.val, by omega⟩ : Fin 3)))
  have m (c : Fin 2) : broadcastInDim ⟨4, ![16, n, 17, 2]⟩ ![0, 1, 2, 3] H.bn (broadcastInDim ⟨4, ![16, n, 17, 1]⟩ ![0, 1, 2] H.bm (maskR H (cellsR H q (marksR a)))) (ix4 r k κ c)
      = chain (fun i => q' r i = BitVec.ofNat 32 k.val) (fun i => W (kl a r i κ 2)) 0 :=
    (broadcastInDim_apply _ H.bn _ _ (ix4 r k κ (0 : Fin 1)) (by intro a; fin_cases a <;> simp [h1])).trans
      ((broadcastInDim_apply _ H.bm _ _ (ix3 r k κ) (by intro a; fin_cases a <;> simp [h1])).trans (mask_apply H h1 q q' hq a r k κ))
  refine Eq.trans ?_ (chain_xy _ (z r (3 * κ.val) k.val) (z r (3 * κ.val + 1) k.val) (fun i => kl a r i κ 0) (fun i => kl a r i κ 1) (fun i => kl a r i κ 2))
  refine congrArg₂ (· + ·) ?_ ?_
  · exact congrArg₂ (· * ·) ((sl_apply (diffR H x (cellsR H q (marksR a))) _ _ _ rfl rfl).trans (congrArg sl (d 0))) (m 0)
  · exact congrArg₂ (· * ·) ((sl_apply (diffR H x (cellsR H q (marksR a))) _ _ _ rfl rfl).trans (congrArg sl (d 1))) (m 1)

end Level

end Cert.Proof.Obj.Ref

end
-- ==== Proof.RefTotal.lean ====
/-
  The reference's keypoints: its three levels, added.
-/
module

public import proofs.«01_k».proof.Proof.RefKpt

@[expose] public section

noncomputable section

namespace Cert.Proof.Obj.Ref

open Cert.ReferenceIdeal Cert.ReferenceIdeal.Gen
open Idealize.ShloMosaic hiding ix1 ix2 ix3 ix4
open Idealize.ShloMosaic.ValueIdx
open Cert.Proof.Sc (coord word)

theorem sh4096 : Sh 4096 :=
  ⟨bcast_S4096_S1x4096_1, bcast_S1x4096_S16x4096_0_1, bcast_S16x1_S16x4096_0_1, bcast_S16x4096_S16x4096x1x1_0_1, bcast_S16x4096x1x1_S16x4096x17x4_0_1_2_3, bcast_S16x1x17x4_S16x4096x17x4_0_1_2_3, bcast_S_S16x4096x17x4, slices_S16x4096x17x4_S16x4096x17x1_0_0_0_3, slices_S16x4096x17x4_S16x4096x17x1_0_0_0_2, shapeCasts_S16x4096x17x1_S16x4096x17, slices_S16x4096x17x3_S16x4096x17x1_0_0_0_2, slices_S16x4096x17x3_S16x4096x17x2_0_0_0_0, slices_S16x4096x17x4_S16x4096x17x2_0_0_0_0, bcast_S_S16x4096x17x2, bcast_S16x4096x17_S16x4096x17x1_0_1_2, bcast_S16x4096x17x1_S16x4096x17x2_0_1_2_3, bcast_S_S16x4096x17, reducesTo_S16x4096x17x2_S16x4096x17_d3, reducesTo_S16x4096x17_S16_d1_2⟩

theorem sh1024 : Sh 1024 :=
  ⟨bcast_S1024_S1x1024_1, bcast_S1x1024_S16x1024_0_1, bcast_S16x1_S16x1024_0_1, bcast_S16x1024_S16x1024x1x1_0_1, bcast_S16x1024x1x1_S16x1024x17x4_0_1_2_3, bcast_S16x1x17x4_S16x1024x17x4_0_1_2_3, bcast_S_S16x1024x17x4, slices_S16x1024x17x4_S16x1024x17x1_0_0_0_3, slices_S16x1024x17x4_S16x1024x17x1_0_0_0_2, shapeCasts_S16x1024x17x1_S16x1024x17, slices_S16x1024x17x3_S16x1024x17x1_0_0_0_2, slices_S16x1024x17x3_S16x1024x17x2_0_0_0_0, slices_S16x1024x17x4_S16x1024x17x2_0_0_0_0, bcast_S_S16x1024x17x2, bcast_S16x1024x17_S16x1024x17x1_0_1_2, bcast_S16x1024x17x1_S16x1024x17x2_0_1_2_3, bcast_S_S16x1024x17, reducesTo_S16x1024x17x2_S16x1024x17_d3, reducesTo_S16x1024x17_S16_d1_2⟩

theorem sh256 : Sh 256 :=
  ⟨bcast_S256_S1x256_1, bcast_S1x256_S16x256_0_1, bcast_S16x1_S16x256_0_1, bcast_S16x256_S16x256x1x1_0_1, bcast_S16x256x1x1_S16x256x17x4_0_1_2_3, bcast_S16x1x17x4_S16x256x17x4_0_1_2_3, bcast_S_S16x256x17x4, slices_S16x256x17x4_S16x256x17x1_0_0_0_3, slices_S16x256x17x4_S16x256x17x1_0_0_0_2, shapeCasts_S16x256x17x1_S16x256x17, slices_S16x256x17x3_S16x256x17x1_0_0_0_2, slices_S16x256x17x3_S16x256x17x2_0_0_0_0, slices_S16x256x17x4_S16x256x17x2_0_0_0_0, bcast_S_S16x256x17x2, bcast_S16x256x17_S16x256x17x1_0_1_2, bcast_S16x256x17x1_S16x256x17x2_0_1_2_3, bcast_S_S16x256x17, reducesTo_S16x256x17x2_S16x256x17_d3, reducesTo_S16x256x17_S16_d1_2⟩

section Total
open Cert.ReferenceIdeal.Value Idealize.ShloMosaic.StableHlo
variable (V : Valuation τ sig (Elt Ideal))

def xyR0 : FVec Ideal S_ .f32 :=
  quotR (sxyR sh4096 (kptR 64 4096 (V (Proc.devRef .tc main_arg0)) transposes_S16x53x64x64_S16x64x64x53_0_2_3_1 shapeCasts_S16x64x64x53_S16x4096x53 slices_S16x4096x53_S16x4096x51_0_0_2 shapeCasts_S16x4096x51_S16x4096x17x3)
    (cellsR sh4096 (cellR 64#32 (gridR 0x41000000#32 (V (Proc.devRef .tc main_arg3)))) (marksR (V (Proc.devRef .tc main_arg5)))))
    (cntR sh4096 (cellsR sh4096 (cellR 64#32 (gridR 0x41000000#32 (V (Proc.devRef .tc main_arg3)))) (marksR (V (Proc.devRef .tc main_arg5)))))
def scR0 : FVec Ideal S_ .f32 :=
  quotR (sscR sh4096 (kptR 64 4096 (V (Proc.devRef .tc main_arg0)) transposes_S16x53x64x64_S16x64x64x53_0_2_3_1 shapeCasts_S16x64x64x53_S16x4096x53 slices_S16x4096x53_S16x4096x51_0_0_2 shapeCasts_S16x4096x51_S16x4096x17x3)
    (cellsR sh4096 (cellR 64#32 (gridR 0x41000000#32 (V (Proc.devRef .tc main_arg3)))) (marksR (V (Proc.devRef .tc main_arg5)))))
    (cntR sh4096 (cellsR sh4096 (cellR 64#32 (gridR 0x41000000#32 (V (Proc.devRef .tc main_arg3)))) (marksR (V (Proc.devRef .tc main_arg5)))))

def xyR1 : FVec Ideal S_ .f32 :=
  quotR (sxyR sh1024 (kptR 32 1024 (V (Proc.devRef .tc main_arg1)) transposes_S16x53x32x32_S16x32x32x53_0_2_3_1 shapeCasts_S16x32x32x53_S16x1024x53 slices_S16x1024x53_S16x1024x51_0_0_2 shapeCasts_S16x1024x51_S16x1024x17x3)
    (cellsR sh1024 (cellR 32#32 (gridR 0x41800000#32 (V (Proc.devRef .tc main_arg3)))) (marksR (V (Proc.devRef .tc main_arg5)))))
    (cntR sh1024 (cellsR sh1024 (cellR 32#32 (gridR 0x41800000#32 (V (Proc.devRef .tc main_arg3)))) (marksR (V (Proc.devRef .tc main_arg5)))))
def scR1 : FVec Ideal S_ .f32 :=
  quotR (sscR sh1024 (kptR 32 1024 (V (Proc.devRef .tc main_arg1)) transposes_S16x53x32x32_S16x32x32x53_0_2_3_1 shapeCasts_S16x32x32x53_S16x1024x53 slices_S16x1024x53_S16x1024x51_0_0_2 shapeCasts_S16x1024x51_S16x1024x17x3)
    (cellsR sh1024 (cellR 32#32 (gridR 0x41800000#32 (V (Proc.devRef .tc main_arg3)))) (marksR (V (Proc.devRef .tc main_arg5)))))
    (cntR sh1024 (cellsR sh1024 (cellR 32#32 (gridR 0x41800000#32 (V (Proc.devRef .tc main_arg3)))) (marksR (V (Proc.devRef .tc main_arg5)))))

def xyR2 : FVec Ideal S_ .f32 :=
  quotR (sxyR sh256 (kptR 16 256 (V (Proc.devRef .tc main_arg2)) transposes_S16x53x16x16_S16x16x16x53_0_2_3_1 shapeCasts_S16x16x16x53_S16x256x53 slices_S16x256x53_S16x256x51_0_0_2 shapeCasts_S16x256x51_S16x256x17x3)
    (cellsR sh256 (cellR 16#32 (gridR 0x42000000#32 (V (Proc.devRef .tc main_arg3)))) (marksR (V (Proc.devRef .tc main_arg5)))))
    (cntR sh256 (cellsR sh256 (cellR 16#32 (gridR 0x42000000#32 (V (Proc.devRef .tc main_arg3)))) (marksR (V (Proc.devRef .tc main_arg5)))))
def scR2 : FVec Ideal S_ .f32 :=
  quotR (sscR sh256 (kptR 16 256 (V (Proc.devRef .tc main_arg2)) transposes_S16x53x16x16_S16x16x16x53_0_2_3_1 shapeCasts_S16x16x16x53_S16x256x53 slices_S16x256x53_S16x256x51_0_0_2 shapeCasts_S16x256x51_S16x256x17x3)
    (cellsR sh256 (cellR 16#32 (gridR 0x42000000#32 (V (Proc.devRef .tc main_arg3)))) (marksR (V (Proc.devRef .tc main_arg5)))))
    (cntR sh256 (cellsR sh256 (cellR 16#32 (gridR 0x42000000#32 (V (Proc.devRef .tc main_arg3)))) (marksR (V (Proc.devRef .tc main_arg5)))))

/-- The three levels' shares, added. -/
def totV (p0 : FVec Ideal S16x53x64x64 .f32) (p1 : FVec Ideal S16x53x32x32 .f32) (p2 : FVec Ideal S16x53x16x16 .f32) (bx : FVec Ideal S16x8x4 .f32) (ky : FVec Ideal S16x8x17x3 .f32) : EReal :=
  kxyV 4096 (ql 0x41000000#32 64#32 bx) (zl 4096 (shapeCast Cert.KernelIdeal.S3473408 p0 Cert.KernelIdeal.Gen.shapeCasts_S16x53x64x64_S3473408)) (kl ky)
    + kscV 4096 (ql 0x41000000#32 64#32 bx) (zl 4096 (shapeCast Cert.KernelIdeal.S3473408 p0 Cert.KernelIdeal.Gen.shapeCasts_S16x53x64x64_S3473408)) (kl ky)
    + kxyV 1024 (ql 0x41800000#32 32#32 bx) (zl 1024 (shapeCast Cert.KernelIdeal.S868352 p1 Cert.KernelIdeal.Gen.shapeCasts_S16x53x32x32_S868352)) (kl ky)
    + kscV 1024 (ql 0x41800000#32 32#32 bx) (zl 1024 (shapeCast Cert.KernelIdeal.S868352 p1 Cert.KernelIdeal.Gen.shapeCasts_S16x53x32x32_S868352)) (kl ky)
    + kxyV 256 (ql 0x42000000#32 16#32 bx) (zl 256 (shapeCast Cert.KernelIdeal.S217088 p2 Cert.KernelIdeal.Gen.shapeCasts_S16x53x16x16_S217088)) (kl ky)
    + kscV 256 (ql 0x42000000#32 16#32 bx) (zl 256 (shapeCast Cert.KernelIdeal.S217088 p2 Cert.KernelIdeal.Gen.shapeCasts_S16x53x16x16_S217088)) (kl ky)

/-- The keypoints' loss. -/
def totK : FVec Ideal S_ .f32 :=
  addf (addf (addf (addf (addf (addf (constant S_ .f32 0x00000000#32) (xyR0 V)) (scR0 V)) (xyR1 V)) (scR1 V)) (xyR2 V)) (scR2 V)

theorem totK_rfl : res_main_v580 V = totK V := rfl
theorem threeR_rfl : res_main_v581 V = mulf (constant S_ .f32 0x40400000#32) (totR V) := rfl
theorem threeK_rfl : res_main_v584 V = mulf (constant S_ .f32 0x40400000#32) (totK V) := rfl

theorem totK_eq (p0 : FVec Ideal S16x53x64x64 .f32) (p1 : FVec Ideal S16x53x32x32 .f32) (p2 : FVec Ideal S16x53x16x16 .f32) (bx : FVec Ideal S16x8x4 .f32) (ky : FVec Ideal S16x8x17x3 .f32)
    (e0 : V (Proc.devRef .tc main_arg0) = p0) (e1 : V (Proc.devRef .tc main_arg1) = p1) (e2 : V (Proc.devRef .tc main_arg2) = p2) (e3 : V (Proc.devRef .tc main_arg3) = bx)
    (e5 : V (Proc.devRef .tc main_arg5) = ky) :
    totK V = fun _ => totV p0 p1 p2 bx ky := by
  subst e0 e1 e2 e3 e5
  funext j
  have z0 := fun r (k : Fin 4096) (κ : Fin 17) (c : Fin 3) => kptR_apply 64 4096 (by decide) (by decide) (V (Proc.devRef .tc main_arg0)) transposes_S16x53x64x64_S16x64x64x53_0_2_3_1 shapeCasts_S16x64x64x53_S16x4096x53
    slices_S16x4096x53_S16x4096x51_0_0_2 shapeCasts_S16x4096x51_S16x4096x17x3 Cert.KernelIdeal.Gen.shapeCasts_S16x53x64x64_S3473408 r k κ c
  have q0 := cellR_apply 64#32 0x41000000#32 (V (Proc.devRef .tc main_arg3))
  have n0 := fun r => cntR_apply sh4096 (by decide) (by decide) (by decide) _ _ q0 (V (Proc.devRef .tc main_arg5)) r
  have x0 : xyR0 V j = _ := quotR_apply _ _ _ _ (fun r => sxyR_apply sh4096 (by decide) (by decide) (by decide) _ _ q0 _ _ z0 (V (Proc.devRef .tc main_arg5)) r) n0 j
  have s0 : scR0 V j = _ := quotR_apply _ _ _ _ (fun r => sscR_apply sh4096 (by decide) (by decide) (by decide) _ _ q0 _ _ z0 (V (Proc.devRef .tc main_arg5)) r) n0 j
  have z1 := fun r (k : Fin 1024) (κ : Fin 17) (c : Fin 3) => kptR_apply 32 1024 (by decide) (by decide) (V (Proc.devRef .tc main_arg1)) transposes_S16x53x32x32_S16x32x32x53_0_2_3_1 shapeCasts_S16x32x32x53_S16x1024x53
    slices_S16x1024x53_S16x1024x51_0_0_2 shapeCasts_S16x1024x51_S16x1024x17x3 Cert.KernelIdeal.Gen.shapeCasts_S16x53x32x32_S868352 r k κ c
  have q1 := cellR_apply 32#32 0x41800000#32 (V (Proc.devRef .tc main_arg3))
  have n1 := fun r => cntR_apply sh1024 (by decide) (by decide) (by decide) _ _ q1 (V (Proc.devRef .tc main_arg5)) r
  have x1 : xyR1 V j = _ := quotR_apply _ _ _ _ (fun r => sxyR_apply sh1024 (by decide) (by decide) (by decide) _ _ q1 _ _ z1 (V (Proc.devRef .tc main_arg5)) r) n1 j
  have s1 : scR1 V j = _ := quotR_apply _ _ _ _ (fun r => sscR_apply sh1024 (by decide) (by decide) (by decide) _ _ q1 _ _ z1 (V (Proc.devRef .tc main_arg5)) r) n1 j
  have z2 := fun r (k : Fin 256) (κ : Fin 17) (c : Fin 3) => kptR_apply 16 256 (by decide) (by decide) (V (Proc.devRef .tc main_arg2)) transposes_S16x53x16x16_S16x16x16x53_0_2_3_1 shapeCasts_S16x16x16x53_S16x256x53
    slices_S16x256x53_S16x256x51_0_0_2 shapeCasts_S16x256x51_S16x256x17x3 Cert.KernelIdeal.Gen.shapeCasts_S16x53x16x16_S217088 r k κ c
  have q2 := cellR_apply 16#32 0x42000000#32 (V (Proc.devRef .tc main_arg3))
  have n2 := fun r => cntR_apply sh256 (by decide) (by decide) (by decide) _ _ q2 (V (Proc.devRef .tc main_arg5)) r
  have x2 : xyR2 V j = _ := quotR_apply _ _ _ _ (fun r => sxyR_apply sh256 (by decide) (by decide) (by decide) _ _ q2 _ _ z2 (V (Proc.devRef .tc main_arg5)) r) n2 j
  have s2 : scR2 V j = _ := quotR_apply _ _ _ _ (fun r => sscR_apply sh256 (by decide) (by decide) (by decide) _ _ q2 _ _ z2 (V (Proc.devRef .tc main_arg5)) r) n2 j
  exact congrArg₂ (· + ·) (congrArg₂ (· + ·) (congrArg₂ (· + ·) (congrArg₂ (· + ·) (congrArg₂ (· + ·) ((congrArg₂ (· + ·) bits_0 x0).trans (zero_add _)) s0) x1) s1) x2) s2

end Total

end Cert.Proof.Obj.Ref

end
-- ==== Proof.KptSel.lean ====
/-
  The kernel's selection matrices: one in each column, at the channel of the column's keypoint in the block of its box. A
  matrix is a tree of tables of up to 128 entries; each table is read against the rule for its entries.
-/
module

public import proofs.«01_k».proof.KernelIdeal
public import proofs.«01_k».proof.Proof.Gen.KernelIdeal
public import Idealize.ShloMosaic.Lib.ValueIdxCore
public import Idealize.ShloMosaic.Lib.Pipeline.Value

@[expose] public section

set_option maxRecDepth 4000

namespace Cert.Proof.Sel

open Cert.KernelIdeal

/-- The rule: one where the row is the column's, zero elsewhere. -/
def E (o j : ℕ) : BitVec 32 := bif Nat.beq (j / 136) (64 * (j % 136 / 17) + o + 3 * (j % 136 % 17)) then 0x3F800000#32 else 0x00000000#32

noncomputable abbrev table128 (x : ℕ) (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : BitVec 32) : BitVec 32 := match x with
  | 0 => a0
  | 1 => a1
  | 2 => a2
  | 3 => a3
  | 4 => a4
  | 5 => a5
  | 6 => a6
  | 7 => a7
  | 8 => a8
  | 9 => a9
  | 10 => a10
  | 11 => a11
  | 12 => a12
  | 13 => a13
  | 14 => a14
  | 15 => a15
  | 16 => a16
  | 17 => a17
  | 18 => a18
  | 19 => a19
  | 20 => a20
  | 21 => a21
  | 22 => a22
  | 23 => a23
  | 24 => a24
  | 25 => a25
  | 26 => a26
  | 27 => a27
  | 28 => a28
  | 29 => a29
  | 30 => a30
  | 31 => a31
  | 32 => a32
  | 33 => a33
  | 34 => a34
  | 35 => a35
  | 36 => a36
  | 37 => a37
  | 38 => a38
  | 39 => a39
  | 40 => a40
  | 41 => a41
  | 42 => a42
  | 43 => a43
  | 44 => a44
  | 45 => a45
  | 46 => a46
  | 47 => a47
  | 48 => a48
  | 49 => a49
  | 50 => a50
  | 51 => a51
  | 52 => a52
  | 53 => a53
  | 54 => a54
  | 55 => a55
  | 56 => a56
  | 57 => a57
  | 58 => a58
  | 59 => a59
  | 60 => a60
  | 61 => a61
  | 62 => a62
  | 63 => a63
  | 64 => a64
  | 65 => a65
  | 66 => a66
  | 67 => a67
  | 68 => a68
  | 69 => a69
  | 70 => a70
  | 71 => a71
  | 72 => a72
  | 73 => a73
  | 74 => a74
  | 75 => a75
  | 76 => a76
  | 77 => a77
  | 78 => a78
  | 79 => a79
  | 80 => a80
  | 81 => a81
  | 82 => a82
  | 83 => a83
  | 84 => a84
  | 85 => a85
  | 86 => a86
  | 87 => a87
  | 88 => a88
  | 89 => a89
  | 90 => a90
  | 91 => a91
  | 92 => a92
  | 93 => a93
  | 94 => a94
  | 95 => a95
  | 96 => a96
  | 97 => a97
  | 98 => a98
  | 99 => a99
  | 100 => a100
  | 101 => a101
  | 102 => a102
  | 103 => a103
  | 104 => a104
  | 105 => a105
  | 106 => a106
  | 107 => a107
  | 108 => a108
  | 109 => a109
  | 110 => a110
  | 111 => a111
  | 112 => a112
  | 113 => a113
  | 114 => a114
  | 115 => a115
  | 116 => a116
  | 117 => a117
  | 118 => a118
  | 119 => a119
  | 120 => a120
  | 121 => a121
  | 122 => a122
  | 123 => a123
  | 124 => a124
  | 125 => a125
  | 126 => a126
  | 127 => a127
  | _ => 0#32

theorem table128_eq (f : ℕ → BitVec 32) (x : ℕ) (hx : x < 128) : table128 x (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) (f 48) (f 49) (f 50) (f 51) (f 52) (f 53) (f 54) (f 55) (f 56) (f 57) (f 58) (f 59) (f 60) (f 61) (f 62) (f 63) (f 64) (f 65) (f 66) (f 67) (f 68) (f 69) (f 70) (f 71) (f 72) (f 73) (f 74) (f 75) (f 76) (f 77) (f 78) (f 79) (f 80) (f 81) (f 82) (f 83) (f 84) (f 85) (f 86) (f 87) (f 88) (f 89) (f 90) (f 91) (f 92) (f 93) (f 94) (f 95) (f 96) (f 97) (f 98) (f 99) (f 100) (f 101) (f 102) (f 103) (f 104) (f 105) (f 106) (f 107) (f 108) (f 109) (f 110) (f 111) (f 112) (f 113) (f 114) (f 115) (f 116) (f 117) (f 118) (f 119) (f 120) (f 121) (f 122) (f 123) (f 124) (f 125) (f 126) (f 127) = f x := by
  interval_cases x <;> rfl

theorem table128_of (f : ℕ → BitVec 32) (x : ℕ) (hx : x < 128) (a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : BitVec 32) (h0 : a0 = f 0) (h1 : a1 = f 1) (h2 : a2 = f 2) (h3 : a3 = f 3) (h4 : a4 = f 4) (h5 : a5 = f 5) (h6 : a6 = f 6) (h7 : a7 = f 7) (h8 : a8 = f 8) (h9 : a9 = f 9) (h10 : a10 = f 10) (h11 : a11 = f 11) (h12 : a12 = f 12) (h13 : a13 = f 13) (h14 : a14 = f 14) (h15 : a15 = f 15) (h16 : a16 = f 16) (h17 : a17 = f 17) (h18 : a18 = f 18) (h19 : a19 = f 19) (h20 : a20 = f 20) (h21 : a21 = f 21) (h22 : a22 = f 22) (h23 : a23 = f 23) (h24 : a24 = f 24) (h25 : a25 = f 25) (h26 : a26 = f 26) (h27 : a27 = f 27) (h28 : a28 = f 28) (h29 : a29 = f 29) (h30 : a30 = f 30) (h31 : a31 = f 31) (h32 : a32 = f 32) (h33 : a33 = f 33) (h34 : a34 = f 34) (h35 : a35 = f 35) (h36 : a36 = f 36) (h37 : a37 = f 37) (h38 : a38 = f 38) (h39 : a39 = f 39) (h40 : a40 = f 40) (h41 : a41 = f 41) (h42 : a42 = f 42) (h43 : a43 = f 43) (h44 : a44 = f 44) (h45 : a45 = f 45) (h46 : a46 = f 46) (h47 : a47 = f 47) (h48 : a48 = f 48) (h49 : a49 = f 49) (h50 : a50 = f 50) (h51 : a51 = f 51) (h52 : a52 = f 52) (h53 : a53 = f 53) (h54 : a54 = f 54) (h55 : a55 = f 55) (h56 : a56 = f 56) (h57 : a57 = f 57) (h58 : a58 = f 58) (h59 : a59 = f 59) (h60 : a60 = f 60) (h61 : a61 = f 61) (h62 : a62 = f 62) (h63 : a63 = f 63) (h64 : a64 = f 64) (h65 : a65 = f 65) (h66 : a66 = f 66) (h67 : a67 = f 67) (h68 : a68 = f 68) (h69 : a69 = f 69) (h70 : a70 = f 70) (h71 : a71 = f 71) (h72 : a72 = f 72) (h73 : a73 = f 73) (h74 : a74 = f 74) (h75 : a75 = f 75) (h76 : a76 = f 76) (h77 : a77 = f 77) (h78 : a78 = f 78) (h79 : a79 = f 79) (h80 : a80 = f 80) (h81 : a81 = f 81) (h82 : a82 = f 82) (h83 : a83 = f 83) (h84 : a84 = f 84) (h85 : a85 = f 85) (h86 : a86 = f 86) (h87 : a87 = f 87) (h88 : a88 = f 88) (h89 : a89 = f 89) (h90 : a90 = f 90) (h91 : a91 = f 91) (h92 : a92 = f 92) (h93 : a93 = f 93) (h94 : a94 = f 94) (h95 : a95 = f 95) (h96 : a96 = f 96) (h97 : a97 = f 97) (h98 : a98 = f 98) (h99 : a99 = f 99) (h100 : a100 = f 100) (h101 : a101 = f 101) (h102 : a102 = f 102) (h103 : a103 = f 103) (h104 : a104 = f 104) (h105 : a105 = f 105) (h106 : a106 = f 106) (h107 : a107 = f 107) (h108 : a108 = f 108) (h109 : a109 = f 109) (h110 : a110 = f 110) (h111 : a111 = f 111) (h112 : a112 = f 112) (h113 : a113 = f 113) (h114 : a114 = f 114) (h115 : a115 = f 115) (h116 : a116 = f 116) (h117 : a117 = f 117) (h118 : a118 = f 118) (h119 : a119 = f 119) (h120 : a120 = f 120) (h121 : a121 = f 121) (h122 : a122 = f 122) (h123 : a123 = f 123) (h124 : a124 = f 124) (h125 : a125 = f 125) (h126 : a126 = f 126) (h127 : a127 = f 127) : table128 x a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 = f x := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127
  exact table128_eq f x hx

noncomputable abbrev table32 (x : ℕ) (a0 a1 a2 a3 a4 a5 a6 a7 a8 a9 a10 a11 a12 a13 a14 a15 a16 a17 a18 a19 a20 a21 a22 a23 a24 a25 a26 a27 a28 a29 a30 a31 : BitVec 32) : BitVec 32 := match x with
  | 0 => a0
  | 1 => a1
  | 2 => a2
  | 3 => a3
  | 4 => a4
  | 5 => a5
  | 6 => a6
  | 7 => a7
  | 8 => a8
  | 9 => a9
  | 10 => a10
  | 11 => a11
  | 12 => a12
  | 13 => a13
  | 14 => a14
  | 15 => a15
  | 16 => a16
  | 17 => a17
  | 18 => a18
  | 19 => a19
  | 20 => a20
  | 21 => a21
  | 22 => a22
  | 23 => a23
  | 24 => a24
  | 25 => a25
  | 26 => a26
  | 27 => a27
  | 28 => a28
  | 29 => a29
  | 30 => a30
  | 31 => a31
  | _ => 0#32

theorem table32_eq (f : ℕ → BitVec 32) (x : ℕ) (hx : x < 32) : table32 x (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) = f x := by
  interval_cases x <;> rfl

theorem table32_of (f : ℕ → BitVec 32) (x : ℕ) (hx : x < 32) (a0 a1 a2 a3 a4 a5 a6 a7 a8 a9 a10 a11 a12 a13 a14 a15 a16 a17 a18 a19 a20 a21 a22 a23 a24 a25 a26 a27 a28 a29 a30 a31 : BitVec 32) (h0 : a0 = f 0) (h1 : a1 = f 1) (h2 : a2 = f 2) (h3 : a3 = f 3) (h4 : a4 = f 4) (h5 : a5 = f 5) (h6 : a6 = f 6) (h7 : a7 = f 7) (h8 : a8 = f 8) (h9 : a9 = f 9) (h10 : a10 = f 10) (h11 : a11 = f 11) (h12 : a12 = f 12) (h13 : a13 = f 13) (h14 : a14 = f 14) (h15 : a15 = f 15) (h16 : a16 = f 16) (h17 : a17 = f 17) (h18 : a18 = f 18) (h19 : a19 = f 19) (h20 : a20 = f 20) (h21 : a21 = f 21) (h22 : a22 = f 22) (h23 : a23 = f 23) (h24 : a24 = f 24) (h25 : a25 = f 25) (h26 : a26 = f 26) (h27 : a27 = f 27) (h28 : a28 = f 28) (h29 : a29 = f 29) (h30 : a30 = f 30) (h31 : a31 = f 31) : table32 x a0 a1 a2 a3 a4 a5 a6 a7 a8 a9 a10 a11 a12 a13 a14 a15 a16 a17 a18 a19 a20 a21 a22 a23 a24 a25 a26 a27 a28 a29 a30 a31 = f x := by
  subst h0 h1 h2 h3 h4 h5 h6 h7 h8 h9 h10 h11 h12 h13 h14 h15 h16 h17 h18 h19 h20 h21 h22 h23 h24 h25 h26 h27 h28 h29 h30 h31
  exact table32_eq f x hx

/-- A table of the rule. -/
theorem leaf (o t i : ℕ) : table128 (i % 128) (E o (128 * t + 0)) (E o (128 * t + 1)) (E o (128 * t + 2)) (E o (128 * t + 3)) (E o (128 * t + 4)) (E o (128 * t + 5)) (E o (128 * t + 6)) (E o (128 * t + 7)) (E o (128 * t + 8)) (E o (128 * t + 9)) (E o (128 * t + 10)) (E o (128 * t + 11)) (E o (128 * t + 12)) (E o (128 * t + 13)) (E o (128 * t + 14)) (E o (128 * t + 15)) (E o (128 * t + 16)) (E o (128 * t + 17)) (E o (128 * t + 18)) (E o (128 * t + 19)) (E o (128 * t + 20)) (E o (128 * t + 21)) (E o (128 * t + 22)) (E o (128 * t + 23)) (E o (128 * t + 24)) (E o (128 * t + 25)) (E o (128 * t + 26)) (E o (128 * t + 27)) (E o (128 * t + 28)) (E o (128 * t + 29)) (E o (128 * t + 30)) (E o (128 * t + 31)) (E o (128 * t + 32)) (E o (128 * t + 33)) (E o (128 * t + 34)) (E o (128 * t + 35)) (E o (128 * t + 36)) (E o (128 * t + 37)) (E o (128 * t + 38)) (E o (128 * t + 39)) (E o (128 * t + 40)) (E o (128 * t + 41)) (E o (128 * t + 42)) (E o (128 * t + 43)) (E o (128 * t + 44)) (E o (128 * t + 45)) (E o (128 * t + 46)) (E o (128 * t + 47)) (E o (128 * t + 48)) (E o (128 * t + 49)) (E o (128 * t + 50)) (E o (128 * t + 51)) (E o (128 * t + 52)) (E o (128 * t + 53)) (E o (128 * t + 54)) (E o (128 * t + 55)) (E o (128 * t + 56)) (E o (128 * t + 57)) (E o (128 * t + 58)) (E o (128 * t + 59)) (E o (128 * t + 60)) (E o (128 * t + 61)) (E o (128 * t + 62)) (E o (128 * t + 63)) (E o (128 * t + 64)) (E o (128 * t + 65)) (E o (128 * t + 66)) (E o (128 * t + 67)) (E o (128 * t + 68)) (E o (128 * t + 69)) (E o (128 * t + 70)) (E o (128 * t + 71)) (E o (128 * t + 72)) (E o (128 * t + 73)) (E o (128 * t + 74)) (E o (128 * t + 75)) (E o (128 * t + 76)) (E o (128 * t + 77)) (E o (128 * t + 78)) (E o (128 * t + 79)) (E o (128 * t + 80)) (E o (128 * t + 81)) (E o (128 * t + 82)) (E o (128 * t + 83)) (E o (128 * t + 84)) (E o (128 * t + 85)) (E o (128 * t + 86)) (E o (128 * t + 87)) (E o (128 * t + 88)) (E o (128 * t + 89)) (E o (128 * t + 90)) (E o (128 * t + 91)) (E o (128 * t + 92)) (E o (128 * t + 93)) (E o (128 * t + 94)) (E o (128 * t + 95)) (E o (128 * t + 96)) (E o (128 * t + 97)) (E o (128 * t + 98)) (E o (128 * t + 99)) (E o (128 * t + 100)) (E o (128 * t + 101)) (E o (128 * t + 102)) (E o (128 * t + 103)) (E o (128 * t + 104)) (E o (128 * t + 105)) (E o (128 * t + 106)) (E o (128 * t + 107)) (E o (128 * t + 108)) (E o (128 * t + 109)) (E o (128 * t + 110)) (E o (128 * t + 111)) (E o (128 * t + 112)) (E o (128 * t + 113)) (E o (128 * t + 114)) (E o (128 * t + 115)) (E o (128 * t + 116)) (E o (128 * t + 117)) (E o (128 * t + 118)) (E o (128 * t + 119)) (E o (128 * t + 120)) (E o (128 * t + 121)) (E o (128 * t + 122)) (E o (128 * t + 123)) (E o (128 * t + 124)) (E o (128 * t + 125)) (E o (128 * t + 126)) (E o (128 * t + 127)) = E o (128 * t + i % 128) :=
  table128_eq (fun x => E o (128 * t + x)) (i % 128) (Nat.mod_lt _ (by omega))

end Cert.Proof.Sel
-- ==== Proof.KptSel1.lean ====
/-
  The rule for the selection matrix 1, table by table.
-/
module

public import proofs.«01_k».proof.Proof.KptSel

@[expose] public section

set_option maxRecDepth 4000

namespace Cert.Proof.Sel

open Cert.KernelIdeal

theorem s1_0 (i : ℕ) : lit1t1_0 i = E 1 (128 * (128 * 0 + i / 128 % 128) + i % 128) :=
  let L := fun t => leaf 1 t i
  table128_of (fun t => E 1 (128 * (128 * 0 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 0) (L 1) (L 2) (L 3) (L 4) (L 5) (L 6) (L 7) (L 8) (L 9) (L 10) (L 11) (L 12) (L 13) (L 14) (L 15) (L 16) (L 17) (L 18) (L 19) (L 20) (L 21) (L 22) (L 23) (L 24) (L 25) (L 26) (L 27) (L 28) (L 29) (L 30) (L 31) (L 32) (L 33) (L 34) (L 35) (L 36) (L 37) (L 38) (L 39) (L 40) (L 41) (L 42) (L 43) (L 44) (L 45) (L 46) (L 47) (L 48) (L 49) (L 50) (L 51) (L 52) (L 53) (L 54) (L 55) (L 56) (L 57) (L 58) (L 59) (L 60) (L 61) (L 62) (L 63) (L 64) (L 65) (L 66) (L 67) (L 68) (L 69) (L 70) (L 71) (L 72) (L 73) (L 74) (L 75) (L 76) (L 77) (L 78) (L 79) (L 80) (L 81) (L 82) (L 83) (L 84) (L 85) (L 86) (L 87) (L 88) (L 89) (L 90) (L 91) (L 92) (L 93) (L 94) (L 95) (L 96) (L 97) (L 98) (L 99) (L 100) (L 101) (L 102) (L 103) (L 104) (L 105) (L 106) (L 107) (L 108) (L 109) (L 110) (L 111) (L 112) (L 113) (L 114) (L 115) (L 116) (L 117) (L 118) (L 119) (L 120) (L 121) (L 122) (L 123) (L 124) (L 125) (L 126) (L 127)

theorem s1_1 (i : ℕ) : lit1t1_1 i = E 1 (128 * (128 * 1 + i / 128 % 128) + i % 128) :=
  let L := fun t => leaf 1 t i
  table128_of (fun t => E 1 (128 * (128 * 1 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 128) (L 129) (L 130) (L 131) (L 132) (L 133) (L 134) (L 135) (L 136) (L 137) (L 138) (L 139) (L 140) (L 141) (L 142) (L 143) (L 144) (L 145) (L 146) (L 147) (L 148) (L 149) (L 150) (L 151) (L 152) (L 153) (L 154) (L 155) (L 156) (L 157) (L 158) (L 159) (L 160) (L 161) (L 162) (L 163) (L 164) (L 165) (L 166) (L 167) (L 168) (L 169) (L 170) (L 171) (L 172) (L 173) (L 174) (L 175) (L 176) (L 177) (L 178) (L 179) (L 180) (L 181) (L 182) (L 183) (L 184) (L 185) (L 186) (L 187) (L 188) (L 189) (L 190) (L 191) (L 192) (L 193) (L 194) (L 195) (L 196) (L 197) (L 198) (L 199) (L 200) (L 201) (L 202) (L 203) (L 204) (L 205) (L 206) (L 207) (L 208) (L 209) (L 210) (L 211) (L 212) (L 213) (L 214) (L 215) (L 216) (L 217) (L 218) (L 219) (L 220) (L 221) (L 222) (L 223) (L 224) (L 225) (L 226) (L 227) (L 228) (L 229) (L 230) (L 231) (L 232) (L 233) (L 234) (L 235) (L 236) (L 237) (L 238) (L 239) (L 240) (L 241) (L 242) (L 243) (L 244) (L 245) (L 246) (L 247) (L 248) (L 249) (L 250) (L 251) (L 252) (L 253) (L 254) (L 255)

theorem s1_2 (i : ℕ) : lit1t1_2 i = E 1 (128 * (128 * 2 + i / 128 % 128) + i % 128) :=
  let L := fun t => leaf 1 t i
  table128_of (fun t => E 1 (128 * (128 * 2 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 256) (L 257) (L 258) (L 259) (L 260) (L 261) (L 262) (L 263) (L 264) (L 265) (L 266) (L 267) (L 268) (L 269) (L 270) (L 271) (L 272) (L 273) (L 274) (L 275) (L 276) (L 277) (L 278) (L 279) (L 280) (L 281) (L 282) (L 283) (L 284) (L 285) (L 286) (L 287) (L 288) (L 289) (L 290) (L 291) (L 292) (L 293) (L 294) (L 295) (L 296) (L 297) (L 298) (L 299) (L 300) (L 301) (L 302) (L 303) (L 304) (L 305) (L 306) (L 307) (L 308) (L 309) (L 310) (L 311) (L 312) (L 313) (L 314) (L 315) (L 316) (L 317) (L 318) (L 319) (L 320) (L 321) (L 322) (L 323) (L 324) (L 325) (L 326) (L 327) (L 328) (L 329) (L 330) (L 331) (L 332) (L 333) (L 334) (L 335) (L 336) (L 337) (L 338) (L 339) (L 340) (L 341) (L 342) (L 343) (L 344) (L 345) (L 346) (L 347) (L 348) (L 349) (L 350) (L 351) (L 352) (L 353) (L 354) (L 355) (L 356) (L 357) (L 358) (L 359) (L 360) (L 361) (L 362) (L 363) (L 364) (L 365) (L 366) (L 367) (L 368) (L 369) (L 370) (L 371) (L 372) (L 373) (L 374) (L 375) (L 376) (L 377) (L 378) (L 379) (L 380) (L 381) (L 382) (L 383)

theorem s1_3 (i : ℕ) : lit1t1_3 i = E 1 (128 * (128 * 3 + i / 128 % 128) + i % 128) :=
  let L := fun t => leaf 1 t i
  table128_of (fun t => E 1 (128 * (128 * 3 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 384) (L 385) (L 386) (L 387) (L 388) (L 389) (L 390) (L 391) (L 392) (L 393) (L 394) (L 395) (L 396) (L 397) (L 398) (L 399) (L 400) (L 401) (L 402) (L 403) (L 404) (L 405) (L 406) (L 407) (L 408) (L 409) (L 410) (L 411) (L 412) (L 413) (L 414) (L 415) (L 416) (L 417) (L 418) (L 419) (L 420) (L 421) (L 422) (L 423) (L 424) (L 425) (L 426) (L 427) (L 428) (L 429) (L 430) (L 431) (L 432) (L 433) (L 434) (L 435) (L 436) (L 437) (L 438) (L 439) (L 440) (L 441) (L 442) (L 443) (L 444) (L 445) (L 446) (L 447) (L 448) (L 449) (L 450) (L 451) (L 452) (L 453) (L 454) (L 455) (L 456) (L 457) (L 458) (L 459) (L 460) (L 461) (L 462) (L 463) (L 464) (L 465) (L 466) (L 467) (L 468) (L 469) (L 470) (L 471) (L 472) (L 473) (L 474) (L 475) (L 476) (L 477) (L 478) (L 479) (L 480) (L 481) (L 482) (L 483) (L 484) (L 485) (L 486) (L 487) (L 488) (L 489) (L 490) (L 491) (L 492) (L 493) (L 494) (L 495) (L 496) (L 497) (L 498) (L 499) (L 500) (L 501) (L 502) (L 503) (L 504) (L 505) (L 506) (L 507) (L 508) (L 509) (L 510) (L 511)

theorem s1_4 (i : ℕ) (hx : i / 128 % 128 < 32) : lit1t1_4 i = E 1 (128 * (128 * 4 + i / 128 % 128) + i % 128) :=
  let L := fun t => leaf 1 t i
  table32_of (fun t => E 1 (128 * (128 * 4 + t) + i % 128)) (i / 128 % 128) hx _ _ _ _ _ _ _ _ _ _ _ _ _ _ _ _ _ _ _ _ _ _ _ _ _ _ _ _ _ _ _ _
    (L 512) (L 513) (L 514) (L 515) (L 516) (L 517) (L 518) (L 519) (L 520) (L 521) (L 522) (L 523) (L 524) (L 525) (L 526) (L 527) (L 528) (L 529) (L 530) (L 531) (L 532) (L 533) (L 534) (L 535) (L 536) (L 537) (L 538) (L 539) (L 540) (L 541) (L 542) (L 543)

theorem sel1 (j : Fin 69632) : lit1 j = E 1 j.val := by
  obtain ⟨i, hi⟩ := j
  show lit1t i = E 1 i
  have h : i / 16384 < 5 := by omega
  unfold lit1t
  generalize e : i / 16384 = a at h ⊢
  interval_cases a
  · exact (s1_0 i).trans (congrArg (E 1) (by omega))
  · exact (s1_1 i).trans (congrArg (E 1) (by omega))
  · exact (s1_2 i).trans (congrArg (E 1) (by omega))
  · exact (s1_3 i).trans (congrArg (E 1) (by omega))
  · exact (s1_4 i (by omega)).trans (congrArg (E 1) (by omega))

end Cert.Proof.Sel
-- ==== Proof.KptSel2.lean ====
/-
  The rule for the selection matrix 2, table by table.
-/
module

public import proofs.«01_k».proof.Proof.KptSel

@[expose] public section

set_option maxRecDepth 4000

namespace Cert.Proof.Sel

open Cert.KernelIdeal

theorem s2_0 (i : ℕ) : lit2t1_0 i = E 2 (128 * (128 * 0 + i / 128 % 128) + i % 128) :=
  let L := fun t => leaf 2 t i
  table128_of (fun t => E 2 (128 * (128 * 0 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 0) (L 1) (L 2) (L 3) (L 4) (L 5) (L 6) (L 7) (L 8) (L 9) (L 10) (L 11) (L 12) (L 13) (L 14) (L 15) (L 16) (L 17) (L 18) (L 19) (L 20) (L 21) (L 22) (L 23) (L 24) (L 25) (L 26) (L 27) (L 28) (L 29) (L 30) (L 31) (L 32) (L 33) (L 34) (L 35) (L 36) (L 37) (L 38) (L 39) (L 40) (L 41) (L 42) (L 43) (L 44) (L 45) (L 46) (L 47) (L 48) (L 49) (L 50) (L 51) (L 52) (L 53) (L 54) (L 55) (L 56) (L 57) (L 58) (L 59) (L 60) (L 61) (L 62) (L 63) (L 64) (L 65) (L 66) (L 67) (L 68) (L 69) (L 70) (L 71) (L 72) (L 73) (L 74) (L 75) (L 76) (L 77) (L 78) (L 79) (L 80) (L 81) (L 82) (L 83) (L 84) (L 85) (L 86) (L 87) (L 88) (L 89) (L 90) (L 91) (L 92) (L 93) (L 94) (L 95) (L 96) (L 97) (L 98) (L 99) (L 100) (L 101) (L 102) (L 103) (L 104) (L 105) (L 106) (L 107) (L 108) (L 109) (L 110) (L 111) (L 112) (L 113) (L 114) (L 115) (L 116) (L 117) (L 118) (L 119) (L 120) (L 121) (L 122) (L 123) (L 124) (L 125) (L 126) (L 127)

theorem s2_1 (i : ℕ) : lit2t1_1 i = E 2 (128 * (128 * 1 + i / 128 % 128) + i % 128) :=
  let L := fun t => leaf 2 t i
  table128_of (fun t => E 2 (128 * (128 * 1 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 128) (L 129) (L 130) (L 131) (L 132) (L 133) (L 134) (L 135) (L 136) (L 137) (L 138) (L 139) (L 140) (L 141) (L 142) (L 143) (L 144) (L 145) (L 146) (L 147) (L 148) (L 149) (L 150) (L 151) (L 152) (L 153) (L 154) (L 155) (L 156) (L 157) (L 158) (L 159) (L 160) (L 161) (L 162) (L 163) (L 164) (L 165) (L 166) (L 167) (L 168) (L 169) (L 170) (L 171) (L 172) (L 173) (L 174) (L 175) (L 176) (L 177) (L 178) (L 179) (L 180) (L 181) (L 182) (L 183) (L 184) (L 185) (L 186) (L 187) (L 188) (L 189) (L 190) (L 191) (L 192) (L 193) (L 194) (L 195) (L 196) (L 197) (L 198) (L 199) (L 200) (L 201) (L 202) (L 203) (L 204) (L 205) (L 206) (L 207) (L 208) (L 209) (L 210) (L 211) (L 212) (L 213) (L 214) (L 215) (L 216) (L 217) (L 218) (L 219) (L 220) (L 221) (L 222) (L 223) (L 224) (L 225) (L 226) (L 227) (L 228) (L 229) (L 230) (L 231) (L 232) (L 233) (L 234) (L 235) (L 236) (L 237) (L 238) (L 239) (L 240) (L 241) (L 242) (L 243) (L 244) (L 245) (L 246) (L 247) (L 248) (L 249) (L 250) (L 251) (L 252) (L 253) (L 254) (L 255)

theorem s2_2 (i : ℕ) : lit2t1_2 i = E 2 (128 * (128 * 2 + i / 128 % 128) + i % 128) :=
  let L := fun t => leaf 2 t i
  table128_of (fun t => E 2 (128 * (128 * 2 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 256) (L 257) (L 258) (L 259) (L 260) (L 261) (L 262) (L 263) (L 264) (L 265) (L 266) (L 267) (L 268) (L 269) (L 270) (L 271) (L 272) (L 273) (L 274) (L 275) (L 276) (L 277) (L 278) (L 279) (L 280) (L 281) (L 282) (L 283) (L 284) (L 285) (L 286) (L 287) (L 288) (L 289) (L 290) (L 291) (L 292) (L 293) (L 294) (L 295) (L 296) (L 297) (L 298) (L 299) (L 300) (L 301) (L 302) (L 303) (L 304) (L 305) (L 306) (L 307) (L 308) (L 309) (L 310) (L 311) (L 312) (L 313) (L 314) (L 315) (L 316) (L 317) (L 318) (L 319) (L 320) (L 321) (L 322) (L 323) (L 324) (L 325) (L 326) (L 327) (L 328) (L 329) (L 330) (L 331) (L 332) (L 333) (L 334) (L 335) (L 336) (L 337) (L 338) (L 339) (L 340) (L 341) (L 342) (L 343) (L 344) (L 345) (L 346) (L 347) (L 348) (L 349) (L 350) (L 351) (L 352) (L 353) (L 354) (L 355) (L 356) (L 357) (L 358) (L 359) (L 360) (L 361) (L 362) (L 363) (L 364) (L 365) (L 366) (L 367) (L 368) (L 369) (L 370) (L 371) (L 372) (L 373) (L 374) (L 375) (L 376) (L 377) (L 378) (L 379) (L 380) (L 381) (L 382) (L 383)

theorem s2_3 (i : ℕ) : lit2t1_3 i = E 2 (128 * (128 * 3 + i / 128 % 128) + i % 128) :=
  let L := fun t => leaf 2 t i
  table128_of (fun t => E 2 (128 * (128 * 3 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 384) (L 385) (L 386) (L 387) (L 388) (L 389) (L 390) (L 391) (L 392) (L 393) (L 394) (L 395) (L 396) (L 397) (L 398) (L 399) (L 400) (L 401) (L 402) (L 403) (L 404) (L 405) (L 406) (L 407) (L 408) (L 409) (L 410) (L 411) (L 412) (L 413) (L 414) (L 415) (L 416) (L 417) (L 418) (L 419) (L 420) (L 421) (L 422) (L 423) (L 424) (L 425) (L 426) (L 427) (L 428) (L 429) (L 430) (L 431) (L 432) (L 433) (L 434) (L 435) (L 436) (L 437) (L 438) (L 439) (L 440) (L 441) (L 442) (L 443) (L 444) (L 445) (L 446) (L 447) (L 448) (L 449) (L 450) (L 451) (L 452) (L 453) (L 454) (L 455) (L 456) (L 457) (L 458) (L 459) (L 460) (L 461) (L 462) (L 463) (L 464) (L 465) (L 466) (L 467) (L 468) (L 469) (L 470) (L 471) (L 472) (L 473) (L 474) (L 475) (L 476) (L 477) (L 478) (L 479) (L 480) (L 481) (L 482) (L 483) (L 484) (L 485) (L 486) (L 487) (L 488) (L 489) (L 490) (L 491) (L 492) (L 493) (L 494) (L 495) (L 496) (L 497) (L 498) (L 499) (L 500) (L 501) (L 502) (L 503) (L 504) (L 505) (L 506) (L 507) (L 508) (L 509) (L 510) (L 511)

theorem s2_4 (i : ℕ) (hx : i / 128 % 128 < 32) : lit2t1_4 i = E 2 (128 * (128 * 4 + i / 128 % 128) + i % 128) :=
  let L := fun t => leaf 2 t i
  table32_of (fun t => E 2 (128 * (128 * 4 + t) + i % 128)) (i / 128 % 128) hx _ _ _ _ _ _ _ _ _ _ _ _ _ _ _ _ _ _ _ _ _ _ _ _ _ _ _ _ _ _ _ _
    (L 512) (L 513) (L 514) (L 515) (L 516) (L 517) (L 518) (L 519) (L 520) (L 521) (L 522) (L 523) (L 524) (L 525) (L 526) (L 527) (L 528) (L 529) (L 530) (L 531) (L 532) (L 533) (L 534) (L 535) (L 536) (L 537) (L 538) (L 539) (L 540) (L 541) (L 542) (L 543)

theorem sel2 (j : Fin 69632) : lit2 j = E 2 j.val := by
  obtain ⟨i, hi⟩ := j
  show lit2t i = E 2 i
  have h : i / 16384 < 5 := by omega
  unfold lit2t
  generalize e : i / 16384 = a at h ⊢
  interval_cases a
  · exact (s2_0 i).trans (congrArg (E 2) (by omega))
  · exact (s2_1 i).trans (congrArg (E 2) (by omega))
  · exact (s2_2 i).trans (congrArg (E 2) (by omega))
  · exact (s2_3 i).trans (congrArg (E 2) (by omega))
  · exact (s2_4 i (by omega)).trans (congrArg (E 2) (by omega))

end Cert.Proof.Sel
-- ==== Proof.KptSel3.lean ====
/-
  The rule for the selection matrix 3, table by table.
-/
module

public import proofs.«01_k».proof.Proof.KptSel

@[expose] public section

set_option maxRecDepth 4000

namespace Cert.Proof.Sel

open Cert.KernelIdeal

theorem s3_0 (i : ℕ) : lit3t1_0 i = E 3 (128 * (128 * 0 + i / 128 % 128) + i % 128) :=
  let L := fun t => leaf 3 t i
  table128_of (fun t => E 3 (128 * (128 * 0 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 0) (L 1) (L 2) (L 3) (L 4) (L 5) (L 6) (L 7) (L 8) (L 9) (L 10) (L 11) (L 12) (L 13) (L 14) (L 15) (L 16) (L 17) (L 18) (L 19) (L 20) (L 21) (L 22) (L 23) (L 24) (L 25) (L 26) (L 27) (L 28) (L 29) (L 30) (L 31) (L 32) (L 33) (L 34) (L 35) (L 36) (L 37) (L 38) (L 39) (L 40) (L 41) (L 42) (L 43) (L 44) (L 45) (L 46) (L 47) (L 48) (L 49) (L 50) (L 51) (L 52) (L 53) (L 54) (L 55) (L 56) (L 57) (L 58) (L 59) (L 60) (L 61) (L 62) (L 63) (L 64) (L 65) (L 66) (L 67) (L 68) (L 69) (L 70) (L 71) (L 72) (L 73) (L 74) (L 75) (L 76) (L 77) (L 78) (L 79) (L 80) (L 81) (L 82) (L 83) (L 84) (L 85) (L 86) (L 87) (L 88) (L 89) (L 90) (L 91) (L 92) (L 93) (L 94) (L 95) (L 96) (L 97) (L 98) (L 99) (L 100) (L 101) (L 102) (L 103) (L 104) (L 105) (L 106) (L 107) (L 108) (L 109) (L 110) (L 111) (L 112) (L 113) (L 114) (L 115) (L 116) (L 117) (L 118) (L 119) (L 120) (L 121) (L 122) (L 123) (L 124) (L 125) (L 126) (L 127)

theorem s3_1 (i : ℕ) : lit3t1_1 i = E 3 (128 * (128 * 1 + i / 128 % 128) + i % 128) :=
  let L := fun t => leaf 3 t i
  table128_of (fun t => E 3 (128 * (128 * 1 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 128) (L 129) (L 130) (L 131) (L 132) (L 133) (L 134) (L 135) (L 136) (L 137) (L 138) (L 139) (L 140) (L 141) (L 142) (L 143) (L 144) (L 145) (L 146) (L 147) (L 148) (L 149) (L 150) (L 151) (L 152) (L 153) (L 154) (L 155) (L 156) (L 157) (L 158) (L 159) (L 160) (L 161) (L 162) (L 163) (L 164) (L 165) (L 166) (L 167) (L 168) (L 169) (L 170) (L 171) (L 172) (L 173) (L 174) (L 175) (L 176) (L 177) (L 178) (L 179) (L 180) (L 181) (L 182) (L 183) (L 184) (L 185) (L 186) (L 187) (L 188) (L 189) (L 190) (L 191) (L 192) (L 193) (L 194) (L 195) (L 196) (L 197) (L 198) (L 199) (L 200) (L 201) (L 202) (L 203) (L 204) (L 205) (L 206) (L 207) (L 208) (L 209) (L 210) (L 211) (L 212) (L 213) (L 214) (L 215) (L 216) (L 217) (L 218) (L 219) (L 220) (L 221) (L 222) (L 223) (L 224) (L 225) (L 226) (L 227) (L 228) (L 229) (L 230) (L 231) (L 232) (L 233) (L 234) (L 235) (L 236) (L 237) (L 238) (L 239) (L 240) (L 241) (L 242) (L 243) (L 244) (L 245) (L 246) (L 247) (L 248) (L 249) (L 250) (L 251) (L 252) (L 253) (L 254) (L 255)

theorem s3_2 (i : ℕ) : lit3t1_2 i = E 3 (128 * (128 * 2 + i / 128 % 128) + i % 128) :=
  let L := fun t => leaf 3 t i
  table128_of (fun t => E 3 (128 * (128 * 2 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 256) (L 257) (L 258) (L 259) (L 260) (L 261) (L 262) (L 263) (L 264) (L 265) (L 266) (L 267) (L 268) (L 269) (L 270) (L 271) (L 272) (L 273) (L 274) (L 275) (L 276) (L 277) (L 278) (L 279) (L 280) (L 281) (L 282) (L 283) (L 284) (L 285) (L 286) (L 287) (L 288) (L 289) (L 290) (L 291) (L 292) (L 293) (L 294) (L 295) (L 296) (L 297) (L 298) (L 299) (L 300) (L 301) (L 302) (L 303) (L 304) (L 305) (L 306) (L 307) (L 308) (L 309) (L 310) (L 311) (L 312) (L 313) (L 314) (L 315) (L 316) (L 317) (L 318) (L 319) (L 320) (L 321) (L 322) (L 323) (L 324) (L 325) (L 326) (L 327) (L 328) (L 329) (L 330) (L 331) (L 332) (L 333) (L 334) (L 335) (L 336) (L 337) (L 338) (L 339) (L 340) (L 341) (L 342) (L 343) (L 344) (L 345) (L 346) (L 347) (L 348) (L 349) (L 350) (L 351) (L 352) (L 353) (L 354) (L 355) (L 356) (L 357) (L 358) (L 359) (L 360) (L 361) (L 362) (L 363) (L 364) (L 365) (L 366) (L 367) (L 368) (L 369) (L 370) (L 371) (L 372) (L 373) (L 374) (L 375) (L 376) (L 377) (L 378) (L 379) (L 380) (L 381) (L 382) (L 383)

theorem s3_3 (i : ℕ) : lit3t1_3 i = E 3 (128 * (128 * 3 + i / 128 % 128) + i % 128) :=
  let L := fun t => leaf 3 t i
  table128_of (fun t => E 3 (128 * (128 * 3 + t) + i % 128)) (i / 128 % 128) (Nat.mod_lt _ (by omega)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (L 384) (L 385) (L 386) (L 387) (L 388) (L 389) (L 390) (L 391) (L 392) (L 393) (L 394) (L 395) (L 396) (L 397) (L 398) (L 399) (L 400) (L 401) (L 402) (L 403) (L 404) (L 405) (L 406) (L 407) (L 408) (L 409) (L 410) (L 411) (L 412) (L 413) (L 414) (L 415) (L 416) (L 417) (L 418) (L 419) (L 420) (L 421) (L 422) (L 423) (L 424) (L 425) (L 426) (L 427) (L 428) (L 429) (L 430) (L 431) (L 432) (L 433) (L 434) (L 435) (L 436) (L 437) (L 438) (L 439) (L 440) (L 441) (L 442) (L 443) (L 444) (L 445) (L 446) (L 447) (L 448) (L 449) (L 450) (L 451) (L 452) (L 453) (L 454) (L 455) (L 456) (L 457) (L 458) (L 459) (L 460) (L 461) (L 462) (L 463) (L 464) (L 465) (L 466) (L 467) (L 468) (L 469) (L 470) (L 471) (L 472) (L 473) (L 474) (L 475) (L 476) (L 477) (L 478) (L 479) (L 480) (L 481) (L 482) (L 483) (L 484) (L 485) (L 486) (L 487) (L 488) (L 489) (L 490) (L 491) (L 492) (L 493) (L 494) (L 495) (L 496) (L 497) (L 498) (L 499) (L 500) (L 501) (L 502) (L 503) (L 504) (L 505) (L 506) (L 507) (L 508) (L 509) (L 510) (L 511)

theorem s3_4 (i : ℕ) (hx : i / 128 % 128 < 32) : lit3t1_4 i = E 3 (128 * (128 * 4 + i / 128 % 128) + i % 128) :=
  let L := fun t => leaf 3 t i
  table32_of (fun t => E 3 (128 * (128 * 4 + t) + i % 128)) (i / 128 % 128) hx _ _ _ _ _ _ _ _ _ _ _ _ _ _ _ _ _ _ _ _ _ _ _ _ _ _ _ _ _ _ _ _
    (L 512) (L 513) (L 514) (L 515) (L 516) (L 517) (L 518) (L 519) (L 520) (L 521) (L 522) (L 523) (L 524) (L 525) (L 526) (L 527) (L 528) (L 529) (L 530) (L 531) (L 532) (L 533) (L 534) (L 535) (L 536) (L 537) (L 538) (L 539) (L 540) (L 541) (L 542) (L 543)

theorem sel3 (j : Fin 69632) : lit3 j = E 3 j.val := by
  obtain ⟨i, hi⟩ := j
  show lit3t i = E 3 i
  have h : i / 16384 < 5 := by omega
  unfold lit3t
  generalize e : i / 16384 = a at h ⊢
  interval_cases a
  · exact (s3_0 i).trans (congrArg (E 3) (by omega))
  · exact (s3_1 i).trans (congrArg (E 3) (by omega))
  · exact (s3_2 i).trans (congrArg (E 3) (by omega))
  · exact (s3_3 i).trans (congrArg (E 3) (by omega))
  · exact (s3_4 i (by omega)).trans (congrArg (E 3) (by omega))

end Cert.Proof.Sel
-- ==== Proof.KptKernel.lean ====
/-
  The kernel's keypoints over the extended reals, in terms of the launch memory: what the reference's definition gives.
-/
module

public import proofs.«01_k».proof.Proof.ObjKernel
public import proofs.«01_k».proof.Proof.KptMath
public import proofs.«01_k».proof.Proof.KptVal
public import proofs.«01_k».proof.Proof.KptSel1
public import proofs.«01_k».proof.Proof.KptSel2
public import proofs.«01_k».proof.Proof.KptSel3
public import proofs.«01_k».proof.Proof.RefTotal
public import Idealize.ShloMosaic.Lib.Pointwise.Reduce

@[expose] public section

noncomputable section

namespace Cert.Proof.Obj

open Cert.KernelIdeal Cert.KernelIdeal.Gen
open Idealize.ShloMosaic hiding ix1 ix2 ix3 ix4
open Idealize.ShloMosaic.ValueIdx
open Cert.Proof.Tc
open Cert.Proof.Sc (coord word word_at cell1 cell1_eq posOf rowVal OUT bits_8 bits_16 bits_32 bits_64)

/-! ## The matrices -/

theorem sel_eq (l : Fin 69632 → BitVec 32) (o : ℕ) (h : ∀ j, l j = Sel.E o j.val) (k : Fin 512) (y : Fin 136) :
    FloatOps.ofBits (F := Ideal) .f32 (l (S512x136.rowMajor (ix2 k y))) = if k.val = 64 * (y.val / 17) + o + 3 * (y.val % 17) then (1 : EReal) else 0 := by
  have e : (S512x136.rowMajor (ix2 k y)).val = k.val * 136 + y.val := Shape.rowMajor_val_two _
  refine (congrArg (FloatOps.ofBits (F := Ideal) .f32) ((h _).trans (congrArg (Sel.E o) e))).trans ?_
  unfold Sel.E
  rw [show (k.val * 136 + y.val) / 136 = k.val by omega, show (k.val * 136 + y.val) % 136 = y.val by omega]
  by_cases hk : k.val = 64 * (y.val / 17) + o + 3 * (y.val % 17)
  · rw [if_pos hk, ← hk, Nat.beq_refl]; exact bits_1
  · rw [if_neg hk, show Nat.beq k.val (64 * (y.val / 17) + o + 3 * (y.val % 17)) = false from by
      rw [← Bool.not_eq_true]; exact fun e => hk (Nat.eq_of_beq_eq_true e)]; exact bits_0

theorem rep_all : (List.range 1088).all (fun j => lit4 ⟨j % 1088, Nat.mod_lt _ (by omega)⟩ == if j % 136 / 17 = j / 136 then 0x3F800000#32 else 0#32) = true := by
  decide +kernel

theorem rep_eq (i : Fin 8) (y : Fin 136) :
    FloatOps.ofBits (F := Ideal) .f32 (lit4 (S8x136.rowMajor (ix2 i y))) = if y.val / 17 = i.val then (1 : EReal) else 0 := by
  have hj : i.val * 136 + y.val < 1088 := by omega
  have h := List.all_eq_true.mp rep_all (i.val * 136 + y.val) (List.mem_range.mpr hj)
  have e : (S8x136.rowMajor (ix2 i y)) = ⟨(i.val * 136 + y.val) % 1088, Nat.mod_lt _ (by omega)⟩ := by
    apply Fin.ext
    rw [Shape.rowMajor_val_two]
    exact (Nat.mod_eq_of_lt hj).symm
  rw [e, beq_iff_eq.mp h, show (i.val * 136 + y.val) / 136 = i.val from by omega, show (i.val * 136 + y.val) % 136 = y.val from by omega]
  split
  · exact bits_1
  · exact bits_0

/-! ## The steps of the kernel -/

theorem selT_apply (o : ℕ) (g : FVec Ideal S16x512 .f32) (s : FVec Ideal S512x136 .f32)
    (hs : ∀ (k : Fin 512) (y : Fin 136), s (ix2 k y) = if k.val = 64 * (y.val / 17) + o + 3 * (y.val % 17) then (1 : EReal) else 0)
    (r : Fin 16) (y : Fin 136) (h : 64 * (y.val / 17) + o + 3 * (y.val % 17) < 512) :
    selT (F := Ideal) g s (ix2 r y) = g (ix2 r (⟨64 * (y.val / 17) + o + 3 * (y.val % 17), h⟩ : Fin 512)) := by
  refine (Ideal.matmul_plain_apply (M := 16) (K := 512) (N := 136) none _ _ _ r y).trans ?_
  rw [Finset.sum_eq_single (⟨64 * (y.val / 17) + o + 3 * (y.val % 17), h⟩ : Fin 512)]
  · rw [hs, if_pos rfl, mul_one, shapeCast_apply g shapeCasts_S16x512_S16x512 _ (ix2 r (⟨64 * (y.val / 17) + o + 3 * (y.val % 17), h⟩ : Fin 512)) rfl]
    show Ideal.ofBits .f32 0x00000000#32 + _ = _
    rw [bits_0, zero_add]
  · intro k _ hk
    rw [hs, if_neg (fun e => hk (Fin.ext e)), mul_zero]
  · exact fun e => absurd (Finset.mem_univ _) e

theorem last_eq (n : ℕ) (vl : IVec S16x8 1) (cl : IVec S16x8 32) (q : Fin 16 → Fin 8 → BitVec 32)
    (hv : ∀ r i, vl (ix2 r i) = 1#1 ↔ Ins n (q r i)) (hc : ∀ r i, (cl (ix2 r i)).toNat = clp n (q r i)) (r : Fin 16) (i : Fin 8) :
    lastW (F := Ideal) vl cl (ix2 r i) = pick (Last n q r i) 1 := by
  rw [lastW_apply]
  have e : (vl (ix2 r i) = 1#1 ∧ ∀ j, i < j → ¬ Both vl cl r i j) ↔ Last n q r i := by
    unfold Last Both
    refine and_congr (hv r i) (forall_congr' fun j => imp_congr Iff.rfl (not_congr (and_congr ?_ (hv r j))))
    rw [← hc r i, ← hc r j]
    exact ⟨fun h => congrArg _ h, fun h => BitVec.eq_of_toNat_eq h⟩
  by_cases h : Last n q r i
  · rw [if_pos (e.mpr h), pick_pos h]
  · rw [if_neg (fun h' => h (e.mp h')), pick_neg h]

theorem maskT_apply (n : ℕ) (vl : IVec S16x8 1) (cl : IVec S16x8 32) (q : Fin 16 → Fin 8 → BitVec 32)
    (hv : ∀ r i, vl (ix2 r i) = 1#1 ↔ Ins n (q r i)) (hc : ∀ r i, (cl (ix2 r i)).toNat = clp n (q r i))
    (ks : FVec Ideal S16x136 .f32) (rep : FVec Ideal S8x136 .f32) (hr : ∀ (i : Fin 8) (y : Fin 136), rep (ix2 i y) = if y.val / 17 = i.val then (1 : EReal) else 0)
    (r : Fin 16) (i : Fin 8) (κ : Fin 17) :
    maskT (F := Ideal) vl cl ks rep (ix2 r (⟨17 * i.val + κ.val, by omega⟩ : Fin 136))
      = pick (Last n q r i) 1 * W (ks (ix2 r (⟨17 * i.val + κ.val, by omega⟩ : Fin 136))) := by
  refine congrArg₂ (· * ·) ?_ ?_
  · refine (Ideal.matmul_plain_apply (M := 16) (K := 8) (N := 136) none _ _ _ r _).trans ?_
    rw [Finset.sum_eq_single i]
    · rw [hr, if_pos (show (17 * i.val + κ.val) / 17 = i.val by omega), mul_one, last_eq n vl cl q hv hc]
      show Ideal.ofBits .f32 0x00000000#32 + _ = _
      rw [bits_0, zero_add]
    · intro k _ hk
      rw [hr, if_neg (fun e => hk (Fin.ext (by have e' : (17 * i.val + κ.val) / 17 = k.val := e; omega))), mul_zero]
    · exact fun e => absurd (Finset.mem_univ _) e
  · generalize ix2 r (⟨17 * i.val + κ.val, by omega⟩ : Fin 136) = j
    show ((((BitVec.ofBool (decide (Ideal.ofBits .f32 0x00000000#32 < ks j))).setWidth 32).toInt : ℝ) : EReal) = _
    rw [bits_0]
    exact W_bit' _ _

theorem pick_mul (P : Prop) (x w : EReal) : x * (pick P 1 * w) = pick P (x * w) := by
  by_cases h : P
  · rw [pick_pos h, pick_pos h, one_mul]
  · rw [pick_neg h, pick_neg h, zero_mul, mul_zero]

theorem rowSum_apply (x : FVec Ideal S16x136 .f32) (r : Fin 16) : rowSum (F := Ideal) x (ix2 r (0 : Fin 1)) = ∑ y : Fin 136, x (ix2 r y) := by
  refine (shapeCast_apply _ _ _ (ix1 r) (by rw [Shape.rowMajor_val_one, Shape.rowMajor_val_two]; simp)).trans ?_
  exact Ideal.reduceAdd_r2_a1 reduces_S16x136_S16 x (ix1 r)

theorem sum_images (f : S1x16x1.Idx → EReal) : ∑ i, f i = ∑ r : Fin 16, f (ix3 (0 : Fin 1) r (0 : Fin 1)) := by
  refine Fintype.sum_equiv
    { toFun := fun i => (i 1 : Fin 16)
      invFun := fun r => ix3 (0 : Fin 1) r (0 : Fin 1)
      left_inv := fun i => funext fun a => by
        fin_cases a
        · exact Subsingleton.elim (α := Fin 1) _ _
        · rfl
        · exact Subsingleton.elim (α := Fin 1) _ _
      right_inv := fun r => rfl } _ _ fun i => ?_
  refine congrArg f (funext fun a => ?_)
  fin_cases a
  · exact Subsingleton.elim (α := Fin 1) _ _
  · rfl
  · exact Subsingleton.elim (α := Fin 1) _ _

theorem shareT_apply (x m : FVec Ideal S16x136 .f32) (a b : Fin 16 → EReal) (ha : ∀ r, ∑ y : Fin 136, x (ix2 r y) = a r) (hb : ∀ r, ∑ y : Fin 136, m (ix2 r y) = b r) :
    shareT (F := Ideal) x m = ∑ r, Ideal.div (a r) (b r + Ideal.ofBits .f32 0x358637BD#32) := by
  unfold shareT
  show Ideal.reduceAdd reduces_S1x16x1_S1 _ _ = _
  rw [Ideal.reduceAdd_total reduces_S1x16x1_S1 (by intro b; fin_cases b; rfl), sum_images]
  refine Finset.sum_congr rfl fun r _ => ?_
  refine (shapeCast_apply _ _ _ (ix2 r (0 : Fin 1)) (by rw [Shape.rowMajor_val_three, Shape.rowMajor_val_two]; simp)).trans ?_
  exact congrArg₂ Ideal.div ((rowSum_apply x r).trans (ha r)) (congrArg₂ (· + ·) ((rowSum_apply m r).trans (hb r)) rfl)

theorem slT_apply {s : Shape} (d : FVec Ideal s .f32) (j : s.Idx) : slT (F := Ideal) d j = sl (d j) := by
  rw [← sl_bit _ (Classical.propDecidable _)]
  show (if BitVec.ofBool (decide (max (d j) (-(d j)) < Ideal.ofBits .f32 0x3F800000#32)) = 1#1 then Ideal.ofBits .f32 0x3F000000#32 * d j * d j
    else max (d j) (-(d j)) - Ideal.ofBits .f32 0x3F000000#32) = _
  congr

/-! ## A level -/

section Level
variable (n : ℕ) (vl : IVec S16x8 1) (cl : IVec S16x8 32) (q : Fin 16 → Fin 8 → BitVec 32) (z : Fin 16 → ℕ → ℕ → EReal) (kk : Fin 16 → Fin 8 → Fin 17 → Fin 3 → EReal)
  (hv : ∀ r i, vl (ix2 r i) = 1#1 ↔ Ins n (q r i)) (hc : ∀ r i, (cl (ix2 r i)).toNat = clp n (q r i))
  (g : FVec Ideal S16x512 .f32) (hg : ∀ (r : Fin 16) (i : Fin 8) (o : ℕ) (h : o < 51), g (ix2 r (⟨64 * i.val + (1 + o), by omega⟩ : Fin 512)) = z r o (clp n (q r i)))
  (kx ky ks : FVec Ideal S16x136 .f32)
  (hx : ∀ (r : Fin 16) (i : Fin 8) (κ : Fin 17), kx (ix2 r (⟨17 * i.val + κ.val, by omega⟩ : Fin 136)) = kk r i κ 0)
  (hy : ∀ (r : Fin 16) (i : Fin 8) (κ : Fin 17), ky (ix2 r (⟨17 * i.val + κ.val, by omega⟩ : Fin 136)) = kk r i κ 1)
  (ht : ∀ (r : Fin 16) (i : Fin 8) (κ : Fin 17), ks (ix2 r (⟨17 * i.val + κ.val, by omega⟩ : Fin 136)) = kk r i κ 2)
  (sx sy ss : FVec Ideal S512x136 .f32) (rep : FVec Ideal S8x136 .f32)
  (hsx : ∀ (k : Fin 512) (y : Fin 136), sx (ix2 k y) = if k.val = 64 * (y.val / 17) + 1 + 3 * (y.val % 17) then (1 : EReal) else 0)
  (hsy : ∀ (k : Fin 512) (y : Fin 136), sy (ix2 k y) = if k.val = 64 * (y.val / 17) + 2 + 3 * (y.val % 17) then (1 : EReal) else 0)
  (hss : ∀ (k : Fin 512) (y : Fin 136), ss (ix2 k y) = if k.val = 64 * (y.val / 17) + 3 + 3 * (y.val % 17) then (1 : EReal) else 0)
  (hr : ∀ (i : Fin 8) (y : Fin 136), rep (ix2 i y) = if y.val / 17 = i.val then (1 : EReal) else 0)

include hg in
theorem sel_word (c : ℕ) (hc3 : c < 3) (s : FVec Ideal S512x136 .f32)
    (hs : ∀ (k : Fin 512) (y : Fin 136), s (ix2 k y) = if k.val = 64 * (y.val / 17) + (1 + c) + 3 * (y.val % 17) then (1 : EReal) else 0) (r : Fin 16) (i : Fin 8) (κ : Fin 17) :
    selT (F := Ideal) g s (ix2 r (⟨17 * i.val + κ.val, by omega⟩ : Fin 136)) = z r (3 * κ.val + c) (clp n (q r i)) := by
  have e : 64 * ((17 * i.val + κ.val) / 17) + (1 + c) + 3 * ((17 * i.val + κ.val) % 17) = 64 * i.val + (1 + (3 * κ.val + c)) := by omega
  refine (selT_apply (1 + c) g s hs r _ (by show 64 * ((17 * i.val + κ.val) / 17) + (1 + c) + 3 * ((17 * i.val + κ.val) % 17) < 512; omega)).trans ?_
  refine Eq.trans (congrArg (fun k => g (ix2 r k)) (Fin.ext e)) (hg r i (3 * κ.val + c) (by omega))

include hv hc ht hr in
theorem mask_cnt (r : Fin 16) : ∑ y : Fin 136, maskT (F := Ideal) vl cl ks rep (ix2 r y) = sumL n q (fun i κ _ => W (kk r i κ 2)) r := by
  refine row_sumL n q r _ _ fun i κ => ?_
  rw [maskT_apply n vl cl q hv hc ks rep hr, ht]
  have h := pick_mul (Last n q r i) 1 (W (kk r i κ 2))
  rwa [one_mul, one_mul] at h

include hv hc hg hx hy ht hsx hsy hr in
theorem kxyT_eq : kxyT (F := Ideal) vl cl g kx ky ks sx sy rep = kxyV n q z kk := by
  unfold kxyT kxyV cntV
  refine shareT_apply _ _ _ _ (fun r => ?_) (mask_cnt n vl cl q kk hv hc ks ht rep hr)
  refine row_sumL n q r _ _ fun i κ => ?_
  have e0 := sel_word n q z g hg 0 (by decide) sx hsx r i κ
  have e1 := sel_word n q z g hg 1 (by decide) sy hsy r i κ
  show (slT (F := Ideal) (subf (selT g sx) kx) _ + slT (F := Ideal) (subf (selT g sy) ky) _) * maskT (F := Ideal) vl cl ks rep _ = _
  rw [maskT_apply n vl cl q hv hc ks rep hr, ht, pick_mul, slT_apply, slT_apply]
  refine congrArg (pick _) (congrArg₂ (· * ·) (congrArg₂ (· + ·) (congrArg sl ?_) (congrArg sl ?_)) rfl)
  · exact congrArg₂ (· - ·) e0 (hx r i κ)
  · exact congrArg₂ (· - ·) e1 (hy r i κ)

include hv hc hg ht hss hr in
theorem kscT_eq : kscT (F := Ideal) vl cl g ks ss rep = kscV n q z kk := by
  unfold kscT kscV cntV
  refine shareT_apply _ _ _ _ (fun r => ?_) (mask_cnt n vl cl q kk hv hc ks ht rep hr)
  refine row_sumL n q r _ _ fun i κ => ?_
  have e2 := sel_word n q z g hg 2 (by decide) ss hss r i κ
  have e3 := ht r i κ
  have em := maskT_apply n vl cl q hv hc ks rep hr r i κ
  rw [ht] at em
  generalize ix2 r (⟨17 * i.val + κ.val, by omega⟩ : Fin 136) = j at e2 e3 em
  show (max (selT (F := Ideal) g ss j) (Ideal.ofBits .f32 0x00000000#32) - selT (F := Ideal) g ss j * ks j
    + Ideal.log1p (Ideal.exp (Ideal.ofBits .f32 0x00000000#32 - max (selT (F := Ideal) g ss j) (-(selT (F := Ideal) g ss j))))) * maskT (F := Ideal) vl cl ks rep j = _
  rw [em, e2, e3, pick_mul, bits_0, sub_eq_add_neg (0 : EReal), zero_add]
  rfl

end Level

/-- A box's row, from its second word. -/
theorem rowVal_kpt (n : ℕ) [NeZero (848 * n)] (sb wd a : BitVec 32) (p : (⟨1, ![848 * n]⟩ : Shape).Idx → EReal) (bx : S16x8x4.Idx → EReal)
    (hB : S16x8x4.ShapeCasts S512)
    (hcell : ∀ (r : Fin 16) (j : Fin 8), cell1 (F := Ideal) sb wd (bx (ix3 r j (0 : Fin 4))) (bx (ix3 r j (1 : Fin 4))) = ql a wd bx r j)
    (r : Fin 16) (i : Fin 8) (o : ℕ) (ho : o < 51) :
    rowVal (F := Ideal) r.val n sb wd p (shapeCast _ bx hB) (64 * i.val + (1 + o)) = zl n p r o (clp n (ql a wd bx r i)) := by
  have hbx : ∀ c : Fin 4, word (shapeCast S512 bx hB) (32 * r.val + (4 * i.val + c.val)) = bx (ix3 r i c) := by
    intro c
    rw [word_at _ _ (by omega)]
    refine shapeCast_apply _ _ _ _ ?_
    rw [Shape.rowMajor_val_one, Shape.rowMajor_val_three]
    show (r.val * 8 + i.val) * 4 + c.val = 32 * r.val + (4 * i.val + c.val)
    omega
  have e0 := hbx 0
  have e1 := hbx 1
  simp only [Fin.val_zero, Fin.val_one, Nat.add_zero, Fin.isValue] at e0 e1
  unfold rowVal posOf zl
  beta_reduce
  rw [show (64 * i.val + (1 + o)) / 64 = i.val from by omega, show min ((64 * i.val + (1 + o)) % 64) 51 = 1 + o from by omega, e0, e1, hcell,
    show r.val * 53 + (2 + o) = r.val * 53 + 1 + (1 + o) from by omega]
  rfl

theorem kp_apply (c : Fin 3) (h : S16x8x17x3.Slices ![0, 0, 0, c.val] S16x8x17x1) (a : FVec Ideal S16x8x17x3 .f32) (r : Fin 16) (i : Fin 8) (κ : Fin 17) :
    shapeCast S16x136 (Sc.kp c.val h a) shapeCasts_S16x136_S16x136 (ix2 r (⟨17 * i.val + κ.val, by omega⟩ : Fin 136)) = kl a r i κ c := by
  refine (shapeCast_apply _ _ _ (ix2 r (⟨17 * i.val + κ.val, by omega⟩ : Fin 136)) rfl).trans ?_
  refine (shapeCast_apply _ _ _ (ix3 r i κ) (by
    rw [Shape.rowMajor_val_three, Shape.rowMajor_val_two]
    show (r.val * 8 + i.val) * 17 + κ.val = r.val * 136 + (17 * i.val + κ.val)
    omega)).trans ?_
  refine (shapeCast_apply _ _ _ (ix4 r i κ (0 : Fin 1)) (by
    rw [Shape.rowMajor_val_three, Shape.rowMajor_val_four]
    show ((r.val * 8 + i.val) * 17 + κ.val) * 1 + 0 = (r.val * 8 + i.val) * 17 + κ.val
    omega)).trans ?_
  exact extractStridedSlice_apply _ _ _ _ _ (by intro d; fin_cases d <;> simp)

/-- The kernel's keypoints' loss. -/
theorem kptM_eq (m : (ℓ : Loc nD τ sig) → Buf (Elt Ideal) ℓ) (d : Dev nD) (h3 : Near (Sc.A3 m d)) :
    Sc.kptM m d = Ref.totV (Sc.A0 m d) (Sc.A1 m d) (Sc.A2 m d) (Sc.A3 m d) (Sc.A5 m d) := by
  have c0 : ∀ (r : Fin 16) (j : Fin 8), cell1 (F := Ideal) 0x42800000#32 64#32 (Sc.A3 m d (ix3 r j (0 : Fin 4))) (Sc.A3 m d (ix3 r j (1 : Fin 4))) = ql 0x41000000#32 64#32 (Sc.A3 m d) r j :=
    fun r j => cell1_eq _ _ _ 64 8 bits_64 bits_8 (by norm_num) (by norm_num) (by norm_num) (by norm_num) _ _ (h3 r j 0) (h3 r j 1)
  have g0 : ∀ (r : Fin 16) (i : Fin 8) (o : ℕ) (h : o < 51), rows 0 (by decide) (Sc.res m d : S48x512.Idx → EReal) (ix2 r (⟨64 * i.val + (1 + o), by omega⟩ : Fin 512))
      = (zl 4096 (shapeCast S3473408 (Sc.A0 m d) shapeCasts_S16x53x64x64_S3473408)) r o (clp 4096 ((ql 0x41000000#32 64#32 (Sc.A3 m d)) r i)) := by
    intro r i o h
    refine Eq.trans ?_ (rowVal_kpt 4096 0x42800000#32 64#32 0x41000000#32 _ (Sc.A3 m d) shapeCasts_S16x8x4_S512 c0 r i o h)
    show OUT (F := Ideal) _ _ _ _ (ix2 (⟨16 * 0 + r.val, _⟩ : Fin 48) (⟨64 * i.val + (1 + o), _⟩ : Fin 512)) = _
    unfold OUT
    rw [if_pos (show 16 * 0 + r.val < 16 by omega)]
    show rowVal (16 * 0 + r.val) _ _ _ _ _ (64 * i.val + (1 + o)) = _
    rw [show 16 * 0 + r.val = r.val by omega]
    rfl
  have q0 := cellT_eq 0x42800000#32 64#32 0x41000000#32 64 8 bits_64 bits_8 (by norm_num) (by norm_num) _ _ (Sc.A3 m d) (bx0 (Sc.A3 m d)) (bx1 (Sc.A3 m d))
  have x0 := kxyT_eq 4096 _ _ (ql 0x41000000#32 64#32 (Sc.A3 m d)) (zl 4096 (shapeCast S3473408 (Sc.A0 m d) shapeCasts_S16x53x64x64_S3473408)) (kl (Sc.A5 m d)) (fun r i => (ins_iff 4096 (by decide) _ r i).trans (iff_of_eq (congrArg (Ins 4096) (q0 r i))))
    (fun r i => (clip_apply 4096 (by decide) (by decide) _ r i).trans (congrArg (clp 4096) (q0 r i))) _ g0 _ _ _ (kp_apply 0 slices_S16x8x17x3_S16x8x17x1_0_0_0_0 (Sc.A5 m d))
    (kp_apply 1 slices_S16x8x17x3_S16x8x17x1_0_0_0_1 (Sc.A5 m d)) (kp_apply 2 slices_S16x8x17x3_S16x8x17x1_0_0_0_2 (Sc.A5 m d)) (fun i => FloatOps.ofBits (F := Ideal) .f32 (lit1 (S512x136.rowMajor i))) (fun i => FloatOps.ofBits (F := Ideal) .f32 (lit2 (S512x136.rowMajor i))) (fun i => FloatOps.ofBits (F := Ideal) .f32 (lit4 (S8x136.rowMajor i)))
    (sel_eq lit1 1 Sel.sel1) (sel_eq lit2 2 Sel.sel2) rep_eq
  have s0 := kscT_eq 4096 _ _ (ql 0x41000000#32 64#32 (Sc.A3 m d)) (zl 4096 (shapeCast S3473408 (Sc.A0 m d) shapeCasts_S16x53x64x64_S3473408)) (kl (Sc.A5 m d)) (fun r i => (ins_iff 4096 (by decide) _ r i).trans (iff_of_eq (congrArg (Ins 4096) (q0 r i))))
    (fun r i => (clip_apply 4096 (by decide) (by decide) _ r i).trans (congrArg (clp 4096) (q0 r i))) _ g0 _
    (kp_apply 2 slices_S16x8x17x3_S16x8x17x1_0_0_0_2 (Sc.A5 m d)) (fun i => FloatOps.ofBits (F := Ideal) .f32 (lit3 (S512x136.rowMajor i))) (fun i => FloatOps.ofBits (F := Ideal) .f32 (lit4 (S8x136.rowMajor i)))
    (sel_eq lit3 3 Sel.sel3) rep_eq
  have c1 : ∀ (r : Fin 16) (j : Fin 8), cell1 (F := Ideal) 0x42000000#32 32#32 (Sc.A3 m d (ix3 r j (0 : Fin 4))) (Sc.A3 m d (ix3 r j (1 : Fin 4))) = ql 0x41800000#32 32#32 (Sc.A3 m d) r j :=
    fun r j => cell1_eq _ _ _ 32 16 bits_32 bits_16 (by norm_num) (by norm_num) (by norm_num) (by norm_num) _ _ (h3 r j 0) (h3 r j 1)
  have g1 : ∀ (r : Fin 16) (i : Fin 8) (o : ℕ) (h : o < 51), rows 1 (by decide) (Sc.res m d : S48x512.Idx → EReal) (ix2 r (⟨64 * i.val + (1 + o), by omega⟩ : Fin 512))
      = (zl 1024 (shapeCast S868352 (Sc.A1 m d) shapeCasts_S16x53x32x32_S868352)) r o (clp 1024 ((ql 0x41800000#32 32#32 (Sc.A3 m d)) r i)) := by
    intro r i o h
    refine Eq.trans ?_ (rowVal_kpt 1024 0x42000000#32 32#32 0x41800000#32 _ (Sc.A3 m d) shapeCasts_S16x8x4_S512 c1 r i o h)
    show OUT (F := Ideal) _ _ _ _ (ix2 (⟨16 * 1 + r.val, _⟩ : Fin 48) (⟨64 * i.val + (1 + o), _⟩ : Fin 512)) = _
    unfold OUT
    rw [if_neg (show ¬ 16 * 1 + r.val < 16 by omega), if_pos (show 16 * 1 + r.val < 32 by omega)]
    show rowVal (16 * 1 + r.val - 16) _ _ _ _ _ (64 * i.val + (1 + o)) = _
    rw [show 16 * 1 + r.val - 16 = r.val by omega]
    rfl
  have q1 := cellT_eq 0x42000000#32 32#32 0x41800000#32 32 16 bits_32 bits_16 (by norm_num) (by norm_num) _ _ (Sc.A3 m d) (bx0 (Sc.A3 m d)) (bx1 (Sc.A3 m d))
  have x1 := kxyT_eq 1024 _ _ (ql 0x41800000#32 32#32 (Sc.A3 m d)) (zl 1024 (shapeCast S868352 (Sc.A1 m d) shapeCasts_S16x53x32x32_S868352)) (kl (Sc.A5 m d)) (fun r i => (ins_iff 1024 (by decide) _ r i).trans (iff_of_eq (congrArg (Ins 1024) (q1 r i))))
    (fun r i => (clip_apply 1024 (by decide) (by decide) _ r i).trans (congrArg (clp 1024) (q1 r i))) _ g1 _ _ _ (kp_apply 0 slices_S16x8x17x3_S16x8x17x1_0_0_0_0 (Sc.A5 m d))
    (kp_apply 1 slices_S16x8x17x3_S16x8x17x1_0_0_0_1 (Sc.A5 m d)) (kp_apply 2 slices_S16x8x17x3_S16x8x17x1_0_0_0_2 (Sc.A5 m d)) (fun i => FloatOps.ofBits (F := Ideal) .f32 (lit1 (S512x136.rowMajor i))) (fun i => FloatOps.ofBits (F := Ideal) .f32 (lit2 (S512x136.rowMajor i))) (fun i => FloatOps.ofBits (F := Ideal) .f32 (lit4 (S8x136.rowMajor i)))
    (sel_eq lit1 1 Sel.sel1) (sel_eq lit2 2 Sel.sel2) rep_eq
  have s1 := kscT_eq 1024 _ _ (ql 0x41800000#32 32#32 (Sc.A3 m d)) (zl 1024 (shapeCast S868352 (Sc.A1 m d) shapeCasts_S16x53x32x32_S868352)) (kl (Sc.A5 m d)) (fun r i => (ins_iff 1024 (by decide) _ r i).trans (iff_of_eq (congrArg (Ins 1024) (q1 r i))))
    (fun r i => (clip_apply 1024 (by decide) (by decide) _ r i).trans (congrArg (clp 1024) (q1 r i))) _ g1 _
    (kp_apply 2 slices_S16x8x17x3_S16x8x17x1_0_0_0_2 (Sc.A5 m d)) (fun i => FloatOps.ofBits (F := Ideal) .f32 (lit3 (S512x136.rowMajor i))) (fun i => FloatOps.ofBits (F := Ideal) .f32 (lit4 (S8x136.rowMajor i)))
    (sel_eq lit3 3 Sel.sel3) rep_eq
  have c2 : ∀ (r : Fin 16) (j : Fin 8), cell1 (F := Ideal) 0x41800000#32 16#32 (Sc.A3 m d (ix3 r j (0 : Fin 4))) (Sc.A3 m d (ix3 r j (1 : Fin 4))) = ql 0x42000000#32 16#32 (Sc.A3 m d) r j :=
    fun r j => cell1_eq _ _ _ 16 32 bits_16 bits_32 (by norm_num) (by norm_num) (by norm_num) (by norm_num) _ _ (h3 r j 0) (h3 r j 1)
  have g2 : ∀ (r : Fin 16) (i : Fin 8) (o : ℕ) (h : o < 51), rows 2 (by decide) (Sc.res m d : S48x512.Idx → EReal) (ix2 r (⟨64 * i.val + (1 + o), by omega⟩ : Fin 512))
      = (zl 256 (shapeCast S217088 (Sc.A2 m d) shapeCasts_S16x53x16x16_S217088)) r o (clp 256 ((ql 0x42000000#32 16#32 (Sc.A3 m d)) r i)) := by
    intro r i o h
    refine Eq.trans ?_ (rowVal_kpt 256 0x41800000#32 16#32 0x42000000#32 _ (Sc.A3 m d) shapeCasts_S16x8x4_S512 c2 r i o h)
    show OUT (F := Ideal) _ _ _ _ (ix2 (⟨16 * 2 + r.val, _⟩ : Fin 48) (⟨64 * i.val + (1 + o), _⟩ : Fin 512)) = _
    unfold OUT
    rw [if_neg (show ¬ 16 * 2 + r.val < 16 by omega), if_neg (show ¬ 16 * 2 + r.val < 32 by omega)]
    show rowVal (16 * 2 + r.val - 32) _ _ _ _ _ (64 * i.val + (1 + o)) = _
    rw [show 16 * 2 + r.val - 32 = r.val by omega]
    rfl
  have q2 := cellT_eq 0x41800000#32 16#32 0x42000000#32 16 32 bits_16 bits_32 (by norm_num) (by norm_num) _ _ (Sc.A3 m d) (bx0 (Sc.A3 m d)) (bx1 (Sc.A3 m d))
  have x2 := kxyT_eq 256 _ _ (ql 0x42000000#32 16#32 (Sc.A3 m d)) (zl 256 (shapeCast S217088 (Sc.A2 m d) shapeCasts_S16x53x16x16_S217088)) (kl (Sc.A5 m d)) (fun r i => (ins_iff 256 (by decide) _ r i).trans (iff_of_eq (congrArg (Ins 256) (q2 r i))))
    (fun r i => (clip_apply 256 (by decide) (by decide) _ r i).trans (congrArg (clp 256) (q2 r i))) _ g2 _ _ _ (kp_apply 0 slices_S16x8x17x3_S16x8x17x1_0_0_0_0 (Sc.A5 m d))
    (kp_apply 1 slices_S16x8x17x3_S16x8x17x1_0_0_0_1 (Sc.A5 m d)) (kp_apply 2 slices_S16x8x17x3_S16x8x17x1_0_0_0_2 (Sc.A5 m d)) (fun i => FloatOps.ofBits (F := Ideal) .f32 (lit1 (S512x136.rowMajor i))) (fun i => FloatOps.ofBits (F := Ideal) .f32 (lit2 (S512x136.rowMajor i))) (fun i => FloatOps.ofBits (F := Ideal) .f32 (lit4 (S8x136.rowMajor i)))
    (sel_eq lit1 1 Sel.sel1) (sel_eq lit2 2 Sel.sel2) rep_eq
  have s2 := kscT_eq 256 _ _ (ql 0x42000000#32 16#32 (Sc.A3 m d)) (zl 256 (shapeCast S217088 (Sc.A2 m d) shapeCasts_S16x53x16x16_S217088)) (kl (Sc.A5 m d)) (fun r i => (ins_iff 256 (by decide) _ r i).trans (iff_of_eq (congrArg (Ins 256) (q2 r i))))
    (fun r i => (clip_apply 256 (by decide) (by decide) _ r i).trans (congrArg (clp 256) (q2 r i))) _ g2 _
    (kp_apply 2 slices_S16x8x17x3_S16x8x17x1_0_0_0_2 (Sc.A5 m d)) (fun i => FloatOps.ofBits (F := Ideal) .f32 (lit3 (S512x136.rowMajor i))) (fun i => FloatOps.ofBits (F := Ideal) .f32 (lit4 (S8x136.rowMajor i)))
    (sel_eq lit3 3 Sel.sel3) rep_eq
  unfold Sc.kptM kptT
  exact congrArg₂ (· + ·) (congrArg₂ (· + ·) (congrArg₂ (· + ·) (congrArg₂ (· + ·) (congrArg₂ (· + ·) ((congrArg₂ (· + ·) bits_0 x0).trans (zero_add _)) s0) x1) s1) x2) s2

end Cert.Proof.Obj

end
-- ==== Proof.lean ====
/-
  The claim: the frames of the kernel, of its idealization and of the reference, and the equality of the four losses with the
  reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_tame
public import proofs.«01_k».proof.Proof.KerArgs
public import proofs.«01_k».proof.Proof.KerVal
public import proofs.«01_k».proof.Proof.ObjTame
public import proofs.«01_k».proof.Proof.RefObj
public import proofs.«01_k».proof.Proof.RefTotal
public import proofs.«01_k».proof.Proof.KptKernel
public import Idealize.ShloMosaic.Adequacy
public import Idealize.ShloMosaic.Init

@[expose] public section

noncomputable section

namespace Cert.Proof

open Idealize.ShloMosaic Idealize.SL.Sem

/-- The kernel on the bits. -/
theorem frame_kernel : Cert.quiescent_Kernel := fun m ρ _ =>
  (θ_run Cert.Kernel.defs _ _).mono (fun _ h => ⟨fun c => h.1 c, h.2⟩) (KSc.run_args (F := Bits) m ρ)

theorem frame_ideal : Cert.quiescent_KernelIdeal := fun m ρ _ =>
  (θ_run Cert.KernelIdeal.defs _ _).mono (fun _ h => ⟨fun c => (h.1 c).2.2.2.2, h.2⟩) (Sc.run_vals (F := Ideal) m ρ)

theorem frame_ideal_tame : Cert.quiescent_KernelIdeal_pre_tame := fun m ρ _ => frame_ideal m ρ trivial

theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_ref_tame : Cert.quiescent_ReferenceIdeal_pre_tame := fun m ρ _ => frame_ref m ρ trivial

theorem bits_90 : Ideal.ofBits .f32 0x42B40000#32 = ((90 : ℝ) : EReal) := by simp [Ideal.ofBits, Ideal.ieee, -EReal.coe_mul, -EReal.coe_neg]; norm_num
theorem bits_3 : Ideal.ofBits .f32 0x40400000#32 = ((3 : ℝ) : EReal) := by simp [Ideal.ofBits, Ideal.ieee, -EReal.coe_mul, -EReal.coe_neg]; norm_num
theorem bits_30 : Ideal.ofBits .f32 0x41F00000#32 = ((30 : ℝ) : EReal) := by simp [Ideal.ofBits, Ideal.ieee, -EReal.coe_mul, -EReal.coe_neg]; norm_num

section Values
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hp : Cert.Pre_KernelIdeal_tame m)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
include hp h0 h1 h2 h3

/-- The kernel's objectness, from the launch memory, is the reference's. -/
theorem obj_eq : Obj.Ref.totR (StableHlo.launchContents m' c) = fun _ => Sc.objM m c := by
  obtain ⟨f0, f1, f2, hn⟩ := Obj.tame_all _ _ _ _ _ _ (congrFun (hp c) ValueIdx.ix0)
  rw [Obj.Ref.totR_eq (StableHlo.launchContents m' c) (Sc.A0 m c) (Sc.A1 m c) (Sc.A2 m c) (Sc.A3 m c) h0 h1 h2 h3, Obj.objM_eq m c f0 f1 f2 hn]

include h5

/-- So are its keypoints. -/
theorem kpt_eq : Obj.Ref.totK (StableHlo.launchContents m' c) = fun _ => Sc.kptM m c := by
  obtain ⟨_, _, _, hn⟩ := Obj.tame_all _ _ _ _ _ _ (congrFun (hp c) ValueIdx.ix0)
  rw [Obj.Ref.totK_eq (StableHlo.launchContents m' c) (Sc.A0 m c) (Sc.A1 m c) (Sc.A2 m c) (Sc.A3 m c) (Sc.A5 m c) h0 h1 h2 h3 h5, Obj.kptM_eq m c hn]

/-- So is the total: ninety times a sum is thirty times the sum of the triples. -/
theorem total_eq : mulf (addf (addf (Cert.ReferenceIdeal.Value.res_main_v581 (StableHlo.launchContents m' c))
      (mulf (constant Cert.ReferenceIdeal.S_ .f32 0x40400000#32) (constant Cert.ReferenceIdeal.S_ .f32 0x00000000#32)))
      (Cert.ReferenceIdeal.Value.res_main_v584 (StableHlo.launchContents m' c))) (constant (F := Ideal) Cert.ReferenceIdeal.S_ .f32 0x41F00000#32)
    = fun _ => Scalar.mulf (F := Ideal) (Scalar.ofBits .f32 0x42B40000#32) (Scalar.addf (Sc.objM m c) (Sc.kptM m c)) := by
  rw [Obj.Ref.threeR_rfl, Obj.Ref.threeK_rfl, obj_eq m m' c hp h0 h1 h2 h3, kpt_eq m m' c hp h0 h1 h2 h3 h5]
  funext j
  show (Ideal.ofBits .f32 0x40400000#32 * (Sc.objM m c : EReal) + Ideal.ofBits .f32 0x40400000#32 * Ideal.ofBits .f32 0x00000000#32
    + Ideal.ofBits .f32 0x40400000#32 * (Sc.kptM m c : EReal)) * Ideal.ofBits .f32 0x41F00000#32 = Ideal.ofBits .f32 0x42B40000#32 * ((Sc.objM m c : EReal) + (Sc.kptM m c : EReal))
  rw [bits_90, bits_3, bits_30, Obj.bits_0]
  exact (Obj.total_eq _ _).symm

end Values

theorem losses_algebraic : Cert.algebraic_KernelIdeal_ReferenceIdeal_pre_tame := by
  intro m g m' g' hp ha
  refine ⟨fun c => fun _ => Scalar.mulf (F := Ideal) (Scalar.ofBits .f32 0x42B40000#32) (Scalar.addf (Sc.objM m c) (Sc.kptM m c)), fun c => fun _ => Sc.objM m c,
    fun _ => fun _ => Scalar.ofBits (F := Ideal) .f32 0x00000000#32, fun c => fun _ => Sc.kptM m c, ?_, ?_⟩
  · exact (θ_run Cert.KernelIdeal.defs _ _).mono (fun _ h c => h.1 c) (Sc.run_vals (F := Ideal) m g)
  · refine (θ_run Cert.ReferenceIdeal.defs _ _).mono (fun _ h c => ?_) (Cert.ReferenceIdeal.Value.run (F := Ideal) m' g')
    obtain ⟨a0, a1, a2, a3, _, a5⟩ := ha c
    exact ⟨(h c).1.trans (total_eq m m' c hp a0 a1 a2 a3 a5), (h c).2.1.trans ((Obj.Ref.totR_rfl _).trans (obj_eq m m' c hp a0 a1 a2 a3)), (h c).2.2.1,
      (h c).2.2.2.1.trans ((Obj.Ref.totK_rfl _).trans (kpt_eq m m' c hp a0 a1 a2 a3 a5)), (h c).2.2.2.2⟩

theorem claim : Cert.Claim :=
  ⟨Cert.Kernel.Gen.facts, Cert.KernelIdeal.Gen.facts, Cert.ReferenceIdeal.Gen.facts, Cert.Pre_tame.Gen.facts,
    frame_kernel, frame_ideal, frame_ideal_tame, frame_ref, frame_ref_tame, trivial, losses_algebraic⟩

end Cert.Proof

end
